-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_keys [hPre_finite_keys : Cert.Pre_finite_keys.Facts] (m : (ℓ : Loc Cert.AttnIdeal.nD Cert.AttnIdeal.τ Cert.AttnIdeal.sig) → Buf (Elt Ideal) ℓ) : Prop :=
  ∀ c : Dev Cert.AttnIdeal.nD,
    (Cert.Pre_finite_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_keys [hPre_finite_keys : Cert.Pre_finite_keys.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_AttnEven (m : (ℓ : Loc Cert.AttnEven.nD Cert.AttnEven.τ Cert.AttnEven.sig) → Buf (Elt Bits) ℓ) : Prop :=
  True

def Pre_AttnEvenIdeal (m : (ℓ : Loc Cert.AttnEvenIdeal.nD Cert.AttnEvenIdeal.τ Cert.AttnEvenIdeal.sig) → Buf (Elt Ideal) ℓ) : Prop :=
  True

def Pre_AttnEvenIdeal_finite_keys_even [hPre_finite_keys_even : Cert.Pre_finite_keys_even.Facts] (m : (ℓ : Loc Cert.AttnEvenIdeal.nD Cert.AttnEvenIdeal.τ Cert.AttnEvenIdeal.sig) → Buf (Elt Ideal) ℓ) : Prop :=
  ∀ c : Dev Cert.AttnEvenIdeal.nD,
    (Cert.Pre_finite_keys_even.fn (F := Ideal) (m ((c.tc : Thread Cert.AttnEvenIdeal.nD Cert.AttnEvenIdeal.τ).loc Cert.AttnEvenIdeal.main_arg0)) (m ((c.tc : Thread Cert.AttnEvenIdeal.nD Cert.AttnEvenIdeal.τ).loc Cert.AttnEvenIdeal.main_arg1)) (m ((c.tc : Thread Cert.AttnEvenIdeal.nD Cert.AttnEvenIdeal.τ).loc Cert.AttnEvenIdeal.main_arg2)) (m ((c.tc : Thread Cert.AttnEvenIdeal.nD Cert.AttnEvenIdeal.τ).loc Cert.AttnEvenIdeal.main_arg3)) (m ((c.tc : Thread Cert.AttnEvenIdeal.nD Cert.AttnEvenIdeal.τ).loc Cert.AttnEvenIdeal.main_arg4)) (m ((c.tc : Thread Cert.AttnEvenIdeal.nD Cert.AttnEvenIdeal.τ).loc Cert.AttnEvenIdeal.main_arg5)) (m ((c.tc : Thread Cert.AttnEvenIdeal.nD Cert.AttnEvenIdeal.τ).loc Cert.AttnEvenIdeal.main_arg6)) (m ((c.tc : Thread Cert.AttnEvenIdeal.nD Cert.AttnEvenIdeal.τ).loc Cert.AttnEvenIdeal.main_arg7)) (m ((c.tc : Thread Cert.AttnEvenIdeal.nD Cert.AttnEvenIdeal.τ).loc Cert.AttnEvenIdeal.main_arg8)) (m ((c.tc : Thread Cert.AttnEvenIdeal.nD Cert.AttnEvenIdeal.τ).loc Cert.AttnEvenIdeal.main_arg9))) = (fun _ => 1#1)

def Pre_AttnEvenRefIdeal (m : (ℓ : Loc Cert.AttnEvenRefIdeal.nD Cert.AttnEvenRefIdeal.τ Cert.AttnEvenRefIdeal.sig) → Buf (Elt Ideal) ℓ) : Prop :=
  True

def Pre_AttnEvenRefIdeal_finite_keys_even [hPre_finite_keys_even : Cert.Pre_finite_keys_even.Facts] (m : (ℓ : Loc Cert.AttnEvenRefIdeal.nD Cert.AttnEvenRefIdeal.τ Cert.AttnEvenRefIdeal.sig) → Buf (Elt Ideal) ℓ) : Prop :=
  ∀ c : Dev Cert.AttnEvenRefIdeal.nD,
    (Cert.Pre_finite_keys_even.fn (F := Ideal) (m ((c.tc : Thread Cert.AttnEvenRefIdeal.nD Cert.AttnEvenRefIdeal.τ).loc Cert.AttnEvenRefIdeal.main_arg0)) (m ((c.tc : Thread Cert.AttnEvenRefIdeal.nD Cert.AttnEvenRefIdeal.τ).loc Cert.AttnEvenRefIdeal.main_arg1)) (m ((c.tc : Thread Cert.AttnEvenRefIdeal.nD Cert.AttnEvenRefIdeal.τ).loc Cert.AttnEvenRefIdeal.main_arg2)) (m ((c.tc : Thread Cert.AttnEvenRefIdeal.nD Cert.AttnEvenRefIdeal.τ).loc Cert.AttnEvenRefIdeal.main_arg3)) (m ((c.tc : Thread Cert.AttnEvenRefIdeal.nD Cert.AttnEvenRefIdeal.τ).loc Cert.AttnEvenRefIdeal.main_arg4)) (m ((c.tc : Thread Cert.AttnEvenRefIdeal.nD Cert.AttnEvenRefIdeal.τ).loc Cert.AttnEvenRefIdeal.main_arg5)) (m ((c.tc : Thread Cert.AttnEvenRefIdeal.nD Cert.AttnEvenRefIdeal.τ).loc Cert.AttnEvenRefIdeal.main_arg6)) (m ((c.tc : Thread Cert.AttnEvenRefIdeal.nD Cert.AttnEvenRefIdeal.τ).loc Cert.AttnEvenRefIdeal.main_arg7)) (m ((c.tc : Thread Cert.AttnEvenRefIdeal.nD Cert.AttnEvenRefIdeal.τ).loc Cert.AttnEvenRefIdeal.main_arg8)) (m ((c.tc : Thread Cert.AttnEvenRefIdeal.nD Cert.AttnEvenRefIdeal.τ).loc Cert.AttnEvenRefIdeal.main_arg9))) = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_positive_bound [hPre_positive_bound : Cert.Pre_positive_bound.Facts] (m : (ℓ : Loc Cert.GatesIdeal.nD Cert.GatesIdeal.τ Cert.GatesIdeal.sig) → Buf (Elt Ideal) ℓ) : Prop :=
  ∀ c : Dev Cert.GatesIdeal.nD,
    (Cert.Pre_positive_bound.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3))) = (fun _ => 1#1)

def Pre_GatesRefIdeal (m : (ℓ : Loc Cert.GatesRefIdeal.nD Cert.GatesRefIdeal.τ Cert.GatesRefIdeal.sig) → Buf (Elt Ideal) ℓ) : Prop :=
  True

def Pre_GatesRefIdeal_positive_bound [hPre_positive_bound : Cert.Pre_positive_bound.Facts] (m : (ℓ : Loc Cert.GatesRefIdeal.nD Cert.GatesRefIdeal.τ Cert.GatesRefIdeal.sig) → Buf (Elt Ideal) ℓ) : Prop :=
  ∀ c : Dev Cert.GatesRefIdeal.nD,
    (Cert.Pre_positive_bound.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3))) = (fun _ => 1#1)

def Pre_Mixin (m : (ℓ : Loc Cert.Mixin.nD Cert.Mixin.τ Cert.Mixin.sig) → Buf (Elt Bits) ℓ) : Prop :=
  True

def Pre_MixinIdeal (m : (ℓ : Loc Cert.MixinIdeal.nD Cert.MixinIdeal.τ Cert.MixinIdeal.sig) → Buf (Elt Ideal) ℓ) : Prop :=
  True

def Pre_MixinRefIdeal (m : (ℓ : Loc Cert.MixinRefIdeal.nD Cert.MixinRefIdeal.τ Cert.MixinRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Tables (m : (ℓ : Loc Cert.Tables.nD Cert.Tables.τ Cert.Tables.sig) → Buf (Elt Bits) ℓ) : Prop :=
  True

def Pre_TablesIdeal (m : (ℓ : Loc Cert.TablesIdeal.nD Cert.TablesIdeal.τ Cert.TablesIdeal.sig) → Buf (Elt Ideal) ℓ) : Prop :=
  True

def Pre_TablesRefIdeal (m : (ℓ : Loc Cert.TablesRefIdeal.nD Cert.TablesRefIdeal.τ Cert.TablesRefIdeal.sig) → Buf (Elt Ideal) ℓ) : Prop :=
  True

def Pre_Window (m : (ℓ : Loc Cert.Window.nD Cert.Window.τ Cert.Window.sig) → Buf (Elt Bits) ℓ) : Prop :=
  True

def Pre_WindowIdeal (m : (ℓ : Loc Cert.WindowIdeal.nD Cert.WindowIdeal.τ Cert.WindowIdeal.sig) → Buf (Elt Ideal) ℓ) : Prop :=
  True

def Pre_WindowIdeal_finite_window [hPre_finite_window : Cert.Pre_finite_window.Facts] (m : (ℓ : Loc Cert.WindowIdeal.nD Cert.WindowIdeal.τ Cert.WindowIdeal.sig) → Buf (Elt Ideal) ℓ) : Prop :=
  ∀ c : Dev Cert.WindowIdeal.nD,
    (Cert.Pre_finite_window.fn (F := Ideal) (m ((c.tc : Thread Cert.WindowIdeal.nD Cert.WindowIdeal.τ).loc Cert.WindowIdeal.main_arg0)) (m ((c.tc : Thread Cert.WindowIdeal.nD Cert.WindowIdeal.τ).loc Cert.WindowIdeal.main_arg1)) (m ((c.tc : Thread Cert.WindowIdeal.nD Cert.WindowIdeal.τ).loc Cert.WindowIdeal.main_arg2)) (m ((c.tc : Thread Cert.WindowIdeal.nD Cert.WindowIdeal.τ).loc Cert.WindowIdeal.main_arg3)) (m ((c.tc : Thread Cert.WindowIdeal.nD Cert.WindowIdeal.τ).loc Cert.WindowIdeal.main_arg4)) (m ((c.tc : Thread Cert.WindowIdeal.nD Cert.WindowIdeal.τ).loc Cert.WindowIdeal.main_arg5))) = (fun _ => 1#1)

def Pre_WindowRefIdeal (m : (ℓ : Loc Cert.WindowRefIdeal.nD Cert.WindowRefIdeal.τ Cert.WindowRefIdeal.sig) → Buf (Elt Ideal) ℓ) : Prop :=
  True

def Pre_WindowRefIdeal_finite_window [hPre_finite_window : Cert.Pre_finite_window.Facts] (m : (ℓ : Loc Cert.WindowRefIdeal.nD Cert.WindowRefIdeal.τ Cert.WindowRefIdeal.sig) → Buf (Elt Ideal) ℓ) : Prop :=
  ∀ c : Dev Cert.WindowRefIdeal.nD,
    (Cert.Pre_finite_window.fn (F := Ideal) (m ((c.tc : Thread Cert.WindowRefIdeal.nD Cert.WindowRefIdeal.τ).loc Cert.WindowRefIdeal.main_arg0)) (m ((c.tc : Thread Cert.WindowRefIdeal.nD Cert.WindowRefIdeal.τ).loc Cert.WindowRefIdeal.main_arg1)) (m ((c.tc : Thread Cert.WindowRefIdeal.nD Cert.WindowRefIdeal.τ).loc Cert.WindowRefIdeal.main_arg2)) (m ((c.tc : Thread Cert.WindowRefIdeal.nD Cert.WindowRefIdeal.τ).loc Cert.WindowRefIdeal.main_arg3)) (m ((c.tc : Thread Cert.WindowRefIdeal.nD Cert.WindowRefIdeal.τ).loc Cert.WindowRefIdeal.main_arg4)) (m ((c.tc : Thread Cert.WindowRefIdeal.nD Cert.WindowRefIdeal.τ).loc Cert.WindowRefIdeal.main_arg5))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnIdeal_pre_finite_keys [hAttnIdeal : Cert.AttnIdeal.Facts] [hPre_finite_keys : Cert.Pre_finite_keys.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_keys m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_AttnRefIdeal_pre_finite_keys [hAttnRefIdeal : Cert.AttnRefIdeal.Facts] [hPre_finite_keys : Cert.Pre_finite_keys.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_keys m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_AttnEven [hAttnEven : Cert.AttnEven.Facts] : Prop :=
  ∀ (m : (ℓ : Loc Cert.AttnEven.nD Cert.AttnEven.τ Cert.AttnEven.sig) → Buf (Elt Bits) ℓ) (g : Dev Cert.AttnEven.nD → PrngReg), Pre_AttnEven m →
    θ_run (Cert.AttnEven.defs (F := Bits)) (onTc (τ := Cert.AttnEven.τ) (Cert.AttnEven.main (F := Bits))) ⟨m, fun _ => 0, g⟩ (fun r => (∀ c : Dev Cert.AttnEven.nD,
      r.2.mem ((c.tc : Thread Cert.AttnEven.nD Cert.AttnEven.τ).loc Cert.AttnEven.main_arg0) = m ((c.tc : Thread Cert.AttnEven.nD Cert.AttnEven.τ).loc Cert.AttnEven.main_arg0)
      ∧ r.2.mem ((c.tc : Thread Cert.AttnEven.nD Cert.AttnEven.τ).loc Cert.AttnEven.main_arg1) = m ((c.tc : Thread Cert.AttnEven.nD Cert.AttnEven.τ).loc Cert.AttnEven.main_arg1)
      ∧ r.2.mem ((c.tc : Thread Cert.AttnEven.nD Cert.AttnEven.τ).loc Cert.AttnEven.main_arg2) = m ((c.tc : Thread Cert.AttnEven.nD Cert.AttnEven.τ).loc Cert.AttnEven.main_arg2)
      ∧ r.2.mem ((c.tc : Thread Cert.AttnEven.nD Cert.AttnEven.τ).loc Cert.AttnEven.main_arg3) = m ((c.tc : Thread Cert.AttnEven.nD Cert.AttnEven.τ).loc Cert.AttnEven.main_arg3)
      ∧ r.2.mem ((c.tc : Thread Cert.AttnEven.nD Cert.AttnEven.τ).loc Cert.AttnEven.main_arg4) = m ((c.tc : Thread Cert.AttnEven.nD Cert.AttnEven.τ).loc Cert.AttnEven.main_arg4)
      ∧ r.2.mem ((c.tc : Thread Cert.AttnEven.nD Cert.AttnEven.τ).loc Cert.AttnEven.main_arg5) = m ((c.tc : Thread Cert.AttnEven.nD Cert.AttnEven.τ).loc Cert.AttnEven.main_arg5)
      ∧ r.2.mem ((c.tc : Thread Cert.AttnEven.nD Cert.AttnEven.τ).loc Cert.AttnEven.main_arg6) = m ((c.tc : Thread Cert.AttnEven.nD Cert.AttnEven.τ).loc Cert.AttnEven.main_arg6)
      ∧ r.2.mem ((c.tc : Thread Cert.AttnEven.nD Cert.AttnEven.τ).loc Cert.AttnEven.main_arg7) = m ((c.tc : Thread Cert.AttnEven.nD Cert.AttnEven.τ).loc Cert.AttnEven.main_arg7)
      ∧ r.2.mem ((c.tc : Thread Cert.AttnEven.nD Cert.AttnEven.τ).loc Cert.AttnEven.main_arg8) = m ((c.tc : Thread Cert.AttnEven.nD Cert.AttnEven.τ).loc Cert.AttnEven.main_arg8)
      ∧ r.2.mem ((c.tc : Thread Cert.AttnEven.nD Cert.AttnEven.τ).loc Cert.AttnEven.main_arg9) = m ((c.tc : Thread Cert.AttnEven.nD Cert.AttnEven.τ).loc Cert.AttnEven.main_arg9))
      ∧ r.2.sem = fun _ => 0)

def quiescent_AttnEvenIdeal [hAttnEvenIdeal : Cert.AttnEvenIdeal.Facts] : Prop :=
  ∀ (m : (ℓ : Loc Cert.AttnEvenIdeal.nD Cert.AttnEvenIdeal.τ Cert.AttnEvenIdeal.sig) → Buf (Elt Ideal) ℓ) (g : Dev Cert.AttnEvenIdeal.nD → PrngReg), Pre_AttnEvenIdeal m →
    θ_run (Cert.AttnEvenIdeal.defs (F := Ideal)) (onTc (τ := Cert.AttnEvenIdeal.τ) (Cert.AttnEvenIdeal.main (F := Ideal))) ⟨m, fun _ => 0, g⟩ (fun r => (∀ c : Dev Cert.AttnEvenIdeal.nD,
      r.2.mem ((c.tc : Thread Cert.AttnEvenIdeal.nD Cert.AttnEvenIdeal.τ).loc Cert.AttnEvenIdeal.main_arg0) = m ((c.tc : Thread Cert.AttnEvenIdeal.nD Cert.AttnEvenIdeal.τ).loc Cert.AttnEvenIdeal.main_arg0)
      ∧ r.2.mem ((c.tc : Thread Cert.AttnEvenIdeal.nD Cert.AttnEvenIdeal.τ).loc Cert.AttnEvenIdeal.main_arg1) = m ((c.tc : Thread Cert.AttnEvenIdeal.nD Cert.AttnEvenIdeal.τ).loc Cert.AttnEvenIdeal.main_arg1)
      ∧ r.2.mem ((c.tc : Thread Cert.AttnEvenIdeal.nD Cert.AttnEvenIdeal.τ).loc Cert.AttnEvenIdeal.main_arg2) = m ((c.tc : Thread Cert.AttnEvenIdeal.nD Cert.AttnEvenIdeal.τ).loc Cert.AttnEvenIdeal.main_arg2)
      ∧ r.2.mem ((c.tc : Thread Cert.AttnEvenIdeal.nD Cert.AttnEvenIdeal.τ).loc Cert.AttnEvenIdeal.main_arg3) = m ((c.tc : Thread Cert.AttnEvenIdeal.nD Cert.AttnEvenIdeal.τ).loc Cert.AttnEvenIdeal.main_arg3)
      ∧ r.2.mem ((c.tc : Thread Cert.AttnEvenIdeal.nD Cert.AttnEvenIdeal.τ).loc Cert.AttnEvenIdeal.main_arg4) = m ((c.tc : Thread Cert.AttnEvenIdeal.nD Cert.AttnEvenIdeal.τ).loc Cert.AttnEvenIdeal.main_arg4)
      ∧ r.2.mem ((c.tc : Thread Cert.AttnEvenIdeal.nD Cert.AttnEvenIdeal.τ).loc Cert.AttnEvenIdeal.main_arg5) = m ((c.tc : Thread Cert.AttnEvenIdeal.nD Cert.AttnEvenIdeal.τ).loc Cert.AttnEvenIdeal.main_arg5)
      ∧ r.2.mem ((c.tc : Thread Cert.AttnEvenIdeal.nD Cert.AttnEvenIdeal.τ).loc Cert.AttnEvenIdeal.main_arg6) = m ((c.tc : Thread Cert.AttnEvenIdeal.nD Cert.AttnEvenIdeal.τ).loc Cert.AttnEvenIdeal.main_arg6)
      ∧ r.2.mem ((c.tc : Thread Cert.AttnEvenIdeal.nD Cert.AttnEvenIdeal.τ).loc Cert.AttnEvenIdeal.main_arg7) = m ((c.tc : Thread Cert.AttnEvenIdeal.nD Cert.AttnEvenIdeal.τ).loc Cert.AttnEvenIdeal.main_arg7)
      ∧ r.2.mem ((c.tc : Thread Cert.AttnEvenIdeal.nD Cert.AttnEvenIdeal.τ).loc Cert.AttnEvenIdeal.main_arg8) = m ((c.tc : Thread Cert.AttnEvenIdeal.nD Cert.AttnEvenIdeal.τ).loc Cert.AttnEvenIdeal.main_arg8)
      ∧ r.2.mem ((c.tc : Thread Cert.AttnEvenIdeal.nD Cert.AttnEvenIdeal.τ).loc Cert.AttnEvenIdeal.main_arg9) = m ((c.tc : Thread Cert.AttnEvenIdeal.nD Cert.AttnEvenIdeal.τ).loc Cert.AttnEvenIdeal.main_arg9))
      ∧ r.2.sem = fun _ => 0)

def quiescent_AttnEvenIdeal_pre_finite_keys_even [hAttnEvenIdeal : Cert.AttnEvenIdeal.Facts] [hPre_finite_keys_even : Cert.Pre_finite_keys_even.Facts] : Prop :=
  ∀ (m : (ℓ : Loc Cert.AttnEvenIdeal.nD Cert.AttnEvenIdeal.τ Cert.AttnEvenIdeal.sig) → Buf (Elt Ideal) ℓ) (g : Dev Cert.AttnEvenIdeal.nD → PrngReg), Pre_AttnEvenIdeal_finite_keys_even m →
    θ_run (Cert.AttnEvenIdeal.defs (F := Ideal)) (onTc (τ := Cert.AttnEvenIdeal.τ) (Cert.AttnEvenIdeal.main (F := Ideal))) ⟨m, fun _ => 0, g⟩ (fun r => (∀ c : Dev Cert.AttnEvenIdeal.nD,
      r.2.mem ((c.tc : Thread Cert.AttnEvenIdeal.nD Cert.AttnEvenIdeal.τ).loc Cert.AttnEvenIdeal.main_arg0) = m ((c.tc : Thread Cert.AttnEvenIdeal.nD Cert.AttnEvenIdeal.τ).loc Cert.AttnEvenIdeal.main_arg0)
      ∧ r.2.mem ((c.tc : Thread Cert.AttnEvenIdeal.nD Cert.AttnEvenIdeal.τ).loc Cert.AttnEvenIdeal.main_arg1) = m ((c.tc : Thread Cert.AttnEvenIdeal.nD Cert.AttnEvenIdeal.τ).loc Cert.AttnEvenIdeal.main_arg1)
      ∧ r.2.mem ((c.tc : Thread Cert.AttnEvenIdeal.nD Cert.AttnEvenIdeal.τ).loc Cert.AttnEvenIdeal.main_arg2) = m ((c.tc : Thread Cert.AttnEvenIdeal.nD Cert.AttnEvenIdeal.τ).loc Cert.AttnEvenIdeal.main_arg2)
      ∧ r.2.mem ((c.tc : Thread Cert.AttnEvenIdeal.nD Cert.AttnEvenIdeal.τ).loc Cert.AttnEvenIdeal.main_arg3) = m ((c.tc : Thread Cert.AttnEvenIdeal.nD Cert.AttnEvenIdeal.τ).loc Cert.AttnEvenIdeal.main_arg3)
      ∧ r.2.mem ((c.tc : Thread Cert.AttnEvenIdeal.nD Cert.AttnEvenIdeal.τ).loc Cert.AttnEvenIdeal.main_arg4) = m ((c.tc : Thread Cert.AttnEvenIdeal.nD Cert.AttnEvenIdeal.τ).loc Cert.AttnEvenIdeal.main_arg4)
      ∧ r.2.mem ((c.tc : Thread Cert.AttnEvenIdeal.nD Cert.AttnEvenIdeal.τ).loc Cert.AttnEvenIdeal.main_arg5) = m ((c.tc : Thread Cert.AttnEvenIdeal.nD Cert.AttnEvenIdeal.τ).loc Cert.AttnEvenIdeal.main_arg5)
      ∧ r.2.mem ((c.tc : Thread Cert.AttnEvenIdeal.nD Cert.AttnEvenIdeal.τ).loc Cert.AttnEvenIdeal.main_arg6) = m ((c.tc : Thread Cert.AttnEvenIdeal.nD Cert.AttnEvenIdeal.τ).loc Cert.AttnEvenIdeal.main_arg6)
      ∧ r.2.mem ((c.tc : Thread Cert.AttnEvenIdeal.nD Cert.AttnEvenIdeal.τ).loc Cert.AttnEvenIdeal.main_arg7) = m ((c.tc : Thread Cert.AttnEvenIdeal.nD Cert.AttnEvenIdeal.τ).loc Cert.AttnEvenIdeal.main_arg7)
      ∧ r.2.mem ((c.tc : Thread Cert.AttnEvenIdeal.nD Cert.AttnEvenIdeal.τ).loc Cert.AttnEvenIdeal.main_arg8) = m ((c.tc : Thread Cert.AttnEvenIdeal.nD Cert.AttnEvenIdeal.τ).loc Cert.AttnEvenIdeal.main_arg8)
      ∧ r.2.mem ((c.tc : Thread Cert.AttnEvenIdeal.nD Cert.AttnEvenIdeal.τ).loc Cert.AttnEvenIdeal.main_arg9) = m ((c.tc : Thread Cert.AttnEvenIdeal.nD Cert.AttnEvenIdeal.τ).loc Cert.AttnEvenIdeal.main_arg9))
      ∧ r.2.sem = fun _ => 0)

def quiescent_AttnEvenRefIdeal [hAttnEvenRefIdeal : Cert.AttnEvenRefIdeal.Facts] : Prop :=
  ∀ (m : (ℓ : Loc Cert.AttnEvenRefIdeal.nD Cert.AttnEvenRefIdeal.τ Cert.AttnEvenRefIdeal.sig) → Buf (Elt Ideal) ℓ) (g : Dev Cert.AttnEvenRefIdeal.nD → PrngReg), Pre_AttnEvenRefIdeal m →
    θ_run (Cert.AttnEvenRefIdeal.defs (F := Ideal)) (onTc (τ := Cert.AttnEvenRefIdeal.τ) (Cert.AttnEvenRefIdeal.main (F := Ideal))) ⟨m, fun _ => 0, g⟩ (fun r => (∀ c : Dev Cert.AttnEvenRefIdeal.nD,
      r.2.mem ((c.tc : Thread Cert.AttnEvenRefIdeal.nD Cert.AttnEvenRefIdeal.τ).loc Cert.AttnEvenRefIdeal.main_arg0) = m ((c.tc : Thread Cert.AttnEvenRefIdeal.nD Cert.AttnEvenRefIdeal.τ).loc Cert.AttnEvenRefIdeal.main_arg0)
      ∧ r.2.mem ((c.tc : Thread Cert.AttnEvenRefIdeal.nD Cert.AttnEvenRefIdeal.τ).loc Cert.AttnEvenRefIdeal.main_arg1) = m ((c.tc : Thread Cert.AttnEvenRefIdeal.nD Cert.AttnEvenRefIdeal.τ).loc Cert.AttnEvenRefIdeal.main_arg1)
      ∧ r.2.mem ((c.tc : Thread Cert.AttnEvenRefIdeal.nD Cert.AttnEvenRefIdeal.τ).loc Cert.AttnEvenRefIdeal.main_arg2) = m ((c.tc : Thread Cert.AttnEvenRefIdeal.nD Cert.AttnEvenRefIdeal.τ).loc Cert.AttnEvenRefIdeal.main_arg2)
      ∧ r.2.mem ((c.tc : Thread Cert.AttnEvenRefIdeal.nD Cert.AttnEvenRefIdeal.τ).loc Cert.AttnEvenRefIdeal.main_arg3) = m ((c.tc : Thread Cert.AttnEvenRefIdeal.nD Cert.AttnEvenRefIdeal.τ).loc Cert.AttnEvenRefIdeal.main_arg3)
      ∧ r.2.mem ((c.tc : Thread Cert.AttnEvenRefIdeal.nD Cert.AttnEvenRefIdeal.τ).loc Cert.AttnEvenRefIdeal.main_arg4) = m ((c.tc : Thread Cert.AttnEvenRefIdeal.nD Cert.AttnEvenRefIdeal.τ).loc Cert.AttnEvenRefIdeal.main_arg4)
      ∧ r.2.mem ((c.tc : Thread Cert.AttnEvenRefIdeal.nD Cert.AttnEvenRefIdeal.τ).loc Cert.AttnEvenRefIdeal.main_arg5) = m ((c.tc : Thread Cert.AttnEvenRefIdeal.nD Cert.AttnEvenRefIdeal.τ).loc Cert.AttnEvenRefIdeal.main_arg5)
      ∧ r.2.mem ((c.tc : Thread Cert.AttnEvenRefIdeal.nD Cert.AttnEvenRefIdeal.τ).loc Cert.AttnEvenRefIdeal.main_arg6) = m ((c.tc : Thread Cert.AttnEvenRefIdeal.nD Cert.AttnEvenRefIdeal.τ).loc Cert.AttnEvenRefIdeal.main_arg6)
      ∧ r.2.mem ((c.tc : Thread Cert.AttnEvenRefIdeal.nD Cert.AttnEvenRefIdeal.τ).loc Cert.AttnEvenRefIdeal.main_arg7) = m ((c.tc : Thread Cert.AttnEvenRefIdeal.nD Cert.AttnEvenRefIdeal.τ).loc Cert.AttnEvenRefIdeal.main_arg7)
      ∧ r.2.mem ((c.tc : Thread Cert.AttnEvenRefIdeal.nD Cert.AttnEvenRefIdeal.τ).loc Cert.AttnEvenRefIdeal.main_arg8) = m ((c.tc : Thread Cert.AttnEvenRefIdeal.nD Cert.AttnEvenRefIdeal.τ).loc Cert.AttnEvenRefIdeal.main_arg8)
      ∧ r.2.mem ((c.tc : Thread Cert.AttnEvenRefIdeal.nD Cert.AttnEvenRefIdeal.τ).loc Cert.AttnEvenRefIdeal.main_arg9) = m ((c.tc : Thread Cert.AttnEvenRefIdeal.nD Cert.AttnEvenRefIdeal.τ).loc Cert.AttnEvenRefIdeal.main_arg9))
      ∧ r.2.sem = fun _ => 0)

def quiescent_AttnEvenRefIdeal_pre_finite_keys_even [hAttnEvenRefIdeal : Cert.AttnEvenRefIdeal.Facts] [hPre_finite_keys_even : Cert.Pre_finite_keys_even.Facts] : Prop :=
  ∀ (m : (ℓ : Loc Cert.AttnEvenRefIdeal.nD Cert.AttnEvenRefIdeal.τ Cert.AttnEvenRefIdeal.sig) → Buf (Elt Ideal) ℓ) (g : Dev Cert.AttnEvenRefIdeal.nD → PrngReg), Pre_AttnEvenRefIdeal_finite_keys_even m →
    θ_run (Cert.AttnEvenRefIdeal.defs (F := Ideal)) (onTc (τ := Cert.AttnEvenRefIdeal.τ) (Cert.AttnEvenRefIdeal.main (F := Ideal))) ⟨m, fun _ => 0, g⟩ (fun r => (∀ c : Dev Cert.AttnEvenRefIdeal.nD,
      r.2.mem ((c.tc : Thread Cert.AttnEvenRefIdeal.nD Cert.AttnEvenRefIdeal.τ).loc Cert.AttnEvenRefIdeal.main_arg0) = m ((c.tc : Thread Cert.AttnEvenRefIdeal.nD Cert.AttnEvenRefIdeal.τ).loc Cert.AttnEvenRefIdeal.main_arg0)
      ∧ r.2.mem ((c.tc : Thread Cert.AttnEvenRefIdeal.nD Cert.AttnEvenRefIdeal.τ).loc Cert.AttnEvenRefIdeal.main_arg1) = m ((c.tc : Thread Cert.AttnEvenRefIdeal.nD Cert.AttnEvenRefIdeal.τ).loc Cert.AttnEvenRefIdeal.main_arg1)
      ∧ r.2.mem ((c.tc : Thread Cert.AttnEvenRefIdeal.nD Cert.AttnEvenRefIdeal.τ).loc Cert.AttnEvenRefIdeal.main_arg2) = m ((c.tc : Thread Cert.AttnEvenRefIdeal.nD Cert.AttnEvenRefIdeal.τ).loc Cert.AttnEvenRefIdeal.main_arg2)
      ∧ r.2.mem ((c.tc : Thread Cert.AttnEvenRefIdeal.nD Cert.AttnEvenRefIdeal.τ).loc Cert.AttnEvenRefIdeal.main_arg3) = m ((c.tc : Thread Cert.AttnEvenRefIdeal.nD Cert.AttnEvenRefIdeal.τ).loc Cert.AttnEvenRefIdeal.main_arg3)
      ∧ r.2.mem ((c.tc : Thread Cert.AttnEvenRefIdeal.nD Cert.AttnEvenRefIdeal.τ).loc Cert.AttnEvenRefIdeal.main_arg4) = m ((c.tc : Thread Cert.AttnEvenRefIdeal.nD Cert.AttnEvenRefIdeal.τ).loc Cert.AttnEvenRefIdeal.main_arg4)
      ∧ r.2.mem ((c.tc : Thread Cert.AttnEvenRefIdeal.nD Cert.AttnEvenRefIdeal.τ).loc Cert.AttnEvenRefIdeal.main_arg5) = m ((c.tc : Thread Cert.AttnEvenRefIdeal.nD Cert.AttnEvenRefIdeal.τ).loc Cert.AttnEvenRefIdeal.main_arg5)
      ∧ r.2.mem ((c.tc : Thread Cert.AttnEvenRefIdeal.nD Cert.AttnEvenRefIdeal.τ).loc Cert.AttnEvenRefIdeal.main_arg6) = m ((c.tc : Thread Cert.AttnEvenRefIdeal.nD Cert.AttnEvenRefIdeal.τ).loc Cert.AttnEvenRefIdeal.main_arg6)
      ∧ r.2.mem ((c.tc : Thread Cert.AttnEvenRefIdeal.nD Cert.AttnEvenRefIdeal.τ).loc Cert.AttnEvenRefIdeal.main_arg7) = m ((c.tc : Thread Cert.AttnEvenRefIdeal.nD Cert.AttnEvenRefIdeal.τ).loc Cert.AttnEvenRefIdeal.main_arg7)
      ∧ r.2.mem ((c.tc : Thread Cert.AttnEvenRefIdeal.nD Cert.AttnEvenRefIdeal.τ).loc Cert.AttnEvenRefIdeal.main_arg8) = m ((c.tc : Thread Cert.AttnEvenRefIdeal.nD Cert.AttnEvenRefIdeal.τ).loc Cert.AttnEvenRefIdeal.main_arg8)
      ∧ r.2.mem ((c.tc : Thread Cert.AttnEvenRefIdeal.nD Cert.AttnEvenRefIdeal.τ).loc Cert.AttnEvenRefIdeal.main_arg9) = m ((c.tc : Thread Cert.AttnEvenRefIdeal.nD Cert.AttnEvenRefIdeal.τ).loc Cert.AttnEvenRefIdeal.main_arg9))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesIdeal_pre_positive_bound [hGatesIdeal : Cert.GatesIdeal.Facts] [hPre_positive_bound : Cert.Pre_positive_bound.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_positive_bound m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3))
      ∧ r.2.sem = fun _ => 0)

def quiescent_GatesRefIdeal_pre_positive_bound [hGatesRefIdeal : Cert.GatesRefIdeal.Facts] [hPre_positive_bound : Cert.Pre_positive_bound.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal_positive_bound m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3))
      ∧ r.2.sem = fun _ => 0)

def quiescent_Mixin [hMixin : Cert.Mixin.Facts] : Prop :=
  ∀ (m : (ℓ : Loc Cert.Mixin.nD Cert.Mixin.τ Cert.Mixin.sig) → Buf (Elt Bits) ℓ) (g : Dev Cert.Mixin.nD → PrngReg), Pre_Mixin m →
    θ_run (Cert.Mixin.defs (F := Bits)) (onTc (τ := Cert.Mixin.τ) (Cert.Mixin.main (F := Bits))) ⟨m, fun _ => 0, g⟩ (fun r => (∀ c : Dev Cert.Mixin.nD,
      r.2.mem ((c.tc : Thread Cert.Mixin.nD Cert.Mixin.τ).loc Cert.Mixin.main_arg0) = m ((c.tc : Thread Cert.Mixin.nD Cert.Mixin.τ).loc Cert.Mixin.main_arg0)
      ∧ r.2.mem ((c.tc : Thread Cert.Mixin.nD Cert.Mixin.τ).loc Cert.Mixin.main_arg1) = m ((c.tc : Thread Cert.Mixin.nD Cert.Mixin.τ).loc Cert.Mixin.main_arg1)
      ∧ r.2.mem ((c.tc : Thread Cert.Mixin.nD Cert.Mixin.τ).loc Cert.Mixin.main_arg2) = m ((c.tc : Thread Cert.Mixin.nD Cert.Mixin.τ).loc Cert.Mixin.main_arg2))
      ∧ r.2.sem = fun _ => 0)

def quiescent_MixinIdeal [hMixinIdeal : Cert.MixinIdeal.Facts] : Prop :=
  ∀ (m : (ℓ : Loc Cert.MixinIdeal.nD Cert.MixinIdeal.τ Cert.MixinIdeal.sig) → Buf (Elt Ideal) ℓ) (g : Dev Cert.MixinIdeal.nD → PrngReg), Pre_MixinIdeal m →
    θ_run (Cert.MixinIdeal.defs (F := Ideal)) (onTc (τ := Cert.MixinIdeal.τ) (Cert.MixinIdeal.main (F := Ideal))) ⟨m, fun _ => 0, g⟩ (fun r => (∀ c : Dev Cert.MixinIdeal.nD,
      r.2.mem ((c.tc : Thread Cert.MixinIdeal.nD Cert.MixinIdeal.τ).loc Cert.MixinIdeal.main_arg0) = m ((c.tc : Thread Cert.MixinIdeal.nD Cert.MixinIdeal.τ).loc Cert.MixinIdeal.main_arg0)
      ∧ r.2.mem ((c.tc : Thread Cert.MixinIdeal.nD Cert.MixinIdeal.τ).loc Cert.MixinIdeal.main_arg1) = m ((c.tc : Thread Cert.MixinIdeal.nD Cert.MixinIdeal.τ).loc Cert.MixinIdeal.main_arg1)
      ∧ r.2.mem ((c.tc : Thread Cert.MixinIdeal.nD Cert.MixinIdeal.τ).loc Cert.MixinIdeal.main_arg2) = m ((c.tc : Thread Cert.MixinIdeal.nD Cert.MixinIdeal.τ).loc Cert.MixinIdeal.main_arg2))
      ∧ r.2.sem = fun _ => 0)

def quiescent_MixinRefIdeal [hMixinRefIdeal : Cert.MixinRefIdeal.Facts] : Prop :=
  ∀ (m : (ℓ : Loc Cert.MixinRefIdeal.nD Cert.MixinRefIdeal.τ Cert.MixinRefIdeal.sig) → Buf (Elt Ideal) ℓ) (g : Dev Cert.MixinRefIdeal.nD → PrngReg), Pre_MixinRefIdeal m →
    θ_run (Cert.MixinRefIdeal.defs (F := Ideal)) (onTc (τ := Cert.MixinRefIdeal.τ) (Cert.MixinRefIdeal.main (F := Ideal))) ⟨m, fun _ => 0, g⟩ (fun r => (∀ c : Dev Cert.MixinRefIdeal.nD,
      r.2.mem ((c.tc : Thread Cert.MixinRefIdeal.nD Cert.MixinRefIdeal.τ).loc Cert.MixinRefIdeal.main_arg0) = m ((c.tc : Thread Cert.MixinRefIdeal.nD Cert.MixinRefIdeal.τ).loc Cert.MixinRefIdeal.main_arg0)
      ∧ r.2.mem ((c.tc : Thread Cert.MixinRefIdeal.nD Cert.MixinRefIdeal.τ).loc Cert.MixinRefIdeal.main_arg1) = m ((c.tc : Thread Cert.MixinRefIdeal.nD Cert.MixinRefIdeal.τ).loc Cert.MixinRefIdeal.main_arg1)
      ∧ r.2.mem ((c.tc : Thread Cert.MixinRefIdeal.nD Cert.MixinRefIdeal.τ).loc Cert.MixinRefIdeal.main_arg2) = m ((c.tc : Thread Cert.MixinRefIdeal.nD Cert.MixinRefIdeal.τ).loc Cert.MixinRefIdeal.main_arg2))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3))
      ∧ r.2.sem = fun _ => 0)

def quiescent_Tables [hTables : Cert.Tables.Facts] : Prop :=
  ∀ (m : (ℓ : Loc Cert.Tables.nD Cert.Tables.τ Cert.Tables.sig) → Buf (Elt Bits) ℓ) (g : Dev Cert.Tables.nD → PrngReg), Pre_Tables m →
    θ_run (Cert.Tables.defs (F := Bits)) (onTc (τ := Cert.Tables.τ) (Cert.Tables.main (F := Bits))) ⟨m, fun _ => 0, g⟩ (fun r => (∀ c : Dev Cert.Tables.nD,
      r.2.mem ((c.tc : Thread Cert.Tables.nD Cert.Tables.τ).loc Cert.Tables.main_arg0) = m ((c.tc : Thread Cert.Tables.nD Cert.Tables.τ).loc Cert.Tables.main_arg0))
      ∧ r.2.sem = fun _ => 0)

def quiescent_TablesIdeal [hTablesIdeal : Cert.TablesIdeal.Facts] : Prop :=
  ∀ (m : (ℓ : Loc Cert.TablesIdeal.nD Cert.TablesIdeal.τ Cert.TablesIdeal.sig) → Buf (Elt Ideal) ℓ) (g : Dev Cert.TablesIdeal.nD → PrngReg), Pre_TablesIdeal m →
    θ_run (Cert.TablesIdeal.defs (F := Ideal)) (onTc (τ := Cert.TablesIdeal.τ) (Cert.TablesIdeal.main (F := Ideal))) ⟨m, fun _ => 0, g⟩ (fun r => (∀ c : Dev Cert.TablesIdeal.nD,
      r.2.mem ((c.tc : Thread Cert.TablesIdeal.nD Cert.TablesIdeal.τ).loc Cert.TablesIdeal.main_arg0) = m ((c.tc : Thread Cert.TablesIdeal.nD Cert.TablesIdeal.τ).loc Cert.TablesIdeal.main_arg0))
      ∧ r.2.sem = fun _ => 0)

def quiescent_TablesRefIdeal [hTablesRefIdeal : Cert.TablesRefIdeal.Facts] : Prop :=
  ∀ (m : (ℓ : Loc Cert.TablesRefIdeal.nD Cert.TablesRefIdeal.τ Cert.TablesRefIdeal.sig) → Buf (Elt Ideal) ℓ) (g : Dev Cert.TablesRefIdeal.nD → PrngReg), Pre_TablesRefIdeal m →
    θ_run (Cert.TablesRefIdeal.defs (F := Ideal)) (onTc (τ := Cert.TablesRefIdeal.τ) (Cert.TablesRefIdeal.main (F := Ideal))) ⟨m, fun _ => 0, g⟩ (fun r => (∀ c : Dev Cert.TablesRefIdeal.nD,
      r.2.mem ((c.tc : Thread Cert.TablesRefIdeal.nD Cert.TablesRefIdeal.τ).loc Cert.TablesRefIdeal.main_arg0) = m ((c.tc : Thread Cert.TablesRefIdeal.nD Cert.TablesRefIdeal.τ).loc Cert.TablesRefIdeal.main_arg0))
      ∧ r.2.sem = fun _ => 0)

def quiescent_Window [hWindow : Cert.Window.Facts] : Prop :=
  ∀ (m : (ℓ : Loc Cert.Window.nD Cert.Window.τ Cert.Window.sig) → Buf (Elt Bits) ℓ) (g : Dev Cert.Window.nD → PrngReg), Pre_Window m →
    θ_run (Cert.Window.defs (F := Bits)) (onTc (τ := Cert.Window.τ) (Cert.Window.main (F := Bits))) ⟨m, fun _ => 0, g⟩ (fun r => (∀ c : Dev Cert.Window.nD,
      r.2.mem ((c.tc : Thread Cert.Window.nD Cert.Window.τ).loc Cert.Window.main_arg0) = m ((c.tc : Thread Cert.Window.nD Cert.Window.τ).loc Cert.Window.main_arg0)
      ∧ r.2.mem ((c.tc : Thread Cert.Window.nD Cert.Window.τ).loc Cert.Window.main_arg1) = m ((c.tc : Thread Cert.Window.nD Cert.Window.τ).loc Cert.Window.main_arg1)
      ∧ r.2.mem ((c.tc : Thread Cert.Window.nD Cert.Window.τ).loc Cert.Window.main_arg2) = m ((c.tc : Thread Cert.Window.nD Cert.Window.τ).loc Cert.Window.main_arg2)
      ∧ r.2.mem ((c.tc : Thread Cert.Window.nD Cert.Window.τ).loc Cert.Window.main_arg3) = m ((c.tc : Thread Cert.Window.nD Cert.Window.τ).loc Cert.Window.main_arg3)
      ∧ r.2.mem ((c.tc : Thread Cert.Window.nD Cert.Window.τ).loc Cert.Window.main_arg4) = m ((c.tc : Thread Cert.Window.nD Cert.Window.τ).loc Cert.Window.main_arg4)
      ∧ r.2.mem ((c.tc : Thread Cert.Window.nD Cert.Window.τ).loc Cert.Window.main_arg5) = m ((c.tc : Thread Cert.Window.nD Cert.Window.τ).loc Cert.Window.main_arg5))
      ∧ r.2.sem = fun _ => 0)

def quiescent_WindowIdeal [hWindowIdeal : Cert.WindowIdeal.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
      ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3)
      ∧ r.2.mem ((c.tc : Thread Cert.WindowIdeal.nD Cert.WindowIdeal.τ).loc Cert.WindowIdeal.main_arg4) = m ((c.tc : Thread Cert.WindowIdeal.nD Cert.WindowIdeal.τ).loc Cert.WindowIdeal.main_arg4)
      ∧ r.2.mem ((c.tc : Thread Cert.WindowIdeal.nD Cert.WindowIdeal.τ).loc Cert.WindowIdeal.main_arg5) = m ((c.tc : Thread Cert.WindowIdeal.nD Cert.WindowIdeal.τ).loc Cert.WindowIdeal.main_arg5))
      ∧ r.2.sem = fun _ => 0)

def quiescent_WindowIdeal_pre_finite_window [hWindowIdeal : Cert.WindowIdeal.Facts] [hPre_finite_window : Cert.Pre_finite_window.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal_finite_window m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
      ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3)
      ∧ r.2.mem ((c.tc : Thread Cert.WindowIdeal.nD Cert.WindowIdeal.τ).loc Cert.WindowIdeal.main_arg4) = m ((c.tc : Thread Cert.WindowIdeal.nD Cert.WindowIdeal.τ).loc Cert.WindowIdeal.main_arg4)
      ∧ r.2.mem ((c.tc : Thread Cert.WindowIdeal.nD Cert.WindowIdeal.τ).loc Cert.WindowIdeal.main_arg5) = m ((c.tc : Thread Cert.WindowIdeal.nD Cert.WindowIdeal.τ).loc Cert.WindowIdeal.main_arg5))
      ∧ r.2.sem = fun _ => 0)

def quiescent_WindowRefIdeal [hWindowRefIdeal : Cert.WindowRefIdeal.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1)
      ∧ r.2.mem ((c.tc : Thread Cert.WindowRefIdeal.nD Cert.WindowRefIdeal.τ).loc Cert.WindowRefIdeal.main_arg2) = m ((c.tc : Thread Cert.WindowRefIdeal.nD Cert.WindowRefIdeal.τ).loc Cert.WindowRefIdeal.main_arg2)
      ∧ r.2.mem ((c.tc : Thread Cert.WindowRefIdeal.nD Cert.WindowRefIdeal.τ).loc Cert.WindowRefIdeal.main_arg3) = m ((c.tc : Thread Cert.WindowRefIdeal.nD Cert.WindowRefIdeal.τ).loc Cert.WindowRefIdeal.main_arg3)
      ∧ r.2.mem ((c.tc : Thread Cert.WindowRefIdeal.nD Cert.WindowRefIdeal.τ).loc Cert.WindowRefIdeal.main_arg4) = m ((c.tc : Thread Cert.WindowRefIdeal.nD Cert.WindowRefIdeal.τ).loc Cert.WindowRefIdeal.main_arg4)
      ∧ r.2.mem ((c.tc : Thread Cert.WindowRefIdeal.nD Cert.WindowRefIdeal.τ).loc Cert.WindowRefIdeal.main_arg5) = m ((c.tc : Thread Cert.WindowRefIdeal.nD Cert.WindowRefIdeal.τ).loc Cert.WindowRefIdeal.main_arg5))
      ∧ r.2.sem = fun _ => 0)

def quiescent_WindowRefIdeal_pre_finite_window [hWindowRefIdeal : Cert.WindowRefIdeal.Facts] [hPre_finite_window : Cert.Pre_finite_window.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal_finite_window m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1)
      ∧ r.2.mem ((c.tc : Thread Cert.WindowRefIdeal.nD Cert.WindowRefIdeal.τ).loc Cert.WindowRefIdeal.main_arg2) = m ((c.tc : Thread Cert.WindowRefIdeal.nD Cert.WindowRefIdeal.τ).loc Cert.WindowRefIdeal.main_arg2)
      ∧ r.2.mem ((c.tc : Thread Cert.WindowRefIdeal.nD Cert.WindowRefIdeal.τ).loc Cert.WindowRefIdeal.main_arg3) = m ((c.tc : Thread Cert.WindowRefIdeal.nD Cert.WindowRefIdeal.τ).loc Cert.WindowRefIdeal.main_arg3)
      ∧ r.2.mem ((c.tc : Thread Cert.WindowRefIdeal.nD Cert.WindowRefIdeal.τ).loc Cert.WindowRefIdeal.main_arg4) = m ((c.tc : Thread Cert.WindowRefIdeal.nD Cert.WindowRefIdeal.τ).loc Cert.WindowRefIdeal.main_arg4)
      ∧ r.2.mem ((c.tc : Thread Cert.WindowRefIdeal.nD Cert.WindowRefIdeal.τ).loc Cert.WindowRefIdeal.main_arg5) = m ((c.tc : Thread Cert.WindowRefIdeal.nD Cert.WindowRefIdeal.τ).loc Cert.WindowRefIdeal.main_arg5))
      ∧ r.2.sem = fun _ => 0)

def preserves_Attn_AttnIdeal : Prop :=
  True

def algebraic_AttnIdeal_AttnRefIdeal_pre_finite_keys [hAttnIdeal : Cert.AttnIdeal.Facts] [hAttnRefIdeal : Cert.AttnRefIdeal.Facts] [hPre_finite_keys : Cert.Pre_finite_keys.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_keys m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v5) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v53) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v45) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_AttnEven_AttnEvenIdeal : Prop :=
  True

def algebraic_AttnEvenIdeal_AttnEvenRefIdeal_pre_finite_keys_even [hAttnEvenIdeal : Cert.AttnEvenIdeal.Facts] [hAttnEvenRefIdeal : Cert.AttnEvenRefIdeal.Facts] [hPre_finite_keys_even : Cert.Pre_finite_keys_even.Facts] : Prop :=
  ∀ (m : (ℓ : Loc Cert.AttnEvenIdeal.nD Cert.AttnEvenIdeal.τ Cert.AttnEvenIdeal.sig) → Buf (Elt Ideal) ℓ) (g : Dev Cert.AttnEvenIdeal.nD → PrngReg)
    (m' : (ℓ : Loc Cert.AttnEvenRefIdeal.nD Cert.AttnEvenRefIdeal.τ Cert.AttnEvenRefIdeal.sig) → Buf (Elt Ideal) ℓ) (g' : Dev Cert.AttnEvenRefIdeal.nD → PrngReg), Pre_AttnEvenIdeal_finite_keys_even m →
    (∀ c : Dev Cert.AttnEvenIdeal.nD,
      m' ((c.tc : Thread Cert.AttnEvenRefIdeal.nD Cert.AttnEvenRefIdeal.τ).loc Cert.AttnEvenRefIdeal.main_arg0) = m ((c.tc : Thread Cert.AttnEvenIdeal.nD Cert.AttnEvenIdeal.τ).loc Cert.AttnEvenIdeal.main_arg0)
      ∧ m' ((c.tc : Thread Cert.AttnEvenRefIdeal.nD Cert.AttnEvenRefIdeal.τ).loc Cert.AttnEvenRefIdeal.main_arg1) = m ((c.tc : Thread Cert.AttnEvenIdeal.nD Cert.AttnEvenIdeal.τ).loc Cert.AttnEvenIdeal.main_arg1)
      ∧ m' ((c.tc : Thread Cert.AttnEvenRefIdeal.nD Cert.AttnEvenRefIdeal.τ).loc Cert.AttnEvenRefIdeal.main_arg2) = m ((c.tc : Thread Cert.AttnEvenIdeal.nD Cert.AttnEvenIdeal.τ).loc Cert.AttnEvenIdeal.main_arg2)
      ∧ m' ((c.tc : Thread Cert.AttnEvenRefIdeal.nD Cert.AttnEvenRefIdeal.τ).loc Cert.AttnEvenRefIdeal.main_arg3) = m ((c.tc : Thread Cert.AttnEvenIdeal.nD Cert.AttnEvenIdeal.τ).loc Cert.AttnEvenIdeal.main_arg3)
      ∧ m' ((c.tc : Thread Cert.AttnEvenRefIdeal.nD Cert.AttnEvenRefIdeal.τ).loc Cert.AttnEvenRefIdeal.main_arg4) = m ((c.tc : Thread Cert.AttnEvenIdeal.nD Cert.AttnEvenIdeal.τ).loc Cert.AttnEvenIdeal.main_arg4)
      ∧ m' ((c.tc : Thread Cert.AttnEvenRefIdeal.nD Cert.AttnEvenRefIdeal.τ).loc Cert.AttnEvenRefIdeal.main_arg5) = m ((c.tc : Thread Cert.AttnEvenIdeal.nD Cert.AttnEvenIdeal.τ).loc Cert.AttnEvenIdeal.main_arg5)
      ∧ m' ((c.tc : Thread Cert.AttnEvenRefIdeal.nD Cert.AttnEvenRefIdeal.τ).loc Cert.AttnEvenRefIdeal.main_arg6) = m ((c.tc : Thread Cert.AttnEvenIdeal.nD Cert.AttnEvenIdeal.τ).loc Cert.AttnEvenIdeal.main_arg6)
      ∧ m' ((c.tc : Thread Cert.AttnEvenRefIdeal.nD Cert.AttnEvenRefIdeal.τ).loc Cert.AttnEvenRefIdeal.main_arg7) = m ((c.tc : Thread Cert.AttnEvenIdeal.nD Cert.AttnEvenIdeal.τ).loc Cert.AttnEvenIdeal.main_arg7)
      ∧ m' ((c.tc : Thread Cert.AttnEvenRefIdeal.nD Cert.AttnEvenRefIdeal.τ).loc Cert.AttnEvenRefIdeal.main_arg8) = m ((c.tc : Thread Cert.AttnEvenIdeal.nD Cert.AttnEvenIdeal.τ).loc Cert.AttnEvenIdeal.main_arg8)
      ∧ m' ((c.tc : Thread Cert.AttnEvenRefIdeal.nD Cert.AttnEvenRefIdeal.τ).loc Cert.AttnEvenRefIdeal.main_arg9) = m ((c.tc : Thread Cert.AttnEvenIdeal.nD Cert.AttnEvenIdeal.τ).loc Cert.AttnEvenIdeal.main_arg9)) →
    ∃ (v0 : (c : Dev Cert.AttnEvenIdeal.nD) → Buf (Elt Ideal) ((c.tc : Thread Cert.AttnEvenIdeal.nD Cert.AttnEvenIdeal.τ).loc Cert.AttnEvenIdeal.main_v7)),
      θ_run (Cert.AttnEvenIdeal.defs (F := Ideal)) (onTc (τ := Cert.AttnEvenIdeal.τ) (Cert.AttnEvenIdeal.main (F := Ideal))) ⟨m, fun _ => 0, g⟩ (fun r => ∀ c : Dev Cert.AttnEvenIdeal.nD,
          r.2.mem ((c.tc : Thread Cert.AttnEvenIdeal.nD Cert.AttnEvenIdeal.τ).loc Cert.AttnEvenIdeal.main_v7) = v0 c
          ∧ r.2.mem ((c.tc : Thread Cert.AttnEvenIdeal.nD Cert.AttnEvenIdeal.τ).loc Cert.AttnEvenIdeal.main_arg0) = m ((c.tc : Thread Cert.AttnEvenIdeal.nD Cert.AttnEvenIdeal.τ).loc Cert.AttnEvenIdeal.main_arg0)
          ∧ r.2.mem ((c.tc : Thread Cert.AttnEvenIdeal.nD Cert.AttnEvenIdeal.τ).loc Cert.AttnEvenIdeal.main_arg1) = m ((c.tc : Thread Cert.AttnEvenIdeal.nD Cert.AttnEvenIdeal.τ).loc Cert.AttnEvenIdeal.main_arg1)
          ∧ r.2.mem ((c.tc : Thread Cert.AttnEvenIdeal.nD Cert.AttnEvenIdeal.τ).loc Cert.AttnEvenIdeal.main_arg2) = m ((c.tc : Thread Cert.AttnEvenIdeal.nD Cert.AttnEvenIdeal.τ).loc Cert.AttnEvenIdeal.main_arg2)
          ∧ r.2.mem ((c.tc : Thread Cert.AttnEvenIdeal.nD Cert.AttnEvenIdeal.τ).loc Cert.AttnEvenIdeal.main_arg3) = m ((c.tc : Thread Cert.AttnEvenIdeal.nD Cert.AttnEvenIdeal.τ).loc Cert.AttnEvenIdeal.main_arg3)
          ∧ r.2.mem ((c.tc : Thread Cert.AttnEvenIdeal.nD Cert.AttnEvenIdeal.τ).loc Cert.AttnEvenIdeal.main_arg4) = m ((c.tc : Thread Cert.AttnEvenIdeal.nD Cert.AttnEvenIdeal.τ).loc Cert.AttnEvenIdeal.main_arg4)
          ∧ r.2.mem ((c.tc : Thread Cert.AttnEvenIdeal.nD Cert.AttnEvenIdeal.τ).loc Cert.AttnEvenIdeal.main_arg5) = m ((c.tc : Thread Cert.AttnEvenIdeal.nD Cert.AttnEvenIdeal.τ).loc Cert.AttnEvenIdeal.main_arg5)
          ∧ r.2.mem ((c.tc : Thread Cert.AttnEvenIdeal.nD Cert.AttnEvenIdeal.τ).loc Cert.AttnEvenIdeal.main_arg6) = m ((c.tc : Thread Cert.AttnEvenIdeal.nD Cert.AttnEvenIdeal.τ).loc Cert.AttnEvenIdeal.main_arg6)
          ∧ r.2.mem ((c.tc : Thread Cert.AttnEvenIdeal.nD Cert.AttnEvenIdeal.τ).loc Cert.AttnEvenIdeal.main_arg7) = m ((c.tc : Thread Cert.AttnEvenIdeal.nD Cert.AttnEvenIdeal.τ).loc Cert.AttnEvenIdeal.main_arg7)
          ∧ r.2.mem ((c.tc : Thread Cert.AttnEvenIdeal.nD Cert.AttnEvenIdeal.τ).loc Cert.AttnEvenIdeal.main_arg8) = m ((c.tc : Thread Cert.AttnEvenIdeal.nD Cert.AttnEvenIdeal.τ).loc Cert.AttnEvenIdeal.main_arg8)
          ∧ r.2.mem ((c.tc : Thread Cert.AttnEvenIdeal.nD Cert.AttnEvenIdeal.τ).loc Cert.AttnEvenIdeal.main_arg9) = m ((c.tc : Thread Cert.AttnEvenIdeal.nD Cert.AttnEvenIdeal.τ).loc Cert.AttnEvenIdeal.main_arg9))
      ∧ θ_run (Cert.AttnEvenRefIdeal.defs (F := Ideal)) (onTc (τ := Cert.AttnEvenRefIdeal.τ) (Cert.AttnEvenRefIdeal.main (F := Ideal))) ⟨m', fun _ => 0, g'⟩ (fun r => ∀ c : Dev Cert.AttnEvenRefIdeal.nD,
          r.2.mem ((c.tc : Thread Cert.AttnEvenRefIdeal.nD Cert.AttnEvenRefIdeal.τ).loc Cert.AttnEvenRefIdeal.main_v55) = v0 c
          ∧ r.2.mem ((c.tc : Thread Cert.AttnEvenRefIdeal.nD Cert.AttnEvenRefIdeal.τ).loc Cert.AttnEvenRefIdeal.main_arg0) = m' ((c.tc : Thread Cert.AttnEvenRefIdeal.nD Cert.AttnEvenRefIdeal.τ).loc Cert.AttnEvenRefIdeal.main_arg0)
          ∧ r.2.mem ((c.tc : Thread Cert.AttnEvenRefIdeal.nD Cert.AttnEvenRefIdeal.τ).loc Cert.AttnEvenRefIdeal.main_arg1) = m' ((c.tc : Thread Cert.AttnEvenRefIdeal.nD Cert.AttnEvenRefIdeal.τ).loc Cert.AttnEvenRefIdeal.main_arg1)
          ∧ r.2.mem ((c.tc : Thread Cert.AttnEvenRefIdeal.nD Cert.AttnEvenRefIdeal.τ).loc Cert.AttnEvenRefIdeal.main_arg2) = m' ((c.tc : Thread Cert.AttnEvenRefIdeal.nD Cert.AttnEvenRefIdeal.τ).loc Cert.AttnEvenRefIdeal.main_arg2)
          ∧ r.2.mem ((c.tc : Thread Cert.AttnEvenRefIdeal.nD Cert.AttnEvenRefIdeal.τ).loc Cert.AttnEvenRefIdeal.main_arg3) = m' ((c.tc : Thread Cert.AttnEvenRefIdeal.nD Cert.AttnEvenRefIdeal.τ).loc Cert.AttnEvenRefIdeal.main_arg3)
          ∧ r.2.mem ((c.tc : Thread Cert.AttnEvenRefIdeal.nD Cert.AttnEvenRefIdeal.τ).loc Cert.AttnEvenRefIdeal.main_arg4) = m' ((c.tc : Thread Cert.AttnEvenRefIdeal.nD Cert.AttnEvenRefIdeal.τ).loc Cert.AttnEvenRefIdeal.main_arg4)
          ∧ r.2.mem ((c.tc : Thread Cert.AttnEvenRefIdeal.nD Cert.AttnEvenRefIdeal.τ).loc Cert.AttnEvenRefIdeal.main_arg5) = m' ((c.tc : Thread Cert.AttnEvenRefIdeal.nD Cert.AttnEvenRefIdeal.τ).loc Cert.AttnEvenRefIdeal.main_arg5)
          ∧ r.2.mem ((c.tc : Thread Cert.AttnEvenRefIdeal.nD Cert.AttnEvenRefIdeal.τ).loc Cert.AttnEvenRefIdeal.main_arg6) = m' ((c.tc : Thread Cert.AttnEvenRefIdeal.nD Cert.AttnEvenRefIdeal.τ).loc Cert.AttnEvenRefIdeal.main_arg6)
          ∧ r.2.mem ((c.tc : Thread Cert.AttnEvenRefIdeal.nD Cert.AttnEvenRefIdeal.τ).loc Cert.AttnEvenRefIdeal.main_arg7) = m' ((c.tc : Thread Cert.AttnEvenRefIdeal.nD Cert.AttnEvenRefIdeal.τ).loc Cert.AttnEvenRefIdeal.main_arg7)
          ∧ r.2.mem ((c.tc : Thread Cert.AttnEvenRefIdeal.nD Cert.AttnEvenRefIdeal.τ).loc Cert.AttnEvenRefIdeal.main_arg8) = m' ((c.tc : Thread Cert.AttnEvenRefIdeal.nD Cert.AttnEvenRefIdeal.τ).loc Cert.AttnEvenRefIdeal.main_arg8)
          ∧ r.2.mem ((c.tc : Thread Cert.AttnEvenRefIdeal.nD Cert.AttnEvenRefIdeal.τ).loc Cert.AttnEvenRefIdeal.main_arg9) = m' ((c.tc : Thread Cert.AttnEvenRefIdeal.nD Cert.AttnEvenRefIdeal.τ).loc Cert.AttnEvenRefIdeal.main_arg9))

def preserves_Gates_GatesIdeal : Prop :=
  True

def algebraic_GatesIdeal_GatesRefIdeal_pre_positive_bound [hGatesIdeal : Cert.GatesIdeal.Facts] [hGatesRefIdeal : Cert.GatesRefIdeal.Facts] [hPre_positive_bound : Cert.Pre_positive_bound.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal_positive_bound m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)) →
    ∃ (v0 : (c : Dev Cert.GatesIdeal.nD) → Buf (Elt Ideal) ((c.tc : Thread Cert.GatesIdeal.nD Cert.GatesIdeal.τ).loc Cert.GatesIdeal.main_v3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v3) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v48) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3))

def preserves_Mixin_MixinIdeal : Prop :=
  True

def algebraic_MixinIdeal_MixinRefIdeal [hMixinIdeal : Cert.MixinIdeal.Facts] [hMixinRefIdeal : Cert.MixinRefIdeal.Facts] : Prop :=
  ∀ (m : (ℓ : Loc Cert.MixinIdeal.nD Cert.MixinIdeal.τ Cert.MixinIdeal.sig) → Buf (Elt Ideal) ℓ) (g : Dev Cert.MixinIdeal.nD → PrngReg)
    (m' : (ℓ : Loc Cert.MixinRefIdeal.nD Cert.MixinRefIdeal.τ Cert.MixinRefIdeal.sig) → Buf (Elt Ideal) ℓ) (g' : Dev Cert.MixinRefIdeal.nD → PrngReg), Pre_MixinIdeal m →
    (∀ c : Dev Cert.MixinIdeal.nD,
      m' ((c.tc : Thread Cert.MixinRefIdeal.nD Cert.MixinRefIdeal.τ).loc Cert.MixinRefIdeal.main_arg0) = m ((c.tc : Thread Cert.MixinIdeal.nD Cert.MixinIdeal.τ).loc Cert.MixinIdeal.main_arg0)
      ∧ m' ((c.tc : Thread Cert.MixinRefIdeal.nD Cert.MixinRefIdeal.τ).loc Cert.MixinRefIdeal.main_arg1) = m ((c.tc : Thread Cert.MixinIdeal.nD Cert.MixinIdeal.τ).loc Cert.MixinIdeal.main_arg1)
      ∧ m' ((c.tc : Thread Cert.MixinRefIdeal.nD Cert.MixinRefIdeal.τ).loc Cert.MixinRefIdeal.main_arg2) = m ((c.tc : Thread Cert.MixinIdeal.nD Cert.MixinIdeal.τ).loc Cert.MixinIdeal.main_arg2)) →
    ∃ (v0 : (c : Dev Cert.MixinIdeal.nD) → Buf (Elt Ideal) ((c.tc : Thread Cert.MixinIdeal.nD Cert.MixinIdeal.τ).loc Cert.MixinIdeal.main_v2)),
      θ_run (Cert.MixinIdeal.defs (F := Ideal)) (onTc (τ := Cert.MixinIdeal.τ) (Cert.MixinIdeal.main (F := Ideal))) ⟨m, fun _ => 0, g⟩ (fun r => ∀ c : Dev Cert.MixinIdeal.nD,
          r.2.mem ((c.tc : Thread Cert.MixinIdeal.nD Cert.MixinIdeal.τ).loc Cert.MixinIdeal.main_v2) = v0 c
          ∧ r.2.mem ((c.tc : Thread Cert.MixinIdeal.nD Cert.MixinIdeal.τ).loc Cert.MixinIdeal.main_arg0) = m ((c.tc : Thread Cert.MixinIdeal.nD Cert.MixinIdeal.τ).loc Cert.MixinIdeal.main_arg0)
          ∧ r.2.mem ((c.tc : Thread Cert.MixinIdeal.nD Cert.MixinIdeal.τ).loc Cert.MixinIdeal.main_arg1) = m ((c.tc : Thread Cert.MixinIdeal.nD Cert.MixinIdeal.τ).loc Cert.MixinIdeal.main_arg1)
          ∧ r.2.mem ((c.tc : Thread Cert.MixinIdeal.nD Cert.MixinIdeal.τ).loc Cert.MixinIdeal.main_arg2) = m ((c.tc : Thread Cert.MixinIdeal.nD Cert.MixinIdeal.τ).loc Cert.MixinIdeal.main_arg2))
      ∧ θ_run (Cert.MixinRefIdeal.defs (F := Ideal)) (onTc (τ := Cert.MixinRefIdeal.τ) (Cert.MixinRefIdeal.main (F := Ideal))) ⟨m', fun _ => 0, g'⟩ (fun r => ∀ c : Dev Cert.MixinRefIdeal.nD,
          r.2.mem ((c.tc : Thread Cert.MixinRefIdeal.nD Cert.MixinRefIdeal.τ).loc Cert.MixinRefIdeal.main_v14) = v0 c
          ∧ r.2.mem ((c.tc : Thread Cert.MixinRefIdeal.nD Cert.MixinRefIdeal.τ).loc Cert.MixinRefIdeal.main_arg0) = m' ((c.tc : Thread Cert.MixinRefIdeal.nD Cert.MixinRefIdeal.τ).loc Cert.MixinRefIdeal.main_arg0)
          ∧ r.2.mem ((c.tc : Thread Cert.MixinRefIdeal.nD Cert.MixinRefIdeal.τ).loc Cert.MixinRefIdeal.main_arg1) = m' ((c.tc : Thread Cert.MixinRefIdeal.nD Cert.MixinRefIdeal.τ).loc Cert.MixinRefIdeal.main_arg1)
          ∧ r.2.mem ((c.tc : Thread Cert.MixinRefIdeal.nD Cert.MixinRefIdeal.τ).loc Cert.MixinRefIdeal.main_arg2) = m' ((c.tc : Thread Cert.MixinRefIdeal.nD Cert.MixinRefIdeal.τ).loc Cert.MixinRefIdeal.main_arg2))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v3_0)) (v1 : (c : Dev Cert.MemoryIdeal.nD) → Buf (Elt Ideal) ((c.tc : Thread Cert.MemoryIdeal.nD Cert.MemoryIdeal.τ).loc Cert.MemoryIdeal.main_v3_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v3_0) = v0 c
          ∧ r.2.mem ((c.tc : Thread Cert.MemoryIdeal.nD Cert.MemoryIdeal.τ).loc Cert.MemoryIdeal.main_v3_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v33) = v0 c
          ∧ r.2.mem ((c.tc : Thread Cert.MemoryRefIdeal.nD Cert.MemoryRefIdeal.τ).loc Cert.MemoryRefIdeal.main_v35) = v1 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3))

def preserves_Tables_TablesIdeal : Prop :=
  True

def algebraic_TablesIdeal_TablesRefIdeal [hTablesIdeal : Cert.TablesIdeal.Facts] [hTablesRefIdeal : Cert.TablesRefIdeal.Facts] : Prop :=
  ∀ (m : (ℓ : Loc Cert.TablesIdeal.nD Cert.TablesIdeal.τ Cert.TablesIdeal.sig) → Buf (Elt Ideal) ℓ) (g : Dev Cert.TablesIdeal.nD → PrngReg)
    (m' : (ℓ : Loc Cert.TablesRefIdeal.nD Cert.TablesRefIdeal.τ Cert.TablesRefIdeal.sig) → Buf (Elt Ideal) ℓ) (g' : Dev Cert.TablesRefIdeal.nD → PrngReg), Pre_TablesIdeal m →
    (∀ c : Dev Cert.TablesIdeal.nD,
      m' ((c.tc : Thread Cert.TablesRefIdeal.nD Cert.TablesRefIdeal.τ).loc Cert.TablesRefIdeal.main_arg0) = m ((c.tc : Thread Cert.TablesIdeal.nD Cert.TablesIdeal.τ).loc Cert.TablesIdeal.main_arg0)) →
    ∃ (v0 : (c : Dev Cert.TablesIdeal.nD) → Buf (Elt Ideal) ((c.tc : Thread Cert.TablesIdeal.nD Cert.TablesIdeal.τ).loc Cert.TablesIdeal.main_v16_0)) (v1 : (c : Dev Cert.TablesIdeal.nD) → Buf (Elt Ideal) ((c.tc : Thread Cert.TablesIdeal.nD Cert.TablesIdeal.τ).loc Cert.TablesIdeal.main_v16_1)),
      θ_run (Cert.TablesIdeal.defs (F := Ideal)) (onTc (τ := Cert.TablesIdeal.τ) (Cert.TablesIdeal.main (F := Ideal))) ⟨m, fun _ => 0, g⟩ (fun r => ∀ c : Dev Cert.TablesIdeal.nD,
          r.2.mem ((c.tc : Thread Cert.TablesIdeal.nD Cert.TablesIdeal.τ).loc Cert.TablesIdeal.main_v16_0) = v0 c
          ∧ r.2.mem ((c.tc : Thread Cert.TablesIdeal.nD Cert.TablesIdeal.τ).loc Cert.TablesIdeal.main_v16_1) = v1 c
          ∧ r.2.mem ((c.tc : Thread Cert.TablesIdeal.nD Cert.TablesIdeal.τ).loc Cert.TablesIdeal.main_arg0) = m ((c.tc : Thread Cert.TablesIdeal.nD Cert.TablesIdeal.τ).loc Cert.TablesIdeal.main_arg0))
      ∧ θ_run (Cert.TablesRefIdeal.defs (F := Ideal)) (onTc (τ := Cert.TablesRefIdeal.τ) (Cert.TablesRefIdeal.main (F := Ideal))) ⟨m', fun _ => 0, g'⟩ (fun r => ∀ c : Dev Cert.TablesRefIdeal.nD,
          r.2.mem ((c.tc : Thread Cert.TablesRefIdeal.nD Cert.TablesRefIdeal.τ).loc Cert.TablesRefIdeal.main_v20) = v0 c
          ∧ r.2.mem ((c.tc : Thread Cert.TablesRefIdeal.nD Cert.TablesRefIdeal.τ).loc Cert.TablesRefIdeal.main_v23) = v1 c
          ∧ r.2.mem ((c.tc : Thread Cert.TablesRefIdeal.nD Cert.TablesRefIdeal.τ).loc Cert.TablesRefIdeal.main_arg0) = m' ((c.tc : Thread Cert.TablesRefIdeal.nD Cert.TablesRefIdeal.τ).loc Cert.TablesRefIdeal.main_arg0))

def preserves_Window_WindowIdeal : Prop :=
  True

def algebraic_WindowIdeal_WindowRefIdeal_pre_finite_window [hWindowIdeal : Cert.WindowIdeal.Facts] [hWindowRefIdeal : Cert.WindowRefIdeal.Facts] [hPre_finite_window : Cert.Pre_finite_window.Facts] : Prop :=
  ∀ (m : (ℓ : Loc Cert.WindowIdeal.nD Cert.WindowIdeal.τ Cert.WindowIdeal.sig) → Buf (Elt Ideal) ℓ) (g : Dev Cert.WindowIdeal.nD → PrngReg)
    (m' : (ℓ : Loc Cert.WindowRefIdeal.nD Cert.WindowRefIdeal.τ Cert.WindowRefIdeal.sig) → Buf (Elt Ideal) ℓ) (g' : Dev Cert.WindowRefIdeal.nD → PrngReg), Pre_WindowIdeal_finite_window m →
    (∀ c : Dev Cert.WindowIdeal.nD,
      m' ((c.tc : Thread Cert.WindowRefIdeal.nD Cert.WindowRefIdeal.τ).loc Cert.WindowRefIdeal.main_arg0) = m ((c.tc : Thread Cert.WindowIdeal.nD Cert.WindowIdeal.τ).loc Cert.WindowIdeal.main_arg0)
      ∧ m' ((c.tc : Thread Cert.WindowRefIdeal.nD Cert.WindowRefIdeal.τ).loc Cert.WindowRefIdeal.main_arg1) = m ((c.tc : Thread Cert.WindowIdeal.nD Cert.WindowIdeal.τ).loc Cert.WindowIdeal.main_arg1)
      ∧ m' ((c.tc : Thread Cert.WindowRefIdeal.nD Cert.WindowRefIdeal.τ).loc Cert.WindowRefIdeal.main_arg2) = m ((c.tc : Thread Cert.WindowIdeal.nD Cert.WindowIdeal.τ).loc Cert.WindowIdeal.main_arg2)
      ∧ m' ((c.tc : Thread Cert.WindowRefIdeal.nD Cert.WindowRefIdeal.τ).loc Cert.WindowRefIdeal.main_arg3) = m ((c.tc : Thread Cert.WindowIdeal.nD Cert.WindowIdeal.τ).loc Cert.WindowIdeal.main_arg3)
      ∧ m' ((c.tc : Thread Cert.WindowRefIdeal.nD Cert.WindowRefIdeal.τ).loc Cert.WindowRefIdeal.main_arg4) = m ((c.tc : Thread Cert.WindowIdeal.nD Cert.WindowIdeal.τ).loc Cert.WindowIdeal.main_arg4)
      ∧ m' ((c.tc : Thread Cert.WindowRefIdeal.nD Cert.WindowRefIdeal.τ).loc Cert.WindowRefIdeal.main_arg5) = m ((c.tc : Thread Cert.WindowIdeal.nD Cert.WindowIdeal.τ).loc Cert.WindowIdeal.main_arg5)) →
    ∃ (v0 : (c : Dev Cert.WindowIdeal.nD) → Buf (Elt Ideal) ((c.tc : Thread Cert.WindowIdeal.nD Cert.WindowIdeal.τ).loc Cert.WindowIdeal.main_v8)),
      θ_run (Cert.WindowIdeal.defs (F := Ideal)) (onTc (τ := Cert.WindowIdeal.τ) (Cert.WindowIdeal.main (F := Ideal))) ⟨m, fun _ => 0, g⟩ (fun r => ∀ c : Dev Cert.WindowIdeal.nD,
          r.2.mem ((c.tc : Thread Cert.WindowIdeal.nD Cert.WindowIdeal.τ).loc Cert.WindowIdeal.main_v8) = v0 c
          ∧ r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
          ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
          ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
          ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3)
          ∧ r.2.mem ((c.tc : Thread Cert.WindowIdeal.nD Cert.WindowIdeal.τ).loc Cert.WindowIdeal.main_arg4) = m ((c.tc : Thread Cert.WindowIdeal.nD Cert.WindowIdeal.τ).loc Cert.WindowIdeal.main_arg4)
          ∧ r.2.mem ((c.tc : Thread Cert.WindowIdeal.nD Cert.WindowIdeal.τ).loc Cert.WindowIdeal.main_arg5) = m ((c.tc : Thread Cert.WindowIdeal.nD Cert.WindowIdeal.τ).loc Cert.WindowIdeal.main_arg5))
      ∧ θ_run (Cert.WindowRefIdeal.defs (F := Ideal)) (onTc (τ := Cert.WindowRefIdeal.τ) (Cert.WindowRefIdeal.main (F := Ideal))) ⟨m', fun _ => 0, g'⟩ (fun r => ∀ c : Dev Cert.WindowRefIdeal.nD,
          r.2.mem ((c.tc : Thread Cert.WindowRefIdeal.nD Cert.WindowRefIdeal.τ).loc Cert.WindowRefIdeal.main_v123) = v0 c
          ∧ r.2.mem ((c.tc : Thread Cert.WindowRefIdeal.nD Cert.WindowRefIdeal.τ).loc Cert.WindowRefIdeal.main_arg0) = m' ((c.tc : Thread Cert.WindowRefIdeal.nD Cert.WindowRefIdeal.τ).loc Cert.WindowRefIdeal.main_arg0)
          ∧ r.2.mem ((c.tc : Thread Cert.WindowRefIdeal.nD Cert.WindowRefIdeal.τ).loc Cert.WindowRefIdeal.main_arg1) = m' ((c.tc : Thread Cert.WindowRefIdeal.nD Cert.WindowRefIdeal.τ).loc Cert.WindowRefIdeal.main_arg1)
          ∧ r.2.mem ((c.tc : Thread Cert.WindowRefIdeal.nD Cert.WindowRefIdeal.τ).loc Cert.WindowRefIdeal.main_arg2) = m' ((c.tc : Thread Cert.WindowRefIdeal.nD Cert.WindowRefIdeal.τ).loc Cert.WindowRefIdeal.main_arg2)
          ∧ r.2.mem ((c.tc : Thread Cert.WindowRefIdeal.nD Cert.WindowRefIdeal.τ).loc Cert.WindowRefIdeal.main_arg3) = m' ((c.tc : Thread Cert.WindowRefIdeal.nD Cert.WindowRefIdeal.τ).loc Cert.WindowRefIdeal.main_arg3)
          ∧ r.2.mem ((c.tc : Thread Cert.WindowRefIdeal.nD Cert.WindowRefIdeal.τ).loc Cert.WindowRefIdeal.main_arg4) = m' ((c.tc : Thread Cert.WindowRefIdeal.nD Cert.WindowRefIdeal.τ).loc Cert.WindowRefIdeal.main_arg4)
          ∧ r.2.mem ((c.tc : Thread Cert.WindowRefIdeal.nD Cert.WindowRefIdeal.τ).loc Cert.WindowRefIdeal.main_arg5) = m' ((c.tc : Thread Cert.WindowRefIdeal.nD Cert.WindowRefIdeal.τ).loc Cert.WindowRefIdeal.main_arg5))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hAttnEven : Cert.AttnEven.Facts) (hAttnEvenIdeal : Cert.AttnEvenIdeal.Facts) (hAttnEvenRefIdeal : Cert.AttnEvenRefIdeal.Facts) (hGates : Cert.Gates.Facts) (hGatesIdeal : Cert.GatesIdeal.Facts) (hGatesRefIdeal : Cert.GatesRefIdeal.Facts) (hMixin : Cert.Mixin.Facts) (hMixinIdeal : Cert.MixinIdeal.Facts) (hMixinRefIdeal : Cert.MixinRefIdeal.Facts) (hMemory : Cert.Memory.Facts) (hMemoryIdeal : Cert.MemoryIdeal.Facts) (hMemoryRefIdeal : Cert.MemoryRefIdeal.Facts) (hTables : Cert.Tables.Facts) (hTablesIdeal : Cert.TablesIdeal.Facts) (hTablesRefIdeal : Cert.TablesRefIdeal.Facts) (hWindow : Cert.Window.Facts) (hWindowIdeal : Cert.WindowIdeal.Facts) (hWindowRefIdeal : Cert.WindowRefIdeal.Facts) (hPre_finite_keys : Cert.Pre_finite_keys.Facts) (hPre_finite_keys_even : Cert.Pre_finite_keys_even.Facts) (hPre_positive_bound : Cert.Pre_positive_bound.Facts) (hPre_finite_window : Cert.Pre_finite_window.Facts),
    quiescent_Attn (hAttn := hAttn)
    ∧ quiescent_AttnIdeal (hAttnIdeal := hAttnIdeal)
    ∧ quiescent_AttnIdeal_pre_finite_keys (hAttnIdeal := hAttnIdeal) (hPre_finite_keys := hPre_finite_keys)
    ∧ quiescent_AttnRefIdeal (hAttnRefIdeal := hAttnRefIdeal)
    ∧ quiescent_AttnRefIdeal_pre_finite_keys (hAttnRefIdeal := hAttnRefIdeal) (hPre_finite_keys := hPre_finite_keys)
    ∧ quiescent_Ffn (hFfn := hFfn)
    ∧ quiescent_FfnIdeal (hFfnIdeal := hFfnIdeal)
    ∧ quiescent_FfnRefIdeal (hFfnRefIdeal := hFfnRefIdeal)
    ∧ quiescent_AttnEven (hAttnEven := hAttnEven)
    ∧ quiescent_AttnEvenIdeal (hAttnEvenIdeal := hAttnEvenIdeal)
    ∧ quiescent_AttnEvenIdeal_pre_finite_keys_even (hAttnEvenIdeal := hAttnEvenIdeal) (hPre_finite_keys_even := hPre_finite_keys_even)
    ∧ quiescent_AttnEvenRefIdeal (hAttnEvenRefIdeal := hAttnEvenRefIdeal)
    ∧ quiescent_AttnEvenRefIdeal_pre_finite_keys_even (hAttnEvenRefIdeal := hAttnEvenRefIdeal) (hPre_finite_keys_even := hPre_finite_keys_even)
    ∧ quiescent_Gates (hGates := hGates)
    ∧ quiescent_GatesIdeal (hGatesIdeal := hGatesIdeal)
    ∧ quiescent_GatesIdeal_pre_positive_bound (hGatesIdeal := hGatesIdeal) (hPre_positive_bound := hPre_positive_bound)
    ∧ quiescent_GatesRefIdeal (hGatesRefIdeal := hGatesRefIdeal)
    ∧ quiescent_GatesRefIdeal_pre_positive_bound (hGatesRefIdeal := hGatesRefIdeal) (hPre_positive_bound := hPre_positive_bound)
    ∧ quiescent_Mixin (hMixin := hMixin)
    ∧ quiescent_MixinIdeal (hMixinIdeal := hMixinIdeal)
    ∧ quiescent_MixinRefIdeal (hMixinRefIdeal := hMixinRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_Tables (hTables := hTables)
    ∧ quiescent_TablesIdeal (hTablesIdeal := hTablesIdeal)
    ∧ quiescent_TablesRefIdeal (hTablesRefIdeal := hTablesRefIdeal)
    ∧ quiescent_Window (hWindow := hWindow)
    ∧ quiescent_WindowIdeal (hWindowIdeal := hWindowIdeal)
    ∧ quiescent_WindowIdeal_pre_finite_window (hWindowIdeal := hWindowIdeal) (hPre_finite_window := hPre_finite_window)
    ∧ quiescent_WindowRefIdeal (hWindowRefIdeal := hWindowRefIdeal)
    ∧ quiescent_WindowRefIdeal_pre_finite_window (hWindowRefIdeal := hWindowRefIdeal) (hPre_finite_window := hPre_finite_window)
    ∧ preserves_Attn_AttnIdeal
    ∧ algebraic_AttnIdeal_AttnRefIdeal_pre_finite_keys (hAttnIdeal := hAttnIdeal) (hAttnRefIdeal := hAttnRefIdeal) (hPre_finite_keys := hPre_finite_keys)
    ∧ preserves_Ffn_FfnIdeal
    ∧ algebraic_FfnIdeal_FfnRefIdeal (hFfnIdeal := hFfnIdeal) (hFfnRefIdeal := hFfnRefIdeal)
    ∧ preserves_AttnEven_AttnEvenIdeal
    ∧ algebraic_AttnEvenIdeal_AttnEvenRefIdeal_pre_finite_keys_even (hAttnEvenIdeal := hAttnEvenIdeal) (hAttnEvenRefIdeal := hAttnEvenRefIdeal) (hPre_finite_keys_even := hPre_finite_keys_even)
    ∧ preserves_Gates_GatesIdeal
    ∧ algebraic_GatesIdeal_GatesRefIdeal_pre_positive_bound (hGatesIdeal := hGatesIdeal) (hGatesRefIdeal := hGatesRefIdeal) (hPre_positive_bound := hPre_positive_bound)
    ∧ preserves_Mixin_MixinIdeal
    ∧ algebraic_MixinIdeal_MixinRefIdeal (hMixinIdeal := hMixinIdeal) (hMixinRefIdeal := hMixinRefIdeal)
    ∧ preserves_Memory_MemoryIdeal
    ∧ algebraic_MemoryIdeal_MemoryRefIdeal (hMemoryIdeal := hMemoryIdeal) (hMemoryRefIdeal := hMemoryRefIdeal)
    ∧ preserves_Tables_TablesIdeal
    ∧ algebraic_TablesIdeal_TablesRefIdeal (hTablesIdeal := hTablesIdeal) (hTablesRefIdeal := hTablesRefIdeal)
    ∧ preserves_Window_WindowIdeal
    ∧ algebraic_WindowIdeal_WindowRefIdeal_pre_finite_window (hWindowIdeal := hWindowIdeal) (hWindowRefIdeal := hWindowRefIdeal) (hPre_finite_window := hPre_finite_window)
-- ==== Pre_finite_keys.lean ====
abbrev S65536x1024 : Shape := ⟨2, ![65536, 1024]⟩
abbrev S1024x1024 : Shape := ⟨2, ![1024, 1024]⟩
abbrev S1024 : Shape := ⟨1, ![1024]⟩
abbrev S256 : Shape := ⟨1, ![256]⟩
abbrev S8192x1024 : Shape := ⟨2, ![8192, 1024]⟩
abbrev S8192x4x256 : Shape := ⟨3, ![8192, 4, 256]⟩
abbrev S_ : Shape := ⟨0, ![]⟩
abbrev S1x1x256 : Shape := ⟨3, ![1, 1, 256]⟩

class Facts : Prop where
  bitsLt_bf16_f32 : FTy.bits .bf16 < FTy.bits .f32
  shapeCasts_S8192x1024_S8192x4x256 : S8192x1024.ShapeCasts S8192x4x256
  bcast_S_S8192x4x256 : S_.BroadcastsInDim S8192x4x256 (![] : Fin 0 → Fin S8192x4x256.rank)
  bcast_S_S256 : S_.BroadcastsInDim S256 (![] : Fin 0 → Fin S256.rank)
  bcast_S256_S1x1x256_2 : S256.BroadcastsInDim S1x1x256 (![2] : Fin 1 → Fin S1x1x256.rank)
  bcast_S1x1x256_S8192x4x256_0_1_2 : S1x1x256.BroadcastsInDim S8192x4x256 (![0, 1, 2] : Fin 3 → Fin S8192x4x256.rank)

variable [Facts]

def fn {F : FTy → Type} [FloatOps F] (main_arg0 : FVec F S65536x1024 .f32) (main_arg1 : FVec F S65536x1024 .bf16) (main_arg2 : FVec F S1024x1024 .f32) (main_arg3 : FVec F S1024 .f32) (main_arg4 : FVec F S1024x1024 .f32) (main_arg5 : FVec F S256 .f32) (main_arg6 : FVec F S8192x1024 .bf16) (main_arg7 : FVec F S8192x1024 .bf16) (main_arg8 : FVec F S1024x1024 .f32) : IVec S8192x4x256 1 :=
  let main_v0 : FVec F S8192x1024 .f32 := (extf .f32 · bitsLt_bf16_f32) main_arg6
  let main_v1 : FVec F S8192x4x256 .f32 := shapeCast S8192x4x256 main_v0 shapeCasts_S8192x1024_S8192x4x256
  let main_v2 : FVec F S8192x4x256 .f32 := Host.absf main_v1
  let main_cst : FVec F S_ .f32 := constant S_ .f32 0x7F800000#32
  let main_v3 : FVec F S8192x4x256 .f32 := broadcastInDim S8192x4x256 ![] bcast_S_S8192x4x256 main_cst
  let main_v4 : IVec S8192x4x256 1 := cmpf .olt main_v2 main_v3
  let main_v5 : FVec F S256 .f32 := Host.absf main_arg5
  let main_cst_0 : FVec F S_ .f32 := constant S_ .f32 0x7F800000#32
  let main_v6 : FVec F S256 .f32 := broadcastInDim S256 ![] bcast_S_S256 main_cst_0
  let main_v7 : IVec S256 1 := cmpf .olt main_v5 main_v6
  let main_v8 : IVec S1x1x256 1 := broadcastInDim S1x1x256 ![2] bcast_S256_S1x1x256_2 main_v7
  let main_v9 : IVec S8192x4x256 1 := broadcastInDim S8192x4x256 ![0, 1, 2] bcast_S1x1x256_S8192x4x256_0_1_2 main_v8
  let main_v10 : IVec S8192x4x256 1 := andi main_v4 main_v9
  main_v10
-- ==== Pre_finite_keys_even.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S256 : Shape := ⟨1, ![256]⟩
abbrev S8192x1024 : Shape := ⟨2, ![8192, 1024]⟩
abbrev S8192x4x256 : Shape := ⟨3, ![8192, 4, 256]⟩
abbrev S_ : Shape := ⟨0, ![]⟩
abbrev S1x1x256 : Shape := ⟨3, ![1, 1, 256]⟩

class Facts : Prop where
  bitsLt_bf16_f32 : FTy.bits .bf16 < FTy.bits .f32
  shapeCasts_S8192x1024_S8192x4x256 : S8192x1024.ShapeCasts S8192x4x256
  bcast_S_S8192x4x256 : S_.BroadcastsInDim S8192x4x256 (![] : Fin 0 → Fin S8192x4x256.rank)
  bcast_S_S256 : S_.BroadcastsInDim S256 (![] : Fin 0 → Fin S256.rank)
  bcast_S256_S1x1x256_2 : S256.BroadcastsInDim S1x1x256 (![2] : Fin 1 → Fin S1x1x256.rank)
  bcast_S1x1x256_S8192x4x256_0_1_2 : S1x1x256.BroadcastsInDim S8192x4x256 (![0, 1, 2] : Fin 3 → Fin S8192x4x256.rank)

variable [Facts]

def fn {F : FTy → Type} [FloatOps F] (main_arg0 : FVec F S65536x1024 .f32) (main_arg1 : FVec F S65536x512 .bf16) (main_arg2 : FVec F S65536x512 .bf16) (main_arg3 : FVec F S1024x1024 .f32) (main_arg4 : FVec F S1024 .f32) (main_arg5 : FVec F S1024x1024 .f32) (main_arg6 : FVec F S256 .f32) (main_arg7 : FVec F S8192x1024 .bf16) (main_arg8 : FVec F S8192x1024 .bf16) (main_arg9 : FVec F S1024x1024 .f32) : IVec S8192x4x256 1 :=
  let main_v0 : FVec F S8192x1024 .f32 := (extf .f32 · bitsLt_bf16_f32) main_arg7
  let main_v1 : FVec F S8192x4x256 .f32 := shapeCast S8192x4x256 main_v0 shapeCasts_S8192x1024_S8192x4x256
  let main_v2 : FVec F S8192x4x256 .f32 := Host.absf main_v1
  let main_cst : FVec F S_ .f32 := constant S_ .f32 0x7F800000#32
  let main_v3 : FVec F S8192x4x256 .f32 := broadcastInDim S8192x4x256 ![] bcast_S_S8192x4x256 main_cst
  let main_v4 : IVec S8192x4x256 1 := cmpf .olt main_v2 main_v3
  let main_v5 : FVec F S256 .f32 := Host.absf main_arg6
  let main_cst_0 : FVec F S_ .f32 := constant S_ .f32 0x7F800000#32
  let main_v6 : FVec F S256 .f32 := broadcastInDim S256 ![] bcast_S_S256 main_cst_0
  let main_v7 : IVec S256 1 := cmpf .olt main_v5 main_v6
  let main_v8 : IVec S1x1x256 1 := broadcastInDim S1x1x256 ![2] bcast_S256_S1x1x256_2 main_v7
  let main_v9 : IVec S8192x4x256 1 := broadcastInDim S8192x4x256 ![0, 1, 2] bcast_S1x1x256_S8192x4x256_0_1_2 main_v8
  let main_v10 : IVec S8192x4x256 1 := andi main_v4 main_v9
  main_v10
-- ==== Pre_finite_window.lean ====
abbrev S65536x2304 : Shape := ⟨2, ![65536, 2304]⟩
abbrev S65536x128 : Shape := ⟨2, ![65536, 128]⟩
abbrev S64 : Shape := ⟨1, ![64]⟩
abbrev S8 : Shape := ⟨1, ![8]⟩
abbrev S65536x640 : Shape := ⟨2, ![65536, 640]⟩
abbrev S65536x5x2x8x8 : Shape := ⟨5, ![65536, 5, 2, 8, 8]⟩
abbrev S_ : Shape := ⟨0, ![]⟩
abbrev S65536x1x2x8x8 : Shape := ⟨5, ![65536, 1, 2, 8, 8]⟩
abbrev S8x8 : Shape := ⟨2, ![8, 8]⟩
abbrev S1x1x1x8x8 : Shape := ⟨5, ![1, 1, 1, 8, 8]⟩
abbrev S1x1x1x1x8 : Shape := ⟨5, ![1, 1, 1, 1, 8]⟩

class Facts : Prop where
  slices_S65536x2304_S65536x640_0_0 : S65536x2304.Slices ![0, 0] S65536x640
  bitsLt_bf16_f32 : FTy.bits .bf16 < FTy.bits .f32
  shapeCasts_S65536x640_S65536x5x2x8x8 : S65536x640.ShapeCasts S65536x5x2x8x8
  bcast_S_S65536x5x2x8x8 : S_.BroadcastsInDim S65536x5x2x8x8 (![] : Fin 0 → Fin S65536x5x2x8x8.rank)
  shapeCasts_S65536x128_S65536x1x2x8x8 : S65536x128.ShapeCasts S65536x1x2x8x8
  bcast_S_S65536x1x2x8x8 : S_.BroadcastsInDim S65536x1x2x8x8 (![] : Fin 0 → Fin S65536x1x2x8x8.rank)
  bcast_S65536x1x2x8x8_S65536x5x2x8x8_0_1_2_3_4 : S65536x1x2x8x8.BroadcastsInDim S65536x5x2x8x8 (![0, 1, 2, 3, 4] : Fin 5 → Fin S65536x5x2x8x8.rank)
  shapeCasts_S64_S8x8 : S64.ShapeCasts S8x8
  bcast_S_S8x8 : S_.BroadcastsInDim S8x8 (![] : Fin 0 → Fin S8x8.rank)
  bcast_S8x8_S1x1x1x8x8_3_4 : S8x8.BroadcastsInDim S1x1x1x8x8 (![3, 4] : Fin 2 → Fin S1x1x1x8x8.rank)
  bcast_S1x1x1x8x8_S65536x5x2x8x8_0_1_2_3_4 : S1x1x1x8x8.BroadcastsInDim S65536x5x2x8x8 (![0, 1, 2, 3, 4] : Fin 5 → Fin S65536x5x2x8x8.rank)
  bcast_S_S8 : S_.BroadcastsInDim S8 (![] : Fin 0 → Fin S8.rank)
  bcast_S8_S1x1x1x1x8_4 : S8.BroadcastsInDim S1x1x1x1x8 (![4] : Fin 1 → Fin S1x1x1x1x8.rank)
  bcast_S1x1x1x1x8_S65536x5x2x8x8_0_1_2_3_4 : S1x1x1x1x8.BroadcastsInDim S65536x5x2x8x8 (![0, 1, 2, 3, 4] : Fin 5 → Fin S65536x5x2x8x8.rank)

variable [Facts]

def fn_part1 {F : FTy → Type} [FloatOps F] (main_arg4 : FVec F S64 .f32) (main_arg5 : FVec F S8 .f32) (main_v17 : IVec S65536x5x2x8x8 1) (main_v19 : FVec F S8x8 .f32) (main_cst_2 : FVec F S_ .f32) : IVec S65536x5x2x8x8 1 :=
  let main_v20 : FVec F S8x8 .f32 := broadcastInDim S8x8 ![] bcast_S_S8x8 main_cst_2
  let main_v21 : IVec S8x8 1 := cmpf .olt main_v19 main_v20
  let main_v22 : IVec S1x1x1x8x8 1 := broadcastInDim S1x1x1x8x8 ![3, 4] bcast_S8x8_S1x1x1x8x8_3_4 main_v21
  let main_v23 : IVec S65536x5x2x8x8 1 := broadcastInDim S65536x5x2x8x8 ![0, 1, 2, 3, 4] bcast_S1x1x1x8x8_S65536x5x2x8x8_0_1_2_3_4 main_v22
  let main_v24 : IVec S65536x5x2x8x8 1 := andi main_v17 main_v23
  let main_v25 : FVec F S8x8 .f32 := shapeCast S8x8 main_arg4 shapeCasts_S64_S8x8
  let main_v26 : FVec F S8x8 .f32 := Host.absf main_v25
  let main_cst_3 : FVec F S_ .f32 := constant S_ .f32 0x7F800000#32
  let main_v27 : FVec F S8x8 .f32 := broadcastInDim S8x8 ![] bcast_S_S8x8 main_cst_3
  let main_v28 : IVec S8x8 1 := cmpf .olt main_v26 main_v27
  let main_v29 : IVec S1x1x1x8x8 1 := broadcastInDim S1x1x1x8x8 ![3, 4] bcast_S8x8_S1x1x1x8x8_3_4 main_v28
  let main_v30 : IVec S65536x5x2x8x8 1 := broadcastInDim S65536x5x2x8x8 ![0, 1, 2, 3, 4] bcast_S1x1x1x8x8_S65536x5x2x8x8_0_1_2_3_4 main_v29
  let main_v31 : IVec S65536x5x2x8x8 1 := andi main_v24 main_v30
  let main_cst_4 : FVec F S_ .f32 := constant S_ .f32 0x7F800000#32
  let main_v32 : FVec F S8 .f32 := broadcastInDim S8 ![] bcast_S_S8 main_cst_4
  let main_v33 : IVec S8 1 := cmpf .olt main_arg5 main_v32
  let main_v34 : IVec S1x1x1x1x8 1 := broadcastInDim S1x1x1x1x8 ![4] bcast_S8_S1x1x1x1x8_4 main_v33
  let main_v35 : IVec S65536x5x2x8x8 1 := broadcastInDim S65536x5x2x8x8 ![0, 1, 2, 3, 4] bcast_S1x1x1x1x8_S65536x5x2x8x8_0_1_2_3_4 main_v34
  let main_v36 : IVec S65536x5x2x8x8 1 := andi main_v31 main_v35
  main_v36

def fn {F : FTy → Type} [FloatOps F] (main_arg0 : FVec F S65536x2304 .bf16) (main_arg1 : FVec F S65536x128 .f32) (main_arg2 : FVec F S65536x128 .f32) (main_arg3 : FVec F S64 .f32) (main_arg4 : FVec F S64 .f32) (main_arg5 : FVec F S8 .f32) : IVec S65536x5x2x8x8 1 :=
  let main_v0 : FVec F S65536x640 .bf16 := (extractStridedSlice S65536x640 ![0, 0] · slices_S65536x2304_S65536x640_0_0) main_arg0
  let main_v1 : FVec F S65536x640 .f32 := (extf .f32 · bitsLt_bf16_f32) main_v0
  let main_v2 : FVec F S65536x5x2x8x8 .f32 := shapeCast S65536x5x2x8x8 main_v1 shapeCasts_S65536x640_S65536x5x2x8x8
  let main_v3 : FVec F S65536x5x2x8x8 .f32 := Host.absf main_v2
  let main_cst : FVec F S_ .f32 := constant S_ .f32 0x7F800000#32
  let main_v4 : FVec F S65536x5x2x8x8 .f32 := broadcastInDim S65536x5x2x8x8 ![] bcast_S_S65536x5x2x8x8 main_cst
  let main_v5 : IVec S65536x5x2x8x8 1 := cmpf .olt main_v3 main_v4
  let main_v6 : FVec F S65536x1x2x8x8 .f32 := shapeCast S65536x1x2x8x8 main_arg1 shapeCasts_S65536x128_S65536x1x2x8x8
  let main_v7 : FVec F S65536x1x2x8x8 .f32 := Host.absf main_v6
  let main_cst_0 : FVec F S_ .f32 := constant S_ .f32 0x7F800000#32
  let main_v8 : FVec F S65536x1x2x8x8 .f32 := broadcastInDim S65536x1x2x8x8 ![] bcast_S_S65536x1x2x8x8 main_cst_0
  let main_v9 : IVec S65536x1x2x8x8 1 := cmpf .olt main_v7 main_v8
  let main_v10 : IVec S65536x5x2x8x8 1 := broadcastInDim S65536x5x2x8x8 ![0, 1, 2, 3, 4] bcast_S65536x1x2x8x8_S65536x5x2x8x8_0_1_2_3_4 main_v9
  let main_v11 : IVec S65536x5x2x8x8 1 := andi main_v5 main_v10
  let main_v12 : FVec F S65536x1x2x8x8 .f32 := shapeCast S65536x1x2x8x8 main_arg2 shapeCasts_S65536x128_S65536x1x2x8x8
  let main_v13 : FVec F S65536x1x2x8x8 .f32 := Host.absf main_v12
  let main_cst_1 : FVec F S_ .f32 := constant S_ .f32 0x7F800000#32
  let main_v14 : FVec F S65536x1x2x8x8 .f32 := broadcastInDim S65536x1x2x8x8 ![] bcast_S_S65536x1x2x8x8 main_cst_1
  let main_v15 : IVec S65536x1x2x8x8 1 := cmpf .olt main_v13 main_v14
  let main_v16 : IVec S65536x5x2x8x8 1 := broadcastInDim S65536x5x2x8x8 ![0, 1, 2, 3, 4] bcast_S65536x1x2x8x8_S65536x5x2x8x8_0_1_2_3_4 main_v15
  let main_v17 : IVec S65536x5x2x8x8 1 := andi main_v11 main_v16
  let main_v18 : FVec F S8x8 .f32 := shapeCast S8x8 main_arg3 shapeCasts_S64_S8x8
  let main_v19 : FVec F S8x8 .f32 := Host.absf main_v18
  let main_cst_2 : FVec F S_ .f32 := constant S_ .f32 0x7F800000#32
  fn_part1 (F := F) main_arg4 main_arg5 main_v17 main_v19 main_cst_2
-- ==== Pre_positive_bound.lean ====
abbrev S65536x1024 : Shape := ⟨2, ![65536, 1024]⟩
abbrev S1024 : Shape := ⟨1, ![1024]⟩
abbrev S1024x4096 : Shape := ⟨2, ![1024, 4096]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S65536x1024 .f32) (main_arg1 : FVec F S1024 .f32) (main_arg2 : FVec F S1024x4096 .f32) (main_arg3 : FVec F S1024 .f32) : IVec S1024 1 :=
  let main_cst : FVec F S_ .f32 := constant S_ .f32 0x00000000#32
  let main_v0 : FVec F S1024 .f32 := broadcastInDim S1024 ![] bcast_S_S1024 main_cst
  let main_v1 : IVec S1024 1 := cmpf .ogt main_arg3 main_v0
  let main_cst_0 : FVec F S_ .f32 := constant S_ .f32 0x7F800000#32
  let main_v2 : FVec F S1024 .f32 := broadcastInDim S1024 ![] bcast_S_S1024 main_cst_0
  let main_v3 : IVec S1024 1 := cmpf .olt main_arg3 main_v2
  let main_v4 : IVec S1024 1 := andi main_v1 main_v3
  main_v4
-- ==== Attn.lean ====
abbrev S65536x1024 : Shape := ⟨2, ![65536, 1024]⟩
abbrev S1024x1024 : Shape := ⟨2, ![1024, 1024]⟩
abbrev S1024 : Shape := ⟨1, ![1024]⟩
abbrev S256 : Shape := ⟨1, ![256]⟩
abbrev S8192x1024 : Shape := ⟨2, ![8192, 1024]⟩
abbrev S1x1024 : Shape := ⟨2, ![1, 1024]⟩
abbrev S1x256 : Shape := ⟨2, ![1, 256]⟩
abbrev S512x1024 : Shape := ⟨2, ![512, 1024]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 15
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S256, .f32⟩
  | .hbm, ⟨6, _⟩ => ⟨S8192x1024, .bf16⟩
  | .hbm, ⟨7, _⟩ => ⟨S8192x1024, .bf16⟩
  | .hbm, ⟨8, _⟩ => ⟨S1024x1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1x256, .f32⟩
  | .hbm, ⟨14, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x256, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnRefIdeal.lean ====
abbrev S65536x1024 : Shape := ⟨2, ![65536, 1024]⟩
abbrev S1024x1024 : Shape := ⟨2, ![1024, 1024]⟩
abbrev S1024 : Shape := ⟨1, ![1024]⟩
abbrev S256 : Shape := ⟨1, ![256]⟩
abbrev S8192x1024 : Shape := ⟨2, ![8192, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S32x2048x4x256 : Shape := ⟨4, ![32, 2048, 4, 256]⟩
abbrev S32x2048x4 : Shape := ⟨3, ![32, 2048, 4]⟩
abbrev S32x2048x4x1 : Shape := ⟨4, ![32, 2048, 4, 1]⟩
abbrev S1x1x1x256 : Shape := ⟨4, ![1, 1, 1, 256]⟩
abbrev S32x256x4x256 : Shape := ⟨4, ![32, 256, 4, 256]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x256x2048 : Shape := ⟨4, ![32, 4, 256, 2048]⟩

abbrev nBuf : Space → Nat
  | .hbm => 73
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S256, .f32⟩
  | .hbm, ⟨6, _⟩ => ⟨S8192x1024, .bf16⟩
  | .hbm, ⟨7, _⟩ => ⟨S8192x1024, .bf16⟩
  | .hbm, ⟨8, _⟩ => ⟨S1024x1024, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S65536x1, .f32⟩
  | .hbm, ⟨23, _⟩ => ⟨S65536x1024, .f32⟩
  | .hbm, ⟨24, _⟩ => ⟨S65536x1024, .f32⟩
  | .hbm, ⟨25, _⟩ => ⟨S1x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S32x2048x4x256, .f32⟩
  | .hbm, ⟨30, _⟩ => ⟨S32x2048x4x256, .f32⟩
  | .hbm, ⟨31, _⟩ => ⟨S_, .f32⟩
  | .hbm, ⟨32, _⟩ => ⟨S32x2048x4, .f32⟩
  | .hbm, ⟨33, _⟩ => ⟨S32x2048x4x1, .f32⟩
  | .hbm, ⟨34, _⟩ => ⟨S_, .f32⟩
  | .hbm, ⟨35, _⟩ => ⟨S32x2048x4x1, .f32⟩
  | .hbm, ⟨36, _⟩ => ⟨S32x2048x4x1, .f32⟩
  | .hbm, ⟨37, _⟩ => ⟨S_, .f32⟩
  | .hbm, ⟨38, _⟩ => ⟨S32x2048x4x1, .f32⟩
  | .hbm, ⟨39, _⟩ => ⟨S32x2048x4x1, .f32⟩
  | .hbm, ⟨40, _⟩ => ⟨S32x2048x4x1, .f32⟩
  | .hbm, ⟨41, _⟩ => ⟨S32x2048x4x256, .f32⟩
  | .hbm, ⟨42, _⟩ => ⟨S32x2048x4x256, .f32⟩
  | .hbm, ⟨43, _⟩ => ⟨S1x1x1x256, .f32⟩
  | .hbm, ⟨44, _⟩ => ⟨S32x2048x4x256, .f32⟩
  | .hbm, ⟨45, _⟩ => ⟨S32x2048x4x256, .f32⟩
  | .hbm, ⟨46, _⟩ => ⟨S8192x1024, .f32⟩
  | .hbm, ⟨47, _⟩ => ⟨S32x256x4x256, .f32⟩
  | .hbm, ⟨48, _⟩ => ⟨S8192x1024, .f32⟩
  | .hbm, ⟨49, _⟩ => ⟨S32x256x4x256, .f32⟩
  | .hbm, ⟨50, _⟩ => ⟨S32x4x2048x256, .f32⟩
  | .hbm, ⟨51, _⟩ => ⟨S_, .f32⟩
  | .hbm, ⟨52, _⟩ => ⟨S32x4x2048x256, .f32⟩
  | .hbm, ⟨53, _⟩ => ⟨S32x4x2048x256, .f32⟩
  | .hbm, ⟨54, _⟩ => ⟨S_, .f32⟩
  | .hbm, ⟨55, _⟩ => ⟨S32x4x2048, .f32⟩
  | .hbm, ⟨56, _⟩ => ⟨S_, .f32⟩
  | .hbm, ⟨57, _⟩ => ⟨S32x4x2048, .f32⟩
  | .hbm, ⟨58, _⟩ => ⟨S32x4x2048, .f32⟩
  | .hbm, ⟨59, _⟩ => ⟨S32x4x2048x1, .f32⟩
  | .hbm, ⟨60, _⟩ => ⟨S32x4x2048x256, .f32⟩
  | .hbm, ⟨61, _⟩ => ⟨S32x4x2048x256, .f32⟩
  | .hbm, ⟨62, _⟩ => ⟨S32x4x2048x256, .f32⟩
  | .hbm, ⟨63, _⟩ => ⟨S_, .f32⟩
  | .hbm, ⟨64, _⟩ => ⟨S32x4x2048, .f32⟩
  | .hbm, ⟨65, _⟩ => ⟨S32x4x2048x1, .f32⟩
  | .hbm, ⟨66, _⟩ => ⟨S32x4x2048x256, .f32⟩
  | .hbm, ⟨67, _⟩ => ⟨S32x4x2048x256, .f32⟩
  | .hbm, ⟨68, _⟩ => ⟨S32x4x256x2048, .f32⟩
  | .hbm, ⟨69, _⟩ => ⟨S32x2048x4x256, .f32⟩
  | .hbm, ⟨70, _⟩ => ⟨S65536x1024, .f32⟩
  | .hbm, ⟨71, _⟩ => ⟨S65536x1024, .f32⟩
  | .hbm, ⟨72, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Ffn.lean ====
abbrev S65536x1024 : Shape := ⟨2, ![65536, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S512x1024 : Shape := ⟨2, ![512, 1024]⟩
abbrev S22x8x256 : Shape := ⟨3, ![22, 8, 256]⟩
abbrev S512 : Shape := ⟨1, ![512]⟩
abbrev S512x1 : Shape := ⟨2, ![512, 1]⟩
abbrev S64x8x256 : Shape := ⟨3, ![64, 8, 256]⟩
abbrev S1024x256 : Shape := ⟨2, ![1024, 256]⟩
abbrev S512x256 : Shape := ⟨2, ![512, 256]⟩
abbrev S1x8x256 : Shape := ⟨3, ![1, 8, 256]⟩
abbrev S8x256 : Shape := ⟨2, ![8, 256]⟩
abbrev S520x256 : Shape := ⟨2, ![520, 256]⟩
abbrev S65x8x256 : Shape := ⟨3, ![65, 8, 256]⟩
abbrev S1x256 : Shape := ⟨2, ![1, 256]⟩
abbrev S512x2816 : Shape := ⟨2, ![512, 2816]⟩

abbrev nBuf : Space → Nat
  | .hbm => 11
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x5632, .f32⟩
  | .hbm, ⟨10, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S22x8x256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S65536x1024 : Shape := ⟨2, ![65536, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S32x2048x5632 : Shape := ⟨3, ![32, 2048, 5632]⟩
abbrev S1x5632 : Shape := ⟨2, ![1, 5632]⟩
abbrev S1x1x5632 : Shape := ⟨3, ![1, 1, 5632]⟩
abbrev S32x2049x5632 : Shape := ⟨3, ![32, 2049, 5632]⟩
abbrev S32x2050x5632 : Shape := ⟨3, ![32, 2050, 5632]⟩
abbrev S65536x2816 : Shape := ⟨2, ![65536, 2816]⟩

abbrev nBuf : Space → Nat
  | .hbm => 67
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S65536x5632, .f32⟩
  | .hbm, ⟨23, _⟩ => ⟨S32x2048x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S32x2048x5632, .f32⟩
  | .hbm, ⟨28, _⟩ => ⟨S32x2048x5632, .f32⟩
  | .hbm, ⟨29, _⟩ => ⟨S1x5632, .f32⟩
  | .hbm, ⟨30, _⟩ => ⟨S5632, .f32⟩
  | .hbm, ⟨31, _⟩ => ⟨S_, .i32⟩
  | .hbm, ⟨32, _⟩ => ⟨S_, .f32⟩
  | .hbm, ⟨33, _⟩ => ⟨S32x2049x5632, .f32⟩
  | .hbm, ⟨34, _⟩ => ⟨S32x2048x5632, .f32⟩
  | .hbm, ⟨35, _⟩ => ⟨S1x1x5632, .f32⟩
  | .hbm, ⟨36, _⟩ => ⟨S32x2048x5632, .f32⟩
  | .hbm, ⟨37, _⟩ => ⟨S32x2048x5632, .f32⟩
  | .hbm, ⟨38, _⟩ => ⟨S32x2048x5632, .f32⟩
  | .hbm, ⟨39, _⟩ => ⟨S1x5632, .f32⟩
  | .hbm, ⟨40, _⟩ => ⟨S5632, .f32⟩
  | .hbm, ⟨41, _⟩ => ⟨S_, .i32⟩
  | .hbm, ⟨42, _⟩ => ⟨S_, .f32⟩
  | .hbm, ⟨43, _⟩ => ⟨S32x2050x5632, .f32⟩
  | .hbm, ⟨44, _⟩ => ⟨S32x2048x5632, .f32⟩
  | .hbm, ⟨45, _⟩ => ⟨S1x1x5632, .f32⟩
  | .hbm, ⟨46, _⟩ => ⟨S32x2048x5632, .f32⟩
  | .hbm, ⟨47, _⟩ => ⟨S32x2048x5632, .f32⟩
  | .hbm, ⟨48, _⟩ => ⟨S32x2048x5632, .f32⟩
  | .hbm, ⟨49, _⟩ => ⟨S1x1x5632, .f32⟩
  | .hbm, ⟨50, _⟩ => ⟨S32x2048x5632, .f32⟩
  | .hbm, ⟨51, _⟩ => ⟨S32x2048x5632, .f32⟩
  | .hbm, ⟨52, _⟩ => ⟨S65536x5632, .f32⟩
  | .hbm, ⟨53, _⟩ => ⟨S65536x2816, .f32⟩
  | .hbm, ⟨54, _⟩ => ⟨S65536x2816, .f32⟩
  | .hbm, ⟨55, _⟩ => ⟨S65536x2816, .f32⟩
  | .hbm, ⟨56, _⟩ => ⟨S65536x2816, .f32⟩
  | .hbm, ⟨57, _⟩ => ⟨S_, .f32⟩
  | .hbm, ⟨58, _⟩ => ⟨S65536x2816, .f32⟩
  | .hbm, ⟨59, _⟩ => ⟨S65536x2816, .f32⟩
  | .hbm, ⟨60, _⟩ => ⟨S_, .f32⟩
  | .hbm, ⟨61, _⟩ => ⟨S65536x2816, .f32⟩
  | .hbm, ⟨62, _⟩ => ⟨S65536x2816, .f32⟩
  | .hbm, ⟨63, _⟩ => ⟨S65536x2816, .f32⟩
  | .hbm, ⟨64, _⟩ => ⟨S65536x2816, .f32⟩
  | .hbm, ⟨65, _⟩ => ⟨S65536x1024, .f32⟩
  | .hbm, ⟨66, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_2 : Ref sig .tc := ⟨.hbm, 41, rfl⟩
abbrev main_call1_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call2_v0 : Ref sig .tc := ⟨.hbm, 55, rfl⟩
abbrev main_call2_v1 : Ref sig .tc := ⟨.hbm, 56, rfl⟩
abbrev main_call2_cst : Ref sig .tc := ⟨.hbm, 57, rfl⟩
abbrev main_call2_v2 : Ref sig .tc := ⟨.hbm, 58, rfl⟩
abbrev main_call2_v3 : Ref sig .tc := ⟨.hbm, 59, rfl⟩
abbrev main_call2_cst_0 : Ref sig .tc := ⟨.hbm, 60, rfl⟩
abbrev main_call2_v4 : Ref sig .tc := ⟨.hbm, 61, rfl⟩
abbrev main_call2_v5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== AttnEven.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S256 : Shape := ⟨1, ![256]⟩
abbrev S8192x1024 : Shape := ⟨2, ![8192, 1024]⟩
abbrev S512x1024 : Shape := ⟨2, ![512, 1024]⟩
abbrev S1x1024 : Shape := ⟨2, ![1, 1024]⟩
abbrev S1x256 : Shape := ⟨2, ![1, 256]⟩
abbrev S512x512 : Shape := ⟨2, ![512, 512]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 18
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S256, .f32⟩
  | .hbm, ⟨7, _⟩ => ⟨S8192x1024, .bf16⟩
  | .hbm, ⟨8, _⟩ => ⟨S8192x1024, .bf16⟩
  | .hbm, ⟨9, _⟩ => ⟨S1024x1024, .f32⟩
  | .hbm, ⟨10, _⟩ => ⟨S1024x1024, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1024x1024, .bf16⟩
  | .hbm, ⟨15, _⟩ => ⟨S1x1024, .f32⟩
  | .hbm, ⟨16, _⟩ => ⟨S1x256, .f32⟩
  | .hbm, ⟨17, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S1x256, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AttnEvenRefIdeal.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S256 : Shape := ⟨1, ![256]⟩
abbrev S8192x1024 : Shape := ⟨2, ![8192, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S32x2048x4x256 : Shape := ⟨4, ![32, 2048, 4, 256]⟩
abbrev S32x2048x4 : Shape := ⟨3, ![32, 2048, 4]⟩
abbrev S32x2048x4x1 : Shape := ⟨4, ![32, 2048, 4, 1]⟩
abbrev S1x1x1x256 : Shape := ⟨4, ![1, 1, 1, 256]⟩
abbrev S32x256x4x256 : Shape := ⟨4, ![32, 256, 4, 256]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x256x2048 : Shape := ⟨4, ![32, 4, 256, 2048]⟩

abbrev nBuf : Space → Nat
  | .hbm => 76
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S256, .f32⟩
  | .hbm, ⟨7, _⟩ => ⟨S8192x1024, .bf16⟩
  | .hbm, ⟨8, _⟩ => ⟨S8192x1024, .bf16⟩
  | .hbm, ⟨9, _⟩ => ⟨S1024x1024, .f32⟩
  | .hbm, ⟨10, _⟩ => ⟨S65536x512, .f32⟩
  | .hbm, ⟨11, _⟩ => ⟨S65536x512, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x1, .f32⟩
  | .hbm, ⟨26, _⟩ => ⟨S65536x1024, .f32⟩
  | .hbm, ⟨27, _⟩ => ⟨S65536x1024, .f32⟩
  | .hbm, ⟨28, _⟩ => ⟨S1x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S32x2048x4x256, .f32⟩
  | .hbm, ⟨33, _⟩ => ⟨S32x2048x4x256, .f32⟩
  | .hbm, ⟨34, _⟩ => ⟨S_, .f32⟩
  | .hbm, ⟨35, _⟩ => ⟨S32x2048x4, .f32⟩
  | .hbm, ⟨36, _⟩ => ⟨S32x2048x4x1, .f32⟩
  | .hbm, ⟨37, _⟩ => ⟨S_, .f32⟩
  | .hbm, ⟨38, _⟩ => ⟨S32x2048x4x1, .f32⟩
  | .hbm, ⟨39, _⟩ => ⟨S32x2048x4x1, .f32⟩
  | .hbm, ⟨40, _⟩ => ⟨S_, .f32⟩
  | .hbm, ⟨41, _⟩ => ⟨S32x2048x4x1, .f32⟩
  | .hbm, ⟨42, _⟩ => ⟨S32x2048x4x1, .f32⟩
  | .hbm, ⟨43, _⟩ => ⟨S32x2048x4x1, .f32⟩
  | .hbm, ⟨44, _⟩ => ⟨S32x2048x4x256, .f32⟩
  | .hbm, ⟨45, _⟩ => ⟨S32x2048x4x256, .f32⟩
  | .hbm, ⟨46, _⟩ => ⟨S1x1x1x256, .f32⟩
  | .hbm, ⟨47, _⟩ => ⟨S32x2048x4x256, .f32⟩
  | .hbm, ⟨48, _⟩ => ⟨S32x2048x4x256, .f32⟩
  | .hbm, ⟨49, _⟩ => ⟨S8192x1024, .f32⟩
  | .hbm, ⟨50, _⟩ => ⟨S32x256x4x256, .f32⟩
  | .hbm, ⟨51, _⟩ => ⟨S8192x1024, .f32⟩
  | .hbm, ⟨52, _⟩ => ⟨S32x256x4x256, .f32⟩
  | .hbm, ⟨53, _⟩ => ⟨S32x4x2048x256, .f32⟩
  | .hbm, ⟨54, _⟩ => ⟨S_, .f32⟩
  | .hbm, ⟨55, _⟩ => ⟨S32x4x2048x256, .f32⟩
  | .hbm, ⟨56, _⟩ => ⟨S32x4x2048x256, .f32⟩
  | .hbm, ⟨57, _⟩ => ⟨S_, .f32⟩
  | .hbm, ⟨58, _⟩ => ⟨S32x4x2048, .f32⟩
  | .hbm, ⟨59, _⟩ => ⟨S_, .f32⟩
  | .hbm, ⟨60, _⟩ => ⟨S32x4x2048, .f32⟩
  | .hbm, ⟨61, _⟩ => ⟨S32x4x2048, .f32⟩
  | .hbm, ⟨62, _⟩ => ⟨S32x4x2048x1, .f32⟩
  | .hbm, ⟨63, _⟩ => ⟨S32x4x2048x256, .f32⟩
  | .hbm, ⟨64, _⟩ => ⟨S32x4x2048x256, .f32⟩
  | .hbm, ⟨65, _⟩ => ⟨S32x4x2048x256, .f32⟩
  | .hbm, ⟨66, _⟩ => ⟨S_, .f32⟩
  | .hbm, ⟨67, _⟩ => ⟨S32x4x2048, .f32⟩
  | .hbm, ⟨68, _⟩ => ⟨S32x4x2048x1, .f32⟩
  | .hbm, ⟨69, _⟩ => ⟨S32x4x2048x256, .f32⟩
  | .hbm, ⟨70, _⟩ => ⟨S32x4x2048x256, .f32⟩
  | .hbm, ⟨71, _⟩ => ⟨S32x4x256x2048, .f32⟩
  | .hbm, ⟨72, _⟩ => ⟨S32x2048x4x256, .f32⟩
  | .hbm, ⟨73, _⟩ => ⟨S65536x1024, .f32⟩
  | .hbm, ⟨74, _⟩ => ⟨S65536x1024, .f32⟩
  | .hbm, ⟨75, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Gates.lean ====
abbrev S65536x1024 : Shape := ⟨2, ![65536, 1024]⟩
abbrev S1024 : Shape := ⟨1, ![1024]⟩
abbrev S1024x4096 : Shape := ⟨2, ![1024, 4096]⟩
abbrev S1x1024 : Shape := ⟨2, ![1, 1024]⟩
abbrev S65536x6144 : Shape := ⟨2, ![65536, 6144]⟩
abbrev S512x1024 : Shape := ⟨2, ![512, 1024]⟩
abbrev S512x6144 : Shape := ⟨2, ![512, 6144]⟩
abbrev S512 : Shape := ⟨1, ![512]⟩
abbrev S512x1 : Shape := ⟨2, ![512, 1]⟩
abbrev S1x256 : Shape := ⟨2, ![1, 256]⟩
abbrev S1024x256 : Shape := ⟨2, ![1024, 256]⟩
abbrev S512x256 : Shape := ⟨2, ![512, 256]⟩

abbrev nBuf : Space → Nat
  | .hbm => 8
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4096, .f32⟩
  | .hbm, ⟨3, _⟩ => ⟨S1024, .f32⟩
  | .hbm, ⟨4, _⟩ => ⟨S1024x4096, .bf16⟩
  | .hbm, ⟨5, _⟩ => ⟨S1x1024, .f32⟩
  | .hbm, ⟨6, _⟩ => ⟨S1x1024, .f32⟩
  | .hbm, ⟨7, _⟩ => ⟨S65536x6144, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1x1024, .f32⟩
  | .local _ .vmem, ⟨5, _⟩ => ⟨S512x6144, .bf16⟩
  | .local _ .vmem, ⟨6, _⟩ => ⟨S512x6144, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatesRefIdeal.lean ====
abbrev S65536x1024 : Shape := ⟨2, ![65536, 1024]⟩
abbrev S1024 : Shape := ⟨1, ![1024]⟩
abbrev S1024x4096 : Shape := ⟨2, ![1024, 4096]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4096 : Shape := ⟨2, ![65536, 4096]⟩
abbrev S65536x6144 : Shape := ⟨2, ![65536, 6144]⟩

abbrev nBuf : Space → Nat
  | .hbm => 71
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4096, .f32⟩
  | .hbm, ⟨3, _⟩ => ⟨S1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x4096, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536x1024, .f32⟩
  | .hbm, ⟨32, _⟩ => ⟨S65536x1024, .f32⟩
  | .hbm, ⟨33, _⟩ => ⟨S_, .f32⟩
  | .hbm, ⟨34, _⟩ => ⟨S65536x1024, .f32⟩
  | .hbm, ⟨35, _⟩ => ⟨S65536x1024, .f32⟩
  | .hbm, ⟨36, _⟩ => ⟨S1x1024, .f32⟩
  | .hbm, ⟨37, _⟩ => ⟨S65536x1024, .f32⟩
  | .hbm, ⟨38, _⟩ => ⟨S65536x1024, .f32⟩
  | .hbm, ⟨39, _⟩ => ⟨S1x1024, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S65536x1024, .f32⟩
  | .hbm, ⟨47, _⟩ => ⟨S65536x1024, .f32⟩
  | .hbm, ⟨48, _⟩ => ⟨S65536x1024, .f32⟩
  | .hbm, ⟨49, _⟩ => ⟨S_, .f32⟩
  | .hbm, ⟨50, _⟩ => ⟨S65536x1024, .f32⟩
  | .hbm, ⟨51, _⟩ => ⟨S65536x1024, .f32⟩
  | .hbm, ⟨52, _⟩ => ⟨S_, .f32⟩
  | .hbm, ⟨53, _⟩ => ⟨S65536x1024, .f32⟩
  | .hbm, ⟨54, _⟩ => ⟨S65536x1024, .f32⟩
  | .hbm, ⟨55, _⟩ => ⟨S1x1024, .f32⟩
  | .hbm, ⟨56, _⟩ => ⟨S65536x1024, .f32⟩
  | .hbm, ⟨57, _⟩ => ⟨S65536x1024, .f32⟩
  | .hbm, ⟨58, _⟩ => ⟨S65536x1024, .f32⟩
  | .hbm, ⟨59, _⟩ => ⟨S65536x1024, .f32⟩
  | .hbm, ⟨60, _⟩ => ⟨S_, .f32⟩
  | .hbm, ⟨61, _⟩ => ⟨S65536x1024, .f32⟩
  | .hbm, ⟨62, _⟩ => ⟨S65536x1024, .f32⟩
  | .hbm, ⟨63, _⟩ => ⟨S_, .f32⟩
  | .hbm, ⟨64, _⟩ => ⟨S65536x1024, .f32⟩
  | .hbm, ⟨65, _⟩ => ⟨S65536x1024, .f32⟩
  | .hbm, ⟨66, _⟩ => ⟨S65536x1024, .f32⟩
  | .hbm, ⟨67, _⟩ => ⟨S_, .f32⟩
  | .hbm, ⟨68, _⟩ => ⟨S65536x1024, .f32⟩
  | .hbm, ⟨69, _⟩ => ⟨S65536x6144, .f32⟩
  | .hbm, ⟨70, _⟩ => ⟨S65536x6144, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== Mixin.lean ====
abbrev S65536x1024 : Shape := ⟨2, ![65536, 1024]⟩
abbrev S1024 : Shape := ⟨1, ![1024]⟩
abbrev S1024x2304 : Shape := ⟨2, ![1024, 2304]⟩
abbrev S1x1024 : Shape := ⟨2, ![1, 1024]⟩
abbrev S65536x2304 : Shape := ⟨2, ![65536, 2304]⟩
abbrev S512x1024 : Shape := ⟨2, ![512, 1024]⟩
abbrev S512x2304 : Shape := ⟨2, ![512, 2304]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩

abbrev nBuf : Space → Nat
  | .hbm => 6
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2304, .f32⟩
  | .hbm, ⟨3, _⟩ => ⟨S1024x2304, .bf16⟩
  | .hbm, ⟨4, _⟩ => ⟨S1x1024, .f32⟩
  | .hbm, ⟨5, _⟩ => ⟨S65536x2304, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S512x2304, .bf16⟩
  | .local _ .vmem, ⟨5, _⟩ => ⟨S512x2304, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixinRefIdeal.lean ====
abbrev S65536x1024 : Shape := ⟨2, ![65536, 1024]⟩
abbrev S1024 : Shape := ⟨1, ![1024]⟩
abbrev S1024x2304 : Shape := ⟨2, ![1024, 2304]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2304 : Shape := ⟨2, ![65536, 2304]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2304, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x2304, .f32⟩
  | .hbm, ⟨20, _⟩ => ⟨S65536x2304, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Memory.lean ====
abbrev S8192x1024 : Shape := ⟨2, ![8192, 1024]⟩
abbrev S1024 : Shape := ⟨1, ![1024]⟩
abbrev S1024x2048 : Shape := ⟨2, ![1024, 2048]⟩
abbrev S256 : Shape := ⟨1, ![256]⟩
abbrev S1x1024 : Shape := ⟨2, ![1, 1024]⟩
abbrev S1x256 : Shape := ⟨2, ![1, 256]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S256, .f32⟩
  | .hbm, ⟨4, _⟩ => ⟨S1024x2048, .bf16⟩
  | .hbm, ⟨5, _⟩ => ⟨S1x1024, .f32⟩
  | .hbm, ⟨6, _⟩ => ⟨S1x256, .f32⟩
  | .hbm, ⟨7, _⟩ => ⟨S8192x1024, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x256, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemoryRefIdeal.lean ====
abbrev S8192x1024 : Shape := ⟨2, ![8192, 1024]⟩
abbrev S1024 : Shape := ⟨1, ![1024]⟩
abbrev S1024x2048 : Shape := ⟨2, ![1024, 2048]⟩
abbrev S256 : Shape := ⟨1, ![256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S8192x2x4x256 : Shape := ⟨4, ![8192, 2, 4, 256]⟩
abbrev S8192x1x4x256 : Shape := ⟨4, ![8192, 1, 4, 256]⟩
abbrev S8192x4x256 : Shape := ⟨3, ![8192, 4, 256]⟩
abbrev S8192x4 : Shape := ⟨2, ![8192, 4]⟩
abbrev S8192x4x1 : Shape := ⟨3, ![8192, 4, 1]⟩
abbrev S1x1x256 : Shape := ⟨3, ![1, 1, 256]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S256, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x2048, .f32⟩
  | .hbm, ⟨21, _⟩ => ⟨S8192x2x4x256, .f32⟩
  | .hbm, ⟨22, _⟩ => ⟨S8192x1x4x256, .f32⟩
  | .hbm, ⟨23, _⟩ => ⟨S8192x4x256, .f32⟩
  | .hbm, ⟨24, _⟩ => ⟨S8192x4x256, .f32⟩
  | .hbm, ⟨25, _⟩ => ⟨S_, .f32⟩
  | .hbm, ⟨26, _⟩ => ⟨S8192x4, .f32⟩
  | .hbm, ⟨27, _⟩ => ⟨S8192x4x1, .f32⟩
  | .hbm, ⟨28, _⟩ => ⟨S_, .f32⟩
  | .hbm, ⟨29, _⟩ => ⟨S8192x4x1, .f32⟩
  | .hbm, ⟨30, _⟩ => ⟨S8192x4x1, .f32⟩
  | .hbm, ⟨31, _⟩ => ⟨S_, .f32⟩
  | .hbm, ⟨32, _⟩ => ⟨S8192x4x1, .f32⟩
  | .hbm, ⟨33, _⟩ => ⟨S8192x4x1, .f32⟩
  | .hbm, ⟨34, _⟩ => ⟨S8192x4x1, .f32⟩
  | .hbm, ⟨35, _⟩ => ⟨S8192x4x256, .f32⟩
  | .hbm, ⟨36, _⟩ => ⟨S8192x4x256, .f32⟩
  | .hbm, ⟨37, _⟩ => ⟨S1x1x256, .f32⟩
  | .hbm, ⟨38, _⟩ => ⟨S8192x4x256, .f32⟩
  | .hbm, ⟨39, _⟩ => ⟨S8192x4x256, .f32⟩
  | .hbm, ⟨40, _⟩ => ⟨S8192x1x4x256, .f32⟩
  | .hbm, ⟨41, _⟩ => ⟨S8192x4x256, .f32⟩
  | .hbm, ⟨42, _⟩ => ⟨S8192x1024, .f32⟩
  | .hbm, ⟨43, _⟩ => ⟨S8192x1024, .bf16⟩
  | .hbm, ⟨44, _⟩ => ⟨S8192x1024, .f32⟩
  | .hbm, ⟨45, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Tables.lean ====
abbrev S32x2048 : Shape := ⟨2, ![32, 2048]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S65536x1 : Shape := ⟨2, ![65536, 1]⟩
abbrev S65536x128 : Shape := ⟨2, ![65536, 128]⟩
abbrev S512x1 : Shape := ⟨2, ![512, 1]⟩
abbrev S512x128 : Shape := ⟨2, ![512, 128]⟩

abbrev nBuf : Space → Nat
  | .hbm => 23
  | .vmem => 7
  | .smem => 0
  | _ => 0

abbrev bufTy : (tb : Table) → Fin (tcTables nBuf tb) → BufTy
  | .hbm, ⟨0, _⟩ => ⟨S32x2048, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S1x32, .f32⟩
  | .hbm, ⟨16, _⟩ => ⟨S4x32, .f32⟩
  | .hbm, ⟨17, _⟩ => ⟨S128, .f32⟩
  | .hbm, ⟨18, _⟩ => ⟨S1x128, .f32⟩
  | .hbm, ⟨19, _⟩ => ⟨S32x2048, .f32⟩
  | .hbm, ⟨20, _⟩ => ⟨S65536x1, .f32⟩
  | .hbm, ⟨21, _⟩ => ⟨S65536x128, .f32⟩
  | .hbm, ⟨22, _⟩ => ⟨S65536x128, .f32⟩
  | .local _ .vmem, ⟨0, _⟩ => ⟨S512x1, .f32⟩
  | .local _ .vmem, ⟨1, _⟩ => ⟨S512x1, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S32x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== TablesRefIdeal.lean ====
abbrev S32x2048 : Shape := ⟨2, ![32, 2048]⟩
abbrev S32 : Shape := ⟨1, ![32]⟩
abbrev S_ : Shape := ⟨0, ![]⟩
abbrev S32x2048x1 : Shape := ⟨3, ![32, 2048, 1]⟩
abbrev S1x1x32 : Shape := ⟨3, ![1, 1, 32]⟩
abbrev S32x2048x32 : Shape := ⟨3, ![32, 2048, 32]⟩
abbrev S65536x32 : Shape := ⟨2, ![65536, 32]⟩
abbrev S65536x128 : Shape := ⟨2, ![65536, 128]⟩

abbrev nBuf : Space → Nat
  | .hbm => 29
  | .vmem => 0
  | .smem => 0
  | _ => 0

abbrev bufTy : (tb : Table) → Fin (tcTables nBuf tb) → BufTy
  | .hbm, ⟨0, _⟩ => ⟨S32x2048, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32x2048, .f32⟩
  | .hbm, ⟨16, _⟩ => ⟨S32x2048x1, .f32⟩
  | .hbm, ⟨17, _⟩ => ⟨S1x1x32, .f32⟩
  | .hbm, ⟨18, _⟩ => ⟨S32x2048x32, .f32⟩
  | .hbm, ⟨19, _⟩ => ⟨S32x2048x32, .f32⟩
  | .hbm, ⟨20, _⟩ => ⟨S32x2048x32, .f32⟩
  | .hbm, ⟨21, _⟩ => ⟨S32x2048x32, .f32⟩
  | .hbm, ⟨22, _⟩ => ⟨S65536x32, .f32⟩
  | .hbm, ⟨23, _⟩ => ⟨S32x2048x32, .f32⟩
  | .hbm, ⟨24, _⟩ => ⟨S65536x32, .f32⟩
  | .hbm, ⟨25, _⟩ => ⟨S65536x128, .f32⟩
  | .hbm, ⟨26, _⟩ => ⟨S65536x32, .f32⟩
  | .hbm, ⟨27, _⟩ => ⟨S65536x32, .f32⟩
  | .hbm, ⟨28, _⟩ => ⟨S65536x128, .f32⟩
  | _, _ => ⟨S32x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Window.lean ====
abbrev S65536x2304 : Shape := ⟨2, ![65536, 2304]⟩
abbrev S65536x128 : Shape := ⟨2, ![65536, 128]⟩
abbrev S64 : Shape := ⟨1, ![64]⟩
abbrev S8 : Shape := ⟨1, ![8]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S65536x512 : Shape := ⟨2, ![65536, 512]⟩
abbrev S2048x768 : Shape := ⟨2, ![2048, 768]⟩
abbrev S2048x128 : Shape := ⟨2, ![2048, 128]⟩
abbrev S2048x512 : Shape := ⟨2, ![2048, 512]⟩
abbrev S4x2048x128 : Shape := ⟨3, ![4, 2048, 128]⟩
abbrev S2x2x2048x128 : Shape := ⟨4, ![2, 2, 2048, 128]⟩
abbrev S512x128 : Shape := ⟨2, ![512, 128]⟩
abbrev S128x128 : Shape := ⟨2, ![128, 128]⟩
abbrev S1x512x128 : Shape := ⟨3, ![1, 512, 128]⟩
abbrev S1x1x512x128 : Shape := ⟨4, ![1, 1, 512, 128]⟩
abbrev S256x128 : Shape := ⟨2, ![256, 128]⟩
abbrev S256x1 : Shape := ⟨2, ![256, 1]⟩
abbrev S1x128x128 : Shape := ⟨3, ![1, 128, 128]⟩
abbrev S1x1x128x128 : Shape := ⟨4, ![1, 1, 128, 128]⟩
abbrev S1 : Shape := ⟨1, ![1]⟩
abbrev S256 : Shape := ⟨1, ![256]⟩

abbrev nBuf : Space → Nat
  | .hbm => 15
  | .vmem => 13
  | .smem => 1
  | _ => 0

abbrev bufTy : (tb : Table) → Fin (tcTables nBuf tb) → BufTy
  | .hbm, ⟨0, _⟩ => ⟨S65536x2304, .bf16⟩
  | .hbm, ⟨1, _⟩ => ⟨S65536x128, .f32⟩
  | .hbm, ⟨2, _⟩ => ⟨S65536x128, .f32⟩
  | .hbm, ⟨3, _⟩ => ⟨S64, .f32⟩
  | .hbm, ⟨4, _⟩ => ⟨S64, .f32⟩
  | .hbm, ⟨5, _⟩ => ⟨S8, .f32⟩
  | .hbm, ⟨6, _⟩ => ⟨S1x64, .f32⟩
  | .hbm, ⟨7, _⟩ => ⟨S2x64, .f32⟩
  | .hbm, ⟨8, _⟩ => ⟨S128, .f32⟩
  | .hbm, ⟨9, _⟩ => ⟨S1x128, .f32⟩
  | .hbm, ⟨10, _⟩ => ⟨S1x64, .f32⟩
  | .hbm, ⟨11, _⟩ => ⟨S2x64, .f32⟩
  | .hbm, ⟨12, _⟩ => ⟨S128, .f32⟩
  | .hbm, ⟨13, _⟩ => ⟨S1x128, .f32⟩
  | .hbm, ⟨14, _⟩ => ⟨S65536x512, .bf16⟩
  | .local _ .vmem, ⟨0, _⟩ => ⟨S2048x768, .bf16⟩
  | .local _ .vmem, ⟨1, _⟩ => ⟨S2048x768, .bf16⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x128, .f32⟩
  | .local _ .vmem, ⟨7, _⟩ => ⟨S1x128, .f32⟩
  | .local _ .vmem, ⟨8, _⟩ => ⟨S2048x512, .bf16⟩
  | .local _ .vmem, ⟨9, _⟩ => ⟨S2048x512, .bf16⟩
  | .local _ .vmem, ⟨10, _⟩ => ⟨S4x2048x128, .bf16⟩
  | .local _ .vmem, ⟨11, _⟩ => ⟨S2x2x2048x128, .bf16⟩
  | .local _ .vmem, ⟨12, _⟩ => ⟨S2x2x2048x128, .bf16⟩
  | .local _ .smem, ⟨0, _⟩ => ⟨S8, .f32⟩
  | _, _ => ⟨S65536x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_869 : BitVec 32 := 0#32
  let c16_i32 : BitVec 32 := 16#32
  let v2326 : BitVec 32 := Scalar.addi c0_i32_869 c16_i32
  let c1_i32_870 : BitVec 32 := 1#32
  ⟨c0_i32_869, v2326, c1_i32_870⟩
def k0_mult1 (k0_t1 : Fin k0_t1_loop.trips) : BitVec 32 :=
  let c0_i32_869 : BitVec 32 := 0#32
  let c1_i32_870 : BitVec 32 := 1#32
  let arg11 : BitVec 32 := Scf.iv c0_i32_869 c1_i32_870 k0_t1
  let c128_i32_872 : BitVec 32 := 128#32
  let v2327 : BitVec 32 := Scalar.muli arg11 c128_i32_872
  v2327
def k0_mult2 (k0_t1 : Fin k0_t1_loop.trips) : BitVec 32 :=
  let c0_i32_869 : BitVec 32 := 0#32
  let c1_i32_870 : BitVec 32 := 1#32
  let arg11 : BitVec 32 := Scf.iv c0_i32_869 c1_i32_870 k0_t1
  let c1_i32_873 : BitVec 32 := 1#32
  let v2329 : BitVec 32 := Scalar.subi arg11 c1_i32_873
  let c0_i32_874 : BitVec 32 := 0#32
  let v2330 : BitVec 32 := Scalar.maxsi v2329 c0_i32_874
  let c128_i32_875 : BitVec 32 := 128#32
  let v2331 : BitVec 32 := Scalar.muli v2330 c128_i32_875
  v2331
def k0_off1 (k0_t1 : Fin k0_t1_loop.trips) : Fin 3 → Nat :=
  let c0_877 : Index := 0#32
  let c0_i32_869 : BitVec 32 := 0#32
  let c1_i32_870 : BitVec 32 := 1#32
  let arg11 : BitVec 32 := Scf.iv c0_i32_869 c1_i32_870 k0_t1
  let c128_i32_872 : BitVec 32 := 128#32
  let v2327 : BitVec 32 := Scalar.muli arg11 c128_i32_872
  let v2328 : BitVec 32 := v2327
  let v2337 : Index := Scalar.indexCast v2328
  let c0_878 : Index := 0#32
  ![0, v2337.toNat, 0]
def k0_off2 (k0_t1 : Fin k0_t1_loop.trips) : Fin 3 → Nat :=
  let c1_879 : Index := 1#32
  let c0_i32_869 : BitVec 32 := 0#32
  let c1_i32_870 : BitVec 32 := 1#32
  let arg11 : BitVec 32 := Scf.iv c0_i32_869 c1_i32_870 k0_t1
  let c128_i32_872 : BitVec 32 := 128#32
  let v2327 : BitVec 32 := Scalar.muli arg11 c128_i32_872
  let v2328 : BitVec 32 := v2327
  let v2340 : Index := Scalar.indexCast v2328
  let c0_880 : Index := 0#32
  ![1, v2340.toNat, 0]
def k0_off3 (k0_t1 : Fin k0_t1_loop.trips) : Fin 4 → Nat :=
  let c0_882 : Index := 0#32
  let c0_883 : Index := 0#32
  let c0_i32_869 : BitVec 32 := 0#32
  let c1_i32_870 : BitVec 32 := 1#32
  let arg11 : BitVec 32 := Scf.iv c0_i32_869 c1_i32_870 k0_t1
  let c128_i32_872 : BitVec 32 := 128#32
  let v2327 : BitVec 32 := Scalar.muli arg11 c128_i32_872
  let v2328 : BitVec 32 := v2327
  let v2345 : Index := Scalar.indexCast v2328
  let c0_884 : Index := 0#32
  ![0, 0, v2345.toNat, 0]
def k0_off4 (k0_t1 : Fin k0_t1_loop.trips) : Fin 4 → Nat :=
  let c0_886 : Index := 0#32
  let c0_887 : Index := 0#32
  let c0_i32_869 : BitVec 32 := 0#32
  let c1_i32_870 : BitVec 32 := 1#32
  let arg11 : BitVec 32 := Scf.iv c0_i32_869 c1_i32_870 k0_t1
  let c1_i32_873 : BitVec 32 := 1#32
  let v2329 : BitVec 32 := Scalar.subi arg11 c1_i32_873
  let c0_i32_874 : BitVec 32 := 0#32
  let v2330 : BitVec 32 := Scalar.maxsi v2329 c0_i32_874
  let c128_i32_875 : BitVec 32 := 128#32
  let v2331 : BitVec 32 := Scalar.muli v2330 c128_i32_875
  let v2332 : BitVec 32 := v2331
  let v2349 : Index := Scalar.indexCast v2332
  let c0_888 : Index := 0#32
  ![0, 0, v2349.toNat, 0]
def k0_off5 (k0_t1 : Fin k0_t1_loop.trips) : Fin 4 → Nat :=
  let c1_905 : Index := 1#32
  let c0_906 : Index := 0#32
  let c0_i32_869 : BitVec 32 := 0#32
  let c1_i32_870 : BitVec 32 := 1#32
  let arg11 : BitVec 32 := Scf.iv c0_i32_869 c1_i32_870 k0_t1
  let c128_i32_872 : BitVec 32 := 128#32
  let v2327 : BitVec 32 := Scalar.muli arg11 c128_i32_872
  let v2328 : BitVec 32 := v2327
  let v2396 : Index := Scalar.indexCast v2328
  let c0_907 : Index := 0#32
  ![1, 0, v2396.toNat, 0]
def k0_off6 (k0_t1 : Fin k0_t1_loop.trips) : Fin 4 → Nat :=
  let c1_909 : Index := 1#32
  let c0_910 : Index := 0#32
  let c0_i32_869 : BitVec 32 := 0#32
  let c1_i32_870 : BitVec 32 := 1#32
  let arg11 : BitVec 32 := Scf.iv c0_i32_869 c1_i32_870 k0_t1
  let c1_i32_873 : BitVec 32 := 1#32
  let v2329 : BitVec 32 := Scalar.subi arg11 c1_i32_873
  let c0_i32_874 : BitVec 32 := 0#32
  let v2330 : BitVec 32 := Scalar.maxsi v2329 c0_i32_874
  let c128_i32_875 : BitVec 32 := 128#32
  let v2331 : BitVec 32 := Scalar.muli v2330 c128_i32_875
  let v2332 : BitVec 32 := v2331
  let v2400 : Index := Scalar.indexCast v2332
  let c0_911 : Index := 0#32
  ![1, 0, v2400.toNat, 0]
def k0_off7 (k0_t1 : Fin k0_t1_loop.trips) : Fin 2 → Nat :=
  let c0_i32_869 : BitVec 32 := 0#32
  let c1_i32_870 : BitVec 32 := 1#32
  let arg11 : BitVec 32 := Scf.iv c0_i32_869 c1_i32_870 k0_t1
  let c128_i32_872 : BitVec 32 := 128#32
  let v2327 : BitVec 32 := Scalar.muli arg11 c128_i32_872
  let v2328 : BitVec 32 := v2327
  let v2449 : Index := Scalar.indexCast v2328
  let c0_928 : Index := 0#32
  ![v2449.toNat, 0]
def k0_off8 (k0_t1 : Fin k0_t1_loop.trips) : Fin 2 → Nat :=
  let c0_i32_869 : BitVec 32 := 0#32
  let c1_i32_870 : BitVec 32 := 1#32
  let arg11 : BitVec 32 := Scf.iv c0_i32_869 c1_i32_870 k0_t1
  let c128_i32_872 : BitVec 32 := 128#32
  let v2327 : BitVec 32 := Scalar.muli arg11 c128_i32_872
  let v2328 : BitVec 32 := v2327
  let v2453 : Index := Scalar.indexCast v2328
  let c128_929 : Index := 128#32
  ![v2453.toNat, 128]
def k0_off9 (k0_t1 : Fin k0_t1_loop.trips) : Fin 3 → Nat :=
  let c2_930 : Index := 2#32
  let c0_i32_869 : BitVec 32 := 0#32
  let c1_i32_870 : BitVec 32 := 1#32
  let arg11 : BitVec 32 := Scf.iv c0_i32_869 c1_i32_870 k0_t1
  let c128_i32_872 : BitVec 32 := 128#32
  let v2327 : BitVec 32 := Scalar.muli arg11 c128_i32_872
  let v2328 : BitVec 32 := v2327
  let v2455 : Index := Scalar.indexCast v2328
  let c0_931 : Index := 0#32
  ![2, v2455.toNat, 0]
def k0_off10 (k0_t1 : Fin k0_t1_loop.trips) : Fin 3 → Nat :=
  let c3_932 : Index := 3#32
  let c0_i32_869 : BitVec 32 := 0#32
  let c1_i32_870 : BitVec 32 := 1#32
  let arg11 : BitVec 32 := Scf.iv c0_i32_869 c1_i32_870 k0_t1
  let c128_i32_872 : BitVec 32 := 128#32
  let v2327 : BitVec 32 := Scalar.muli arg11 c128_i32_872
  let v2328 : BitVec 32 := v2327
  let v2458 : Index := Scalar.indexCast v2328
  let c0_933 : Index := 0#32
  ![3, v2458.toNat, 0]
def k0_off11 (k0_t1 : Fin k0_t1_loop.trips) : Fin 4 → Nat :=
  let c0_935 : Index := 0#32
  let c1_936 : Index := 1#32
  let c0_i32_869 : BitVec 32 := 0#32
  let c1_i32_870 : BitVec 32 := 1#32
  let arg11 : BitVec 32 := Scf.iv c0_i32_869 c1_i32_870 k0_t1
  let c128_i32_872 : BitVec 32 := 128#32
  let v2327 : BitVec 32 := Scalar.muli arg11 c128_i32_872
  let v2328 : BitVec 32 := v2327
  let v2463 : Index := Scalar.indexCast v2328
  let c0_937 : Index := 0#32
  ![0, 1, v2463.toNat, 0]
def k0_off12 (k0_t1 : Fin k0_t1_loop.trips) : Fin 4 → Nat :=
  let c0_939 : Index := 0#32
  let c1_940 : Index := 1#32
  let c0_i32_869 : BitVec 32 := 0#32
  let c1_i32_870 : BitVec 32 := 1#32
  let arg11 : BitVec 32 := Scf.iv c0_i32_869 c1_i32_870 k0_t1
  let c1_i32_873 : BitVec 32 := 1#32
  let v2329 : BitVec 32 := Scalar.subi arg11 c1_i32_873
  let c0_i32_874 : BitVec 32 := 0#32
  let v2330 : BitVec 32 := Scalar.maxsi v2329 c0_i32_874
  let c128_i32_875 : BitVec 32 := 128#32
  let v2331 : BitVec 32 := Scalar.muli v2330 c128_i32_875
  let v2332 : BitVec 32 := v2331
  let v2467 : Index := Scalar.indexCast v2332
  let c0_941 : Index := 0#32
  ![0, 1, v2467.toNat, 0]
def k0_off13 (k0_t1 : Fin k0_t1_loop.trips) : Fin 4 → Nat :=
  let c1_956 : Index := 1#32
  let c1_957 : Index := 1#32
  let c0_i32_869 : BitVec 32 := 0#32
  let c1_i32_870 : BitVec 32 := 1#32
  let arg11 : BitVec 32 := Scf.iv c0_i32_869 c1_i32_870 k0_t1
  let c128_i32_872 : BitVec 32 := 128#32
  let v2327 : BitVec 32 := Scalar.muli arg11 c128_i32_872
  let v2328 : BitVec 32 := v2327
  let v2514 : Index := Scalar.indexCast v2328
  let c0_958 : Index := 0#32
  ![1, 1, v2514.toNat, 0]
def k0_off14 (k0_t1 : Fin k0_t1_loop.trips) : Fin 4 → Nat :=
  let c1_960 : Index := 1#32
  let c1_961 : Index := 1#32
  let c0_i32_869 : BitVec 32 := 0#32
  let c1_i32_870 : BitVec 32 := 1#32
  let arg11 : BitVec 32 := Scf.iv c0_i32_869 c1_i32_870 k0_t1
  let c1_i32_873 : BitVec 32 := 1#32
  let v2329 : BitVec 32 := Scalar.subi arg11 c1_i32_873
  let c0_i32_874 : BitVec 32 := 0#32
  let v2330 : BitVec 32 := Scalar.maxsi v2329 c0_i32_874
  let c128_i32_875 : BitVec 32 := 128#32
  let v2331 : BitVec 32 := Scalar.muli v2330 c128_i32_875
  let v2332 : BitVec 32 := v2331
  let v2518 : Index := Scalar.indexCast v2332
  let c0_962 : Index := 0#32
  ![1, 1, v2518.toNat, 0]
def k0_off15 (k0_t1 : Fin k0_t1_loop.trips) : Fin 2 → Nat :=
  let c0_i32_869 : BitVec 32 := 0#32
  let c1_i32_870 : BitVec 32 := 1#32
  let arg11 : BitVec 32 := Scf.iv c0_i32_869 c1_i32_870 k0_t1
  let c128_i32_872 : BitVec 32 := 128#32
  let v2327 : BitVec 32 := Scalar.muli arg11 c128_i32_872
  let v2328 : BitVec 32 := v2327
  let v2567 : Index := Scalar.indexCast v2328
  let c256_977 : Index := 256#32
  ![v2567.toNat, 256]
def k0_off16 (k0_t1 : Fin k0_t1_loop.trips) : Fin 2 → Nat :=
  let c0_i32_869 : BitVec 32 := 0#32
  let c1_i32_870 : BitVec 32 := 1#32
  let arg11 : BitVec 32 := Scf.iv c0_i32_869 c1_i32_870 k0_t1
  let c128_i32_872 : BitVec 32 := 128#32
  let v2327 : BitVec 32 := Scalar.muli arg11 c128_i32_872
  let v2328 : BitVec 32 := v2327
  let v2571 : Index := Scalar.indexCast v2328
  let c384_978 : Index := 384#32
  ![v2571.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== WindowRefIdeal.lean ====
abbrev S65536x2304 : Shape := ⟨2, ![65536, 2304]⟩
abbrev S65536x128 : Shape := ⟨2, ![65536, 128]⟩
abbrev S64 : Shape := ⟨1, ![64]⟩
abbrev S8 : Shape := ⟨1, ![8]⟩
abbrev S32x2048x2x64 : Shape := ⟨4, ![32, 2048, 2, 64]⟩
abbrev S65536x512 : Shape := ⟨2, ![65536, 512]⟩
abbrev S32x2048x8x64 : Shape := ⟨4, ![32, 2048, 8, 64]⟩
abbrev S_ : Shape := ⟨0, ![]⟩
abbrev S32x2048x8 : Shape := ⟨3, ![32, 2048, 8]⟩
abbrev S32x2048x8x1 : Shape := ⟨4, ![32, 2048, 8, 1]⟩
abbrev S1x1x1x64 : Shape := ⟨4, ![1, 1, 1, 64]⟩
abbrev S32x2048x4x2x64 : Shape := ⟨5, ![32, 2048, 4, 2, 64]⟩
abbrev S32x2048x4x2x32 : Shape := ⟨5, ![32, 2048, 4, 2, 32]⟩
abbrev S32x2048x1x2x64 : Shape := ⟨5, ![32, 2048, 1, 2, 64]⟩
abbrev S32x2048x2 : Shape := ⟨3, ![32, 2048, 2]⟩
abbrev S32x2048x2x1 : Shape := ⟨4, ![32, 2048, 2, 1]⟩
abbrev S32x2048x1x2x32 : Shape := ⟨5, ![32, 2048, 1, 2, 32]⟩
abbrev S32x16x128x2x4x64 : Shape := ⟨6, ![32, 16, 128, 2, 4, 64]⟩
abbrev S32x2176x2x64 : Shape := ⟨4, ![32, 2176, 2, 64]⟩
abbrev S32x16x128x2x64 : Shape := ⟨5, ![32, 16, 128, 2, 64]⟩
abbrev S32x16x256x2x64 : Shape := ⟨5, ![32, 16, 256, 2, 64]⟩
abbrev S32x16x2x256x128x4 : Shape := ⟨6, ![32, 16, 2, 256, 128, 4]⟩
abbrev S32x16x2x4x128x256 : Shape := ⟨6, ![32, 16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S16 : Shape := ⟨1, ![16]⟩
abbrev S16x1x1 : Shape := ⟨3, ![16, 1, 1]⟩
abbrev S128x256 : Shape := ⟨2, ![128, 256]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S2x4 : Shape := ⟨2, ![2, 4]⟩
abbrev S1x1x2x4x1x1 : Shape := ⟨6, ![1, 1, 2, 4, 1, 1]⟩
abbrev S32x16x2x4x128 : Shape := ⟨5, ![32, 16, 2, 4, 128]⟩
abbrev S32x16x2x4x128x1 : Shape := ⟨6, ![32, 16, 2, 4, 128, 1]⟩
abbrev S32x16x2x64x4x128 : Shape := ⟨6, ![32, 16, 2, 64, 4, 128]⟩

abbrev nBuf : Space → Nat
  | .hbm => 151
  | .vmem => 0
  | .smem => 0
  | _ => 0

abbrev hbmTy0_0 (i : Nat) : BufTy := match i % 128 with
  | 0 => ⟨S65536x2304, .bf16⟩
  | 1 => ⟨S65536x128, .f32⟩
  | 2 => ⟨S65536x128, .f32⟩
  | 3 => ⟨S64, .f32⟩
  | 4 => ⟨S64, .f32⟩
  | 5 => ⟨S8, .f32⟩
  | 6 => ⟨S65536x2304, .f32⟩
  | 7 => ⟨S32x2048x2x64, .f32⟩
  | 8 => ⟨S32x2048x2x64, .f32⟩
  | 9 => ⟨S65536x512, .f32⟩
  | 10 => ⟨S32x2048x8x64, .f32⟩
  | 11 => ⟨S32x2048x8x64, .f32⟩
  | 12 => ⟨S_, .f32⟩
  | 13 => ⟨S32x2048x8, .f32⟩
  | 14 => ⟨S32x2048x8x1, .f32⟩
  | 15 => ⟨S_, .f32⟩
  | 16 => ⟨S32x2048x8x1, .f32⟩
  | 17 => ⟨S32x2048x8x1, .f32⟩
  | 18 => ⟨S_, .f32⟩
  | 19 => ⟨S32x2048x8x1, .f32⟩
  | 20 => ⟨S32x2048x8x1, .f32⟩
  | 21 => ⟨S32x2048x8x1, .f32⟩
  | 22 => ⟨S32x2048x8x64, .f32⟩
  | 23 => ⟨S32x2048x8x64, .f32⟩
  | 24 => ⟨S1x1x1x64, .f32⟩
  | 25 => ⟨S32x2048x8x64, .f32⟩
  | 26 => ⟨S32x2048x8x64, .f32⟩
  | 27 => ⟨S32x2048x4x2x64, .f32⟩
  | 28 => ⟨S32x2048x4x2x32, .f32⟩
  | 29 => ⟨S32x2048x4x2x32, .f32⟩
  | 30 => ⟨S32x2048x4x2x64, .f32⟩
  | 31 => ⟨S32x2048x1x2x64, .f32⟩
  | 32 => ⟨S32x2048x4x2x64, .f32⟩
  | 33 => ⟨S32x2048x4x2x64, .f32⟩
  | 34 => ⟨S32x2048x1x2x64, .f32⟩
  | 35 => ⟨S32x2048x4x2x64, .f32⟩
  | 36 => ⟨S32x2048x4x2x64, .f32⟩
  | 37 => ⟨S32x2048x4x2x64, .f32⟩
  | 38 => ⟨S32x2048x8x64, .f32⟩
  | 39 => ⟨S65536x128, .f32⟩
  | 40 => ⟨S32x2048x2x64, .f32⟩
  | 41 => ⟨S32x2048x2x64, .f32⟩
  | 42 => ⟨S_, .f32⟩
  | 43 => ⟨S32x2048x2, .f32⟩
  | 44 => ⟨S32x2048x2x1, .f32⟩
  | 45 => ⟨S_, .f32⟩
  | 46 => ⟨S32x2048x2x1, .f32⟩
  | 47 => ⟨S32x2048x2x1, .f32⟩
  | 48 => ⟨S_, .f32⟩
  | 49 => ⟨S32x2048x2x1, .f32⟩
  | 50 => ⟨S32x2048x2x1, .f32⟩
  | 51 => ⟨S32x2048x2x1, .f32⟩
  | 52 => ⟨S32x2048x2x64, .f32⟩
  | 53 => ⟨S32x2048x2x64, .f32⟩
  | 54 => ⟨S1x1x1x64, .f32⟩
  | 55 => ⟨S32x2048x2x64, .f32⟩
  | 56 => ⟨S32x2048x2x64, .f32⟩
  | 57 => ⟨S32x2048x1x2x64, .f32⟩
  | 58 => ⟨S32x2048x1x2x32, .f32⟩
  | 59 => ⟨S32x2048x1x2x32, .f32⟩
  | 60 => ⟨S32x2048x1x2x64, .f32⟩
  | 61 => ⟨S32x2048x1x2x64, .f32⟩
  | 62 => ⟨S32x2048x1x2x64, .f32⟩
  | 63 => ⟨S32x2048x1x2x64, .f32⟩
  | 64 => ⟨S32x2048x1x2x64, .f32⟩
  | 65 => ⟨S32x2048x1x2x64, .f32⟩
  | 66 => ⟨S32x2048x2x64, .f32⟩
  | 67 => ⟨S65536x128, .f32⟩
  | 68 => ⟨S32x2048x2x64, .f32⟩
  | 69 => ⟨S32x16x128x2x4x64, .f32⟩
  | 70 => ⟨S_, .i32⟩
  | 71 => ⟨S_, .f32⟩
  | 72 => ⟨S32x2176x2x64, .f32⟩
  | 73 => ⟨S32x2048x2x64, .f32⟩
  | 74 => ⟨S32x16x128x2x64, .f32⟩
  | 75 => ⟨S32x16x128x2x64, .f32⟩
  | 76 => ⟨S32x16x256x2x64, .f32⟩
  | 77 => ⟨S_, .i32⟩
  | 78 => ⟨S_, .f32⟩
  | 79 => ⟨S32x2176x2x64, .f32⟩
  | 80 => ⟨S32x2048x2x64, .f32⟩
  | 81 => ⟨S32x16x128x2x64, .f32⟩
  | 82 => ⟨S32x16x128x2x64, .f32⟩
  | 83 => ⟨S32x16x256x2x64, .f32⟩
  | 84 => ⟨S32x16x2x256x128x4, .f32⟩
  | 85 => ⟨S32x16x2x4x128x256, .f32⟩
  | 86 => ⟨S_, .f32⟩
  | 87 => ⟨S32x16x2x4x128x256, .f32⟩
  | 88 => ⟨S32x16x2x4x128x256, .f32⟩
  | 89 => ⟨S128, .i32⟩
  | 90 => ⟨S128x1, .i32⟩
  | 91 => ⟨S256, .i32⟩
  | 92 => ⟨S1x256, .i32⟩
  | 93 => ⟨S16, .i32⟩
  | 94 => ⟨S16x1x1, .i32⟩
  | 95 => ⟨S128x256, .i32⟩
  | 96 => ⟨S128x256, .i32⟩
  | 97 => ⟨S128x256, .i1⟩
  | 98 => ⟨S_, .i32⟩
  | 99 => ⟨S128x1, .i32⟩
  | 100 => ⟨S128x1, .i32⟩
  | 101 => ⟨S128x256, .i32⟩
  | 102 => ⟨S128x256, .i32⟩
  | 103 => ⟨S128x256, .i1⟩
  | 104 => ⟨S128x256, .i1⟩
  | 105 => ⟨S_, .i32⟩
  | 106 => ⟨S16x1x1, .i32⟩
  | 107 => ⟨S16x1x1, .i32⟩
  | 108 => ⟨S_, .i32⟩
  | 109 => ⟨S16x1x1, .i32⟩
  | 110 => ⟨S16x1x1, .i32⟩
  | 111 => ⟨S1x1x256, .i32⟩
  | 112 => ⟨S16x1x256, .i32⟩
  | 113 => ⟨S16x1x256, .i32⟩
  | 114 => ⟨S16x1x256, .i32⟩
  | 115 => ⟨S_, .i32⟩
  | 116 => ⟨S16x1x256, .i32⟩
  | 117 => ⟨S16x1x256, .i1⟩
  | 118 => ⟨S1x128x256, .i1⟩
  | 119 => ⟨S16x128x256, .i1⟩
  | 120 => ⟨S16x128x256, .i1⟩
  | 121 => ⟨S16x128x256, .i1⟩
  | 122 => ⟨S1x16x1x1x128x256, .i1⟩
  | 123 => ⟨S_, .f32⟩
  | 124 => ⟨S_, .f32⟩
  | 125 => ⟨S32x16x2x4x128x256, .i1⟩
  | 126 => ⟨S32x16x2x4x128x256, .f32⟩
  | 127 => ⟨S32x16x2x4x128x256, .f32⟩
  | _ => ⟨S65536x2304, .bf16⟩

abbrev hbmTy0_1 (i : Nat) : BufTy := match i % 128 with
  | 0 => ⟨S2x4, .f32⟩
  | 1 => ⟨S1x1x2x4x1x1, .f32⟩
  | 2 => ⟨S_, .f32⟩
  | 3 => ⟨S32x16x2x4x128, .f32⟩
  | 4 => ⟨S32x16x2x4x128x1, .f32⟩
  | 5 => ⟨S32x16x2x4x128x1, .f32⟩
  | 6 => ⟨S32x16x2x4x128x1, .f32⟩
  | 7 => ⟨S32x16x2x4x128x256, .f32⟩
  | 8 => ⟨S32x16x2x4x128x256, .f32⟩
  | 9 => ⟨S32x16x2x4x128x256, .f32⟩
  | 10 => ⟨S_, .f32⟩
  | 11 => ⟨S32x16x2x4x128, .f32⟩
  | 12 => ⟨S32x16x2x4x128x1, .f32⟩
  | 13 => ⟨S32x16x2x4x128x1, .f32⟩
  | 14 => ⟨S32x16x2x4x128x1, .f32⟩
  | 15 => ⟨S32x16x2x4x128x1, .f32⟩
  | 16 => ⟨S32x16x2x4x128x1, .f32⟩
  | 17 => ⟨S32x16x2x4x128x256, .f32⟩
  | 18 => ⟨S32x16x2x4x128x256, .f32⟩
  | 19 => ⟨S32x16x2x64x4x128, .f32⟩
  | 20 => ⟨S32x16x128x2x4x64, .f32⟩
  | 21 => ⟨S65536x512, .f32⟩
  | 22 => ⟨S65536x512, .bf16⟩
  | _ => ⟨S65536x2304, .bf16⟩

abbrev hbmTy (i : Nat) : BufTy := match i / 128 with
  | 0 => hbmTy0_0 i
  | 1 => hbmTy0_1 i
  | _ => ⟨S65536x2304, .bf16⟩

abbrev bufTy : (tb : Table) → Fin (tcTables nBuf tb) → BufTy
  | .hbm, ⟨i, _⟩ => hbmTy i
  | _, _ => ⟨S65536x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_c : Ref sig .tc := ⟨.hbm, 70, rfl⟩
abbrev main_call0_v0 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_c_5 : Ref sig .tc := ⟨.hbm, 77, rfl⟩
abbrev main_call1_v0 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_6 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_c_7 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_c_8 : Ref sig .tc := ⟨.hbm, 105, rfl⟩
abbrev main_v87 : Ref sig .tc := ⟨.hbm, 106, rfl⟩
abbrev main_v88 : Ref sig .tc := ⟨.hbm, 107, rfl⟩
abbrev main_c_9 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_c_10 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_11 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_cst_12 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_13 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩

abbrev nD : Nat := 1
abbrev τ : Topo := Topo.v7x

variable {F : FTy → Type} [FloatOps F]
-- ==== Proof.Attn.Spec.lean ====
/- Cross-attention on rows of extended reals: the mathematics of one token, and why scaling the queries first and
   multiplying by a reciprocal give what scaling the scores and dividing give. -/
module

public import Idealize.ShloMosaic.Lib.Pointwise
public import Idealize.ShloMosaic.Lib.IdealHost

@[expose] public section

noncomputable section

namespace Cert.Hand.Attn

open Idealize.ShloMosaic

/-- The f32 pattern of minus infinity denotes it. -/
theorem ofBits_neg_inf : Ideal.ofBits .f32 0xFF800000#32 = ⊥ := by
  simp [Ideal.ofBits, Ideal.ieee]

/-- The width of a head. -/
abbrev l256 : EReal := Ideal.ofBits .f32 0x43800000#32
/-- The epsilon of the normalisations. -/
abbrev leps : EReal := Ideal.ofBits .f32 0x358637BD#32
/-- The scale of the scores. -/
abbrev l16 : EReal := Ideal.ofBits .f32 0x3D800000#32
/-- The width of the model. -/
abbrev l1024 : EReal := Ideal.ofBits .f32 0x44800000#32

/-- A number that is neither infinity. -/
def IsR (x : EReal) : Prop := ∃ r : ℝ, x = (r : EReal)

/-- The root-mean-square normalisation of the row `y`, with the gain `g`. -/
def rms {n : ℕ} (N e : EReal) (y g : Fin n → EReal) (d : Fin n) : EReal :=
  y d * Ideal.rsqrt (Ideal.div (∑ x, y x * y x) N + e) * g d

/-- The column `e` of the head that holds the column `c`. -/
def col (c : Fin 1024) (e : Fin 256) : Fin 1024 := ⟨c.val / 256 * 256 + e.val, by have := c.isLt; have := e.isLt; omega⟩

/-- The column `c` within its head. -/
def lane (c : Fin 1024) : Fin 256 := ⟨c.val % 256, Nat.mod_lt _ (by decide)⟩

/-- The maximum of a row, from minus infinity. -/
def top {n : ℕ} (s : Fin n → EReal) : EReal := Finset.fold max ⊥ s Finset.univ

/-- The exponentials of a row less its maximum. -/
def ex {n : ℕ} (s : Fin n → EReal) (j : Fin n) : EReal := Ideal.exp (s j - top s)

/-- One head at one token as the kernel computes it: scaled queries, and a product with the reciprocal of the sum. -/
def headK (N e c : EReal) (q g : Fin 256 → EReal) (k v : Fin 256 → Fin 256 → EReal) (d : Fin 256) : EReal :=
  ∑ j, ex (fun j => ∑ x, rms N e q g x * c * k j x) j * Ideal.div 1 (∑ i, ex (fun j => ∑ x, rms N e q g x * c * k j x) i) * v j d

/-- One head at one token as the reference computes it: scaled scores, and a quotient by the sum. -/
def headR (N e c : EReal) (q g : Fin 256 → EReal) (k v : Fin 256 → Fin 256 → EReal) (d : Fin 256) : EReal :=
  ∑ j, v j d * Ideal.div (ex (fun j => (∑ x, rms N e q g x * k j x) * c) j) (∑ i, ex (fun j => (∑ x, rms N e q g x * k j x) * c) i)

/-- A product of reals is real. -/
theorem IsR.mul {x y : EReal} (hx : IsR x) (hy : IsR y) : IsR (x * y) := by
  obtain ⟨a, rfl⟩ := hx; obtain ⟨b, rfl⟩ := hy; exact ⟨a * b, (EReal.coe_mul a b).symm⟩
/-- A sum of two reals is real. -/
theorem IsR.add {x y : EReal} (hx : IsR x) (hy : IsR y) : IsR (x + y) := by
  obtain ⟨a, rfl⟩ := hx; obtain ⟨b, rfl⟩ := hy; exact ⟨a + b, (EReal.coe_add a b).symm⟩

/-- A finite sum of reals is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsR.sum {ι : Type} (s : Finset ι) (f : ι → EReal) (h : ∀ i, IsR (f i)) : IsR (∑ i ∈ s, f i) := by
  choose g hg using h
  exact ⟨∑ i ∈ s, g i, by rw [coe_sum]; exact Finset.sum_congr rfl fun i _ => hg i⟩

/-- A square is not negative. -/
theorem sq_nonneg' (x : EReal) : 0 ≤ x * x := by
  induction x using EReal.rec with
  | bot => simp
  | top => simp
  | coe r => exact_mod_cast mul_self_nonneg r

/-- A factor that is a real moves out of a sum of reals. -/
theorem sum_scale {n : ℕ} (q k : Fin n → EReal) (c : EReal) (hq : ∀ i, IsR (q i)) (hk : ∀ i, IsR (k i)) (hc : IsR c) :
    ∑ i, q i * c * k i = (∑ i, q i * k i) * c := by
  choose a ha using hq; choose b hb using hk; obtain ⟨c, rfl⟩ := hc
  simp only [ha, hb, ← EReal.coe_mul, ← coe_sum]
  rw [Finset.sum_mul]; congr 1; exact Finset.sum_congr rfl fun i _ => by ring

/-- The normalisation of any row by a real gain is real: an infinite row has an infinite mean square, whose
    reciprocal root is zero. -/
theorem rms_real {n : ℕ} {N e : ℝ} (hN : 0 < N) (he : 0 < e) (y g : Fin n → EReal) (hg : ∀ i, IsR (g i)) (d : Fin n) :
    IsR (rms N e y g d) := by
  refine IsR.mul ?_ (hg d)
  have hN' : (N : EReal) ≠ 0 := by exact_mod_cast hN.ne'
  by_cases hy : ∀ i, IsR (y i)
  · have hs : IsR (∑ x, y x * y x) := IsR.sum _ _ fun i => (hy i).mul (hy i)
    have h0 : 0 ≤ ∑ x, y x * y x := Finset.sum_nonneg fun i _ => sq_nonneg' (y i)
    obtain ⟨s, hs⟩ := hs
    rw [hs] at h0 ⊢
    have h0 : 0 ≤ s := by exact_mod_cast h0
    rw [Ideal.div, if_neg hN', ← EReal.coe_inv, ← EReal.coe_mul, ← EReal.coe_add]
    have hp : 0 < s * N⁻¹ + e := by positivity
    refine (hy d).mul ⟨(Real.sqrt (s * N⁻¹ + e))⁻¹, ?_⟩
    show (if s * N⁻¹ + e < 0 then ⊥ else if s * N⁻¹ + e = 0 then ⊤ else _) = _
    rw [if_neg hp.not_gt, if_neg hp.ne']
  · have : ∃ i, y i * y i = ⊤ := by
      push Not at hy
      obtain ⟨i, hi⟩ := hy
      refine ⟨i, ?_⟩
      generalize y i = z at hi
      induction z using EReal.rec with
      | bot => simp
      | top => simp
      | coe r => exact absurd ⟨r, rfl⟩ hi
    obtain ⟨i, hi⟩ := this
    have ht : ∑ x, y x * y x = ⊤ := by
      refine top_le_iff.mp (hi ▸ Finset.single_le_sum (f := fun x => y x * y x) (fun x _ => sq_nonneg' (y x)) (Finset.mem_univ i))
    have hr : Ideal.rsqrt (Ideal.div ⊤ (N : EReal) + (e : EReal)) = 0 := by
      rw [Ideal.div, if_neg hN', ← EReal.coe_inv, EReal.top_mul_of_pos (by exact_mod_cast inv_pos.mpr hN)]
      rw [EReal.top_add_coe]; rfl
    rw [ht, hr, mul_zero]
    exact ⟨0, rfl⟩

/-- The exponential is not negative. -/
theorem exp_nonneg' (x : EReal) : 0 ≤ Ideal.exp x := by
  induction x using EReal.rec with
  | bot => exact le_rfl
  | top => exact le_top
  | coe r => show (0 : EReal) ≤ ((Real.exp r : ℝ) : EReal); exact_mod_cast (Real.exp_pos r).le

/-- The maximum of a row of reals is one of its entries. -/
theorem top_real {n : ℕ} (s : Fin (n + 1) → EReal) (hs : ∀ i, IsR (s i)) : ∃ i, top s = s i := by
  have h : top s = Finset.univ.sup s := rfl
  obtain ⟨i, _, hi⟩ := Finset.exists_mem_eq_sup Finset.univ ⟨0, Finset.mem_univ 0⟩ s
  exact ⟨i, h.trans hi⟩

/-- The sum of the exponentials of a row of reals is not zero: the largest contributes one. -/
theorem ex_sum_ne_zero {n : ℕ} (s : Fin (n + 1) → EReal) (hs : ∀ i, IsR (s i)) : ∑ i, ex s i ≠ 0 := by
  obtain ⟨i, hi⟩ := top_real s hs
  have h1 : ex s i = 1 := by
    unfold ex; rw [hi]; obtain ⟨r, hr⟩ := hs i
    rw [hr, ← EReal.coe_sub, sub_self]
    show ((Real.exp 0 : ℝ) : EReal) = 1
    simp
  have h2 : ex s i ≤ ∑ i, ex s i := Finset.single_le_sum (f := ex s) (fun x _ => exp_nonneg' _) (Finset.mem_univ i)
  intro h; rw [h1, h] at h2; exact absurd h2 (by simp)

/-- The kernel's head is the reference's head, for real keys and a real gain. -/
theorem head_eq {N e c : ℝ} (hN : 0 < N) (he : 0 < e) (q g : Fin 256 → EReal) (k v : Fin 256 → Fin 256 → EReal) (d : Fin 256)
    (hg : ∀ i, IsR (g i)) (hk : ∀ j i, IsR (k j i)) : headK N e c q g k v d = headR N e c q g k v d := by
  have hq : ∀ x, IsR (rms N e q g x) := rms_real hN he q g hg
  have hs : (fun j => ∑ x, rms N e q g x * c * k j x) = fun j => (∑ x, rms N e q g x * k j x) * c :=
    funext fun j => sum_scale _ _ _ hq (hk j) ⟨c, rfl⟩
  unfold headK headR
  rw [hs]
  refine Finset.sum_congr rfl fun j _ => ?_
  rw [Ideal.mul_one_div, mul_comm]
  exact ex_sum_ne_zero (n := 255) _ fun j => (IsR.sum _ _ fun x => (hq x).mul (hk j x)).mul ⟨c, rfl⟩

/-- The constant 256 is the real 256. -/
theorem l256_eq : l256 = ((256 : ℝ) : EReal) := by
  simp [Ideal.ofBits, Ideal.ieee, -EReal.coe_mul]; norm_num
/-- The constant 1024 is the real 1024. -/
theorem l1024_eq : l1024 = ((1024 : ℝ) : EReal) := by
  simp [Ideal.ofBits, Ideal.ieee, -EReal.coe_mul]; norm_num
/-- The constant 1/16 is the real 1/16. -/
theorem l16_eq : l16 = ((1 / 16 : ℝ) : EReal) := by
  simp [Ideal.ofBits, Ideal.ieee, -EReal.coe_mul]; norm_num
/-- The epsilon denotes a positive real. -/
theorem leps_eq : ∃ e : ℝ, 0 < e ∧ leps = (e : EReal) := by
  refine ⟨8796093 * 2 ^ (-43 : Int), by positivity, ?_⟩
  simp [Ideal.ofBits, Ideal.ieee, -EReal.coe_mul]

/-- `head_eq` at the literals of both programs. -/
theorem head_eq' (q g : Fin 256 → EReal) (k v : Fin 256 → Fin 256 → EReal) (d : Fin 256)
    (hg : ∀ i, IsR (g i)) (hk : ∀ j i, IsR (k j i)) : headK l256 leps l16 q g k v d = headR l256 leps l16 q g k v d := by
  obtain ⟨e, he, h⟩ := leps_eq
  rw [l256_eq, l16_eq, h]
  exact head_eq (by norm_num) he q g k v d hg hk

end Cert.Hand.Attn

end
-- ==== Proof.Attn.Pre.lean ====
/- What the precondition on the cross-attention's arguments says: the keys and the query gain are reals. -/
module

public import proofs.«01_k».proof.Pre_finite_keys
public import proofs.«01_k».proof.Proof.Attn.Spec

@[expose] public section

set_option maxRecDepth 16384

noncomputable section

namespace Cert.Hand.Attn

open Idealize.ShloMosaic Cert.Pre_finite_keys

/-- The shape facts of the precondition's program. -/
theorem preFacts : Cert.Pre_finite_keys.Facts := by
  constructor <;> decide +kernel

/-- The f32 pattern of plus infinity denotes it. -/
theorem ofBits_inf : Ideal.ofBits .f32 0x7F800000#32 = ⊤ := by
  simp [Ideal.ofBits, Ideal.ieee]

/-- A number whose magnitude is below plus infinity is real. -/
theorem real_of_abs (x : EReal) (h : max x (-x) < ⊤) : IsR x := by
  induction x using EReal.rec with
  | bot => simp at h
  | top => simp at h
  | coe r => exact ⟨r, rfl⟩

/-- Conjunction of two truth values as bits. -/
theorem andB (p q : Bool) : IntOp.andi (BitVec.ofBool p) (BitVec.ofBool q) = BitVec.ofBool (p && q) := by
  cases p <;> cases q <;> rfl

/-- The precondition at a key: the key and the gain at its lane are below plus infinity in magnitude. -/
theorem fn_at [Cert.Pre_finite_keys.Facts] (x0 : FVec Ideal S65536x1024 .f32) (x1 : FVec Ideal S65536x1024 .bf16) (x2 : FVec Ideal S1024x1024 .f32) (x3 : FVec Ideal S1024 .f32) (x4 : FVec Ideal S1024x1024 .f32) (x5 : FVec Ideal S256 .f32) (x6 x7 : FVec Ideal S8192x1024 .bf16) (x8 : FVec Ideal S1024x1024 .f32) (i : Fin 8192) (h : Fin 4) (d : Fin 256) :
    fn x0 x1 x2 x3 x4 x5 x6 x7 x8 (ix3 i h d) = BitVec.ofBool (decide (FloatOps.absf (x6 (ix2 i ⟨h.val * 256 + d.val, by have := h.isLt; have := d.isLt; omega⟩)) < Ideal.ofBits FTy.f32 0x7F800000#32) && decide (FloatOps.absf (x5 (ix1 d)) < Ideal.ofBits FTy.f32 0x7F800000#32)) := by
  pointwise [fn]
  exact andB _ _

/-- Where the precondition holds, every key and every component of the query gain is real. -/
theorem reals [Cert.Pre_finite_keys.Facts] (x0 : FVec Ideal S65536x1024 .f32) (x1 : FVec Ideal S65536x1024 .bf16) (x2 : FVec Ideal S1024x1024 .f32) (x3 : FVec Ideal S1024 .f32) (x4 : FVec Ideal S1024x1024 .f32) (x5 : FVec Ideal S256 .f32) (x6 x7 : FVec Ideal S8192x1024 .bf16) (x8 : FVec Ideal S1024x1024 .f32)
    (h : fn x0 x1 x2 x3 x4 x5 x6 x7 x8 = fun _ => 1#1) : (∀ i, IsR (x5 (ix1 i))) ∧ ∀ i j, IsR (x6 (ix2 i j)) := by
  have key : ∀ (i : Fin 8192) (h : Fin 4) (d : Fin 256), IsR (x6 (ix2 i ⟨h.val * 256 + d.val, by have := h.isLt; have := d.isLt; omega⟩)) ∧ IsR (x5 (ix1 d)) := fun i hh d => by
    have e := (fn_at x0 x1 x2 x3 x4 x5 x6 x7 x8 i hh d).symm.trans (congrFun h _)
    rw [ofBits_inf] at e
    have e := (BitVec.ofBool_eq_iff_eq (b := _) (b' := true)).mp e
    simp only [Bool.and_eq_true, decide_eq_true_eq] at e
    exact ⟨real_of_abs _ e.1, real_of_abs _ e.2⟩
  refine ⟨fun d => (key 0 0 d).2, fun i j => ?_⟩
  have := (key i ⟨j.val / 256, by have := j.isLt; omega⟩ (lane j)).1
  rwa [show (⟨j.val / 256 * 256 + (lane j).val, by have := j.isLt; simp [lane]; omega⟩ : Fin 1024) = j from Fin.ext (by simp [lane]; omega)] at this

end Cert.Hand.Attn

end
-- ==== Proof.Attn.Head.lean ====
/- One head of the cross-attention kernel's block, read at an index. -/
module

public import proofs.«01_k».proof.Proof.Gen.AttnIdeal.Skeleton
public import proofs.«01_k».proof.Proof.Gen.AttnIdeal.Frame
public import proofs.«01_k».proof.Proof.Attn.Spec
public import Idealize.ShloMosaic.Lib.Pointwise
public import Idealize.ShloMosaic.Lib.IdealHost

@[expose] public section

set_option maxRecDepth 16384

noncomputable section

namespace Cert.Hand.Attn

open Idealize.ShloMosaic Cert.AttnIdeal Cert.AttnIdeal.Gen

/-- The normalisation of a head's queries, as the kernel writes it. -/
def QN (q : FVec Ideal S512x256 .f32) (g : Vec Ideal S1x256 .f32) : FVec Ideal S512x256 .f32 :=
  mulf (mulf q (broadcastTo S512x256 (rsqrt (addf (divf (shapeCast S512x1 (multiReduction .add [1] S512 (mulf q q) 0x00000000#32 reduces_S512x256_S512 (.inl rfl) rfl) shapeCasts_S512_S512x1) (broadcast S512x1 (Scalar.ofBits .f32 0x43800000#32 : Ideal .f32))) (broadcast S512x1 (Scalar.ofBits .f32 0x358637BD#32 : Ideal .f32)))) broadcasts_S512x1_S512x256)) (broadcastTo S512x256 (shapeCast S1x256 g shapeCasts_S1x256_S1x256) broadcasts_S1x256_S512x256)

/-- The scores of a head: scaled queries against the keys. -/
def SC (q : FVec Ideal S512x256 .f32) (k : Vec Ideal S256x256 .bf16) : FVec Ideal S512x256 .f32 :=
  matmul (φ₁ := .bf16) (φ₂ := .bf16) dot_S512x256_S256x256_S512x256_1_1_0_0_n_n none (truncf .bf16 (mulf q (broadcast S512x256 (Scalar.ofBits .f32 0x3D800000#32 : Ideal .f32))) bitsLt_bf16_f32) k (constant S512x256 .f32 0x00000000#32)

/-- The exponentials of the scores less their row's maximum. -/
def EX (s : FVec Ideal S512x256 .f32) : FVec Ideal S512x256 .f32 :=
  exp (subf s (broadcastTo S512x256 (shapeCast S512x1 (multiReduction .maximumf [1] S512 s 0xFF800000#32 reduces_S512x256_S512 (.inl rfl) rfl) shapeCasts_S512_S512x1) broadcasts_S512x1_S512x256))

/-- The weighted values of a head from the exponentials. -/
def PV (e : FVec Ideal S512x256 .f32) (v : Vec Ideal S256x256 .bf16) : FVec Ideal S512x256 .bf16 :=
  truncf .bf16 (matmul (φ₁ := .bf16) (φ₂ := .bf16) dot_S512x256_S256x256_S512x256_1_0_0_1_n_n none (truncf .bf16 (mulf e (broadcastTo S512x256 (divf (broadcast S512x1 (Scalar.ofBits .f32 0x3F800000#32 : Ideal .f32)) (shapeCast S512x1 (multiReduction .add [1] S512 e 0x00000000#32 reduces_S512x256_S512 (.inl rfl) rfl) shapeCasts_S512_S512x1)) broadcasts_S512x1_S512x256)) bitsLt_bf16_f32) v (constant S512x256 .f32 0x00000000#32)) bitsLt_bf16_f32

/-- A head of the attention: its own queries and the gain, the keys and the values. -/
def HEAD (q : FVec Ideal S512x256 .f32) (g : Vec Ideal S1x256 .f32) (k v : Vec Ideal S256x256 .bf16) : FVec Ideal S512x256 .bf16 :=
  PV (EX (SC (QN q g) k)) v

/-- What the kernel computes for head 0 is a head of its columns of the projection. -/
theorem head0 (v0 v1 v2 v6 v21 g k v) : k0_pay5 (F := Ideal) (k0_pay4 v0 v1 v2 v6 v21 g) k v = HEAD (extractStridedSlice S512x256 ![0, 0] (k0_pay3 v0 v1 v2 v6 v21) slices_S512x1024_o0_0_S512x256) g k v := rfl
/-- What the kernel computes for head 1 is a head of its columns of the projection. -/
theorem head1 (y g k v) : k0_pay7 (F := Ideal) (k0_pay6 y g k) v = HEAD (extractStridedSlice S512x256 ![0, 256] y slices_S512x1024_o0_256_S512x256) g k v := rfl
/-- What the kernel computes for head 2 is a head of its columns of the projection. -/
theorem head2 (y g k v) : k0_pay11 (F := Ideal) (k0_pay8 y g k) (k0_pay9 y g k) k0_pay10 v = HEAD (extractStridedSlice S512x256 ![0, 512] y slices_S512x1024_o0_512_S512x256) g k v := rfl
/-- What the kernel computes for head 3 is a head of its columns of the projection. -/
theorem head3 (y g k v) : k0_pay12 (F := Ideal) y g k v = HEAD (extractStridedSlice S512x256 ![0, 768] y slices_S512x1024_o0_768_S512x256) g k v := rfl

/-- An entry of a normalised query. -/
theorem QN_at (q : FVec Ideal S512x256 .f32) (g : Vec Ideal S1x256 .f32) (r : Fin 512) (d : Fin 256) :
    QN q g (ix2 r d) = rms l256 leps (fun e => q (ix2 r e)) (fun e => g (ix2 0 e)) d := by
  pointwise [QN]
  rfl
/-- A score: a query against a key, scaled. -/
theorem SC_at (q : FVec Ideal S512x256 .f32) (k : Vec Ideal S256x256 .bf16) (r : Fin 512) (d : Fin 256) :
    SC q k (ix2 r d) = ∑ x, q (ix2 r x) * l16 * k (ix2 d x) := by
  pointwise [SC]
/-- An entry of the exponentials of a row of scores. -/
theorem EX_at (s : FVec Ideal S512x256 .f32) (r : Fin 512) (d : Fin 256) : EX s (ix2 r d) = ex (fun j => s (ix2 r j)) d := by
  pointwise [EX]
  rw [ofBits_neg_inf]; rfl
/-- An entry of the weighted values. -/
theorem PV_at (s : FVec Ideal S512x256 .f32) (v : Vec Ideal S256x256 .bf16) (r : Fin 512) (d : Fin 256) :
    PV s v (ix2 r d) = ∑ x, s (ix2 r x) * Ideal.div 1 (∑ x, s (ix2 r x)) * v (ix2 x d) := by
  pointwise [PV]

/-- A head of the kernel at an index is the head of the row. -/
theorem HEAD_at (q : FVec Ideal S512x256 .f32) (g : Vec Ideal S1x256 .f32) (k v : Vec Ideal S256x256 .bf16) (r : Fin 512) (d : Fin 256) :
    HEAD q g k v (ix2 r d) = headK l256 leps l16 (fun e => q (ix2 r e)) (fun e => g (ix2 0 e)) (fun j e => k (ix2 j e)) (fun j e => v (ix2 j e)) d := by
  unfold HEAD headK
  rw [PV_at]
  simp only [EX_at, SC_at, QN_at]

/-- The four heads side by side, from the projected queries and the whole blocks of keys and values. -/
def ATT (y : FVec Ideal S512x1024 .f32) (g : Vec Ideal S1x256 .f32) (k v : Vec Ideal S256x1024 .bf16) : FVec Ideal S512x1024 .bf16 :=
  concatenate S512x1024 1
    [⟨S512x256, HEAD (extractStridedSlice S512x256 ![0, 0] y slices_S512x1024_o0_0_S512x256) g (View.ld k r0_4) (View.ld v r0_4)⟩,
     ⟨S512x256, HEAD (extractStridedSlice S512x256 ![0, 256] y slices_S512x1024_o0_256_S512x256) g (View.ld k r0_5) (View.ld v r0_5)⟩,
     ⟨S512x256, HEAD (extractStridedSlice S512x256 ![0, 512] y slices_S512x1024_o0_512_S512x256) g (View.ld k r0_6) (View.ld v r0_6)⟩,
     ⟨S512x256, HEAD (extractStridedSlice S512x256 ![0, 768] y slices_S512x1024_o0_768_S512x256) g (View.ld k r0_7) (View.ld v r0_7)⟩]
    concatenates_S512x256_S512x256_S512x256_S512x256_S512x1024_d1

/-- An entry of the attention's block. -/
theorem ATT_at (y : FVec Ideal S512x1024 .f32) (g : Vec Ideal S1x256 .f32) (k v : Vec Ideal S256x1024 .bf16) (r : Fin 512) (c : Fin 1024) :
    ATT y g k v (ix2 r c) = headK l256 leps l16 (fun e => y (ix2 r (col c e))) (fun e => g (ix2 0 e))
      (fun j e => k (ix2 j (col c e))) (fun j e => v (ix2 j (col c e))) (lane c) := by
  obtain ⟨h, d, hc⟩ : ∃ (h : Fin 4) (d : Fin 256), c = ⟨h.val * 256 + d.val, by have := h.isLt; have := d.isLt; omega⟩ := ⟨⟨c.val / 256, by have := c.isLt; omega⟩, lane c, Fin.ext (by simp [lane] <;> omega)⟩
  fin_cases h
  all_goals
    simp at hc
    subst hc
  all_goals
    pointwise [ATT]
    repeat rw [dif_neg (by omega)]
    try rw [dif_pos (by have := d.isLt; omega)]
  · have e : lane ⟨d.val, by have := d.isLt; omega⟩ = d := Fin.ext (by simp [lane])
    rw [HEAD_at, e]
    have f : ∀ e, col ⟨d.val, by have := d.isLt; omega⟩ e = ⟨e.val, by have := e.isLt; omega⟩ := fun e => Fin.ext (by simp [col] <;> omega)
    simp only [f]
    congr 1
    · funext e; pointwise
    · funext j e; pointwise
    · funext j e; pointwise
  · have e : lane ⟨256 + d.val, by have := d.isLt; omega⟩ = d := Fin.ext (by simp [lane])
    rw [HEAD_at, e]
    have f : ∀ e, col ⟨256 + d.val, by have := d.isLt; omega⟩ e = ⟨256 + e.val, by have := e.isLt; omega⟩ := fun e => Fin.ext (by simp [col] <;> omega)
    simp only [f]
    congr 1
    · funext e; pointwise
    · funext j e; pointwise
    · funext j e; pointwise
  · have e : lane ⟨512 + d.val, by have := d.isLt; omega⟩ = d := Fin.ext (by simp [lane] <;> omega)
    have e2 : (⟨512 + d.val - 256 - 256, by have := d.isLt; omega⟩ : Fin 256) = d := Fin.ext (by simp <;> omega)
    rw [e2]
    rw [HEAD_at, e]
    have f : ∀ e, col ⟨512 + d.val, by have := d.isLt; omega⟩ e = ⟨512 + e.val, by have := e.isLt; omega⟩ := fun e => Fin.ext (by simp [col] <;> omega)
    simp only [f]
    congr 1
    · funext e; pointwise
    · funext j e; pointwise
    · funext j e; pointwise
  · have e : lane ⟨768 + d.val, by have := d.isLt; omega⟩ = d := Fin.ext (by simp [lane] <;> omega)
    have e2 : (⟨768 + d.val - 256 - 256 - 256, by have := d.isLt; omega⟩ : Fin 256) = d := Fin.ext (by simp <;> omega)
    rw [e2]
    rw [HEAD_at, e]
    have f : ∀ e, col ⟨768 + d.val, by have := d.isLt; omega⟩ e = ⟨768 + e.val, by have := e.isLt; omega⟩ := fun e => Fin.ext (by simp [col] <;> omega)
    simp only [f]
    congr 1
    · funext e; pointwise
    · funext j e; pointwise
    · funext j e; pointwise

/-- An entry of the residual with the mixer's projection. -/
theorem RES_at (x0 : Vec Ideal S512x1024 .f32) (x1 : Vec Ideal S512x1024 .bf16) (x2 : Vec Ideal S1024x1024 .bf16) (r : Fin 512) (c : Fin 1024) :
    k0_pay2 x0 x1 x2 (ix2 r c) = x0 (ix2 r c) + ∑ x, x1 (ix2 r x) * x2 (ix2 x c) := by
  pointwise [k0_pay2]

/-- An entry of the query projection. -/
theorem PROJ_at (x0 : Vec Ideal S512x1024 .f32) (x1 : Vec Ideal S512x1024 .bf16) (x2 : Vec Ideal S1024x1024 .bf16) (x3 : Vec Ideal S1x1024 .f32) (x4 : Vec Ideal S1024x1024 .bf16)  (r : Fin 512) (c : Fin 1024) :
    k0_pay3 x0 x1 x2 x3 x4 (ix2 r c) = ∑ x, rms l1024 leps (fun e => k0_pay2 x0 x1 x2 (ix2 r e)) (fun e => x3 (ix2 0 e)) x * x4 (ix2 x c) := by
  pointwise [k0_pay3]
  rfl

/-- An entry of the output projection added to the residual. -/
theorem OUT_at (y : FVec Ideal S512x1024 .f32) (a : FVec Ideal S512x1024 .bf16) (x8 : Vec Ideal S1024x1024 .bf16) (r : Fin 512) (c : Fin 1024) :
    addf y (matmul (φ₁ := .bf16) (φ₂ := .bf16) dot_S512x1024_S1024x1024_S512x1024_1_0_0_1_n_n none a (shapeCast S1024x1024 x8 shapeCasts_S1024x1024_S1024x1024) (constant S512x1024 .f32 0x00000000#32)) (ix2 r c) =
      y (ix2 r c) + ∑ x, a (ix2 r x) * x8 (ix2 x c) := by
  pointwise

end Cert.Hand.Attn

end
-- ==== Proof.Attn.Ref.lean ====
/- The cross-attention reference's arrays, read at an index. -/
module

public import proofs.«01_k».proof.Proof.Gen.AttnRefIdeal.Read
public import proofs.«01_k».proof.Proof.Attn.Spec

@[expose] public section

set_option maxRecDepth 16384

noncomputable section

namespace Cert.Hand.Attn.Ref

open Idealize.ShloMosaic Cert.AttnRefIdeal Cert.AttnRefIdeal.Read

variable (x0 : (⟨S65536x1024, .f32⟩ : BufTy).Contents (Elt Ideal)) (x1 : (⟨S65536x1024, .bf16⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S256, .f32⟩ : BufTy).Contents (Elt Ideal)) (x6 x7 : (⟨S8192x1024, .bf16⟩ : BufTy).Contents (Elt Ideal)) (x8 : (⟨S1024x1024, .f32⟩ : BufTy).Contents (Elt Ideal))

/-- An entry of the reference's stage 2. -/
theorem v2_at (t : Fin 65536) (c : Fin 1024) : val_main_v2 (F := Ideal) x0 x1 x2 (ix2 t c) = x0 (ix2 t c) + ∑ x, x1 (ix2 t x) * x2 (ix2 x c) := by
  pointwise [val_main_v2, val_main_v1, val_main_v0]

/-- An entry of the reference's stage 15. -/
theorem v15_at (t : Fin 65536) (c : Fin 1024) : val_main_v15 (F := Ideal) x0 x1 x2 x3 (ix2 t c) = rms l1024 leps (fun e => val_main_v2 (F := Ideal) x0 x1 x2 (ix2 t e)) (fun e => x3 (ix1 e)) c := by
  pointwise [val_main_v15, val_main_v14, val_main_v13, val_main_v12, val_main_v11, val_main_v10, val_main_v9, val_main_v8, val_main_v7, val_main_v6, val_main_v5, val_main_v4, val_main_v3, val_main_cst, val_main_cst_0, val_main_cst_1]
  rfl

/-- An entry of the reference's stage 16. -/
theorem v16_at (t : Fin 65536) (c : Fin 1024) : val_main_v16 (F := Ideal) x0 x1 x2 x3 x4 (ix2 t c) = ∑ x, val_main_v15 (F := Ideal) x0 x1 x2 x3 (ix2 t x) * x4 (ix2 x c) := by
  pointwise [val_main_v16]

/-- An entry of the reference's stage 30. -/
theorem v30_at (b : Fin 32) (s : Fin 2048) (h : Fin 4) (d : Fin 256) (t : Fin 65536) (c : Fin 1024) (ht : b.val * 2048 + s.val = t.val) (hc : h.val = c.val / 256) :
    val_main_v30 (F := Ideal) x0 x1 x2 x3 x4 x5 (ix4 b s h d) = rms l256 leps (fun e => val_main_v16 (F := Ideal) x0 x1 x2 x3 x4 (ix2 t (col c e))) (fun e => x5 (ix1 e)) d := by
  have e1 : ∀ (p : b.val * 2048 + s.val < 65536), (⟨b.val * 2048 + s.val, p⟩ : Fin 65536) = t := fun _ => Fin.ext ht
  have e2 : ∀ (e : Fin 256) (p : h.val * 256 + e.val < 1024), (⟨h.val * 256 + e.val, p⟩ : Fin 1024) = col c e := fun e _ => Fin.ext (by simp [col, hc])
  pointwise [val_main_v30, val_main_v29, val_main_v28, val_main_v27, val_main_v26, val_main_v25, val_main_v24, val_main_v23, val_main_v22, val_main_v21, val_main_v20, val_main_v19, val_main_v18, val_main_v17, val_main_cst_2, val_main_cst_3, val_main_cst_4]
  simp only [e1, e2]
  rfl

/-- An entry of the reference's stage 37. -/
theorem v37_at (b : Fin 32) (h : Fin 4) (s : Fin 2048) (j : Fin 256) (t : Fin 65536) (c : Fin 1024) (ht : b.val * 2048 + s.val = t.val) (hc : h.val = c.val / 256) :
    val_main_v37 (F := Ideal) x0 x1 x2 x3 x4 x5 x6 (ix4 b h s j) =
      (∑ x, rms l256 leps (fun e => val_main_v16 (F := Ideal) x0 x1 x2 x3 x4 (ix2 t (col c e))) (fun e => x5 (ix1 e)) x * x6 (ix2 ⟨b.val * 256 + j.val, by have := b.isLt; have := j.isLt; omega⟩ (col c x))) * l16 := by
  have e2 : ∀ (e : Fin 256) (p : h.val * 256 + e.val < 1024), (⟨h.val * 256 + e.val, p⟩ : Fin 1024) = col c e := fun e _ => Fin.ext (by simp [col, hc])
  pointwise [val_main_v37, val_main_v36, val_main_v35, val_main_v32, val_main_v31, val_main_cst_5]
  simp only [e2, v30_at x0 x1 x2 x3 x4 x5 b s h _ t c ht hc]

/-- The maximum of the scores over the keys. -/
theorem max_at (y : FVec Ideal S32x4x2048x256 .f32) (b : Fin 32) (h : Fin 4) (s : Fin 2048) (hr hu) :
    Host.reduce FloatOps.maximumf y (val_main_cst_6 (F := Ideal)) (hr : S32x4x2048x256.ReducesTo [3] S32x4x2048) hu (ix3 b h s) = top (fun j => y (ix4 b h s j)) := by
  pointwise [val_main_cst_6]
  rw [ofBits_neg_inf]; rfl

/-- An entry of the reference's stage 38. -/
theorem v38_at (b : Fin 32) (h : Fin 4) (s : Fin 2048) :
    val_main_v38 (F := Ideal) x0 x1 x2 x3 x4 x5 x6 (ix3 b h s) = top (fun j => val_main_v37 (F := Ideal) x0 x1 x2 x3 x4 x5 x6 (ix4 b h s j)) := by
  unfold val_main_v38
  exact max_at _ b h s _ _

/-- An entry of the reference's stage 44. -/
theorem v44_at (b : Fin 32) (h : Fin 4) (s : Fin 2048) (j : Fin 256) :
    val_main_v44 (F := Ideal) x0 x1 x2 x3 x4 x5 x6 (ix4 b h s j) = ex (fun j => val_main_v37 (F := Ideal) x0 x1 x2 x3 x4 x5 x6 (ix4 b h s j)) j := by
  rw [val_main_v44_apply, val_main_v43_apply, val_main_v42_apply, val_main_v41_apply, val_main_v40_apply, val_main_v39_apply]
  have e : idx_main_v41 (idx_main_v42 (ix4 b h s j)) = ix3 b h s := by
    funext a; fin_cases a <;> rfl
  rw [e, v38_at]
  unfold val_main_cst_7 ex
  show Ideal.exp (_ - max (Ideal.ofBits .f32 0xFF800000#32) _) = _
  rw [ofBits_neg_inf, max_eq_right bot_le]

/-- An entry of the reference's stage 48. -/
theorem v48_at (b : Fin 32) (h : Fin 4) (s : Fin 2048) (j : Fin 256) :
    val_main_v48 (F := Ideal) x0 x1 x2 x3 x4 x5 x6 (ix4 b h s j) = Ideal.div (ex (fun j => val_main_v37 (F := Ideal) x0 x1 x2 x3 x4 x5 x6 (ix4 b h s j)) j) (∑ i, ex (fun j => val_main_v37 (F := Ideal) x0 x1 x2 x3 x4 x5 x6 (ix4 b h s j)) i) := by
  simp only [← v44_at]
  unfold val_main_v48 val_main_v47 val_main_v46 val_main_v45
  generalize val_main_v44 (F := Ideal) x0 x1 x2 x3 x4 x5 x6 = y
  pointwise [val_main_cst_8]

/-- An entry of the reference's stage 51. -/
theorem v51_at (t : Fin 65536) (c : Fin 1024) : val_main_v51 (F := Ideal) x0 x1 x2 x3 x4 x5 x6 x7 (ix2 t c) =
    headR l256 leps l16 (fun e => val_main_v16 (F := Ideal) x0 x1 x2 x3 x4 (ix2 t (col c e))) (fun e => x5 (ix1 e))
      (fun j e => x6 (ix2 ⟨t.val / 2048 * 256 + j.val, by have := t.isLt; have := j.isLt; omega⟩ (col c e)))
      (fun j e => x7 (ix2 ⟨t.val / 2048 * 256 + j.val, by have := t.isLt; have := j.isLt; omega⟩ (col c e))) (lane c) := by
  have e3 : col c (lane c) = c := Fin.ext (by simp [col, lane]; omega)
  have hv : ∀ (p q r) (j : Fin 256), val_main_v37 (F := Ideal) x0 x1 x2 x3 x4 x5 x6 (ix4 (⟨t.val / 2048, p⟩ : Fin 32) (⟨c.val / 256, q⟩ : Fin 4) (⟨t.val % 2048, r⟩ : Fin 2048) j) = _ :=
    fun p q r j => v37_at x0 x1 x2 x3 x4 x5 x6 ⟨t.val / 2048, p⟩ ⟨c.val / 256, q⟩ ⟨t.val % 2048, r⟩ j t c (Nat.div_add_mod' t.val 2048) rfl
  pointwise [val_main_v51, val_main_v50, val_main_v49, val_main_v34, val_main_v33]
  unfold headR
  simp only [v48_at, hv, e3]

/-- The reference's result at a token and a column. -/
theorem v53_at (t : Fin 65536) (c : Fin 1024) : val_main_v53 (F := Ideal) x0 x1 x2 x3 x4 x5 x6 x7 x8 (ix2 t c) =
    val_main_v2 (F := Ideal) x0 x1 x2 (ix2 t c) + ∑ x, val_main_v51 (F := Ideal) x0 x1 x2 x3 x4 x5 x6 x7 (ix2 t x) * x8 (ix2 x c) := by
  pointwise [val_main_v53, val_main_v52]

end Cert.Hand.Attn.Ref

end
-- ==== Proof.Attn.Final.lean ====
/- The array the cross-attention kernel leaves is the reference's. -/
module

public import proofs.«01_k».proof.Proof.Gen.AttnIdeal.Value
public import proofs.«01_k».proof.Proof.Attn.Head
public import proofs.«01_k».proof.Proof.Attn.Ref
public import Idealize.ShloMosaic.Lib.Pipeline.ValueKit
public import Idealize.ShloMosaic.Lib.Claim

@[expose] public section

set_option maxRecDepth 16384

noncomputable section

namespace Cert.Hand.Attn

open Idealize.ShloMosaic Idealize.ShloMosaic.TcCoe Idealize.SL.Sem Cert.AttnIdeal Cert.AttnIdeal.Gen

/-- A block of the kernel's result at an index, from the blocks of its arguments. -/
theorem block_at (x0 : Vec Ideal S512x1024 .f32) (x1 : Vec Ideal S512x1024 .bf16) (x2 : Vec Ideal S1024x1024 .bf16) (x3 : Vec Ideal S1x1024 .f32) (x4 : Vec Ideal S1024x1024 .bf16) (x5 : Vec Ideal S1x256 .f32) (x6 : Vec Ideal S256x1024 .bf16) (x7 : Vec Ideal S256x1024 .bf16) (x8 : Vec Ideal S1024x1024 .bf16) (r : Fin 512) (c : Fin 1024) :
    out0_9 x0 x1 x2 x3 x4 x5 x6 x7 x8 (ix2 r c) =
      k0_pay2 x0 x1 x2 (ix2 r c) + ∑ x, headK l256 leps l16 (fun e => k0_pay3 x0 x1 x2 x3 x4 (ix2 r (col x e))) (fun e => x5 (ix2 0 e))
        (fun j e => x6 (ix2 j (col x e))) (fun j e => x7 (ix2 j (col x e))) (lane x) * x8 (ix2 x c) := by
  unfold_out out0_9
  frame_out
  rw [head0, head1, head2, head3]
  simp only [← ATT_at]
  exact OUT_at _ _ x8 r c

/-- Which block each window reads or writes at a grid point. -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![t.val / 4, 0] ∧ win0_7.index t = ![t.val / 4, 0] ∧ win0_8.index t = ![0, 0] ∧ win0_9.index t = ![t.val, 0] ∧ t.val < 128 :=
  (by decide +kernel : ∀ t : Fin grid0.N, _)

variable (m : (ℓ : Loc nD τ sig) → Buf (Elt Ideal) ℓ) (c : Dev nD)

/-- The token row `r` of grid point `t`. -/
def tok (t : Fin cfg0.N) (r : Fin 512) : Fin 65536 := ⟨t.val * 512 + r.val, by have := (idx t).2.2.2.2.2.2.2.2.2.2; have := r.isLt; omega⟩
/-- The memory row `j` of grid point `t`. -/
def mrow (t : Fin cfg0.N) (j : Fin 256) : Fin 8192 := ⟨t.val / 4 * 256 + j.val, by have := (idx t).2.2.2.2.2.2.2.2.2.2; have := j.isLt; omega⟩

/-- An entry of window 0's block, read in its argument. -/
theorem b0 (t : Fin cfg0.N) (r : Fin 512) (e : Fin 1024) : iblk m c 0 t (ix2 r e) = m ((c : Thread nD τ).loc main_arg0) (ix2 (tok t r) e) := by
  blk_ext [iblk, V, idx t, tok]
/-- An entry of window 1's block, read in its argument. -/
theorem b1 (t : Fin cfg0.N) (r : Fin 512) (e : Fin 1024) : iblk m c 1 t (ix2 r e) = m ((c : Thread nD τ).loc main_arg1) (ix2 (tok t r) e) := by
  blk_ext [iblk, V, idx t, tok]
/-- An entry of window 6's block, read in its argument. -/
theorem b6 (t : Fin cfg0.N) (r : Fin 256) (e : Fin 1024) : iblk m c 6 t (ix2 r e) = m ((c : Thread nD τ).loc main_arg6) (ix2 (mrow t r) e) := by
  blk_ext [iblk, V, idx t, mrow]
/-- An entry of window 7's block, read in its argument. -/
theorem b7 (t : Fin cfg0.N) (r : Fin 256) (e : Fin 1024) : iblk m c 7 t (ix2 r e) = m ((c : Thread nD τ).loc main_arg7) (ix2 (mrow t r) e) := by
  blk_ext [iblk, V, idx t, mrow]
/-- An entry of window 2's block, read in its argument. -/
theorem b2 (t : Fin cfg0.N) (r e : Fin 1024) : iblk m c 2 t (ix2 r e) = m ((c : Thread nD τ).loc main_arg2) (ix2 r e) := by
  blk_point [iblk, V, idx t]
/-- An entry of window 4's block, read in its argument. -/
theorem b4 (t : Fin cfg0.N) (r e : Fin 1024) : iblk m c 4 t (ix2 r e) = m ((c : Thread nD τ).loc main_arg4) (ix2 r e) := by
  blk_point [iblk, V, idx t]
/-- An entry of window 8's block, read in its argument. -/
theorem b8 (t : Fin cfg0.N) (r e : Fin 1024) : iblk m c 8 t (ix2 r e) = m ((c : Thread nD τ).loc main_arg8) (ix2 r e) := by
  blk_point [iblk, V, idx t]
/-- An entry of window 3's block, read in its argument. -/
theorem b3 (t : Fin cfg0.N) (e : Fin 1024) : iblk m c 3 t (ix2 0 e) = m ((c : Thread nD τ).loc main_arg3) (ix1 e) := by
  blk_point [iblk, V, idx t]
/-- An entry of window 5's block, read in its argument. -/
theorem b5 (t : Fin cfg0.N) (e : Fin 256) : iblk m c 5 t (ix2 0 e) = m ((c : Thread nD τ).loc main_arg5) (ix1 e) := by
  blk_point [iblk, V, idx t]

/-- The reference's array over the kernel's arguments. -/
abbrev REF : FVec Ideal S65536x1024 .f32 :=
  Cert.AttnRefIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- At a grid point the kernel's block is the reference's rows. -/
theorem point (hg : ∀ i, IsR (m ((c : Thread nD τ).loc main_arg5) (ix1 i))) (hk : ∀ i j, IsR (m ((c : Thread nD τ).loc main_arg6) (ix2 i j)))
    (t : Fin cfg0.N) (r : Fin 512) (e : Fin 1024) :
    out0_9 (iblk m c 0 t) (iblk m c 1 t) (iblk m c 2 t) (iblk m c 3 t) (iblk m c 4 t) (iblk m c 5 t) (iblk m c 6 t) (iblk m c 7 t) (iblk m c 8 t) (ix2 r e) = REF m c (ix2 (tok t r) e) := by
  have hres : ∀ e, k0_pay2 (F := Ideal) (iblk m c 0 t) (iblk m c 1 t) (iblk m c 2 t) (ix2 r e) = Cert.AttnRefIdeal.Read.val_main_v2 (F := Ideal) (m ((c : Thread nD τ).loc main_arg0)) (m ((c : Thread nD τ).loc main_arg1)) (m ((c : Thread nD τ).loc main_arg2)) (ix2 (tok t r) e) := fun e => by
    rw [RES_at, Ref.v2_at]; simp only [b0, b1, b2]
  have hproj : ∀ e, k0_pay3 (F := Ideal) (iblk m c 0 t) (iblk m c 1 t) (iblk m c 2 t) (iblk m c 3 t) (iblk m c 4 t) (ix2 r e) = Cert.AttnRefIdeal.Read.val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (tok t r) e) := fun e => by
    rw [PROJ_at, Ref.v16_at]; simp only [Ref.v15_at, hres, b3, b4]
  have hb : ∀ (j : Fin 256) p, (⟨(tok t r).val / 2048 * 256 + j.val, p⟩ : Fin 8192) = mrow t j := fun j _ => Fin.ext (by
    have := r.isLt
    show (t.val * 512 + r.val) / 2048 * 256 + j.val = t.val / 4 * 256 + j.val
    omega)
  rw [block_at, REF, Ref.v53_at, hres]
  simp only [Ref.v51_at, hproj, b5, b6, b7, b8, hb]
  congr 1
  refine Finset.sum_congr rfl fun x _ => ?_
  rw [head_eq' _ _ _ _ _ hg fun j i => hk _ _]

/-- The array the kernel leaves is the reference's. -/
theorem final (hg : ∀ i, IsR (m ((c : Thread nD τ).loc main_arg5) (ix1 i))) (hk : ∀ i j, IsR (m ((c : Thread nD τ).loc main_arg6) (ix2 i j))) :
    (dats m 0 c).arrAt 9 (cfgs 0).N = REF m c := by
  refine (dats m 0 c).arrAt_eq_of_covers 9 _ (by decide +kernel) fun t _ y => ?_
  blk_simp
  rw [after0_9]
  have hy : y = ix2 (y 0 : Fin 512) (y 1 : Fin 1024) := by idx_vars y; rfl
  refine (congrArg _ hy).trans ((point m c hg hk t (y 0) (y 1)).trans ?_)
  blk_ext [idx t, tok]

end Cert.Hand.Attn

end
-- ==== Proof.Attn.Claim.lean ====
/- The conjuncts of the claim about the cross-attention programs. -/
module

public import proofs.«01_k».proof.Defs
public import proofs.«01_k».proof.Proof.Gen.Attn
public import proofs.«01_k».proof.Proof.Gen.Attn.Frame
public import proofs.«01_k».proof.Proof.Attn.Pre
public import proofs.«01_k».proof.Proof.Attn.Final

@[expose] public section

set_option maxRecDepth 16384

noncomputable section

namespace Cert.Hand.Attn.Claim

open Idealize.ShloMosaic Idealize.SL.Sem

/-- The cross-attention of the odd layers runs to its end, its arguments unchanged and its counters zero. -/
theorem frameP : Cert.quiescent_Attn (hAttn := Cert.Attn.Gen.facts)  :=
  fun m g _ => Cert.Attn.Gen.frame m g

/-- So does the cross-attention of the odd layers over the extended reals. -/
theorem framePI : Cert.quiescent_AttnIdeal (hAttnIdeal := Cert.AttnIdeal.Gen.facts)  :=
  fun m g _ => Cert.AttnIdeal.Gen.frame m g

/-- The same, where the precondition holds. -/
theorem framePI' : Cert.quiescent_AttnIdeal_pre_finite_keys (hAttnIdeal := Cert.AttnIdeal.Gen.facts) (hPre_finite_keys := preFacts)  :=
  fun m g _ => Cert.AttnIdeal.Gen.frame m g

set_option maxHeartbeats 1600000 in
/-- The reference of the cross-attention of the odd layers runs to its end, its arguments unchanged. -/
theorem frameRI : Cert.quiescent_AttnRefIdeal (hAttnRefIdeal := Cert.AttnRefIdeal.Gen.facts) := by
  intro m g _
  hlo_run
  · exact fun _ => by simp only [and_self]
  · exact sem_eq_zero_of_no_sems (sig := Cert.AttnRefIdeal.sig) rfl _

set_option maxHeartbeats 1600000 in
/-- The same for the reference, where the precondition holds. -/
theorem frameRI' : Cert.quiescent_AttnRefIdeal_pre_finite_keys (hAttnRefIdeal := Cert.AttnRefIdeal.Gen.facts) (hPre_finite_keys := preFacts) := by
  intro m g _
  hlo_run
  · exact fun _ => by simp only [and_self]
  · exact sem_eq_zero_of_no_sems (sig := Cert.AttnRefIdeal.sig) rfl _

/-- From equal arguments the kernel and the reference end with equal results. -/
theorem algebraic : Cert.algebraic_AttnIdeal_AttnRefIdeal_pre_finite_keys (hAttnIdeal := Cert.AttnIdeal.Gen.facts) (hAttnRefIdeal := Cert.AttnRefIdeal.Gen.facts) (hPre_finite_keys := preFacts) := by
  pair_intro
  · run_from Cert.AttnIdeal.Gen.run_main m g
  · run_from Cert.AttnRefIdeal.Value.run m' g'
    haveI := preFacts
    have h := reals _ _ _ _ _ _ _ _ _ (hpre c)
    rw [Cert.AttnRefIdeal.Read.val_main_v53_eq]
    simp only [hagree c]
    exact (final m c h.1 h.2).symm

end Cert.Hand.Attn.Claim

end
-- ==== Proof.Ffn.Head.lean ====
/- The gated feed-forward kernel's block: its chunks of columns written by a few vector functions. -/
module

public import proofs.«01_k».proof.Proof.Gen.FfnIdeal.Frame
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.IdealHost

@[expose] public section

set_option maxRecDepth 16384

noncomputable section

namespace Cert.Hand.Ffn

open Idealize.ShloMosaic Cert.FfnIdeal Cert.FfnIdeal.Gen

/-- The row of a token within its group of eight. -/
def SUB : IVec S64x8x256 32 := iota Kind.tc S64x8x256 32 [1] iota_S64x8x256_d1_w32

/-- A chunk of the up projection. -/
def UP (hid : FVec Ideal S512x1024 .bf16) (w : Vec Ideal S1024x256 .bf16) : FVec Ideal S512x256 .f32 :=
  matmul (φ₁ := .bf16) (φ₂ := .bf16) dot_S512x1024_S1024x256_S512x256_1_0_0_1_n_n none hid (shapeCast S1024x256 w shapeCasts_S1024x256_S1024x256) (constant S512x256 .f32 0x00000000#32)

/-- The rows of a chunk after the eight rows kept from the block before, in groups of eight. -/
def CAT (u : FVec Ideal S512x256 .f32) (h : Vec Ideal S1x8x256 .f32) : FVec Ideal S65x8x256 .f32 :=
  shapeCast S65x8x256 (concatenate S520x256 0 [⟨S8x256, shapeCast S8x256 h shapeCasts_S1x8x256_S8x256⟩, ⟨S512x256, u⟩] concatenates_S8x256_S512x256_S520x256_d0) shapeCasts_S520x256_S65x8x256

/-- A chunk moved down by `n` rows, the rows before it coming from the block before. -/
def SH (n : BitVec 32) (u : FVec Ideal S512x256 .f32) (h : Vec Ideal S1x8x256 .f32) : FVec Ideal S512x256 .f32 :=
  shapeCast S512x256 (select (cmpi .slt SUB (broadcast S64x8x256 n))
    (extractStridedSlice S64x8x256 ![0, 0, 0] (dynamicRotate 1 n none (CAT u h) rotates_S65x8x256_d1) slices_S65x8x256_o0_0_0_S64x8x256)
    (extractStridedSlice S64x8x256 ![1, 0, 0] (dynamicRotate 1 n none (CAT u h) rotates_S65x8x256_d1) slices_S65x8x256_o1_0_0_S64x8x256)) shapeCasts_S64x8x256_S512x256

/-- The convolution of a chunk over three rows, with its bias. -/
def CV (u : FVec Ideal S512x256 .f32) (h : Vec Ideal S1x8x256 .f32) (c2 cb c1 c0 : Vec Ideal S1x256 .f32) : FVec Ideal S512x256 .f32 :=
  addf (addf (addf (mulf (broadcastTo S512x256 c2 broadcasts_S1x256_S512x256) u) (broadcastTo S512x256 (shapeCast S1x256 cb shapeCasts_S1x256_S1x256) broadcasts_S1x256_S512x256)) (mulf (broadcastTo S512x256 c1 broadcasts_S1x256_S512x256) (SH 1#32 u h))) (mulf (broadcastTo S512x256 c0 broadcasts_S1x256_S512x256) (SH 2#32 u h))

/-- The gated activation of a chunk. -/
def ACT (g u : FVec Ideal S512x256 .f32) : FVec Ideal S512x256 .bf16 :=
  truncf .bf16 (mulf (mulf g (divf (broadcast S512x256 (Scalar.ofBits .f32 0x3F800000#32 : Ideal .f32)) (addf (broadcast S512x256 (Scalar.ofBits .f32 0x3F800000#32 : Ideal .f32)) (exp (subf (broadcast S512x256 (Scalar.ofBits .f32 0x00000000#32 : Ideal .f32)) g))))) u) bitsLt_bf16_f32

/-- The chunk of the convolution at column `o`, with the kept rows at slot `s`. -/
def CC (hid : FVec Ideal S512x1024 .bf16) (x2 : Vec Ideal S1024x5632 .bf16) (x3 : Vec Ideal S3x5632 .f32) (x4 : Vec Ideal S1x5632 .f32) (xs : Vec Ideal S22x8x256 .f32) (o s : ℕ)
    (hw : ∀ a, (![0, o] : Fin 2 → ℕ) a + (![1024, 256] : Fin 2 → ℕ) a ≤ S1024x5632.size a) (hs : ∀ a, (![s, 0, 0] : Fin 3 → ℕ) a + (![1, 8, 256] : Fin 3 → ℕ) a ≤ S22x8x256.size a)
    (h2 : ∀ a, (![2, o] : Fin 2 → ℕ) a + (![1, 256] : Fin 2 → ℕ) a ≤ S3x5632.size a) (hb : ∀ a, (![0, o] : Fin 2 → ℕ) a + (![1, 256] : Fin 2 → ℕ) a ≤ S1x5632.size a)
    (h1 : ∀ a, (![1, o] : Fin 2 → ℕ) a + (![1, 256] : Fin 2 → ℕ) a ≤ S3x5632.size a) (h0 : ∀ a, (![0, o] : Fin 2 → ℕ) a + (![1, 256] : Fin 2 → ℕ) a ≤ S3x5632.size a) : FVec Ideal S512x256 .f32 :=
  CV (UP hid (View.ld x2 (Rect.unit (s := S1024x5632) ![0, o] ![1024, 256] hw)))
    (View.ld xs (Rect.unit (s := S22x8x256) ![s, 0, 0] ![1, 8, 256] hs))
    (View.ld x3 (Rect.unit (s := S3x5632) ![2, o] ![1, 256] h2)) (View.ld x4 (Rect.unit (s := S1x5632) ![0, o] ![1, 256] hb))
    (View.ld x3 (Rect.unit (s := S3x5632) ![1, o] ![1, 256] h1)) (View.ld x3 (Rect.unit (s := S3x5632) ![0, o] ![1, 256] h0))

/-- The activations of a block, chunk by chunk. -/
def ACTS (hid : FVec Ideal S512x1024 .bf16) (x2 : Vec Ideal S1024x5632 .bf16) (x3 : Vec Ideal S3x5632 .f32) (x4 : Vec Ideal S1x5632 .f32) (xs : Vec Ideal S22x8x256 .f32) : FVec Ideal S512x2816 .bf16 :=
  concatenate S512x2816 1 [⟨S512x256, ACT (CC hid x2 x3 x4 xs 0 0 inb_S1024x5632_S1024x256_0_0 inb_S22x8x256_S1x8x256_0_0_0 inb_S3x5632_S1x256_2_0 inb_S1x5632_S1x256_0_0 inb_S3x5632_S1x256_1_0 inb_S3x5632_S1x256_0_0)
      (CC hid x2 x3 x4 xs 2816 11 inb_S1024x5632_S1024x256_0_2816 inb_S22x8x256_S1x8x256_11_0_0 inb_S3x5632_S1x256_2_2816 inb_S1x5632_S1x256_0_2816 inb_S3x5632_S1x256_1_2816 inb_S3x5632_S1x256_0_2816)⟩,
    ⟨S512x256, ACT (CC hid x2 x3 x4 xs 256 1 inb_S1024x5632_S1024x256_0_256 inb_S22x8x256_S1x8x256_1_0_0 inb_S3x5632_S1x256_2_256 inb_S1x5632_S1x256_0_256 inb_S3x5632_S1x256_1_256 inb_S3x5632_S1x256_0_256)
      (CC hid x2 x3 x4 xs 3072 12 inb_S1024x5632_S1024x256_0_3072 inb_S22x8x256_S1x8x256_12_0_0 inb_S3x5632_S1x256_2_3072 inb_S1x5632_S1x256_0_3072 inb_S3x5632_S1x256_1_3072 inb_S3x5632_S1x256_0_3072)⟩,
    ⟨S512x256, ACT (CC hid x2 x3 x4 xs 512 2 inb_S1024x5632_S1024x256_0_512 inb_S22x8x256_S1x8x256_2_0_0 inb_S3x5632_S1x256_2_512 inb_S1x5632_S1x256_0_512 inb_S3x5632_S1x256_1_512 inb_S3x5632_S1x256_0_512)
      (CC hid x2 x3 x4 xs 3328 13 inb_S1024x5632_S1024x256_0_3328 inb_S22x8x256_S1x8x256_13_0_0 inb_S3x5632_S1x256_2_3328 inb_S1x5632_S1x256_0_3328 inb_S3x5632_S1x256_1_3328 inb_S3x5632_S1x256_0_3328)⟩,
    ⟨S512x256, ACT (CC hid x2 x3 x4 xs 768 3 inb_S1024x5632_S1024x256_0_768 inb_S22x8x256_S1x8x256_3_0_0 inb_S3x5632_S1x256_2_768 inb_S1x5632_S1x256_0_768 inb_S3x5632_S1x256_1_768 inb_S3x5632_S1x256_0_768)
      (CC hid x2 x3 x4 xs 3584 14 inb_S1024x5632_S1024x256_0_3584 inb_S22x8x256_S1x8x256_14_0_0 inb_S3x5632_S1x256_2_3584 inb_S1x5632_S1x256_0_3584 inb_S3x5632_S1x256_1_3584 inb_S3x5632_S1x256_0_3584)⟩,
    ⟨S512x256, ACT (CC hid x2 x3 x4 xs 1024 4 inb_S1024x5632_S1024x256_0_1024 inb_S22x8x256_S1x8x256_4_0_0 inb_S3x5632_S1x256_2_1024 inb_S1x5632_S1x256_0_1024 inb_S3x5632_S1x256_1_1024 inb_S3x5632_S1x256_0_1024)
      (CC hid x2 x3 x4 xs 3840 15 inb_S1024x5632_S1024x256_0_3840 inb_S22x8x256_S1x8x256_15_0_0 inb_S3x5632_S1x256_2_3840 inb_S1x5632_S1x256_0_3840 inb_S3x5632_S1x256_1_3840 inb_S3x5632_S1x256_0_3840)⟩,
    ⟨S512x256, ACT (CC hid x2 x3 x4 xs 1280 5 inb_S1024x5632_S1024x256_0_1280 inb_S22x8x256_S1x8x256_5_0_0 inb_S3x5632_S1x256_2_1280 inb_S1x5632_S1x256_0_1280 inb_S3x5632_S1x256_1_1280 inb_S3x5632_S1x256_0_1280)
      (CC hid x2 x3 x4 xs 4096 16 inb_S1024x5632_S1024x256_0_4096 inb_S22x8x256_S1x8x256_16_0_0 inb_S3x5632_S1x256_2_4096 inb_S1x5632_S1x256_0_4096 inb_S3x5632_S1x256_1_4096 inb_S3x5632_S1x256_0_4096)⟩,
    ⟨S512x256, ACT (CC hid x2 x3 x4 xs 1536 6 inb_S1024x5632_S1024x256_0_1536 inb_S22x8x256_S1x8x256_6_0_0 inb_S3x5632_S1x256_2_1536 inb_S1x5632_S1x256_0_1536 inb_S3x5632_S1x256_1_1536 inb_S3x5632_S1x256_0_1536)
      (CC hid x2 x3 x4 xs 4352 17 inb_S1024x5632_S1024x256_0_4352 inb_S22x8x256_S1x8x256_17_0_0 inb_S3x5632_S1x256_2_4352 inb_S1x5632_S1x256_0_4352 inb_S3x5632_S1x256_1_4352 inb_S3x5632_S1x256_0_4352)⟩,
    ⟨S512x256, ACT (CC hid x2 x3 x4 xs 1792 7 inb_S1024x5632_S1024x256_0_1792 inb_S22x8x256_S1x8x256_7_0_0 inb_S3x5632_S1x256_2_1792 inb_S1x5632_S1x256_0_1792 inb_S3x5632_S1x256_1_1792 inb_S3x5632_S1x256_0_1792)
      (CC hid x2 x3 x4 xs 4608 18 inb_S1024x5632_S1024x256_0_4608 inb_S22x8x256_S1x8x256_18_0_0 inb_S3x5632_S1x256_2_4608 inb_S1x5632_S1x256_0_4608 inb_S3x5632_S1x256_1_4608 inb_S3x5632_S1x256_0_4608)⟩,
    ⟨S512x256, ACT (CC hid x2 x3 x4 xs 2048 8 inb_S1024x5632_S1024x256_0_2048 inb_S22x8x256_S1x8x256_8_0_0 inb_S3x5632_S1x256_2_2048 inb_S1x5632_S1x256_0_2048 inb_S3x5632_S1x256_1_2048 inb_S3x5632_S1x256_0_2048)
      (CC hid x2 x3 x4 xs 4864 19 inb_S1024x5632_S1024x256_0_4864 inb_S22x8x256_S1x8x256_19_0_0 inb_S3x5632_S1x256_2_4864 inb_S1x5632_S1x256_0_4864 inb_S3x5632_S1x256_1_4864 inb_S3x5632_S1x256_0_4864)⟩,
    ⟨S512x256, ACT (CC hid x2 x3 x4 xs 2304 9 inb_S1024x5632_S1024x256_0_2304 inb_S22x8x256_S1x8x256_9_0_0 inb_S3x5632_S1x256_2_2304 inb_S1x5632_S1x256_0_2304 inb_S3x5632_S1x256_1_2304 inb_S3x5632_S1x256_0_2304)
      (CC hid x2 x3 x4 xs 5120 20 inb_S1024x5632_S1024x256_0_5120 inb_S22x8x256_S1x8x256_20_0_0 inb_S3x5632_S1x256_2_5120 inb_S1x5632_S1x256_0_5120 inb_S3x5632_S1x256_1_5120 inb_S3x5632_S1x256_0_5120)⟩,
    ⟨S512x256, ACT (CC hid x2 x3 x4 xs 2560 10 inb_S1024x5632_S1024x256_0_2560 inb_S22x8x256_S1x8x256_10_0_0 inb_S3x5632_S1x256_2_2560 inb_S1x5632_S1x256_0_2560 inb_S3x5632_S1x256_1_2560 inb_S3x5632_S1x256_0_2560)
      (CC hid x2 x3 x4 xs 5376 21 inb_S1024x5632_S1024x256_0_5376 inb_S22x8x256_S1x8x256_21_0_0 inb_S3x5632_S1x256_2_5376 inb_S1x5632_S1x256_0_5376 inb_S3x5632_S1x256_1_5376 inb_S3x5632_S1x256_0_5376)⟩] concatenates_S512x256_S512x256_S512x256_S512x256_S512x256_S512x256_S512x256_S512x256_S512x256_S512x256_S512x256_S512x2816_d1

set_option maxHeartbeats 1600000 in
/-- The block a point with kept rows leaves is the down projection of the activations, added to its rows. -/
theorem outB (c : Fin 1) (i arg1 harg1 arg2 harg2 arg3 harg3 arg4 harg4 arg5 harg5 arg6 harg6 arg7 harg7 arg8 harg8 hc0 x0 x1 x2 x3 x4 x5 xs) :
    out0_B_6 (F := Ideal) c i arg1 harg1 arg2 harg2 arg3 harg3 arg4 harg4 arg5 harg5 arg6 harg6 arg7 harg7 arg8 harg8 hc0 x0 x1 x2 x3 x4 x5 xs =
      k0_pay1 x0 (ACTS (k0_pay3 x0 x1) x2 x3 x4 xs) (k0_pay129 x5) (constant S512x1024 .f32 0x00000000#32) := by
  funext y
  frame_out
  rfl

set_option maxHeartbeats 1600000 in
/-- The block a point that starts a sequence leaves: the same, over kept rows that are zero. -/
theorem outA (c : Fin 1) (i arg1 harg1 arg2 harg2 arg3 harg3 arg4 harg4 arg5 harg5 arg6 harg6 arg7 harg7 arg8 harg8 hc0 x0 x1 x2 x3 x4 x5) :
    out0_A_6 (F := Ideal) c i arg1 harg1 arg2 harg2 arg3 harg3 arg4 harg4 arg5 harg5 arg6 harg6 arg7 harg7 arg8 harg8 hc0 x0 x1 x2 x3 x4 x5 =
      k0_pay1 x0 (ACTS (k0_pay3 x0 x1) x2 x3 x4 (k0_pay2 (F := Ideal))) (k0_pay129 x5) (constant S512x1024 .f32 0x00000000#32) := by
  funext y
  frame_out
  simp (discharger := first | decide | (intro a; fin_cases a <;> rfl)) only [↓View.readCov_skip, ↓View.readCov_fill]
  rfl

end Cert.Hand.Ffn

end
-- ==== Proof.Ffn.Block.lean ====
/- The gated feed-forward kernel's block, read at an index. -/
module

public import proofs.«01_k».proof.Proof.Ffn.Head

@[expose] public section

set_option maxRecDepth 16384

noncomputable section

namespace Cert.Hand.Ffn

open Idealize.ShloMosaic Cert.FfnIdeal Cert.FfnIdeal.Gen

/-- An entry of the up-projection. -/
theorem UP_at (hid : FVec Ideal S512x1024 .bf16) (w : Vec Ideal S1024x256 .bf16) (r : Fin 512) (l : Fin 256) :
    UP hid w (ix2 r l) = ∑ x, hid (ix2 r x) * w (ix2 x l) := by
  pointwise [UP]

/-- A chunk moved down by one row. -/
theorem SH1_at (u : FVec Ideal S512x256 .f32) (h : Vec Ideal S1x8x256 .f32) (r : Fin 512) (l : Fin 256) :
    SH 1#32 u h (ix2 r l) = if hr : r.val < 1 then h (ix3 0 ⟨r.val + 7, by omega⟩ l) else u (ix2 ⟨r.val - 1, by omega⟩ l) := by
  have hc : ∀ m : Fin 8, IntOp.cmpi CmpIPredicate.slt (BitVec.ofNat 32 m.val) 1#32 = if m.val < 1 then 1#1 else 0#1 := by decide
  have eh : ∀ a b : Fin 8, a.val = b.val → h (ix3 0 a l) = h (ix3 0 b l) := fun a b e => by rw [Fin.ext e]
  have eu : ∀ a b : Fin 512, a.val = b.val → u (ix2 a l) = u (ix2 b l) := fun a b e => by rw [Fin.ext e]
  have hm := hc ⟨r.val % 8, Nat.mod_lt _ (by decide)⟩
  pointwise [SH, SUB, CAT]
  rw [hm]
  by_cases hq : r.val % 8 < 1
  · rw [if_pos hq]
    show (dite _ _ _ : EReal) = _
    split <;> split <;> first | omega | (refine eh _ _ ?_; dsimp only; omega) | (refine eu _ _ ?_; dsimp only; omega)
  · rw [if_neg hq]
    show (dite _ _ _ : EReal) = _
    split <;> split <;> first | omega | (refine eh _ _ ?_; dsimp only; omega) | (refine eu _ _ ?_; dsimp only; omega)

/-- An entry of the rows moved down by two. -/
theorem SH2_at (u : FVec Ideal S512x256 .f32) (h : Vec Ideal S1x8x256 .f32) (r : Fin 512) (l : Fin 256) :
    SH 2#32 u h (ix2 r l) = if hr : r.val < 2 then h (ix3 0 ⟨r.val + 6, by omega⟩ l) else u (ix2 ⟨r.val - 2, by omega⟩ l) := by
  have hc : ∀ m : Fin 8, IntOp.cmpi CmpIPredicate.slt (BitVec.ofNat 32 m.val) 2#32 = if m.val < 2 then 1#1 else 0#1 := by decide
  have eh : ∀ a b : Fin 8, a.val = b.val → h (ix3 0 a l) = h (ix3 0 b l) := fun a b e => by rw [Fin.ext e]
  have eu : ∀ a b : Fin 512, a.val = b.val → u (ix2 a l) = u (ix2 b l) := fun a b e => by rw [Fin.ext e]
  have hm := hc ⟨r.val % 8, Nat.mod_lt _ (by decide)⟩
  pointwise [SH, SUB, CAT]
  rw [hm]
  by_cases hq : r.val % 8 < 2
  · rw [if_pos hq]
    show (dite _ _ _ : EReal) = _
    split <;> split <;> first | omega | (refine eh _ _ ?_; dsimp only; omega) | (refine eu _ _ ?_; dsimp only; omega)
  · rw [if_neg hq]
    show (dite _ _ _ : EReal) = _
    split <;> split <;> first | omega | (refine eh _ _ ?_; dsimp only; omega) | (refine eu _ _ ?_; dsimp only; omega)

/-- An entry of the convolution. -/
theorem CV_at (u : FVec Ideal S512x256 .f32) (h : Vec Ideal S1x8x256 .f32) (c2 cb c1 c0 : Vec Ideal S1x256 .f32) (r : Fin 512) (l : Fin 256) :
    CV u h c2 cb c1 c0 (ix2 r l) = c2 (ix2 0 l) * u (ix2 r l) + cb (ix2 0 l) + c1 (ix2 0 l) * SH 1#32 u h (ix2 r l) + c0 (ix2 0 l) * SH 2#32 u h (ix2 r l) := by
  unfold CV
  generalize SH 1#32 u h = a
  generalize SH 2#32 u h = b
  pointwise

/-- The gated activation of a value of the gate and one of the other half. -/
def act (g u : EReal) : EReal := g * Ideal.div 1 (1 + Ideal.exp (-g)) * u

/-- An entry of the gated activation. -/
theorem ACT_at (g u : FVec Ideal S512x256 .f32) (r : Fin 512) (l : Fin 256) : ACT g u (ix2 r l) = act (g (ix2 r l)) (u (ix2 r l)) := by
  unfold act
  pointwise [ACT]
  rw [zero_sub]

/-- The normalised row of a block. -/
def hidB (x0 : Vec Ideal S512x1024 .f32) (x1 : Vec Ideal S1x1024 .f32) (r : Fin 512) (e : Fin 1024) : EReal :=
  x0 (ix2 r e) * Ideal.rsqrt (Ideal.div (∑ x, x0 (ix2 r x) * x0 (ix2 r x)) (Ideal.ofBits .f32 0x44800000#32) + Ideal.ofBits .f32 0x358637BD#32) * x1 (ix2 0 e)

/-- An entry of the normalised rows. -/
theorem hid_at (x0 : Vec Ideal S512x1024 .f32) (x1 : Vec Ideal S1x1024 .f32) (r : Fin 512) (e : Fin 1024) : k0_pay3 x0 x1 (ix2 r e) = hidB x0 x1 r e := by
  unfold hidB
  pointwise [k0_pay3]

/-- The up projection of a block at a row and a column. -/
def upB (hid : FVec Ideal S512x1024 .bf16) (x2 : Vec Ideal S1024x5632 .bf16) (r : Fin 512) (c : Fin 5632) : EReal := ∑ x, hid (ix2 r x) * x2 (ix2 x c)

/-- The slot of a column, and the place of the column in it. -/
def slot (c : Fin 5632) : Fin 22 := ⟨c.val / 256, by have := c.isLt; omega⟩
/-- The column within its chunk. -/
def place (c : Fin 5632) : Fin 256 := ⟨c.val % 256, Nat.mod_lt _ (by decide)⟩

/-- The convolution of a block at a row and a column. -/
def convB (hid : FVec Ideal S512x1024 .bf16) (x2 : Vec Ideal S1024x5632 .bf16) (x3 : Vec Ideal S3x5632 .f32) (x4 : Vec Ideal S1x5632 .f32) (xs : Vec Ideal S22x8x256 .f32) (r : Fin 512) (c : Fin 5632) : EReal :=
  x3 (ix2 2 c) * upB hid x2 r c + x4 (ix2 0 c)
    + x3 (ix2 1 c) * (if hr : r.val < 1 then xs (ix3 (slot c) ⟨r.val + 7, by omega⟩ (place c)) else upB hid x2 ⟨r.val - 1, by omega⟩ c)
    + x3 (ix2 0 c) * (if hr : r.val < 2 then xs (ix3 (slot c) ⟨r.val + 6, by omega⟩ (place c)) else upB hid x2 ⟨r.val - 2, by omega⟩ c)

/-- An entry of a chunk's convolution in the block's own columns. -/
theorem CC_at (hid : FVec Ideal S512x1024 .bf16) (x2 : Vec Ideal S1024x5632 .bf16) (x3 : Vec Ideal S3x5632 .f32) (x4 : Vec Ideal S1x5632 .f32) (xs : Vec Ideal S22x8x256 .f32) (o s : ℕ) (hw hs h2 hb h1 h0)
    (r : Fin 512) (l : Fin 256) (c : Fin 5632) (hc : c.val = o + l.val) (ho : o = s * 256) :
    CC hid x2 x3 x4 xs o s hw hs h2 hb h1 h0 (ix2 r l) = convB hid x2 x3 x4 xs r c := by
  have e1 : ∀ p, (⟨o + l.val, p⟩ : Fin 5632) = c := fun _ => Fin.ext hc.symm
  have e2 : ∀ p, (⟨s, p⟩ : Fin 22) = slot c := fun _ => Fin.ext (by have := l.isLt; simp only [slot]; omega)
  have e3 : l = place c := Fin.ext (by have := l.isLt; simp only [place]; omega)
  unfold CC convB upB
  rw [CV_at, SH1_at, SH2_at]
  simp only [UP_at]
  pointwise
  simp only [e1, e2]
  rw [← e3]

/-- A choice both of whose sides are `z` is `z`. -/
theorem dite_of {p : Prop} [Decidable p] {a : p → EReal} {b : ¬p → EReal} {z : EReal} (h1 : ∀ h, a h = z) (h2 : ∀ h, b h = z) : dite p a b = z := by
  by_cases h : p
  · rw [dif_pos h, h1]
  · rw [dif_neg h, h2]

/-- The activations of a block at a row and a column. -/
theorem ACTS_at (hid : FVec Ideal S512x1024 .bf16) (x2 : Vec Ideal S1024x5632 .bf16) (x3 : Vec Ideal S3x5632 .f32) (x4 : Vec Ideal S1x5632 .f32) (xs : Vec Ideal S22x8x256 .f32) (r : Fin 512) (k : Fin 2816) :
    ACTS hid x2 x3 x4 xs (ix2 r k) = act (convB hid x2 x3 x4 xs r ⟨k.val, by omega⟩) (convB hid x2 x3 x4 xs r ⟨2816 + k.val, by omega⟩) := by
  pointwise [ACTS]
  simp only [ACT_at]
  repeat' refine dite_of (fun _ => ?_) (fun _ => ?_)
  all_goals (refine congrArg₂ act ?_ ?_ <;> (refine CC_at _ _ _ _ _ _ _ _ _ _ _ _ _ _ _ _ ?_ ?_ <;> first | rfl | omega | (dsimp only; omega)))

/-- An entry of the output projection added to the residual. -/
theorem OUT_at (x0 : Vec Ideal S512x1024 .f32) (a : FVec Ideal S512x2816 .bf16) (x5 : Vec Ideal S2816x1024 .bf16) (r : Fin 512) (c : Fin 1024) :
    k0_pay1 x0 a (k0_pay129 x5) (constant S512x1024 .f32 0x00000000#32) (ix2 r c) = x0 (ix2 r c) + ∑ k, a (ix2 r k) * x5 (ix2 k c) := by
  pointwise [k0_pay1, k0_pay129]

end Cert.Hand.Ffn

end
-- ==== Proof.Ffn.Keep.lean ====
/- The rows the gated feed-forward kernel keeps for the next block. -/
module

public import proofs.«01_k».proof.Proof.Ffn.Block

@[expose] public section

set_option maxRecDepth 16384

noncomputable section

namespace Cert.Hand.Ffn

open Idealize.ShloMosaic Cert.FfnIdeal Cert.FfnIdeal.Gen

/-- The last eight rows of a chunk. -/
def TAIL (u : FVec Ideal S512x256 .f32) : FVec Ideal S1x8x256 .f32 :=
  shapeCast S1x8x256 (extractStridedSlice S8x256 ![504, 0] u slices_S512x256_o504_0_S8x256) shapeCasts_S8x256_S1x8x256

/-- What a point keeps: the last eight rows of its up projection, by slot. -/
def KEPT (hid : FVec Ideal S512x1024 .bf16) (x2 : Vec Ideal S1024x5632 .bf16) : S22x8x256.Idx → Ideal .f32 := fun y =>
  upB hid x2 ⟨504 + (y 1).val, by have : (y 1).val < 8 := (y 1).isLt; omega⟩ ⟨(y 0).val * 256 + (y 2).val, by have : (y 0).val < 22 := (y 0).isLt; have : (y 2).val < 256 := (y 2).isLt; omega⟩

/-- An entry of the last eight rows. -/
theorem TAIL_at (u : FVec Ideal S512x256 .f32) (a : Fin 8) (l : Fin 256) : TAIL u (ix3 0 a l) = u (ix2 ⟨504 + a.val, by omega⟩ l) := by
  pointwise [TAIL]

/-- A stored halo is the last eight rows of its chunk. -/
theorem tail_piece (hid : FVec Ideal S512x1024 .bf16) (x2 : Vec Ideal S1024x5632 .bf16) (o s : ℕ)
    (hw : ∀ a, (![0, o] : Fin 2 → ℕ) a + (![1024, 256] : Fin 2 → ℕ) a ≤ S1024x5632.size a) (hs : ∀ a, (![s, 0, 0] : Fin 3 → ℕ) a + (![1, 8, 256] : Fin 3 → ℕ) a ≤ S22x8x256.size a) (ho : o = s * 256)
    (x : S1x8x256.Idx) : TAIL (UP hid (View.ld x2 (Rect.unit (s := S1024x5632) ![0, o] ![1024, 256] hw))) x = KEPT hid x2 ((Rect.unit (s := S22x8x256) ![s, 0, 0] ![1, 8, 256] hs).emb x) := by
  have hx0 : (x 0).val < 1 := (x 0).isLt
  obtain ⟨a, ha⟩ : ∃ a : Fin 8, a = x 1 := ⟨_, rfl⟩
  obtain ⟨l, hl⟩ : ∃ l : Fin 256, l = x 2 := ⟨_, rfl⟩
  have hx : x = (ix3 0 a l : S1x8x256.Idx) := by
    subst ha hl
    funext a; fin_cases a
    · exact Fin.ext (by show (x 0).val = 0; omega)
    · rfl
    · rfl
  have k0 : (((Rect.unit (s := S22x8x256) ![s, 0, 0] ![1, 8, 256] hs).emb x) 0).val = s + 1 * (x 0).val := rfl
  have k1 : (((Rect.unit (s := S22x8x256) ![s, 0, 0] ![1, 8, 256] hs).emb x) 1).val = 0 + 1 * (x 1).val := rfl
  have k2 : (((Rect.unit (s := S22x8x256) ![s, 0, 0] ![1, 8, 256] hs).emb x) 2).val = 0 + 1 * (x 2).val := rfl
  generalize (Rect.unit (s := S22x8x256) ![s, 0, 0] ![1, 8, 256] hs).emb x = y at k0 k1 k2 ⊢
  rw [← ha] at k1
  rw [← hl] at k2
  rw [hx, TAIL_at, UP_at]
  unfold KEPT upB
  refine Finset.sum_congr rfl fun e _ => ?_
  refine congrArg₂ (· * ·) (congrArg (fun a => hid (ix2 a e)) (Fin.ext ?_)) ?_
  · show 504 + a.val = 504 + (y 1).val
    omega
  · pointwise
    refine congrArg (fun a => x2 (ix2 e a)) (Fin.ext ?_)
    show o + l.val = (y 0).val * 256 + (y 2).val
    omega

/-- The pieces a point keeps, the last stored first. -/
def PCS (hid : FVec Ideal S512x1024 .bf16) (x2 : Vec Ideal S1024x5632 .bf16) : List (View.Piece (Elt Ideal) S22x8x256 .f32) :=
  [⟨Rect.unit (s := S22x8x256) ![21, 0, 0] ![1, 8, 256] inb_S22x8x256_S1x8x256_21_0_0, TAIL (UP hid (View.ld x2 (Rect.unit (s := S1024x5632) ![0, 5376] ![1024, 256] inb_S1024x5632_S1024x256_0_5376)))⟩,
    ⟨Rect.unit (s := S22x8x256) ![10, 0, 0] ![1, 8, 256] inb_S22x8x256_S1x8x256_10_0_0, TAIL (UP hid (View.ld x2 (Rect.unit (s := S1024x5632) ![0, 2560] ![1024, 256] inb_S1024x5632_S1024x256_0_2560)))⟩,
    ⟨Rect.unit (s := S22x8x256) ![20, 0, 0] ![1, 8, 256] inb_S22x8x256_S1x8x256_20_0_0, TAIL (UP hid (View.ld x2 (Rect.unit (s := S1024x5632) ![0, 5120] ![1024, 256] inb_S1024x5632_S1024x256_0_5120)))⟩,
    ⟨Rect.unit (s := S22x8x256) ![9, 0, 0] ![1, 8, 256] inb_S22x8x256_S1x8x256_9_0_0, TAIL (UP hid (View.ld x2 (Rect.unit (s := S1024x5632) ![0, 2304] ![1024, 256] inb_S1024x5632_S1024x256_0_2304)))⟩,
    ⟨Rect.unit (s := S22x8x256) ![19, 0, 0] ![1, 8, 256] inb_S22x8x256_S1x8x256_19_0_0, TAIL (UP hid (View.ld x2 (Rect.unit (s := S1024x5632) ![0, 4864] ![1024, 256] inb_S1024x5632_S1024x256_0_4864)))⟩,
    ⟨Rect.unit (s := S22x8x256) ![8, 0, 0] ![1, 8, 256] inb_S22x8x256_S1x8x256_8_0_0, TAIL (UP hid (View.ld x2 (Rect.unit (s := S1024x5632) ![0, 2048] ![1024, 256] inb_S1024x5632_S1024x256_0_2048)))⟩,
    ⟨Rect.unit (s := S22x8x256) ![18, 0, 0] ![1, 8, 256] inb_S22x8x256_S1x8x256_18_0_0, TAIL (UP hid (View.ld x2 (Rect.unit (s := S1024x5632) ![0, 4608] ![1024, 256] inb_S1024x5632_S1024x256_0_4608)))⟩,
    ⟨Rect.unit (s := S22x8x256) ![7, 0, 0] ![1, 8, 256] inb_S22x8x256_S1x8x256_7_0_0, TAIL (UP hid (View.ld x2 (Rect.unit (s := S1024x5632) ![0, 1792] ![1024, 256] inb_S1024x5632_S1024x256_0_1792)))⟩,
    ⟨Rect.unit (s := S22x8x256) ![17, 0, 0] ![1, 8, 256] inb_S22x8x256_S1x8x256_17_0_0, TAIL (UP hid (View.ld x2 (Rect.unit (s := S1024x5632) ![0, 4352] ![1024, 256] inb_S1024x5632_S1024x256_0_4352)))⟩,
    ⟨Rect.unit (s := S22x8x256) ![6, 0, 0] ![1, 8, 256] inb_S22x8x256_S1x8x256_6_0_0, TAIL (UP hid (View.ld x2 (Rect.unit (s := S1024x5632) ![0, 1536] ![1024, 256] inb_S1024x5632_S1024x256_0_1536)))⟩,
    ⟨Rect.unit (s := S22x8x256) ![16, 0, 0] ![1, 8, 256] inb_S22x8x256_S1x8x256_16_0_0, TAIL (UP hid (View.ld x2 (Rect.unit (s := S1024x5632) ![0, 4096] ![1024, 256] inb_S1024x5632_S1024x256_0_4096)))⟩,
    ⟨Rect.unit (s := S22x8x256) ![5, 0, 0] ![1, 8, 256] inb_S22x8x256_S1x8x256_5_0_0, TAIL (UP hid (View.ld x2 (Rect.unit (s := S1024x5632) ![0, 1280] ![1024, 256] inb_S1024x5632_S1024x256_0_1280)))⟩,
    ⟨Rect.unit (s := S22x8x256) ![15, 0, 0] ![1, 8, 256] inb_S22x8x256_S1x8x256_15_0_0, TAIL (UP hid (View.ld x2 (Rect.unit (s := S1024x5632) ![0, 3840] ![1024, 256] inb_S1024x5632_S1024x256_0_3840)))⟩,
    ⟨Rect.unit (s := S22x8x256) ![4, 0, 0] ![1, 8, 256] inb_S22x8x256_S1x8x256_4_0_0, TAIL (UP hid (View.ld x2 (Rect.unit (s := S1024x5632) ![0, 1024] ![1024, 256] inb_S1024x5632_S1024x256_0_1024)))⟩,
    ⟨Rect.unit (s := S22x8x256) ![14, 0, 0] ![1, 8, 256] inb_S22x8x256_S1x8x256_14_0_0, TAIL (UP hid (View.ld x2 (Rect.unit (s := S1024x5632) ![0, 3584] ![1024, 256] inb_S1024x5632_S1024x256_0_3584)))⟩,
    ⟨Rect.unit (s := S22x8x256) ![3, 0, 0] ![1, 8, 256] inb_S22x8x256_S1x8x256_3_0_0, TAIL (UP hid (View.ld x2 (Rect.unit (s := S1024x5632) ![0, 768] ![1024, 256] inb_S1024x5632_S1024x256_0_768)))⟩,
    ⟨Rect.unit (s := S22x8x256) ![13, 0, 0] ![1, 8, 256] inb_S22x8x256_S1x8x256_13_0_0, TAIL (UP hid (View.ld x2 (Rect.unit (s := S1024x5632) ![0, 3328] ![1024, 256] inb_S1024x5632_S1024x256_0_3328)))⟩,
    ⟨Rect.unit (s := S22x8x256) ![2, 0, 0] ![1, 8, 256] inb_S22x8x256_S1x8x256_2_0_0, TAIL (UP hid (View.ld x2 (Rect.unit (s := S1024x5632) ![0, 512] ![1024, 256] inb_S1024x5632_S1024x256_0_512)))⟩,
    ⟨Rect.unit (s := S22x8x256) ![12, 0, 0] ![1, 8, 256] inb_S22x8x256_S1x8x256_12_0_0, TAIL (UP hid (View.ld x2 (Rect.unit (s := S1024x5632) ![0, 3072] ![1024, 256] inb_S1024x5632_S1024x256_0_3072)))⟩,
    ⟨Rect.unit (s := S22x8x256) ![1, 0, 0] ![1, 8, 256] inb_S22x8x256_S1x8x256_1_0_0, TAIL (UP hid (View.ld x2 (Rect.unit (s := S1024x5632) ![0, 256] ![1024, 256] inb_S1024x5632_S1024x256_0_256)))⟩,
    ⟨Rect.unit (s := S22x8x256) ![11, 0, 0] ![1, 8, 256] inb_S22x8x256_S1x8x256_11_0_0, TAIL (UP hid (View.ld x2 (Rect.unit (s := S1024x5632) ![0, 2816] ![1024, 256] inb_S1024x5632_S1024x256_0_2816)))⟩,
    ⟨Rect.unit (s := S22x8x256) ![0, 0, 0] ![1, 8, 256] inb_S22x8x256_S1x8x256_0_0_0, TAIL (UP hid (View.ld x2 (Rect.unit (s := S1024x5632) ![0, 0] ![1024, 256] inb_S1024x5632_S1024x256_0_0)))⟩]

/-- The pieces of a point that starts a sequence: the same, over the zeros stored first. -/
def PCSA (hid : FVec Ideal S512x1024 .bf16) (x2 : Vec Ideal S1024x5632 .bf16) : List (View.Piece (Elt Ideal) S22x8x256 .f32) :=
  [⟨Rect.unit (s := S22x8x256) ![21, 0, 0] ![1, 8, 256] inb_S22x8x256_S1x8x256_21_0_0, TAIL (UP hid (View.ld x2 (Rect.unit (s := S1024x5632) ![0, 5376] ![1024, 256] inb_S1024x5632_S1024x256_0_5376)))⟩,
    ⟨Rect.unit (s := S22x8x256) ![10, 0, 0] ![1, 8, 256] inb_S22x8x256_S1x8x256_10_0_0, TAIL (UP hid (View.ld x2 (Rect.unit (s := S1024x5632) ![0, 2560] ![1024, 256] inb_S1024x5632_S1024x256_0_2560)))⟩,
    ⟨Rect.unit (s := S22x8x256) ![20, 0, 0] ![1, 8, 256] inb_S22x8x256_S1x8x256_20_0_0, TAIL (UP hid (View.ld x2 (Rect.unit (s := S1024x5632) ![0, 5120] ![1024, 256] inb_S1024x5632_S1024x256_0_5120)))⟩,
    ⟨Rect.unit (s := S22x8x256) ![9, 0, 0] ![1, 8, 256] inb_S22x8x256_S1x8x256_9_0_0, TAIL (UP hid (View.ld x2 (Rect.unit (s := S1024x5632) ![0, 2304] ![1024, 256] inb_S1024x5632_S1024x256_0_2304)))⟩,
    ⟨Rect.unit (s := S22x8x256) ![19, 0, 0] ![1, 8, 256] inb_S22x8x256_S1x8x256_19_0_0, TAIL (UP hid (View.ld x2 (Rect.unit (s := S1024x5632) ![0, 4864] ![1024, 256] inb_S1024x5632_S1024x256_0_4864)))⟩,
    ⟨Rect.unit (s := S22x8x256) ![8, 0, 0] ![1, 8, 256] inb_S22x8x256_S1x8x256_8_0_0, TAIL (UP hid (View.ld x2 (Rect.unit (s := S1024x5632) ![0, 2048] ![1024, 256] inb_S1024x5632_S1024x256_0_2048)))⟩,
    ⟨Rect.unit (s := S22x8x256) ![18, 0, 0] ![1, 8, 256] inb_S22x8x256_S1x8x256_18_0_0, TAIL (UP hid (View.ld x2 (Rect.unit (s := S1024x5632) ![0, 4608] ![1024, 256] inb_S1024x5632_S1024x256_0_4608)))⟩,
    ⟨Rect.unit (s := S22x8x256) ![7, 0, 0] ![1, 8, 256] inb_S22x8x256_S1x8x256_7_0_0, TAIL (UP hid (View.ld x2 (Rect.unit (s := S1024x5632) ![0, 1792] ![1024, 256] inb_S1024x5632_S1024x256_0_1792)))⟩,
    ⟨Rect.unit (s := S22x8x256) ![17, 0, 0] ![1, 8, 256] inb_S22x8x256_S1x8x256_17_0_0, TAIL (UP hid (View.ld x2 (Rect.unit (s := S1024x5632) ![0, 4352] ![1024, 256] inb_S1024x5632_S1024x256_0_4352)))⟩,
    ⟨Rect.unit (s := S22x8x256) ![6, 0, 0] ![1, 8, 256] inb_S22x8x256_S1x8x256_6_0_0, TAIL (UP hid (View.ld x2 (Rect.unit (s := S1024x5632) ![0, 1536] ![1024, 256] inb_S1024x5632_S1024x256_0_1536)))⟩,
    ⟨Rect.unit (s := S22x8x256) ![16, 0, 0] ![1, 8, 256] inb_S22x8x256_S1x8x256_16_0_0, TAIL (UP hid (View.ld x2 (Rect.unit (s := S1024x5632) ![0, 4096] ![1024, 256] inb_S1024x5632_S1024x256_0_4096)))⟩,
    ⟨Rect.unit (s := S22x8x256) ![5, 0, 0] ![1, 8, 256] inb_S22x8x256_S1x8x256_5_0_0, TAIL (UP hid (View.ld x2 (Rect.unit (s := S1024x5632) ![0, 1280] ![1024, 256] inb_S1024x5632_S1024x256_0_1280)))⟩,
    ⟨Rect.unit (s := S22x8x256) ![15, 0, 0] ![1, 8, 256] inb_S22x8x256_S1x8x256_15_0_0, TAIL (UP hid (View.ld x2 (Rect.unit (s := S1024x5632) ![0, 3840] ![1024, 256] inb_S1024x5632_S1024x256_0_3840)))⟩,
    ⟨Rect.unit (s := S22x8x256) ![4, 0, 0] ![1, 8, 256] inb_S22x8x256_S1x8x256_4_0_0, TAIL (UP hid (View.ld x2 (Rect.unit (s := S1024x5632) ![0, 1024] ![1024, 256] inb_S1024x5632_S1024x256_0_1024)))⟩,
    ⟨Rect.unit (s := S22x8x256) ![14, 0, 0] ![1, 8, 256] inb_S22x8x256_S1x8x256_14_0_0, TAIL (UP hid (View.ld x2 (Rect.unit (s := S1024x5632) ![0, 3584] ![1024, 256] inb_S1024x5632_S1024x256_0_3584)))⟩,
    ⟨Rect.unit (s := S22x8x256) ![3, 0, 0] ![1, 8, 256] inb_S22x8x256_S1x8x256_3_0_0, TAIL (UP hid (View.ld x2 (Rect.unit (s := S1024x5632) ![0, 768] ![1024, 256] inb_S1024x5632_S1024x256_0_768)))⟩,
    ⟨Rect.unit (s := S22x8x256) ![13, 0, 0] ![1, 8, 256] inb_S22x8x256_S1x8x256_13_0_0, TAIL (UP hid (View.ld x2 (Rect.unit (s := S1024x5632) ![0, 3328] ![1024, 256] inb_S1024x5632_S1024x256_0_3328)))⟩,
    ⟨Rect.unit (s := S22x8x256) ![2, 0, 0] ![1, 8, 256] inb_S22x8x256_S1x8x256_2_0_0, TAIL (UP hid (View.ld x2 (Rect.unit (s := S1024x5632) ![0, 512] ![1024, 256] inb_S1024x5632_S1024x256_0_512)))⟩,
    ⟨Rect.unit (s := S22x8x256) ![12, 0, 0] ![1, 8, 256] inb_S22x8x256_S1x8x256_12_0_0, TAIL (UP hid (View.ld x2 (Rect.unit (s := S1024x5632) ![0, 3072] ![1024, 256] inb_S1024x5632_S1024x256_0_3072)))⟩,
    ⟨Rect.unit (s := S22x8x256) ![1, 0, 0] ![1, 8, 256] inb_S22x8x256_S1x8x256_1_0_0, TAIL (UP hid (View.ld x2 (Rect.unit (s := S1024x5632) ![0, 256] ![1024, 256] inb_S1024x5632_S1024x256_0_256)))⟩,
    ⟨Rect.unit (s := S22x8x256) ![11, 0, 0] ![1, 8, 256] inb_S22x8x256_S1x8x256_11_0_0, TAIL (UP hid (View.ld x2 (Rect.unit (s := S1024x5632) ![0, 2816] ![1024, 256] inb_S1024x5632_S1024x256_0_2816)))⟩,
    ⟨Rect.unit (s := S22x8x256) ![0, 0, 0] ![1, 8, 256] inb_S22x8x256_S1x8x256_0_0_0, TAIL (UP hid (View.ld x2 (Rect.unit (s := S1024x5632) ![0, 0] ![1024, 256] inb_S1024x5632_S1024x256_0_0)))⟩,
    ⟨Rect.unit (s := S22x8x256) ![0, 0, 0] ![22, 8, 256] inb_S22x8x256_S22x8x256_0_0_0, k0_pay2 (F := Ideal)⟩]

/-- The halo's stores are the stores of the chunks after the first store of zeros. -/
theorem PCSA_eq (hid : FVec Ideal S512x1024 .bf16) (x2 : Vec Ideal S1024x5632 .bf16) : PCSA hid x2 = PCS hid x2 ++ [⟨Rect.unit (s := S22x8x256) ![0, 0, 0] ![22, 8, 256] inb_S22x8x256_S22x8x256_0_0_0, k0_pay2 (F := Ideal)⟩] := rfl

/-- Every stored piece is its part of the block. -/
theorem PCS_pieces (hid : FVec Ideal S512x1024 .bf16) (x2 : Vec Ideal S1024x5632 .bf16) : View.PiecesOf (KEPT hid x2) (PCS hid x2) :=
  ⟨tail_piece _ x2 5376 21 inb_S1024x5632_S1024x256_0_5376 inb_S22x8x256_S1x8x256_21_0_0 rfl,
      tail_piece _ x2 2560 10 inb_S1024x5632_S1024x256_0_2560 inb_S22x8x256_S1x8x256_10_0_0 rfl,
      tail_piece _ x2 5120 20 inb_S1024x5632_S1024x256_0_5120 inb_S22x8x256_S1x8x256_20_0_0 rfl,
      tail_piece _ x2 2304 9 inb_S1024x5632_S1024x256_0_2304 inb_S22x8x256_S1x8x256_9_0_0 rfl,
      tail_piece _ x2 4864 19 inb_S1024x5632_S1024x256_0_4864 inb_S22x8x256_S1x8x256_19_0_0 rfl,
      tail_piece _ x2 2048 8 inb_S1024x5632_S1024x256_0_2048 inb_S22x8x256_S1x8x256_8_0_0 rfl,
      tail_piece _ x2 4608 18 inb_S1024x5632_S1024x256_0_4608 inb_S22x8x256_S1x8x256_18_0_0 rfl,
      tail_piece _ x2 1792 7 inb_S1024x5632_S1024x256_0_1792 inb_S22x8x256_S1x8x256_7_0_0 rfl,
      tail_piece _ x2 4352 17 inb_S1024x5632_S1024x256_0_4352 inb_S22x8x256_S1x8x256_17_0_0 rfl,
      tail_piece _ x2 1536 6 inb_S1024x5632_S1024x256_0_1536 inb_S22x8x256_S1x8x256_6_0_0 rfl,
      tail_piece _ x2 4096 16 inb_S1024x5632_S1024x256_0_4096 inb_S22x8x256_S1x8x256_16_0_0 rfl,
      tail_piece _ x2 1280 5 inb_S1024x5632_S1024x256_0_1280 inb_S22x8x256_S1x8x256_5_0_0 rfl,
      tail_piece _ x2 3840 15 inb_S1024x5632_S1024x256_0_3840 inb_S22x8x256_S1x8x256_15_0_0 rfl,
      tail_piece _ x2 1024 4 inb_S1024x5632_S1024x256_0_1024 inb_S22x8x256_S1x8x256_4_0_0 rfl,
      tail_piece _ x2 3584 14 inb_S1024x5632_S1024x256_0_3584 inb_S22x8x256_S1x8x256_14_0_0 rfl,
      tail_piece _ x2 768 3 inb_S1024x5632_S1024x256_0_768 inb_S22x8x256_S1x8x256_3_0_0 rfl,
      tail_piece _ x2 3328 13 inb_S1024x5632_S1024x256_0_3328 inb_S22x8x256_S1x8x256_13_0_0 rfl,
      tail_piece _ x2 512 2 inb_S1024x5632_S1024x256_0_512 inb_S22x8x256_S1x8x256_2_0_0 rfl,
      tail_piece _ x2 3072 12 inb_S1024x5632_S1024x256_0_3072 inb_S22x8x256_S1x8x256_12_0_0 rfl,
      tail_piece _ x2 256 1 inb_S1024x5632_S1024x256_0_256 inb_S22x8x256_S1x8x256_1_0_0 rfl,
      tail_piece _ x2 2816 11 inb_S1024x5632_S1024x256_0_2816 inb_S22x8x256_S1x8x256_11_0_0 rfl,
      tail_piece _ x2 0 0 inb_S1024x5632_S1024x256_0_0 inb_S22x8x256_S1x8x256_0_0_0 rfl, trivial⟩

/-- The stored pieces cover the block. -/
theorem PCS_cover (hid : FVec Ideal S512x1024 .bf16) (x2 : Vec Ideal S1024x5632 .bf16) (y : S22x8x256.Idx) : ∃ p ∈ PCS hid x2, y ∈ p.1.set :=
  View.cover_of_tiledL (PCS hid x2) S1x8x256.size (by sl_kernel_rfl) y

set_option maxHeartbeats 400000 in
/-- What a point with kept rows keeps in turn. -/
theorem keepB (c : Fin 1) (i arg1 harg1 arg2 harg2 arg3 harg3 arg4 harg4 arg5 harg5 arg6 harg6 arg7 harg7 arg8 harg8 hc0 x0 x1 x2 x3 x4 x5 xs) :
    sout0_B_0 (F := Ideal) c i arg1 harg1 arg2 harg2 arg3 harg3 arg4 harg4 arg5 harg5 arg6 harg6 arg7 harg7 arg8 harg8 hc0 x0 x1 x2 x3 x4 x5 xs = KEPT (k0_pay3 x0 x1) x2 := by
  funext y
  frame_out
  show View.canon (PCS (k0_pay3 x0 x1) x2) y = _
  exact View.canon_apply_of_pieces (KEPT (k0_pay3 x0 x1) x2) (PCS (k0_pay3 x0 x1) x2) (PCS_pieces _ _).mem y (PCS_cover _ _ y)

set_option maxHeartbeats 400000 in
/-- What a point that starts a sequence keeps. -/
theorem keepA (c : Fin 1) (i arg1 harg1 arg2 harg2 arg3 harg3 arg4 harg4 arg5 harg5 arg6 harg6 arg7 harg7 arg8 harg8 hc0 x0 x1 x2 x3 x4 x5) :
    sout0_A_0 (F := Ideal) c i arg1 harg1 arg2 harg2 arg3 harg3 arg4 harg4 arg5 harg5 arg6 harg6 arg7 harg7 arg8 harg8 hc0 x0 x1 x2 x3 x4 x5 = KEPT (k0_pay3 x0 x1) x2 := by
  funext y
  frame_out
  show View.canon (PCSA (k0_pay3 x0 x1) x2) y = _
  rw [PCSA_eq]
  exact View.canon_append_of_piecesOf (KEPT (k0_pay3 x0 x1) x2) _ (PCS (k0_pay3 x0 x1) x2) (PCS_pieces _ _) y (PCS_cover _ _ y)

end Cert.Hand.Ffn

end
-- ==== Proof.Ffn.Ref.lean ====
/- The gated feed-forward reference's arrays, read at an index. -/
module

public import proofs.«01_k».proof.Proof.Gen.FfnRefIdeal.Read
public import proofs.«01_k».proof.Proof.Attn.Spec
public import proofs.«01_k».proof.Proof.Ffn.Block

@[expose] public section

set_option maxRecDepth 16384

noncomputable section

namespace Cert.Hand.Ffn.Ref

open Idealize.ShloMosaic Cert.FfnRefIdeal Cert.FfnRefIdeal.Read Cert.Hand.Attn

variable (x0 : (⟨S65536x1024, .f32⟩ : BufTy).Contents (Elt Ideal)) (x1 : (⟨S1024, .f32⟩ : BufTy).Contents (Elt Ideal)) (x2 : (⟨S1024x5632, .f32⟩ : BufTy).Contents (Elt Ideal)) (x3 : (⟨S3x5632, .f32⟩ : BufTy).Contents (Elt Ideal)) (x4 : (⟨S5632, .f32⟩ : BufTy).Contents (Elt Ideal)) (x5 : (⟨S2816x1024, .f32⟩ : BufTy).Contents (Elt Ideal))

/-- An entry of the reference's stage 12. -/
theorem v12_at (t : Fin 65536) (c : Fin 1024) : val_main_v12 (F := Ideal) x0 x1 (ix2 t c) = rms l1024 leps (fun e => x0 (ix2 t e)) (fun e => x1 (ix1 e)) c := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- An entry of the reference's stage 13. -/
theorem v13_at (t : Fin 65536) (c : Fin 5632) : val_main_v13 (F := Ideal) x0 x1 x2 (ix2 t c) = ∑ x, rms l1024 leps (fun e => x0 (ix2 t e)) (fun e => x1 (ix1 e)) x * x2 (ix2 x c) := by
  simp only [← v12_at]
  pointwise [val_main_v13]

/-- An entry of the reference's stage 23. -/
theorem v23_at (b : Fin 32) (s : Fin 2048) (c : Fin 5632) : val_main_v23 (F := Ideal) x0 x1 x2 (ix3 b s c) =
    if hs : s.val < 1 then 0 else val_main_v14 (F := Ideal) x0 x1 x2 (ix3 b ⟨s.val - 1, by omega⟩ c) := by
  unfold val_main_v23 val_main_v22
  generalize val_main_v14 (F := Ideal) x0 x1 x2 = y
  pointwise [val_main_call0_v0, val_main_c]
  by_cases hs : s.val < 1
  · rw [dif_neg (by omega), dif_pos hs]
    show (((0#32 : BitVec 32).toInt : ℝ) : EReal) = 0
    simp
  · rw [dif_pos ⟨by omega, by omega⟩, dif_neg hs]

/-- An entry of the reference's stage 31. -/
theorem v31_at (b : Fin 32) (s : Fin 2048) (c : Fin 5632) : val_main_v31 (F := Ideal) x0 x1 x2 (ix3 b s c) =
    if hs : s.val < 2 then 0 else val_main_v14 (F := Ideal) x0 x1 x2 (ix3 b ⟨s.val - 2, by omega⟩ c) := by
  unfold val_main_v31 val_main_v30
  generalize val_main_v14 (F := Ideal) x0 x1 x2 = y
  pointwise [val_main_call1_v0, val_main_c_2]
  by_cases hs : s.val < 2
  · rw [dif_neg (by omega), dif_pos hs]
    show (((0#32 : BitVec 32).toInt : ℝ) : EReal) = 0
    simp
  · rw [dif_pos ⟨by omega, by omega⟩, dif_neg hs]

/-- An entry of the reference's stage 14. -/
theorem v14_at (b : Fin 32) (s : Fin 2048) (c : Fin 5632) : val_main_v14 (F := Ideal) x0 x1 x2 (ix3 b s c) = val_main_v13 (F := Ideal) x0 x1 x2 (ix2 ⟨b.val * 2048 + s.val, by omega⟩ c) := by
  unfold val_main_v14
  generalize val_main_v13 (F := Ideal) x0 x1 x2 = y
  pointwise

/-- An entry of the reference's stage 39. -/
theorem v39_at (t : Fin 65536) (c : Fin 5632) : val_main_v39 (F := Ideal) x0 x1 x2 x3 x4 (ix2 t c) =
    x3 (ix2 2 c) * val_main_v14 (F := Ideal) x0 x1 x2 (ix3 ⟨t.val / 2048, by omega⟩ ⟨t.val % 2048, by omega⟩ c)
     + x3 (ix2 1 c) * val_main_v23 (F := Ideal) x0 x1 x2 (ix3 ⟨t.val / 2048, by omega⟩ ⟨t.val % 2048, by omega⟩ c)
     + x3 (ix2 0 c) * val_main_v31 (F := Ideal) x0 x1 x2 (ix3 ⟨t.val / 2048, by omega⟩ ⟨t.val % 2048, by omega⟩ c) + x4 (ix1 c) := by
  unfold val_main_v39 val_main_v38 val_main_v35 val_main_v34 val_main_v27 val_main_v26 val_main_v19
  generalize val_main_v14 (F := Ideal) x0 x1 x2 = y
  generalize val_main_v23 (F := Ideal) x0 x1 x2 = y1
  generalize val_main_v31 (F := Ideal) x0 x1 x2 = y2
  pointwise [val_main_v37, val_main_v36, val_main_v33, val_main_v32, val_main_v29, val_main_v28, val_main_v25, val_main_v24, val_main_v21, val_main_v20, val_main_v18, val_main_v17, val_main_v16, val_main_v15]

/-- An entry of the reference's stage 43. -/
theorem v43_at (t : Fin 65536) (k : Fin 2816) : val_main_v43 (F := Ideal) x0 x1 x2 x3 x4 (ix2 t k) =
    act (val_main_v39 (F := Ideal) x0 x1 x2 x3 x4 (ix2 t ⟨k.val, by omega⟩)) (val_main_v39 (F := Ideal) x0 x1 x2 x3 x4 (ix2 t ⟨2816 + k.val, by omega⟩)) := by
  unfold val_main_v43 val_main_v42 val_main_call2_v5 val_main_call2_v3 val_main_call2_v1 val_main_call2_v0 val_main_v41 val_main_v40 act
  generalize val_main_v39 (F := Ideal) x0 x1 x2 x3 x4 = y
  pointwise [val_main_call2_v4, val_main_call2_v2, val_main_call2_cst, val_main_call2_cst_0]

/-- The reference's result at a token and a column. -/
theorem v45_at (t : Fin 65536) (c : Fin 1024) : val_main_v45 (F := Ideal) x0 x1 x2 x3 x4 x5 (ix2 t c) =
    x0 (ix2 t c) + ∑ k, val_main_v43 (F := Ideal) x0 x1 x2 x3 x4 (ix2 t k) * x5 (ix2 k c) := by
  unfold val_main_v45 val_main_v44
  generalize val_main_v43 (F := Ideal) x0 x1 x2 x3 x4 = y
  pointwise

end Cert.Hand.Ffn.Ref

end
-- ==== Proof.Ffn.Final.lean ====
/- The array the gated feed-forward kernel leaves is the reference's. -/
module

public import proofs.«01_k».proof.Proof.Gen.FfnIdeal.Value
public import proofs.«01_k».proof.Proof.Ffn.Keep
public import proofs.«01_k».proof.Proof.Ffn.Ref

@[expose] public section

set_option maxRecDepth 16384

noncomputable section

namespace Cert.Hand.Ffn

open Idealize.ShloMosaic Idealize.ShloMosaic.TcCoe Idealize.SL.Sem Cert.FfnIdeal Cert.FfnIdeal.Gen Cert.FfnRefIdeal.Read

/-- Which block each window reads or writes at a grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] ∧ t.val < 128 :=
  (by decide +kernel : ∀ t : Fin grid0.N, _)

variable (m : (ℓ : Loc nD τ sig) → Buf (Elt Ideal) ℓ) (c : Dev nD)

/-- The token row `r` of grid point `t`. -/
def tok (t : Fin cfg0.N) (r : Fin 512) : Fin 65536 := ⟨t.val * 512 + r.val, by have := (idx t).2.2.2.2.2.2.2; have := r.isLt; omega⟩

/-- An entry of window 0's block, read in its argument. -/
theorem b0 (t : Fin cfg0.N) (r : Fin 512) (e : Fin 1024) : iblk m c 0 t (ix2 r e) = m ((c : Thread nD τ).loc main_arg0) (ix2 (tok t r) e) := by
  blk_ext [iblk, V, idx t, tok]
/-- An entry of window 1's block, read in its argument. -/
theorem b1 (t : Fin cfg0.N) (e : Fin 1024) : iblk m c 1 t (ix2 0 e) = m ((c : Thread nD τ).loc main_arg1) (ix1 e) := by
  blk_point [iblk, V, idx t]
/-- An entry of window 2's block, read in its argument. -/
theorem b2 (t : Fin cfg0.N) (r : Fin 1024) (e : Fin 5632) : iblk m c 2 t (ix2 r e) = m ((c : Thread nD τ).loc main_arg2) (ix2 r e) := by
  blk_point [iblk, V, idx t]
/-- An entry of window 3's block, read in its argument. -/
theorem b3 (t : Fin cfg0.N) (r : Fin 3) (e : Fin 5632) : iblk m c 3 t (ix2 r e) = m ((c : Thread nD τ).loc main_arg3) (ix2 r e) := by
  blk_ext [iblk, V, idx t]
/-- An entry of window 4's block, read in its argument. -/
theorem b4 (t : Fin cfg0.N) (e : Fin 5632) : iblk m c 4 t (ix2 0 e) = m ((c : Thread nD τ).loc main_arg4) (ix1 e) := by
  blk_point [iblk, V, idx t]
/-- An entry of window 5's block, read in its argument. -/
theorem b5 (t : Fin cfg0.N) (r : Fin 2816) (e : Fin 1024) : iblk m c 5 t (ix2 r e) = m ((c : Thread nD τ).loc main_arg5) (ix2 r e) := by
  blk_point [iblk, V, idx t]

/-- The up projection of every token, over the kernel's arguments. -/
abbrev UPR : FVec Ideal Cert.FfnRefIdeal.S65536x5632 .f32 :=
  val_main_v13 (F := Ideal) (m ((c : Thread nD τ).loc main_arg0)) (m ((c : Thread nD τ).loc main_arg1)) (m ((c : Thread nD τ).loc main_arg2))
/-- The convolution of every token, over the kernel's arguments. -/
abbrev CVR : FVec Ideal Cert.FfnRefIdeal.S65536x5632 .f32 :=
  val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4))
/-- The reference's array over the kernel's arguments. -/
abbrev REF : FVec Ideal S65536x1024 .f32 :=
  val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The normalised rows of a grid point. -/
abbrev HID (t : Fin cfg0.N) : FVec Ideal S512x1024 .bf16 := k0_pay3 (iblk m c 0 t) (iblk m c 1 t)

/-- The up projection of a grid point's rows is the reference's. -/
theorem up_eq (t : Fin cfg0.N) (r : Fin 512) (k : Fin 5632) (R : Fin 65536) (hR : R.val = t.val * 512 + r.val) : upB (HID m c t) (iblk m c 2 t) r k = UPR m c (ix2 R k) := by
  obtain rfl : tok t r = R := Fin.ext hR.symm
  rw [UPR, Ref.v13_at]
  unfold upB
  simp only [HID, hid_at, hidB, b0, b1, b2]
  rfl

/-- What a point keeps is the up projection of its last rows. -/
theorem kept_eq (t : Fin cfg0.N) (a : Fin 8) (k : Fin 5632) (R : Fin 65536) (hR : R.val = t.val * 512 + 504 + a.val) : (outsAt0 m c t.val t.isLt).2 (ix3 (slot k) a (place k)) = UPR m c (ix2 R k) := by
  have hk : KEPT (HID m c t) (iblk m c 2 t) (ix3 (slot k) a (place k)) = UPR m c (ix2 R k) := by
    have e : ∀ p, (⟨(slot k).val * 256 + (place k).val, p⟩ : Fin 5632) = k := fun _ => Fin.ext (by simp only [slot, place]; omega)
    refine Eq.trans ?_ (up_eq m c t ⟨504 + a.val, by omega⟩ k R (by dsimp only; omega))
    exact congrArg (upB _ _ _) (e _)
  refine Eq.trans ?_ hk
  by_cases h0 : t.val % 4 = 0
  · rw [outsAt0_A m c t h0]; dsimp only; rw [keepA]
  · rw [outsAt0_B m c t h0]; dsimp only; rw [keepB]

/-- Adding the bias before or after the earlier rows gives the same sum. -/
theorem reorder (a b p q : EReal) : a + b + p + q = a + p + q + b := by
  rw [add_right_comm a b p, add_right_comm (a + p) b q]

/-- The convolution of a grid point's rows is the reference's, the rows before them being `xs`. -/
theorem conv_eq (t : Fin cfg0.N) (xs : Vec Ideal S22x8x256 .f32) (r : Fin 512) (k : Fin 5632)
    (h : ∀ a : Fin 8, xs (ix3 (slot k) a (place k)) = if h0 : t.val % 4 = 0 then 0 else UPR m c (ix2 ⟨t.val * 512 + a.val - 8, by have := (idx t).2.2.2.2.2.2.2; omega⟩ k)) :
    convB (HID m c t) (iblk m c 2 t) (iblk m c 3 t) (iblk m c 4 t) xs r k = CVR m c (ix2 (tok t r) k) := by
  have ht := (idx t).2.2.2.2.2.2.2
  have hr := r.isLt
  rw [CVR, Ref.v39_at, Ref.v23_at, Ref.v31_at]
  simp only [Ref.v14_at]
  have s1 : (if hr : r.val < 1 then xs (ix3 (slot k) ⟨r.val + 7, by omega⟩ (place k)) else upB (HID m c t) (iblk m c 2 t) ⟨r.val - 1, by omega⟩ k)
      = if hs : (tok t r).val % 2048 < 1 then 0 else UPR m c (ix2 ⟨(tok t r).val / 2048 * 2048 + ((tok t r).val % 2048 - 1), by have := (tok t r).isLt; omega⟩ k) := by
    have hv : (tok t r).val = t.val * 512 + r.val := rfl
    by_cases hr1 : r.val < 1
    · rw [dif_pos hr1, h]
      by_cases h0 : t.val % 4 = 0
      · rw [dif_pos h0, dif_pos (by omega)]
      · rw [dif_neg h0, dif_neg (by omega)]
        exact congrArg (fun a => UPR m c (ix2 a k)) (Fin.ext (by dsimp only; omega))
    · rw [dif_neg hr1, dif_neg (by omega)]
      exact up_eq m c t _ k _ (by dsimp only; omega)
  have s2 : (if hr : r.val < 2 then xs (ix3 (slot k) ⟨r.val + 6, by omega⟩ (place k)) else upB (HID m c t) (iblk m c 2 t) ⟨r.val - 2, by omega⟩ k)
      = if hs : (tok t r).val % 2048 < 2 then 0 else UPR m c (ix2 ⟨(tok t r).val / 2048 * 2048 + ((tok t r).val % 2048 - 2), by have := (tok t r).isLt; omega⟩ k) := by
    have hv : (tok t r).val = t.val * 512 + r.val := rfl
    by_cases hr1 : r.val < 2
    · rw [dif_pos hr1, h]
      by_cases h0 : t.val % 4 = 0
      · rw [dif_pos h0, dif_pos (by omega)]
      · rw [dif_neg h0, dif_neg (by omega)]
        exact congrArg (fun a => UPR m c (ix2 a k)) (Fin.ext (by dsimp only; omega))
    · rw [dif_neg hr1, dif_neg (by omega)]
      exact up_eq m c t _ k _ (by dsimp only; omega)
  have s0 := up_eq m c t r k ⟨(tok t r).val / 2048 * 2048 + (tok t r).val % 2048, by have := (tok t r).isLt; omega⟩ (by have hv : (tok t r).val = t.val * 512 + r.val := rfl; dsimp only; omega)
  unfold convB
  rw [s0, s1, s2, b3, b3, b3, b4]
  exact reorder _ _ _ _

/-- A grid point's block is the reference's rows. -/
theorem block_eq (t : Fin cfg0.N) (xs : Vec Ideal S22x8x256 .f32) (r : Fin 512) (e : Fin 1024)
    (h : ∀ k, ∀ a : Fin 8, xs (ix3 (slot k) a (place k)) = if h0 : t.val % 4 = 0 then 0 else UPR m c (ix2 ⟨t.val * 512 + a.val - 8, by have := (idx t).2.2.2.2.2.2.2; omega⟩ k)) :
    k0_pay1 (iblk m c 0 t) (ACTS (HID m c t) (iblk m c 2 t) (iblk m c 3 t) (iblk m c 4 t) xs) (k0_pay129 (iblk m c 5 t)) (constant S512x1024 .f32 0x00000000#32) (ix2 r e) = REF m c (ix2 (tok t r) e) := by
  rw [OUT_at, REF, Ref.v45_at, b0]
  refine congrArg _ (Finset.sum_congr rfl fun k _ => ?_)
  rw [ACTS_at, Ref.v43_at, conv_eq m c t xs r _ (h _), conv_eq m c t xs r _ (h _), b5]

/-- At a grid point the kernel's block is the reference's rows. -/
theorem point (t : Fin cfg0.N) (r : Fin 512) (e : Fin 1024) : (outsAt0 m c t.val t.isLt).1 (ix2 r e) = REF m c (ix2 (tok t r) e) := by
  by_cases h0 : t.val % 4 = 0
  · rw [outsAt0_A m c t h0]
    dsimp only
    rw [outA]
    refine (block_eq m c t _ r e fun k a => ?_)
    rw [dif_pos h0]
    pointwise [k0_pay2]
  · rw [outsAt0_B m c t h0]
    dsimp only
    rw [outB]
    refine (block_eq m c t _ r e fun k a => ?_)
    rw [dif_neg h0]
    exact kept_eq m c ⟨t.val - 1, Nat.lt_of_le_of_lt (Nat.sub_le _ _) t.isLt⟩ a k _ (by dsimp only; omega)

/-- The array the kernel leaves is the reference's. -/
theorem final : (dats m 0 c).arrAt 6 (cfgs 0).N = REF m c := by
  refine (dats m 0 c).arrAt_eq_of_covers 6 _ (by decide +kernel) fun t _ y => ?_
  blk_simp
  rw [after0_6]
  have hy : y = ix2 (y 0 : Fin 512) (y 1 : Fin 1024) := by idx_vars y; rfl
  refine (congrArg _ hy).trans ((point m c t (y 0) (y 1)).trans ?_)
  blk_ext [idx t, tok]

end Cert.Hand.Ffn

end
-- ==== Proof.Ffn.Claim.lean ====
/- The conjuncts of the claim about the gated feed-forward programs. -/
module

public import proofs.«01_k».proof.Defs
public import proofs.«01_k».proof.Proof.Gen.Ffn
public import proofs.«01_k».proof.Proof.Gen.Ffn.Frame
public import proofs.«01_k».proof.Proof.Ffn.Final

@[expose] public section

set_option maxRecDepth 16384

noncomputable section

namespace Cert.Hand.Ffn.Claim

open Idealize.ShloMosaic Idealize.SL.Sem

/-- The feed-forward runs to its end, its arguments unchanged and its counters zero. -/
theorem frameP : Cert.quiescent_Ffn (hFfn := Cert.Ffn.Gen.facts) :=
  fun m g _ => Cert.Ffn.Gen.frame m g

/-- So does the feed-forward over the extended reals. -/
theorem framePI : Cert.quiescent_FfnIdeal (hFfnIdeal := Cert.FfnIdeal.Gen.facts) :=
  fun m g _ => Cert.FfnIdeal.Gen.frame m g

set_option maxHeartbeats 1600000 in
/-- The reference of the feed-forward runs to its end, its arguments unchanged. -/
theorem frameRI : Cert.quiescent_FfnRefIdeal (hFfnRefIdeal := Cert.FfnRefIdeal.Gen.facts) := by
  intro m g _
  hlo_run
  · exact fun _ => by simp only [and_self]
  · exact sem_eq_zero_of_no_sems (sig := Cert.FfnRefIdeal.sig) rfl _

/-- From equal arguments the kernel and the reference end with equal results. -/
theorem algebraic : Cert.algebraic_FfnIdeal_FfnRefIdeal (hFfnIdeal := Cert.FfnIdeal.Gen.facts) (hFfnRefIdeal := Cert.FfnRefIdeal.Gen.facts) := by
  pair_intro
  · run_from Cert.FfnIdeal.Gen.run_main m g
  · run_from Cert.FfnRefIdeal.Value.run m' g'
    rw [Cert.FfnRefIdeal.Read.val_main_v45_eq]
    simp only [hagree c]
    exact (final m c).symm

end Cert.Hand.Ffn.Claim

end
-- ==== Proof.AttnEven.Pre.lean ====
/- What the precondition on the even layers' cross-attention says: the keys and the query gain are reals. -/
module

public import proofs.«01_k».proof.Pre_finite_keys_even
public import proofs.«01_k».proof.Proof.Attn.Pre

@[expose] public section

set_option maxRecDepth 16384

noncomputable section

namespace Cert.Hand.AttnEven

open Idealize.ShloMosaic Cert.Pre_finite_keys_even Cert.Hand.Attn

/-- The shape facts of the precondition's program. -/
theorem preFacts : Cert.Pre_finite_keys_even.Facts := by
  constructor <;> decide +kernel

/-- The precondition at a key: the key and the gain at its lane are below plus infinity in magnitude. -/
theorem fn_at [Cert.Pre_finite_keys_even.Facts] (x0 : FVec Ideal S65536x1024 .f32) (x1 x2 : FVec Ideal S65536x512 .bf16) (x3 : FVec Ideal S1024x1024 .f32) (x4 : FVec Ideal S1024 .f32) (y4 : FVec Ideal S1024x1024 .f32) (y5 : FVec Ideal S256 .f32) (y6 y7 : FVec Ideal S8192x1024 .bf16) (y8 : FVec Ideal S1024x1024 .f32) (i : Fin 8192) (h : Fin 4) (d : Fin 256) :
    fn x0 x1 x2 x3 x4 y4 y5 y6 y7 y8 (ix3 i h d) = BitVec.ofBool (decide (FloatOps.absf (y6 (ix2 i ⟨h.val * 256 + d.val, by have := h.isLt; have := d.isLt; omega⟩)) < Ideal.ofBits FTy.f32 0x7F800000#32) && decide (FloatOps.absf (y5 (ix1 d)) < Ideal.ofBits FTy.f32 0x7F800000#32)) := by
  pointwise [fn]
  exact andB _ _

/-- Where the precondition holds, every key and every component of the query gain is real. -/
theorem reals [Cert.Pre_finite_keys_even.Facts] (x0 : FVec Ideal S65536x1024 .f32) (x1 x2 : FVec Ideal S65536x512 .bf16) (x3 : FVec Ideal S1024x1024 .f32) (x4 : FVec Ideal S1024 .f32) (y4 : FVec Ideal S1024x1024 .f32) (y5 : FVec Ideal S256 .f32) (y6 y7 : FVec Ideal S8192x1024 .bf16) (y8 : FVec Ideal S1024x1024 .f32)
    (h : fn x0 x1 x2 x3 x4 y4 y5 y6 y7 y8 = fun _ => 1#1) : (∀ i, IsR (y5 (ix1 i))) ∧ ∀ i j, IsR (y6 (ix2 i j)) := by
  have key : ∀ (i : Fin 8192) (h : Fin 4) (d : Fin 256), IsR (y6 (ix2 i ⟨h.val * 256 + d.val, by have := h.isLt; have := d.isLt; omega⟩)) ∧ IsR (y5 (ix1 d)) := fun i hh d => by
    have e := (fn_at x0 x1 x2 x3 x4 y4 y5 y6 y7 y8 i hh d).symm.trans (congrFun h _)
    rw [ofBits_inf] at e
    have e := (BitVec.ofBool_eq_iff_eq (b := _) (b' := true)).mp e
    simp only [Bool.and_eq_true, decide_eq_true_eq] at e
    exact ⟨real_of_abs _ e.1, real_of_abs _ e.2⟩
  refine ⟨fun d => (key 0 0 d).2, fun i j => ?_⟩
  have := (key i ⟨j.val / 256, by have := j.isLt; omega⟩ (lane j)).1
  rwa [show (⟨j.val / 256 * 256 + (lane j).val, by have := j.isLt; simp [lane]; omega⟩ : Fin 1024) = j from Fin.ext (by simp [lane]; omega)] at this

end Cert.Hand.AttnEven

end
-- ==== Proof.AttnEven.Head.lean ====
/- The even layers' cross-attention kernel's block, read at an index: its heads are the odd layers' heads. -/
module

public import proofs.«01_k».proof.Proof.Gen.AttnEvenIdeal.Skeleton
public import proofs.«01_k».proof.Proof.Gen.AttnEvenIdeal.Frame
public import proofs.«01_k».proof.Proof.Attn.Head
public import Idealize.ShloMosaic.Lib.Pointwise
public import Idealize.ShloMosaic.Lib.IdealHost
public import Idealize.ShloMosaic.Lib.UnfoldOut
public import Idealize.ShloMosaic.Lib.Pipeline.ValueKit
public import Idealize.ShloMosaic.Lib.Claim

@[expose] public section

set_option maxRecDepth 16384

noncomputable section

namespace Cert.Hand.AttnEven

open Idealize.ShloMosaic Cert.AttnEvenIdeal Cert.AttnEvenIdeal.Gen Cert.Hand.Attn

/-- What the kernel computes for head 0 is a head of its columns of the projection. -/
theorem head0 (v0 v1 v2 v3 v4 v5 v6 g k v) : k0_pay7 (F := Ideal) (k0_pay4 v0 v1 v2 v3 v4 v5 v6) (k0_pay5 g) (k0_pay6 v0 v1 v2 v3 v4 v5 v6) (Scalar.ofBits .f32 0x43800000#32) k v = HEAD (extractStridedSlice S512x256 ![0, 0] (k0_pay3 v0 v1 v2 v3 v4 v5 v6) slices_S512x1024_o0_0_S512x256) g k v := rfl
/-- What the kernel computes for head 1 is a head of its columns of the projection. -/
theorem head1 (y g k v) : k0_pay9 (F := Ideal) (k0_pay8 y g) k v = HEAD (extractStridedSlice S512x256 ![0, 256] y slices_S512x1024_o0_256_S512x256) g k v := rfl
/-- What the kernel computes for head 2 is a head of its columns of the projection. -/
theorem head2 (y g k v) : k0_pay11 (F := Ideal) (k0_pay10 y g k) v = HEAD (extractStridedSlice S512x256 ![0, 512] y slices_S512x1024_o0_512_S512x256) g k v := rfl

/-- The last head and the output projection. -/
theorem head3 (res : FVec Ideal S512x1024 .f32) (y : FVec Ideal S512x1024 .f32) (g : Vec Ideal S1x256 .f32) (k v : Vec Ideal S256x1024 .bf16) (wo : Vec Ideal S1024x1024 .bf16) :
    k0_pay1 (F := Ideal) res (HEAD (extractStridedSlice S512x256 ![0, 0] y slices_S512x1024_o0_0_S512x256) g (View.ld k r0_5) (View.ld v r0_5))
      (HEAD (extractStridedSlice S512x256 ![0, 256] y slices_S512x1024_o0_256_S512x256) g (View.ld k r0_6) (View.ld v r0_6))
      (HEAD (extractStridedSlice S512x256 ![0, 512] y slices_S512x1024_o0_512_S512x256) g (View.ld k r0_7) (View.ld v r0_7))
      (k0_pay12 y g (View.ld k r0_8)) (k0_pay13 y g (View.ld k r0_8)) k0_pay14 (View.ld v r0_8) wo
    = addf res (matmul (φ₁ := .bf16) (φ₂ := .bf16) dot_S512x1024_S1024x1024_S512x1024_1_0_0_1_n_n none (ATT y g k v) (shapeCast S1024x1024 wo shapeCasts_S1024x1024_S1024x1024) (constant S512x1024 .f32 0x00000000#32)) := rfl

/-- An entry of the residual with the mixer's projection. -/
theorem RES_at (x0 : Vec Ideal S512x1024 .f32) (x1 : Vec Ideal S512x512 .bf16) (x2 : Vec Ideal S512x1024 .bf16) (x3 : Vec Ideal S512x512 .bf16) (x4 : Vec Ideal S512x1024 .bf16) (r : Fin 512) (c : Fin 1024) :
    k0_pay2 x0 x1 x2 x3 x4 (ix2 r c) = x0 (ix2 r c) + ∑ x, x1 (ix2 r x) * x2 (ix2 x c) + ∑ x, x3 (ix2 r x) * x4 (ix2 x c) := by
  pointwise [k0_pay2]

/-- An entry of the query projection. -/
theorem PROJ_at (x0 : Vec Ideal S512x1024 .f32) (x1 : Vec Ideal S512x512 .bf16) (x2 : Vec Ideal S512x1024 .bf16) (x3 : Vec Ideal S512x512 .bf16) (x4 : Vec Ideal S512x1024 .bf16) (x5 : Vec Ideal S1x1024 .f32) (x6 : Vec Ideal S1024x1024 .bf16) (r : Fin 512) (c : Fin 1024) :
    k0_pay3 x0 x1 x2 x3 x4 x5 x6 (ix2 r c) = ∑ x, rms l1024 leps (fun e => k0_pay2 x0 x1 x2 x3 x4 (ix2 r e)) (fun e => x5 (ix2 0 e)) x * x6 (ix2 x c) := by
  unfold k0_pay3
  generalize k0_pay2 x0 x1 x2 x3 x4 = y
  pointwise
  rfl

/-- A block of the kernel's result at an index, from the blocks of its arguments. -/
theorem block_at (x0 : Vec Ideal S512x1024 .f32) (x1 x2 : Vec Ideal S512x512 .bf16) (x3 x4 : Vec Ideal S512x1024 .bf16) (x5 : Vec Ideal S1x1024 .f32) (x6 : Vec Ideal S1024x1024 .bf16) (x7 : Vec Ideal S1x256 .f32) (x8 x9 : Vec Ideal S256x1024 .bf16) (x10 : Vec Ideal S1024x1024 .bf16) (r : Fin 512) (c : Fin 1024) :
    out0_11 x0 x1 x2 x3 x4 x5 x6 x7 x8 x9 x10 (ix2 r c) =
      k0_pay2 x0 x1 x3 x2 x4 (ix2 r c) + ∑ x, headK l256 leps l16 (fun e => k0_pay3 x0 x1 x3 x2 x4 x5 x6 (ix2 r (col x e))) (fun e => x7 (ix2 0 e))
        (fun j e => x8 (ix2 j (col x e))) (fun j e => x9 (ix2 j (col x e))) (lane x) * x10 (ix2 x c) := by
  unfold_out out0_11
  frame_out
  rw [head0, head1, head2, head3]
  simp only [← ATT_at]
  exact OUT_at _ _ x10 r c

end Cert.Hand.AttnEven

end
-- ==== Proof.AttnEven.Ref.lean ====
/- The even layers' cross-attention reference is the odd layers' over the two branches side by side. -/
module

public import proofs.«01_k».proof.Proof.Gen.AttnEvenRefIdeal.Read
public import proofs.«01_k».proof.Proof.Attn.Ref

@[expose] public section

set_option maxRecDepth 16384

noncomputable section

namespace Cert.Hand.AttnEven.Ref

open Idealize.ShloMosaic Cert.AttnEvenRefIdeal Cert.Hand.Attn

variable (x0 : (⟨S65536x1024, .f32⟩ : BufTy).Contents (Elt Ideal)) (x1 x2 : (⟨S65536x512, .bf16⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S256, .f32⟩ : BufTy).Contents (Elt Ideal)) (x7 x8 : (⟨S8192x1024, .bf16⟩ : BufTy).Contents (Elt Ideal)) (x9 : (⟨S1024x1024, .f32⟩ : BufTy).Contents (Elt Ideal))

/-- The two branches side by side. -/
def J : FVec Ideal S65536x1024 .bf16 := Read.val_main_v2 (F := Ideal) x1 x2

/-- An entry of the joined branches. -/
theorem J_at (t : Fin 65536) (c : Fin 1024) : J x1 x2 (ix2 t c) = if h : c.val < 512 then x1 (ix2 t ⟨c.val, h⟩) else x2 (ix2 t ⟨c.val - 512, by omega⟩) := by
  unfold J
  pointwise [Read.val_main_v2, Read.val_main_v1, Read.val_main_v0]

/-- The reference's result is the odd layers' reference's of the joined branches. -/
theorem v55_eq : Read.val_main_v55 (F := Ideal) x0 x1 x2 x3 x4 x5 x6 x7 x8 x9 = Cert.AttnRefIdeal.Read.val_main_v53 (F := Ideal) x0 (J x1 x2) x3 x4 x5 x6 x7 x8 x9 := rfl

/-- The joined branches against the weights are the two branches against the weights' halves. -/
theorem res_at (t : Fin 65536) (c : Fin 1024) : Cert.AttnRefIdeal.Read.val_main_v2 (F := Ideal) x0 (J x1 x2) x3 (ix2 t c) =
    x0 (ix2 t c) + ∑ x : Fin 512, x1 (ix2 t x) * x3 (ix2 ⟨x.val, by omega⟩ c) + ∑ x : Fin 512, x2 (ix2 t x) * x3 (ix2 ⟨512 + x.val, by omega⟩ c) := by
  rw [Attn.Ref.v2_at, add_assoc]
  congr 1
  refine (Fin.sum_univ_add (a := 512) (b := 512) (fun x : Fin 1024 => J x1 x2 (ix2 t x) * x3 (ix2 x c))).trans ?_
  congr 1
  · refine Finset.sum_congr rfl fun x _ => ?_
    rw [J_at, dif_pos (by show x.val < 512; exact x.isLt)]; rfl
  · refine Finset.sum_congr rfl fun x _ => ?_
    rw [J_at, dif_neg (by simp)]
    exact congrArg (· * _) (congrArg (fun a => x2 (ix2 t a)) (Fin.ext (by simp)))

end Cert.Hand.AttnEven.Ref

end
-- ==== Proof.AttnEven.Final.lean ====
/- The array the even layers' cross-attention kernel leaves is the reference's. -/
module

public import proofs.«01_k».proof.Proof.Gen.AttnEvenIdeal.Value
public import proofs.«01_k».proof.Proof.AttnEven.Head
public import proofs.«01_k».proof.Proof.AttnEven.Ref
public import Idealize.ShloMosaic.Lib.Pipeline.ValueKit
public import Idealize.ShloMosaic.Lib.Claim

@[expose] public section

set_option maxRecDepth 16384

noncomputable section

namespace Cert.Hand.AttnEven

open Idealize.ShloMosaic Idealize.ShloMosaic.TcCoe Idealize.SL.Sem Cert.AttnEvenIdeal Cert.AttnEvenIdeal.Gen Cert.Hand.Attn

/-- Which block each window reads or writes at a grid point. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![0, 0] ∧ win0_8.index t = ![t.val / 4, 0] ∧ win0_9.index t = ![t.val / 4, 0] ∧ win0_10.index t = ![0, 0] ∧ win0_11.index t = ![t.val, 0] ∧ t.val < 128 :=
  (by decide +kernel : ∀ t : Fin grid0.N, _)

variable (m : (ℓ : Loc nD τ sig) → Buf (Elt Ideal) ℓ) (c : Dev nD)

/-- The token row `r` of grid point `t`. -/
def tok (t : Fin cfg0.N) (r : Fin 512) : Fin 65536 := ⟨t.val * 512 + r.val, by have := (idx t).2.2.2.2.2.2.2.2.2.2.2.2; have := r.isLt; omega⟩
/-- The memory row `j` of grid point `t`. -/
def mrow (t : Fin cfg0.N) (j : Fin 256) : Fin 8192 := ⟨t.val / 4 * 256 + j.val, by have := (idx t).2.2.2.2.2.2.2.2.2.2.2.2; have := j.isLt; omega⟩

/-- An entry of window 0's block, read in its argument. -/
theorem b0 (t : Fin cfg0.N) (r : Fin 512) (e : Fin 1024) : iblk m c 0 t (ix2 r e) = m ((c : Thread nD τ).loc main_arg0) (ix2 (tok t r) e) := by
  blk_ext [iblk, V, idx t, tok]
/-- An entry of window 1's block, read in its argument. -/
theorem b1 (t : Fin cfg0.N) (r : Fin 512) (e : Fin 512) : iblk m c 1 t (ix2 r e) = m ((c : Thread nD τ).loc main_arg1) (ix2 (tok t r) e) := by
  blk_ext [iblk, V, idx t, tok]
/-- An entry of window 2's block, read in its argument. -/
theorem b2 (t : Fin cfg0.N) (r : Fin 512) (e : Fin 512) : iblk m c 2 t (ix2 r e) = m ((c : Thread nD τ).loc main_arg2) (ix2 (tok t r) e) := by
  blk_ext [iblk, V, idx t, tok]
/-- An entry of window 3's block, read in its argument. -/
theorem b3 (t : Fin cfg0.N) (r : Fin 512) (e : Fin 1024) : iblk m c 3 t (ix2 r e) = m ((c : Thread nD τ).loc main_arg3) (ix2 ⟨r.val, by omega⟩ e) := by
  blk_point [iblk, V, idx t]
/-- An entry of window 4's block, read in its argument. -/
theorem b4 (t : Fin cfg0.N) (r : Fin 512) (e : Fin 1024) : iblk m c 4 t (ix2 r e) = m ((c : Thread nD τ).loc main_arg3) (ix2 ⟨512 + r.val, by omega⟩ e) := by
  blk_point [iblk, V, idx t]
/-- An entry of window 5's block, read in its argument. -/
theorem b5 (t : Fin cfg0.N) (e : Fin 1024) : iblk m c 5 t (ix2 0 e) = m ((c : Thread nD τ).loc main_arg4) (ix1 e) := by
  blk_point [iblk, V, idx t]
/-- An entry of window 6's block, read in its argument. -/
theorem b6 (t : Fin cfg0.N) (r e : Fin 1024) : iblk m c 6 t (ix2 r e) = m ((c : Thread nD τ).loc main_arg5) (ix2 r e) := by
  blk_point [iblk, V, idx t]
/-- An entry of window 7's block, read in its argument. -/
theorem b7 (t : Fin cfg0.N) (e : Fin 256) : iblk m c 7 t (ix2 0 e) = m ((c : Thread nD τ).loc main_arg6) (ix1 e) := by
  blk_point [iblk, V, idx t]
/-- An entry of window 8's block, read in its argument. -/
theorem b8 (t : Fin cfg0.N) (r : Fin 256) (e : Fin 1024) : iblk m c 8 t (ix2 r e) = m ((c : Thread nD τ).loc main_arg7) (ix2 (mrow t r) e) := by
  blk_ext [iblk, V, idx t, mrow]
/-- An entry of window 9's block, read in its argument. -/
theorem b9 (t : Fin cfg0.N) (r : Fin 256) (e : Fin 1024) : iblk m c 9 t (ix2 r e) = m ((c : Thread nD τ).loc main_arg8) (ix2 (mrow t r) e) := by
  blk_ext [iblk, V, idx t, mrow]
/-- An entry of window 10's block, read in its argument. -/
theorem b10 (t : Fin cfg0.N) (r e : Fin 1024) : iblk m c 10 t (ix2 r e) = m ((c : Thread nD τ).loc main_arg9) (ix2 r e) := by
  blk_point [iblk, V, idx t]

/-- The reference's array over the kernel's arguments. -/
abbrev REF : FVec Ideal S65536x1024 .f32 :=
  Cert.AttnEvenRefIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The two branches of the kernel's arguments side by side. -/
abbrev JJ : FVec Ideal S65536x1024 .bf16 := Ref.J (m ((c : Thread nD τ).loc main_arg1)) (m ((c : Thread nD τ).loc main_arg2))

/-- At a grid point the kernel's block is the reference's rows. -/
theorem point (hg : ∀ i, IsR (m ((c : Thread nD τ).loc main_arg6) (ix1 i))) (hk : ∀ i j, IsR (m ((c : Thread nD τ).loc main_arg7) (ix2 i j)))
    (t : Fin cfg0.N) (r : Fin 512) (e : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r e) = REF m c (ix2 (tok t r) e) := by
  have hres : ∀ e, k0_pay2 (F := Ideal) (iblk m c 0 t) (iblk m c 1 t) (iblk m c 3 t) (iblk m c 2 t) (iblk m c 4 t) (ix2 r e) = Cert.AttnRefIdeal.Read.val_main_v2 (F := Ideal) (m ((c : Thread nD τ).loc main_arg0)) (JJ m c) (m ((c : Thread nD τ).loc main_arg3)) (ix2 (tok t r) e) := fun e => by
    rw [RES_at, Ref.res_at]; simp only [b0, b1, b2, b3, b4]
  have hproj : ∀ e, k0_pay3 (F := Ideal) (iblk m c 0 t) (iblk m c 1 t) (iblk m c 3 t) (iblk m c 2 t) (iblk m c 4 t) (iblk m c 5 t) (iblk m c 6 t) (ix2 r e) = Cert.AttnRefIdeal.Read.val_main_v16 (F := Ideal) (m ((c : Thread nD τ).loc main_arg0)) (JJ m c) (m ((c : Thread nD τ).loc main_arg3)) (m ((c : Thread nD τ).loc main_arg4)) (m ((c : Thread nD τ).loc main_arg5)) (ix2 (tok t r) e) := fun e => by
    rw [PROJ_at, Attn.Ref.v16_at]; simp only [Attn.Ref.v15_at, hres, b5, b6]
  have hb : ∀ (j : Fin 256) p, (⟨(tok t r).val / 2048 * 256 + j.val, p⟩ : Fin 8192) = mrow t j := fun j _ => Fin.ext (by
    have := r.isLt
    show (t.val * 512 + r.val) / 2048 * 256 + j.val = t.val / 4 * 256 + j.val
    omega)
  rw [block_at, REF, Ref.v55_eq, Attn.Ref.v53_at, hres]
  simp only [Attn.Ref.v51_at, hproj, b7, b8, b9, b10, hb]
  congr 1
  refine Finset.sum_congr rfl fun x _ => ?_
  rw [head_eq' _ _ _ _ _ hg fun j i => hk _ _]

/-- The array the kernel leaves is the reference's. -/
theorem final (hg : ∀ i, IsR (m ((c : Thread nD τ).loc main_arg6) (ix1 i))) (hk : ∀ i j, IsR (m ((c : Thread nD τ).loc main_arg7) (ix2 i j))) :
    (dats m 0 c).arrAt 11 (cfgs 0).N = REF m c := by
  refine (dats m 0 c).arrAt_eq_of_covers 11 _ (by decide +kernel) fun t _ y => ?_
  blk_simp
  rw [after0_11]
  have hy : y = ix2 (y 0 : Fin 512) (y 1 : Fin 1024) := by idx_vars y; rfl
  refine (congrArg _ hy).trans ((point m c hg hk t (y 0) (y 1)).trans ?_)
  blk_ext [idx t, tok]

end Cert.Hand.AttnEven

end
-- ==== Proof.AttnEven.Claim.lean ====
/- The conjuncts of the claim about the even layers' cross-attention. -/
module

public import proofs.«01_k».proof.Defs
public import proofs.«01_k».proof.Proof.Gen.AttnEven
public import proofs.«01_k».proof.Proof.Gen.AttnEven.Frame
public import proofs.«01_k».proof.Proof.AttnEven.Pre
public import proofs.«01_k».proof.Proof.AttnEven.Final

@[expose] public section

set_option maxRecDepth 16384

noncomputable section

namespace Cert.Hand.AttnEven.Claim

open Idealize.ShloMosaic Idealize.SL.Sem

/-- The cross-attention of the even layers runs to its end, its arguments unchanged and its counters zero. -/
theorem frameP : Cert.quiescent_AttnEven (hAttnEven := Cert.AttnEven.Gen.facts)  :=
  fun m g _ => Cert.AttnEven.Gen.frame m g

/-- So does the cross-attention of the even layers over the extended reals. -/
theorem framePI : Cert.quiescent_AttnEvenIdeal (hAttnEvenIdeal := Cert.AttnEvenIdeal.Gen.facts)  :=
  fun m g _ => Cert.AttnEvenIdeal.Gen.frame m g

/-- The same, where the precondition holds. -/
theorem framePI' : Cert.quiescent_AttnEvenIdeal_pre_finite_keys_even (hAttnEvenIdeal := Cert.AttnEvenIdeal.Gen.facts) (hPre_finite_keys_even := preFacts)  :=
  fun m g _ => Cert.AttnEvenIdeal.Gen.frame m g

set_option maxHeartbeats 1600000 in
/-- The reference of the cross-attention of the even layers runs to its end, its arguments unchanged. -/
theorem frameRI : Cert.quiescent_AttnEvenRefIdeal (hAttnEvenRefIdeal := Cert.AttnEvenRefIdeal.Gen.facts) := by
  intro m g _
  hlo_run
  · exact fun _ => by simp only [and_self]
  · exact sem_eq_zero_of_no_sems (sig := Cert.AttnEvenRefIdeal.sig) rfl _

set_option maxHeartbeats 1600000 in
/-- The same for the reference, where the precondition holds. -/
theorem frameRI' : Cert.quiescent_AttnEvenRefIdeal_pre_finite_keys_even (hAttnEvenRefIdeal := Cert.AttnEvenRefIdeal.Gen.facts) (hPre_finite_keys_even := preFacts) := by
  intro m g _
  hlo_run
  · exact fun _ => by simp only [and_self]
  · exact sem_eq_zero_of_no_sems (sig := Cert.AttnEvenRefIdeal.sig) rfl _

/-- From equal arguments the kernel and the reference end with equal results. -/
theorem algebraic : Cert.algebraic_AttnEvenIdeal_AttnEvenRefIdeal_pre_finite_keys_even (hAttnEvenIdeal := Cert.AttnEvenIdeal.Gen.facts) (hAttnEvenRefIdeal := Cert.AttnEvenRefIdeal.Gen.facts) (hPre_finite_keys_even := preFacts) := by
  pair_intro
  · run_from Cert.AttnEvenIdeal.Gen.run_main m g
  · run_from Cert.AttnEvenRefIdeal.Value.run m' g'
    haveI := preFacts
    have h := reals _ _ _ _ _ _ _ _ _ _ (hpre c)
    rw [Cert.AttnEvenRefIdeal.Read.val_main_v55_eq]
    simp only [hagree c]
    exact (final m c h.1 h.2).symm

end Cert.Hand.AttnEven.Claim

end
-- ==== Proof.Gates.Spec.lean ====
/- The gates on extended reals: the logistic function from the exponential of a magnitude, and the logarithm of the
   forget gate. -/
module

public import proofs.«01_k».proof.Proof.Attn.Spec

@[expose] public section

noncomputable section

namespace Cert.Hand.Gates

open Idealize.ShloMosaic

/-- The logistic function. -/
def sg (x : EReal) : EReal := Ideal.div 1 (1 + Ideal.exp (-x))

/-- The logarithm of the forget gate with the lower bound `b` at the logit `x`. -/
def lf (b x : EReal) : EReal := Ideal.log (b + (1 - b) * sg x)

/-- Above zero and below plus infinity. -/
def IsPos (x : EReal) : Prop := 0 < x ∧ x < ⊤

/-- One divided by a real. -/
theorem div_real (r : ℝ) (h : r ≠ 0) : Ideal.div 1 (r : EReal) = ((1 / r : ℝ) : EReal) := by
  have h' : (r : EReal) ≠ 0 := by exact_mod_cast h
  rw [Ideal.div, if_neg h', one_mul, ← EReal.coe_inv, one_div]

/-- The exponential of a real. -/
theorem exp_real (r : ℝ) : Ideal.exp (r : EReal) = ((Real.exp r : ℝ) : EReal) := rfl

/-- The logistic function of a real. -/
theorem sg_coe (r : ℝ) : sg (r : EReal) = ((1 / (1 + Real.exp (-r)) : ℝ) : EReal) := by
  have h : (1 + Real.exp (-r)) ≠ 0 := (add_pos one_pos (Real.exp_pos _)).ne'
  rw [sg, ← EReal.coe_neg, exp_real, ← EReal.coe_one, ← EReal.coe_add, EReal.coe_one, div_real _ h]

/-- The logistic function at minus infinity. -/
theorem sg_bot : sg ⊥ = 0 := by
  show Ideal.div 1 (1 + Ideal.exp (-⊥)) = 0
  rw [EReal.neg_bot]
  show Ideal.div 1 (1 + ⊤) = 0
  rw [← EReal.coe_one, EReal.coe_add_top, Ideal.div, if_neg (by simp), EReal.inv_top, mul_zero]

/-- The logistic function at plus infinity. -/
theorem sg_top : sg ⊤ = 1 := by
  show Ideal.div 1 (1 + Ideal.exp (-⊤)) = 1
  rw [EReal.neg_top]
  show Ideal.div 1 (1 + 0) = 1
  rw [add_zero, ← EReal.coe_one, EReal.coe_one, show (1 : EReal) = ((1 : ℝ) : EReal) from rfl]
  exact (div_real 1 one_ne_zero).trans (by simp)

/-- The logistic function's values are reals between zero and one. -/
theorem sg_real (x : EReal) : ∃ s : ℝ, 0 ≤ s ∧ s ≤ 1 ∧ sg x = (s : EReal) := by
  induction x using EReal.rec with
  | bot => exact ⟨0, le_rfl, zero_le_one, sg_bot⟩
  | top => exact ⟨1, zero_le_one, le_rfl, sg_top⟩
  | coe r =>
    have h : 0 < 1 + Real.exp (-r) := add_pos one_pos (Real.exp_pos _)
    refine ⟨_, by positivity, ?_, sg_coe r⟩
    rw [div_le_one h]
    linarith [Real.exp_pos (-r)]

/-- Below zero the logistic function is the exponential over one more than it. -/
theorem sg_low (x : EReal) (h : x ≤ 0) : Ideal.exp x * Ideal.div 1 (1 + Ideal.exp x) = sg x := by
  induction x using EReal.rec with
  | bot => rw [sg_bot]; exact zero_mul _
  | top => exact absurd h (by simp)
  | coe r =>
    have h : (1 + Real.exp r) ≠ 0 := (add_pos one_pos (Real.exp_pos _)).ne'
    rw [sg_coe, exp_real, ← EReal.coe_one, ← EReal.coe_add, EReal.coe_one, div_real _ h, ← EReal.coe_mul]
    congr 1
    rw [Real.exp_neg]
    have := (Real.exp_pos r).ne'
    field_simp
    ring

/-- With a positive real lower bound the logarithm of the forget gate is real, so less itself it is zero. -/
theorem lf_sub (b x : EReal) (h0 : 0 < b) (h1 : b < ⊤) : lf b x - lf b x = 0 := by
  obtain ⟨s, hs0, hs1, hs⟩ := sg_real x
  induction b using EReal.rec with
  | bot => exact absurd h0 (by simp)
  | top => exact absurd h1 (by simp)
  | coe b =>
    have hb : 0 < b := by exact_mod_cast h0
    have hp : 0 < b + (1 - b) * s := by
      have e : b + (1 - b) * s = b * (1 - s) + s := by ring
      have h2 : 0 ≤ b * (1 - s) := mul_nonneg hb.le (by linarith)
      rcases hs0.lt_or_eq with h | h
      · linarith
      · rw [← h]; linarith
    have e : lf b x = ((Real.log (b + (1 - b) * s) : ℝ) : EReal) := by
      rw [lf, hs, ← EReal.coe_one, ← EReal.coe_sub, ← EReal.coe_mul, ← EReal.coe_add]
      show (if _ ≤ (0 : ℝ) then _ else _) = _
      rw [if_neg hp.not_ge]
    rw [e, ← EReal.coe_sub, sub_self]; rfl

/-- The logistic function as the kernel computes it. -/
theorem sg_pos (x : EReal) : (if 0 ≤ x then Ideal.div 1 (1 + Ideal.exp (0 - max x (-x))) else Ideal.exp (0 - max x (-x)) * Ideal.div 1 (1 + Ideal.exp (0 - max x (-x)))) = sg x := by
  split
  · next h =>
    have : -x ≤ 0 := EReal.neg_le_zero.mpr h
    rw [max_eq_left (this.trans h), zero_sub]; rfl
  · next h =>
    have h := (not_le.mp h).le
    have : 0 ≤ -x := EReal.neg_nonneg.mpr h
    rw [max_eq_right (h.trans this), zero_sub, neg_neg]
    exact sg_low x h

/-- The logistic function of the negation as the kernel computes it. -/
theorem sg_neg (x : EReal) : (if 0 ≤ x then Ideal.exp (0 - max x (-x)) * Ideal.div 1 (1 + Ideal.exp (0 - max x (-x))) else Ideal.div 1 (1 + Ideal.exp (0 - max x (-x)))) = sg (-x) := by
  split
  · next h =>
    have : -x ≤ 0 := EReal.neg_le_zero.mpr h
    rw [max_eq_left (this.trans h), zero_sub]
    exact sg_low _ this
  · next h =>
    have h := (not_le.mp h).le
    have : 0 ≤ -x := EReal.neg_nonneg.mpr h
    rw [max_eq_right (h.trans this), zero_sub]; rfl

end Cert.Hand.Gates

end
-- ==== Proof.Gates.Pre.lean ====
/- What the precondition on the recurrent layers' input projection says: the lower bounds are positive reals. -/
module

public import proofs.«01_k».proof.Pre_positive_bound
public import proofs.«01_k».proof.Proof.Attn.Pre
public import proofs.«01_k».proof.Proof.Gates.Spec

@[expose] public section

set_option maxRecDepth 16384

noncomputable section

namespace Cert.Hand.Gates

open Idealize.ShloMosaic Cert.Pre_positive_bound Cert.Hand.Attn

/-- The shape facts of the precondition's program. -/
theorem preFacts : Cert.Pre_positive_bound.Facts := by
  constructor <;> decide +kernel

/-- The precondition at a lower bound. -/
theorem fn_at [Cert.Pre_positive_bound.Facts] (x0 : FVec Ideal S65536x1024 .f32) (x1 : FVec Ideal S1024 .f32) (x2 : FVec Ideal S1024x4096 .f32) (x3 : FVec Ideal S1024 .f32) (i : Fin 1024) :
    fn x0 x1 x2 x3 (ix1 i) = BitVec.ofBool (decide (0 < x3 (ix1 i)) && decide (x3 (ix1 i) < Ideal.ofBits FTy.f32 0x7F800000#32)) := by
  pointwise [fn]
  exact andB _ _

/-- Where the precondition holds, every lower bound is above zero and below plus infinity. -/
theorem bounds [Cert.Pre_positive_bound.Facts] (x0 : FVec Ideal S65536x1024 .f32) (x1 : FVec Ideal S1024 .f32) (x2 : FVec Ideal S1024x4096 .f32) (x3 : FVec Ideal S1024 .f32)
    (h : fn x0 x1 x2 x3 = fun _ => 1#1) (i : Fin 1024) : IsPos (x3 (ix1 i)) := by
  have e := (fn_at x0 x1 x2 x3 i).symm.trans (congrFun h _)
  rw [ofBits_inf] at e
  have e := (BitVec.ofBool_eq_iff_eq (b := _) (b' := true)).mp e
  simpa only [Bool.and_eq_true, decide_eq_true_eq, IsPos] using e

end Cert.Hand.Gates

end
-- ==== Proof.Gates.Block.lean ====
/- The recurrent layers' input projection: its block, written by a few vector functions, read at an index. -/
module

public import proofs.«01_k».proof.Proof.Gen.GatesIdeal.Skeleton
public import proofs.«01_k».proof.Proof.Gen.GatesIdeal.Frame
public import proofs.«01_k».proof.Proof.Gates.Spec
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.UnfoldOut
public import Idealize.ShloMosaic.Lib.Claim

@[expose] public section

set_option maxRecDepth 16384

noncomputable section

namespace Cert.Hand.Gates

open Idealize.ShloMosaic Cert.GatesIdeal Cert.GatesIdeal.Gen Cert.Hand.Attn

/-- A chunk of the projection. -/
def MMF (h : FVec Ideal S512x1024 .bf16) (w : Vec Ideal S1024x256 .bf16) : FVec Ideal S512x256 .f32 :=
  matmul (φ₁ := .bf16) (φ₂ := .bf16) dot_S512x1024_S1024x256_S512x256_1_0_0_1_n_n none h (shapeCast S1024x256 w shapeCasts_S1024x256_S1024x256) (constant S512x256 .f32 0x00000000#32)

/-- The cast of a chunk to the stored type. -/
def TR (p : FVec Ideal S512x256 .f32) : FVec Ideal S512x256 .bf16 := truncf .bf16 p bitsLt_bf16_f32

/-- The exponential of a chunk's negated magnitudes. -/
def EN (p : FVec Ideal S512x256 .f32) : FVec Ideal S512x256 .f32 :=
  exp (subf (broadcast S512x256 (Scalar.ofBits .f32 0x00000000#32 : Ideal .f32)) (absf p))

/-- One over one more than it. -/
def BIG (p : FVec Ideal S512x256 .f32) : FVec Ideal S512x256 .f32 :=
  divf (broadcast S512x256 (Scalar.ofBits .f32 0x3F800000#32 : Ideal .f32)) (addf (broadcast S512x256 (Scalar.ofBits .f32 0x3F800000#32 : Ideal .f32)) (EN p))

/-- Where a chunk is not negative. -/
def GE (p : FVec Ideal S512x256 .f32) : IVec S512x256 1 := cmpf .oge p (broadcast S512x256 (Scalar.ofBits .f32 0x00000000#32 : Ideal .f32))

/-- The logistic function of a chunk. -/
def SGP (p : FVec Ideal S512x256 .f32) : FVec Ideal S512x256 .f32 := select (GE p) (BIG p) (mulf (EN p) (BIG p))

/-- The logistic function of a chunk's negation. -/
def SGN (p : FVec Ideal S512x256 .f32) : FVec Ideal S512x256 .f32 := select (GE p) (mulf (EN p) (BIG p)) (BIG p)

/-- One less the lower bounds, on every row. -/
def OML (b : Vec Ideal S1x256 .f32) : FVec Ideal S512x256 .f32 :=
  broadcastTo S512x256 (subf (broadcast S1x256 (Scalar.ofBits .f32 0x3F800000#32 : Ideal .f32)) (shapeCast S1x256 b shapeCasts_S1x256_S1x256)) broadcasts_S1x256_S512x256

/-- The logarithm of the forget gate. -/
def LOGF (b : Vec Ideal S1x256 .f32) (p : FVec Ideal S512x256 .f32) : FVec Ideal S512x256 .f32 :=
  log (addf (broadcastTo S512x256 (shapeCast S1x256 b shapeCasts_S1x256_S1x256) broadcasts_S1x256_S512x256) (mulf (OML b) (SGP p)))

/-- What the stored logarithm leaves out of it. -/
def LO (b : Vec Ideal S1x256 .f32) (p : FVec Ideal S512x256 .f32) : FVec Ideal S512x256 .bf16 :=
  truncf .bf16 (subf (LOGF b p) (extf .f32 (TR (LOGF b p)) bitsLt_bf16_f32)) bitsLt_bf16_f32

/-- The input gate. -/
def KEY (b : Vec Ideal S1x256 .f32) (p : FVec Ideal S512x256 .f32) : FVec Ideal S512x256 .bf16 :=
  truncf .bf16 (mulf (OML b) (SGN p)) bitsLt_bf16_f32

/-- The gated linear unit of a chunk. -/
def SILU (p : FVec Ideal S512x256 .f32) : FVec Ideal S512x256 .bf16 :=
  truncf .bf16 (mulf p (divf (broadcast S512x256 (Scalar.ofBits .f32 0x3F800000#32 : Ideal .f32)) (addf (broadcast S512x256 (Scalar.ofBits .f32 0x3F800000#32 : Ideal .f32)) (exp (subf (broadcast S512x256 (Scalar.ofBits .f32 0x00000000#32 : Ideal .f32)) p))))) bitsLt_bf16_f32

/-- An entry of a matrix product. -/
theorem MMF_at (h : FVec Ideal S512x1024 .bf16) (w : Vec Ideal S1024x256 .bf16) (r : Fin 512) (c : Fin 256) :
    MMF h w (ix2 r c) = ∑ x, h (ix2 r x) * w (ix2 x c) := by
  pointwise [MMF]
/-- Rounding changes no entry. -/
theorem TR_at (p : FVec Ideal S512x256 .f32) (r : Fin 512) (c : Fin 256) : TR p (ix2 r c) = p (ix2 r c) := by
  pointwise [TR]
/-- An entry of the logistic function. -/
theorem SGP_at (p : FVec Ideal S512x256 .f32) (r : Fin 512) (c : Fin 256) : SGP p (ix2 r c) = sg (p (ix2 r c)) := by
  pointwise [SGP, GE, BIG, EN]
  exact sg_pos _
/-- An entry of the logistic function of the negated argument. -/
theorem SGN_at (p : FVec Ideal S512x256 .f32) (r : Fin 512) (c : Fin 256) : SGN p (ix2 r c) = sg (-p (ix2 r c)) := by
  pointwise [SGN, GE, BIG, EN]
  exact sg_neg _
/-- An entry of one less the bound. -/
theorem OML_at (b : Vec Ideal S1x256 .f32) (r : Fin 512) (c : Fin 256) : OML b (ix2 r c) = 1 - b (ix2 0 c) := by
  pointwise [OML]
/-- An entry of the logarithm of the forget gate. -/
theorem LOGF_at (b : Vec Ideal S1x256 .f32) (p : FVec Ideal S512x256 .f32) (r : Fin 512) (c : Fin 256) : LOGF b p (ix2 r c) = lf (b (ix2 0 c)) (p (ix2 r c)) := by
  unfold LOGF lf
  rw [← SGP_at, ← OML_at b r c]
  generalize SGP p = s
  generalize OML b = q
  pointwise
/-- An entry of the residue of rounding that logarithm. -/
theorem LO_at (b : Vec Ideal S1x256 .f32) (p : FVec Ideal S512x256 .f32) (r : Fin 512) (c : Fin 256) : LO b p (ix2 r c) = lf (b (ix2 0 c)) (p (ix2 r c)) - lf (b (ix2 0 c)) (p (ix2 r c)) := by
  rw [← LOGF_at]
  unfold LO TR
  generalize LOGF b p = s
  pointwise
/-- An entry of the key. -/
theorem KEY_at (b : Vec Ideal S1x256 .f32) (p : FVec Ideal S512x256 .f32) (r : Fin 512) (c : Fin 256) : KEY b p (ix2 r c) = (1 - b (ix2 0 c)) * sg (-p (ix2 r c)) := by
  rw [← SGN_at, ← OML_at b r c]
  unfold KEY
  generalize SGN p = s
  generalize OML b = q
  pointwise
/-- An entry of the gated activation. -/
theorem SILU_at (p : FVec Ideal S512x256 .f32) (r : Fin 512) (c : Fin 256) : SILU p (ix2 r c) = p (ix2 r c) * sg (p (ix2 r c)) := by
  unfold sg
  pointwise [SILU]
  rw [zero_sub]

/-- An entry of the normalised rows. -/
theorem hid_at (x0 : Vec Ideal S512x1024 .f32) (x1 : Vec Ideal S1x1024 .f32) (r : Fin 512) (c : Fin 1024) :
    k0_pay2 x0 x1 (ix2 r c) = rms l1024 leps (fun e => x0 (ix2 r e)) (fun e => x1 (ix2 0 e)) c := by
  pointwise [k0_pay2]
  rfl

/-- The column `j` of the projection's section `n` at a row. -/
def prj (h : FVec Ideal S512x1024 .bf16) (x2 : Vec Ideal S1024x4096 .bf16) (r : Fin 512) (n : ℕ) (hn : n < 4) (j : Fin 1024) : EReal :=
  ∑ x, h (ix2 r x) * x2 (ix2 x ⟨n * 1024 + j.val, by have := j.isLt; omega⟩)

/-- The column `j` of the result's section `k`, from the projection's sections and the lower bound. -/
def sect (k : ℕ) (p : (n : ℕ) → n < 4 → EReal) (b : EReal) : EReal :=
  match k with
  | 0 => p 0 (by decide)
  | 1 => lf b (p 1 (by decide))
  | 2 => p 2 (by decide)
  | 3 => p 3 (by decide) * sg (p 3 (by decide))
  | 4 => lf b (p 1 (by decide)) - lf b (p 1 (by decide))
  | _ => (1 - b) * sg (-p 1 (by decide))

/-- The whole block by its index. -/
def BLK (h : FVec Ideal S512x1024 .bf16) (x2 : Vec Ideal S1024x4096 .bf16) (x3 : Vec Ideal S1x1024 .f32) : S512x6144.Idx → Ideal .bf16 := fun y =>
  sect ((y 1 : Fin 6144).val / 1024) (fun n hn => prj h x2 (y 0 : Fin 512) n hn ⟨(y 1 : Fin 6144).val % 1024, Nat.mod_lt _ (by decide)⟩) (x3 (ix2 0 ⟨(y 1 : Fin 6144).val % 1024, Nat.mod_lt _ (by decide)⟩))

/-- An entry of the block in a given section. -/
theorem BLK_of (h : FVec Ideal S512x1024 .bf16) (x2 : Vec Ideal S1024x4096 .bf16) (x3 : Vec Ideal S1x1024 .f32) (y : S512x6144.Idx) (r : Fin 512) (k : ℕ) (j : Fin 1024)
    (h0 : (y 0).val = r.val) (h1 : (y 1).val = k * 1024 + j.val) : BLK h x2 x3 y = sect k (fun n hn => prj h x2 r n hn j) (x3 (ix2 0 j)) := by
  have hj := j.isLt
  have e0 : (y 0 : Fin 512) = r := Fin.ext h0
  have e1 : (y 1 : Fin 6144).val / 1024 = k := by rw [h1]; omega
  have e2 : (⟨(y 1 : Fin 6144).val % 1024, Nat.mod_lt _ (by decide)⟩ : Fin 1024) = j := Fin.ext (by show (y 1).val % 1024 = j.val; rw [h1]; omega)
  unfold BLK
  rw [e0, e1, e2]

/-- A piece of section 0 is its columns of the block. -/
theorem piece0 (h : FVec Ideal S512x1024 .bf16) (x2 : Vec Ideal S1024x4096 .bf16) (x3 : Vec Ideal S1x1024 .f32) (o n w : ℕ)
    (hw : ∀ a, (![0, w] : Fin 2 → ℕ) a + (![1024, 256] : Fin 2 → ℕ) a ≤ S1024x4096.size a) (hs : ∀ a, (![0, n] : Fin 2 → ℕ) a + (![512, 256] : Fin 2 → ℕ) a ≤ S512x6144.size a)
    (en : n = 0 + o) (ew : w = 0 + o) (ho : o ≤ 768) (x : S512x256.Idx) :
    TR (MMF h (View.ld x2 (Rect.unit (s := S1024x4096) ![0, w] ![1024, 256] hw))) x = BLK h x2 x3 ((Rect.unit (s := S512x6144) ![0, n] ![512, 256] hs).emb x) := by
  obtain ⟨r, hr⟩ : ∃ r : Fin 512, r = x 0 := ⟨_, rfl⟩
  obtain ⟨l, hl⟩ : ∃ l : Fin 256, l = x 1 := ⟨_, rfl⟩
  have hx : x = (ix2 r l : S512x256.Idx) := by
    subst hr hl
    funext a; fin_cases a <;> rfl
  have k0 : (((Rect.unit (s := S512x6144) ![0, n] ![512, 256] hs).emb x) 0).val = 0 + 1 * (x 0).val := rfl
  have k1 : (((Rect.unit (s := S512x6144) ![0, n] ![512, 256] hs).emb x) 1).val = n + 1 * (x 1).val := rfl
  generalize (Rect.unit (s := S512x6144) ![0, n] ![512, 256] hs).emb x = y at k0 k1 ⊢
  rw [← hr] at k0
  rw [← hl] at k1
  have hl := l.isLt
  rw [hx, TR_at, BLK_of h x2 x3 y r 0 ⟨o + l.val, by omega⟩ (by omega) (by show _ = _ + (o + l.val); omega)]
  have hp : MMF h (View.ld x2 (Rect.unit (s := S1024x4096) ![0, w] ![1024, 256] hw)) (ix2 r l) = prj h x2 r 0 (by decide) ⟨o + l.val, by omega⟩ := by
    rw [MMF_at, prj]
    refine Finset.sum_congr rfl fun e _ => congrArg (h (ix2 r e) * ·) ?_
    pointwise
    refine congrArg (fun a => x2 (ix2 e a)) (Fin.ext ?_)
    show w + l.val = o + l.val
    omega
  rw [hp]
  rfl

/-- A piece of section 1 is its columns of the block. -/
theorem piece1 (h : FVec Ideal S512x1024 .bf16) (x2 : Vec Ideal S1024x4096 .bf16) (x3 : Vec Ideal S1x1024 .f32) (o n w : ℕ) (hb : ∀ a, (![0, o] : Fin 2 → ℕ) a + (![1, 256] : Fin 2 → ℕ) a ≤ S1x1024.size a)
    (hw : ∀ a, (![0, w] : Fin 2 → ℕ) a + (![1024, 256] : Fin 2 → ℕ) a ≤ S1024x4096.size a) (hs : ∀ a, (![0, n] : Fin 2 → ℕ) a + (![512, 256] : Fin 2 → ℕ) a ≤ S512x6144.size a)
    (en : n = 1024 + o) (ew : w = 1024 + o) (ho : o ≤ 768) (x : S512x256.Idx) :
    TR (LOGF (View.ld x3 (Rect.unit (s := S1x1024) ![0, o] ![1, 256] hb)) (MMF h (View.ld x2 (Rect.unit (s := S1024x4096) ![0, w] ![1024, 256] hw)))) x = BLK h x2 x3 ((Rect.unit (s := S512x6144) ![0, n] ![512, 256] hs).emb x) := by
  obtain ⟨r, hr⟩ : ∃ r : Fin 512, r = x 0 := ⟨_, rfl⟩
  obtain ⟨l, hl⟩ : ∃ l : Fin 256, l = x 1 := ⟨_, rfl⟩
  have hx : x = (ix2 r l : S512x256.Idx) := by
    subst hr hl
    funext a; fin_cases a <;> rfl
  have k0 : (((Rect.unit (s := S512x6144) ![0, n] ![512, 256] hs).emb x) 0).val = 0 + 1 * (x 0).val := rfl
  have k1 : (((Rect.unit (s := S512x6144) ![0, n] ![512, 256] hs).emb x) 1).val = n + 1 * (x 1).val := rfl
  generalize (Rect.unit (s := S512x6144) ![0, n] ![512, 256] hs).emb x = y at k0 k1 ⊢
  rw [← hr] at k0
  rw [← hl] at k1
  have hl := l.isLt
  rw [hx, TR_at, LOGF_at, BLK_of h x2 x3 y r 1 ⟨o + l.val, by omega⟩ (by omega) (by show _ = _ + (o + l.val); omega)]
  have hp : MMF h (View.ld x2 (Rect.unit (s := S1024x4096) ![0, w] ![1024, 256] hw)) (ix2 r l) = prj h x2 r 1 (by decide) ⟨o + l.val, by omega⟩ := by
    rw [MMF_at, prj]
    refine Finset.sum_congr rfl fun e _ => congrArg (h (ix2 r e) * ·) ?_
    pointwise
    refine congrArg (fun a => x2 (ix2 e a)) (Fin.ext ?_)
    show w + l.val = 1 * 1024 + (o + l.val)
    omega
  have hq : (View.ld x3 (Rect.unit (s := S1x1024) ![0, o] ![1, 256] hb)) (ix2 0 l) = x3 (ix2 0 ⟨o + l.val, by omega⟩) := by
    pointwise
  rw [hp, hq]
  rfl

/-- A piece of section 2 is its columns of the block. -/
theorem piece2 (h : FVec Ideal S512x1024 .bf16) (x2 : Vec Ideal S1024x4096 .bf16) (x3 : Vec Ideal S1x1024 .f32) (o n w : ℕ)
    (hw : ∀ a, (![0, w] : Fin 2 → ℕ) a + (![1024, 256] : Fin 2 → ℕ) a ≤ S1024x4096.size a) (hs : ∀ a, (![0, n] : Fin 2 → ℕ) a + (![512, 256] : Fin 2 → ℕ) a ≤ S512x6144.size a)
    (en : n = 2048 + o) (ew : w = 2048 + o) (ho : o ≤ 768) (x : S512x256.Idx) :
    TR (MMF h (View.ld x2 (Rect.unit (s := S1024x4096) ![0, w] ![1024, 256] hw))) x = BLK h x2 x3 ((Rect.unit (s := S512x6144) ![0, n] ![512, 256] hs).emb x) := by
  obtain ⟨r, hr⟩ : ∃ r : Fin 512, r = x 0 := ⟨_, rfl⟩
  obtain ⟨l, hl⟩ : ∃ l : Fin 256, l = x 1 := ⟨_, rfl⟩
  have hx : x = (ix2 r l : S512x256.Idx) := by
    subst hr hl
    funext a; fin_cases a <;> rfl
  have k0 : (((Rect.unit (s := S512x6144) ![0, n] ![512, 256] hs).emb x) 0).val = 0 + 1 * (x 0).val := rfl
  have k1 : (((Rect.unit (s := S512x6144) ![0, n] ![512, 256] hs).emb x) 1).val = n + 1 * (x 1).val := rfl
  generalize (Rect.unit (s := S512x6144) ![0, n] ![512, 256] hs).emb x = y at k0 k1 ⊢
  rw [← hr] at k0
  rw [← hl] at k1
  have hl := l.isLt
  rw [hx, TR_at, BLK_of h x2 x3 y r 2 ⟨o + l.val, by omega⟩ (by omega) (by show _ = _ + (o + l.val); omega)]
  have hp : MMF h (View.ld x2 (Rect.unit (s := S1024x4096) ![0, w] ![1024, 256] hw)) (ix2 r l) = prj h x2 r 2 (by decide) ⟨o + l.val, by omega⟩ := by
    rw [MMF_at, prj]
    refine Finset.sum_congr rfl fun e _ => congrArg (h (ix2 r e) * ·) ?_
    pointwise
    refine congrArg (fun a => x2 (ix2 e a)) (Fin.ext ?_)
    show w + l.val = 2 * 1024 + (o + l.val)
    omega
  rw [hp]
  rfl

/-- A piece of section 3 is its columns of the block. -/
theorem piece3 (h : FVec Ideal S512x1024 .bf16) (x2 : Vec Ideal S1024x4096 .bf16) (x3 : Vec Ideal S1x1024 .f32) (o n w : ℕ)
    (hw : ∀ a, (![0, w] : Fin 2 → ℕ) a + (![1024, 256] : Fin 2 → ℕ) a ≤ S1024x4096.size a) (hs : ∀ a, (![0, n] : Fin 2 → ℕ) a + (![512, 256] : Fin 2 → ℕ) a ≤ S512x6144.size a)
    (en : n = 3072 + o) (ew : w = 3072 + o) (ho : o ≤ 768) (x : S512x256.Idx) :
    SILU (MMF h (View.ld x2 (Rect.unit (s := S1024x4096) ![0, w] ![1024, 256] hw))) x = BLK h x2 x3 ((Rect.unit (s := S512x6144) ![0, n] ![512, 256] hs).emb x) := by
  obtain ⟨r, hr⟩ : ∃ r : Fin 512, r = x 0 := ⟨_, rfl⟩
  obtain ⟨l, hl⟩ : ∃ l : Fin 256, l = x 1 := ⟨_, rfl⟩
  have hx : x = (ix2 r l : S512x256.Idx) := by
    subst hr hl
    funext a; fin_cases a <;> rfl
  have k0 : (((Rect.unit (s := S512x6144) ![0, n] ![512, 256] hs).emb x) 0).val = 0 + 1 * (x 0).val := rfl
  have k1 : (((Rect.unit (s := S512x6144) ![0, n] ![512, 256] hs).emb x) 1).val = n + 1 * (x 1).val := rfl
  generalize (Rect.unit (s := S512x6144) ![0, n] ![512, 256] hs).emb x = y at k0 k1 ⊢
  rw [← hr] at k0
  rw [← hl] at k1
  have hl := l.isLt
  rw [hx, SILU_at, BLK_of h x2 x3 y r 3 ⟨o + l.val, by omega⟩ (by omega) (by show _ = _ + (o + l.val); omega)]
  have hp : MMF h (View.ld x2 (Rect.unit (s := S1024x4096) ![0, w] ![1024, 256] hw)) (ix2 r l) = prj h x2 r 3 (by decide) ⟨o + l.val, by omega⟩ := by
    rw [MMF_at, prj]
    refine Finset.sum_congr rfl fun e _ => congrArg (h (ix2 r e) * ·) ?_
    pointwise
    refine congrArg (fun a => x2 (ix2 e a)) (Fin.ext ?_)
    show w + l.val = 3 * 1024 + (o + l.val)
    omega
  rw [hp]
  rfl

/-- A piece of section 4 is its columns of the block. -/
theorem piece4 (h : FVec Ideal S512x1024 .bf16) (x2 : Vec Ideal S1024x4096 .bf16) (x3 : Vec Ideal S1x1024 .f32) (o n w : ℕ) (hb : ∀ a, (![0, o] : Fin 2 → ℕ) a + (![1, 256] : Fin 2 → ℕ) a ≤ S1x1024.size a)
    (hw : ∀ a, (![0, w] : Fin 2 → ℕ) a + (![1024, 256] : Fin 2 → ℕ) a ≤ S1024x4096.size a) (hs : ∀ a, (![0, n] : Fin 2 → ℕ) a + (![512, 256] : Fin 2 → ℕ) a ≤ S512x6144.size a)
    (en : n = 4096 + o) (ew : w = 1024 + o) (ho : o ≤ 768) (x : S512x256.Idx) :
    LO (View.ld x3 (Rect.unit (s := S1x1024) ![0, o] ![1, 256] hb)) (MMF h (View.ld x2 (Rect.unit (s := S1024x4096) ![0, w] ![1024, 256] hw))) x = BLK h x2 x3 ((Rect.unit (s := S512x6144) ![0, n] ![512, 256] hs).emb x) := by
  obtain ⟨r, hr⟩ : ∃ r : Fin 512, r = x 0 := ⟨_, rfl⟩
  obtain ⟨l, hl⟩ : ∃ l : Fin 256, l = x 1 := ⟨_, rfl⟩
  have hx : x = (ix2 r l : S512x256.Idx) := by
    subst hr hl
    funext a; fin_cases a <;> rfl
  have k0 : (((Rect.unit (s := S512x6144) ![0, n] ![512, 256] hs).emb x) 0).val = 0 + 1 * (x 0).val := rfl
  have k1 : (((Rect.unit (s := S512x6144) ![0, n] ![512, 256] hs).emb x) 1).val = n + 1 * (x 1).val := rfl
  generalize (Rect.unit (s := S512x6144) ![0, n] ![512, 256] hs).emb x = y at k0 k1 ⊢
  rw [← hr] at k0
  rw [← hl] at k1
  have hl := l.isLt
  rw [hx, LO_at, BLK_of h x2 x3 y r 4 ⟨o + l.val, by omega⟩ (by omega) (by show _ = _ + (o + l.val); omega)]
  have hp : MMF h (View.ld x2 (Rect.unit (s := S1024x4096) ![0, w] ![1024, 256] hw)) (ix2 r l) = prj h x2 r 1 (by decide) ⟨o + l.val, by omega⟩ := by
    rw [MMF_at, prj]
    refine Finset.sum_congr rfl fun e _ => congrArg (h (ix2 r e) * ·) ?_
    pointwise
    refine congrArg (fun a => x2 (ix2 e a)) (Fin.ext ?_)
    show w + l.val = 1 * 1024 + (o + l.val)
    omega
  have hq : (View.ld x3 (Rect.unit (s := S1x1024) ![0, o] ![1, 256] hb)) (ix2 0 l) = x3 (ix2 0 ⟨o + l.val, by omega⟩) := by
    pointwise
  rw [hp, hq]
  rfl

/-- A piece of section 5 is its columns of the block. -/
theorem piece5 (h : FVec Ideal S512x1024 .bf16) (x2 : Vec Ideal S1024x4096 .bf16) (x3 : Vec Ideal S1x1024 .f32) (o n w : ℕ) (hb : ∀ a, (![0, o] : Fin 2 → ℕ) a + (![1, 256] : Fin 2 → ℕ) a ≤ S1x1024.size a)
    (hw : ∀ a, (![0, w] : Fin 2 → ℕ) a + (![1024, 256] : Fin 2 → ℕ) a ≤ S1024x4096.size a) (hs : ∀ a, (![0, n] : Fin 2 → ℕ) a + (![512, 256] : Fin 2 → ℕ) a ≤ S512x6144.size a)
    (en : n = 5120 + o) (ew : w = 1024 + o) (ho : o ≤ 768) (x : S512x256.Idx) :
    KEY (View.ld x3 (Rect.unit (s := S1x1024) ![0, o] ![1, 256] hb)) (MMF h (View.ld x2 (Rect.unit (s := S1024x4096) ![0, w] ![1024, 256] hw))) x = BLK h x2 x3 ((Rect.unit (s := S512x6144) ![0, n] ![512, 256] hs).emb x) := by
  obtain ⟨r, hr⟩ : ∃ r : Fin 512, r = x 0 := ⟨_, rfl⟩
  obtain ⟨l, hl⟩ : ∃ l : Fin 256, l = x 1 := ⟨_, rfl⟩
  have hx : x = (ix2 r l : S512x256.Idx) := by
    subst hr hl
    funext a; fin_cases a <;> rfl
  have k0 : (((Rect.unit (s := S512x6144) ![0, n] ![512, 256] hs).emb x) 0).val = 0 + 1 * (x 0).val := rfl
  have k1 : (((Rect.unit (s := S512x6144) ![0, n] ![512, 256] hs).emb x) 1).val = n + 1 * (x 1).val := rfl
  generalize (Rect.unit (s := S512x6144) ![0, n] ![512, 256] hs).emb x = y at k0 k1 ⊢
  rw [← hr] at k0
  rw [← hl] at k1
  have hl := l.isLt
  rw [hx, KEY_at, BLK_of h x2 x3 y r 5 ⟨o + l.val, by omega⟩ (by omega) (by show _ = _ + (o + l.val); omega)]
  have hp : MMF h (View.ld x2 (Rect.unit (s := S1024x4096) ![0, w] ![1024, 256] hw)) (ix2 r l) = prj h x2 r 1 (by decide) ⟨o + l.val, by omega⟩ := by
    rw [MMF_at, prj]
    refine Finset.sum_congr rfl fun e _ => congrArg (h (ix2 r e) * ·) ?_
    pointwise
    refine congrArg (fun a => x2 (ix2 e a)) (Fin.ext ?_)
    show w + l.val = 1 * 1024 + (o + l.val)
    omega
  have hq : (View.ld x3 (Rect.unit (s := S1x1024) ![0, o] ![1, 256] hb)) (ix2 0 l) = x3 (ix2 0 ⟨o + l.val, by omega⟩) := by
    pointwise
  rw [hp, hq]
  rfl

/-- The stored chunks, the last first. -/
def PCS (h : FVec Ideal S512x1024 .bf16) (x2 : Vec Ideal S1024x4096 .bf16) (x3 : Vec Ideal S1x1024 .f32) : List (View.Piece (Elt Ideal) S512x6144 .bf16) :=
  [⟨Rect.unit (s := S512x6144) ![0, 3840] ![512, 256] inb_S512x6144_S512x256_0_3840, SILU (MMF h (View.ld x2 (Rect.unit (s := S1024x4096) ![0, 3840] ![1024, 256] inb_S1024x4096_S1024x256_0_3840)))⟩,
    ⟨Rect.unit (s := S512x6144) ![0, 2816] ![512, 256] inb_S512x6144_S512x256_0_2816, TR (MMF h (View.ld x2 (Rect.unit (s := S1024x4096) ![0, 2816] ![1024, 256] inb_S1024x4096_S1024x256_0_2816)))⟩,
    ⟨Rect.unit (s := S512x6144) ![0, 5888] ![512, 256] inb_S512x6144_S512x256_0_5888, KEY (View.ld x3 (Rect.unit (s := S1x1024) ![0, 768] ![1, 256] inb_S1x1024_S1x256_0_768)) (MMF h (View.ld x2 (Rect.unit (s := S1024x4096) ![0, 1792] ![1024, 256] inb_S1024x4096_S1024x256_0_1792)))⟩,
    ⟨Rect.unit (s := S512x6144) ![0, 4864] ![512, 256] inb_S512x6144_S512x256_0_4864, LO (View.ld x3 (Rect.unit (s := S1x1024) ![0, 768] ![1, 256] inb_S1x1024_S1x256_0_768)) (MMF h (View.ld x2 (Rect.unit (s := S1024x4096) ![0, 1792] ![1024, 256] inb_S1024x4096_S1024x256_0_1792)))⟩,
    ⟨Rect.unit (s := S512x6144) ![0, 1792] ![512, 256] inb_S512x6144_S512x256_0_1792, TR (LOGF (View.ld x3 (Rect.unit (s := S1x1024) ![0, 768] ![1, 256] inb_S1x1024_S1x256_0_768)) (MMF h (View.ld x2 (Rect.unit (s := S1024x4096) ![0, 1792] ![1024, 256] inb_S1024x4096_S1024x256_0_1792))))⟩,
    ⟨Rect.unit (s := S512x6144) ![0, 768] ![512, 256] inb_S512x6144_S512x256_0_768, TR (MMF h (View.ld x2 (Rect.unit (s := S1024x4096) ![0, 768] ![1024, 256] inb_S1024x4096_S1024x256_0_768)))⟩,
    ⟨Rect.unit (s := S512x6144) ![0, 3584] ![512, 256] inb_S512x6144_S512x256_0_3584, SILU (MMF h (View.ld x2 (Rect.unit (s := S1024x4096) ![0, 3584] ![1024, 256] inb_S1024x4096_S1024x256_0_3584)))⟩,
    ⟨Rect.unit (s := S512x6144) ![0, 2560] ![512, 256] inb_S512x6144_S512x256_0_2560, TR (MMF h (View.ld x2 (Rect.unit (s := S1024x4096) ![0, 2560] ![1024, 256] inb_S1024x4096_S1024x256_0_2560)))⟩,
    ⟨Rect.unit (s := S512x6144) ![0, 5632] ![512, 256] inb_S512x6144_S512x256_0_5632, KEY (View.ld x3 (Rect.unit (s := S1x1024) ![0, 512] ![1, 256] inb_S1x1024_S1x256_0_512)) (MMF h (View.ld x2 (Rect.unit (s := S1024x4096) ![0, 1536] ![1024, 256] inb_S1024x4096_S1024x256_0_1536)))⟩,
    ⟨Rect.unit (s := S512x6144) ![0, 4608] ![512, 256] inb_S512x6144_S512x256_0_4608, LO (View.ld x3 (Rect.unit (s := S1x1024) ![0, 512] ![1, 256] inb_S1x1024_S1x256_0_512)) (MMF h (View.ld x2 (Rect.unit (s := S1024x4096) ![0, 1536] ![1024, 256] inb_S1024x4096_S1024x256_0_1536)))⟩,
    ⟨Rect.unit (s := S512x6144) ![0, 1536] ![512, 256] inb_S512x6144_S512x256_0_1536, TR (LOGF (View.ld x3 (Rect.unit (s := S1x1024) ![0, 512] ![1, 256] inb_S1x1024_S1x256_0_512)) (MMF h (View.ld x2 (Rect.unit (s := S1024x4096) ![0, 1536] ![1024, 256] inb_S1024x4096_S1024x256_0_1536))))⟩,
    ⟨Rect.unit (s := S512x6144) ![0, 512] ![512, 256] inb_S512x6144_S512x256_0_512, TR (MMF h (View.ld x2 (Rect.unit (s := S1024x4096) ![0, 512] ![1024, 256] inb_S1024x4096_S1024x256_0_512)))⟩,
    ⟨Rect.unit (s := S512x6144) ![0, 3328] ![512, 256] inb_S512x6144_S512x256_0_3328, SILU (MMF h (View.ld x2 (Rect.unit (s := S1024x4096) ![0, 3328] ![1024, 256] inb_S1024x4096_S1024x256_0_3328)))⟩,
    ⟨Rect.unit (s := S512x6144) ![0, 2304] ![512, 256] inb_S512x6144_S512x256_0_2304, TR (MMF h (View.ld x2 (Rect.unit (s := S1024x4096) ![0, 2304] ![1024, 256] inb_S1024x4096_S1024x256_0_2304)))⟩,
    ⟨Rect.unit (s := S512x6144) ![0, 5376] ![512, 256] inb_S512x6144_S512x256_0_5376, KEY (View.ld x3 (Rect.unit (s := S1x1024) ![0, 256] ![1, 256] inb_S1x1024_S1x256_0_256)) (MMF h (View.ld x2 (Rect.unit (s := S1024x4096) ![0, 1280] ![1024, 256] inb_S1024x4096_S1024x256_0_1280)))⟩,
    ⟨Rect.unit (s := S512x6144) ![0, 4352] ![512, 256] inb_S512x6144_S512x256_0_4352, LO (View.ld x3 (Rect.unit (s := S1x1024) ![0, 256] ![1, 256] inb_S1x1024_S1x256_0_256)) (MMF h (View.ld x2 (Rect.unit (s := S1024x4096) ![0, 1280] ![1024, 256] inb_S1024x4096_S1024x256_0_1280)))⟩,
    ⟨Rect.unit (s := S512x6144) ![0, 1280] ![512, 256] inb_S512x6144_S512x256_0_1280, TR (LOGF (View.ld x3 (Rect.unit (s := S1x1024) ![0, 256] ![1, 256] inb_S1x1024_S1x256_0_256)) (MMF h (View.ld x2 (Rect.unit (s := S1024x4096) ![0, 1280] ![1024, 256] inb_S1024x4096_S1024x256_0_1280))))⟩,
    ⟨Rect.unit (s := S512x6144) ![0, 256] ![512, 256] inb_S512x6144_S512x256_0_256, TR (MMF h (View.ld x2 (Rect.unit (s := S1024x4096) ![0, 256] ![1024, 256] inb_S1024x4096_S1024x256_0_256)))⟩,
    ⟨Rect.unit (s := S512x6144) ![0, 3072] ![512, 256] inb_S512x6144_S512x256_0_3072, SILU (MMF h (View.ld x2 (Rect.unit (s := S1024x4096) ![0, 3072] ![1024, 256] inb_S1024x4096_S1024x256_0_3072)))⟩,
    ⟨Rect.unit (s := S512x6144) ![0, 2048] ![512, 256] inb_S512x6144_S512x256_0_2048, TR (MMF h (View.ld x2 (Rect.unit (s := S1024x4096) ![0, 2048] ![1024, 256] inb_S1024x4096_S1024x256_0_2048)))⟩,
    ⟨Rect.unit (s := S512x6144) ![0, 5120] ![512, 256] inb_S512x6144_S512x256_0_5120, KEY (View.ld x3 (Rect.unit (s := S1x1024) ![0, 0] ![1, 256] inb_S1x1024_S1x256_0_0)) (MMF h (View.ld x2 (Rect.unit (s := S1024x4096) ![0, 1024] ![1024, 256] inb_S1024x4096_S1024x256_0_1024)))⟩,
    ⟨Rect.unit (s := S512x6144) ![0, 4096] ![512, 256] inb_S512x6144_S512x256_0_4096, LO (View.ld x3 (Rect.unit (s := S1x1024) ![0, 0] ![1, 256] inb_S1x1024_S1x256_0_0)) (MMF h (View.ld x2 (Rect.unit (s := S1024x4096) ![0, 1024] ![1024, 256] inb_S1024x4096_S1024x256_0_1024)))⟩,
    ⟨Rect.unit (s := S512x6144) ![0, 1024] ![512, 256] inb_S512x6144_S512x256_0_1024, TR (LOGF (View.ld x3 (Rect.unit (s := S1x1024) ![0, 0] ![1, 256] inb_S1x1024_S1x256_0_0)) (MMF h (View.ld x2 (Rect.unit (s := S1024x4096) ![0, 1024] ![1024, 256] inb_S1024x4096_S1024x256_0_1024))))⟩,
    ⟨Rect.unit (s := S512x6144) ![0, 0] ![512, 256] inb_S512x6144_S512x256_0_0, TR (MMF h (View.ld x2 (Rect.unit (s := S1024x4096) ![0, 0] ![1024, 256] inb_S1024x4096_S1024x256_0_0)))⟩]

/-- Every stored piece is its part of the block. -/
theorem PCS_pieces (h : FVec Ideal S512x1024 .bf16) (x2 : Vec Ideal S1024x4096 .bf16) (x3 : Vec Ideal S1x1024 .f32) : View.PiecesOf (BLK h x2 x3) (PCS h x2 x3) :=
  ⟨piece3 h x2 x3 768 3840 3840 inb_S1024x4096_S1024x256_0_3840 inb_S512x6144_S512x256_0_3840 rfl rfl (by decide),
    piece2 h x2 x3 768 2816 2816 inb_S1024x4096_S1024x256_0_2816 inb_S512x6144_S512x256_0_2816 rfl rfl (by decide),
    piece5 h x2 x3 768 5888 1792 inb_S1x1024_S1x256_0_768 inb_S1024x4096_S1024x256_0_1792 inb_S512x6144_S512x256_0_5888 rfl rfl (by decide),
    piece4 h x2 x3 768 4864 1792 inb_S1x1024_S1x256_0_768 inb_S1024x4096_S1024x256_0_1792 inb_S512x6144_S512x256_0_4864 rfl rfl (by decide),
    piece1 h x2 x3 768 1792 1792 inb_S1x1024_S1x256_0_768 inb_S1024x4096_S1024x256_0_1792 inb_S512x6144_S512x256_0_1792 rfl rfl (by decide),
    piece0 h x2 x3 768 768 768 inb_S1024x4096_S1024x256_0_768 inb_S512x6144_S512x256_0_768 rfl rfl (by decide),
    piece3 h x2 x3 512 3584 3584 inb_S1024x4096_S1024x256_0_3584 inb_S512x6144_S512x256_0_3584 rfl rfl (by decide),
    piece2 h x2 x3 512 2560 2560 inb_S1024x4096_S1024x256_0_2560 inb_S512x6144_S512x256_0_2560 rfl rfl (by decide),
    piece5 h x2 x3 512 5632 1536 inb_S1x1024_S1x256_0_512 inb_S1024x4096_S1024x256_0_1536 inb_S512x6144_S512x256_0_5632 rfl rfl (by decide),
    piece4 h x2 x3 512 4608 1536 inb_S1x1024_S1x256_0_512 inb_S1024x4096_S1024x256_0_1536 inb_S512x6144_S512x256_0_4608 rfl rfl (by decide),
    piece1 h x2 x3 512 1536 1536 inb_S1x1024_S1x256_0_512 inb_S1024x4096_S1024x256_0_1536 inb_S512x6144_S512x256_0_1536 rfl rfl (by decide),
    piece0 h x2 x3 512 512 512 inb_S1024x4096_S1024x256_0_512 inb_S512x6144_S512x256_0_512 rfl rfl (by decide),
    piece3 h x2 x3 256 3328 3328 inb_S1024x4096_S1024x256_0_3328 inb_S512x6144_S512x256_0_3328 rfl rfl (by decide),
    piece2 h x2 x3 256 2304 2304 inb_S1024x4096_S1024x256_0_2304 inb_S512x6144_S512x256_0_2304 rfl rfl (by decide),
    piece5 h x2 x3 256 5376 1280 inb_S1x1024_S1x256_0_256 inb_S1024x4096_S1024x256_0_1280 inb_S512x6144_S512x256_0_5376 rfl rfl (by decide),
    piece4 h x2 x3 256 4352 1280 inb_S1x1024_S1x256_0_256 inb_S1024x4096_S1024x256_0_1280 inb_S512x6144_S512x256_0_4352 rfl rfl (by decide),
    piece1 h x2 x3 256 1280 1280 inb_S1x1024_S1x256_0_256 inb_S1024x4096_S1024x256_0_1280 inb_S512x6144_S512x256_0_1280 rfl rfl (by decide),
    piece0 h x2 x3 256 256 256 inb_S1024x4096_S1024x256_0_256 inb_S512x6144_S512x256_0_256 rfl rfl (by decide),
    piece3 h x2 x3 0 3072 3072 inb_S1024x4096_S1024x256_0_3072 inb_S512x6144_S512x256_0_3072 rfl rfl (by decide),
    piece2 h x2 x3 0 2048 2048 inb_S1024x4096_S1024x256_0_2048 inb_S512x6144_S512x256_0_2048 rfl rfl (by decide),
    piece5 h x2 x3 0 5120 1024 inb_S1x1024_S1x256_0_0 inb_S1024x4096_S1024x256_0_1024 inb_S512x6144_S512x256_0_5120 rfl rfl (by decide),
    piece4 h x2 x3 0 4096 1024 inb_S1x1024_S1x256_0_0 inb_S1024x4096_S1024x256_0_1024 inb_S512x6144_S512x256_0_4096 rfl rfl (by decide),
    piece1 h x2 x3 0 1024 1024 inb_S1x1024_S1x256_0_0 inb_S1024x4096_S1024x256_0_1024 inb_S512x6144_S512x256_0_1024 rfl rfl (by decide),
    piece0 h x2 x3 0 0 0 inb_S1024x4096_S1024x256_0_0 inb_S512x6144_S512x256_0_0 rfl rfl (by decide), trivial⟩

/-- The stored pieces cover the block. -/
theorem PCS_cover (h : FVec Ideal S512x1024 .bf16) (x2 : Vec Ideal S1024x4096 .bf16) (x3 : Vec Ideal S1x1024 .f32) (y : S512x6144.Idx) : ∃ p ∈ PCS h x2 x3, y ∈ p.1.set :=
  View.cover_of_tiledL (PCS h x2 x3) S512x256.size (by sl_kernel_rfl) y

/-- A block of the kernel's result is the block by its index. -/
theorem block_eq (x0 : Vec Ideal S512x1024 .f32) (x1 : Vec Ideal S1x1024 .f32) (x2 : Vec Ideal S1024x4096 .bf16) (x3 : Vec Ideal S1x1024 .f32) (y : S512x6144.Idx) :
    out0_4 x0 x1 x2 x3 y = BLK (k0_pay2 x0 x1) x2 x3 y := by
  unfold_out out0_4
  frame_out
  show View.canon (PCS (k0_pay2 x0 x1) x2 x3) y = _
  exact View.canon_apply_of_pieces (BLK (k0_pay2 x0 x1) x2 x3) (PCS (k0_pay2 x0 x1) x2 x3) (PCS_pieces _ _ _).mem y (PCS_cover _ _ _ y)

end Cert.Hand.Gates

end
-- ==== Proof.Gates.Ref.lean ====
/- The input projection of the recurrent layers in the reference, read at an index. -/
module

public import proofs.«01_k».proof.Proof.Gen.GatesRefIdeal.Read
public import proofs.«01_k».proof.Proof.Gates.Block

@[expose] public section

set_option maxRecDepth 16384

noncomputable section

namespace Cert.Hand.Gates.Ref

open Idealize.ShloMosaic Cert.GatesRefIdeal Cert.GatesRefIdeal.Read Cert.Hand.Attn

variable (x0 : (⟨S65536x1024, .f32⟩ : BufTy).Contents (Elt Ideal)) (x1 : (⟨S1024, .f32⟩ : BufTy).Contents (Elt Ideal)) (x2 : (⟨S1024x4096, .f32⟩ : BufTy).Contents (Elt Ideal)) (x3 : (⟨S1024, .f32⟩ : BufTy).Contents (Elt Ideal))

/-- The column `j` of the projection's section `n` at a token. -/
def prjR (t : Fin 65536) (n : ℕ) (hn : n < 4) (j : Fin 1024) : EReal :=
  ∑ x, rms l1024 leps (fun e => x0 (ix2 t e)) (fun e => x1 (ix1 e)) x * x2 (ix2 x ⟨n * 1024 + j.val, by have := j.isLt; omega⟩)

/-- An entry of the reference's stage 12. -/
theorem v12_at (t : Fin 65536) (c : Fin 1024) : val_main_v12 (F := Ideal) x0 x1 (ix2 t c) = rms l1024 leps (fun e => x0 (ix2 t e)) (fun e => x1 (ix1 e)) c := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- An entry of the reference's stage 13. -/
theorem v13_at (t : Fin 65536) (n : ℕ) (hn : n < 4) (j : Fin 1024) (h : n * 1024 + j.val < 4096) : val_main_v13 (F := Ideal) x0 x1 x2 (ix2 t ⟨n * 1024 + j.val, h⟩) = prjR x0 x1 x2 t n hn j := by
  unfold prjR
  simp only [← v12_at]
  pointwise [val_main_v13]

/-- An entry of the reference's stage 14. -/
theorem v14_at (t : Fin 65536) (j : Fin 1024) : val_main_v14 (F := Ideal) x0 x1 x2 (ix2 t j) = prjR x0 x1 x2 t 0 (by decide) j := by
  rw [← v13_at x0 x1 x2 t 0 (by decide) j (by omega)]
  unfold val_main_v14
  generalize val_main_v13 (F := Ideal) x0 x1 x2 = y
  pointwise
/-- An entry of the reference's stage 15. -/
theorem v15_at (t : Fin 65536) (j : Fin 1024) : val_main_v15 (F := Ideal) x0 x1 x2 (ix2 t j) = prjR x0 x1 x2 t 1 (by decide) j := by
  rw [← v13_at x0 x1 x2 t 1 (by decide) j (by omega)]
  unfold val_main_v15
  generalize val_main_v13 (F := Ideal) x0 x1 x2 = y
  pointwise
/-- An entry of the reference's stage 16. -/
theorem v16_at (t : Fin 65536) (j : Fin 1024) : val_main_v16 (F := Ideal) x0 x1 x2 (ix2 t j) = prjR x0 x1 x2 t 2 (by decide) j := by
  rw [← v13_at x0 x1 x2 t 2 (by decide) j (by omega)]
  unfold val_main_v16
  generalize val_main_v13 (F := Ideal) x0 x1 x2 = y
  pointwise
/-- An entry of the reference's stage 17. -/
theorem v17_at (t : Fin 65536) (j : Fin 1024) : val_main_v17 (F := Ideal) x0 x1 x2 (ix2 t j) = prjR x0 x1 x2 t 3 (by decide) j := by
  rw [← v13_at x0 x1 x2 t 3 (by decide) j (by omega)]
  unfold val_main_v17
  generalize val_main_v13 (F := Ideal) x0 x1 x2 = y
  pointwise

/-- An entry of the reference's stage 32. -/
theorem v32_at (t : Fin 65536) (j : Fin 1024) : val_main_v32 (F := Ideal) x0 x1 x2 x3 (ix2 t j) = lf (x3 (ix1 j)) (prjR x0 x1 x2 t 1 (by decide) j) := by
  rw [← v15_at]
  unfold val_main_v32 val_main_v31 val_main_v28 val_main_v25 val_main_v23 val_main_v21 val_main_v20 lf sg
  generalize val_main_v15 (F := Ideal) x0 x1 x2 = y
  pointwise [val_main_v30, val_main_v29, val_main_v27, val_main_v26, val_main_v24, val_main_v22, val_main_v19, val_main_v18, val_main_cst_2, val_main_cst_3, val_main_cst_4]

/-- An entry of the reference's stage 44. -/
theorem v44_at (t : Fin 65536) (j : Fin 1024) : val_main_v44 (F := Ideal) x0 x1 x2 x3 (ix2 t j) = (1 - x3 (ix1 j)) * sg (-prjR x0 x1 x2 t 1 (by decide) j) := by
  rw [← v15_at]
  unfold val_main_v44 val_main_v41 val_main_v39 val_main_v37 val_main_v36 val_main_v35 sg
  generalize val_main_v15 (F := Ideal) x0 x1 x2 = y
  pointwise [val_main_v43, val_main_v42, val_main_v40, val_main_v38, val_main_v34, val_main_v33, val_main_cst_5, val_main_cst_6, val_main_cst_7]

/-- An entry of the reference's stage 45. -/
theorem v45_at (t : Fin 65536) (j : Fin 1024) : val_main_v45 (F := Ideal) x0 x1 x2 (ix2 t j) = prjR x0 x1 x2 t 3 (by decide) j * sg (prjR x0 x1 x2 t 3 (by decide) j) := by
  rw [← v17_at]
  unfold val_main_v45 val_main_call0_v5 val_main_call0_v3 val_main_call0_v1 val_main_call0_v0 sg
  generalize val_main_v17 (F := Ideal) x0 x1 x2 = y
  pointwise [val_main_call0_v4, val_main_call0_v2, val_main_call0_cst, val_main_call0_cst_0]

/-- An entry of the reference's stage 46. -/
theorem v46_at (t : Fin 65536) (j : Fin 1024) : val_main_v46 (F := Ideal) (ix2 t j) = 0 := by
  pointwise [val_main_v46, val_main_cst_8]

/-- An entry of the reference's stage 48. -/
theorem v48_at (t : Fin 65536) (k : ℕ) (j : Fin 1024) (hk : k < 6) (h0 : 0 < x3 (ix1 j)) (h1 : x3 (ix1 j) < ⊤) (c : Fin 6144) (hc : c.val = k * 1024 + j.val) :
    val_main_v48 (F := Ideal) x0 x1 x2 x3 (ix2 t c) = sect k (fun n hn => prjR x0 x1 x2 t n hn j) (x3 (ix1 j)) := by
  have e0 := v14_at x0 x1 x2 t j
  have e1 := v32_at x0 x1 x2 x3 t j
  have e2 := v16_at x0 x1 x2 t j
  have e3 := v45_at x0 x1 x2 t j
  have e4 := v46_at t j
  have e5 := v44_at x0 x1 x2 x3 t j
  have e6 := lf_sub (x3 (ix1 j)) (prjR x0 x1 x2 t 1 (by decide) j) h0 h1
  unfold val_main_v48 val_main_v47
  generalize val_main_v14 (F := Ideal) x0 x1 x2 = y0 at *
  generalize val_main_v32 (F := Ideal) x0 x1 x2 x3 = y1 at *
  generalize val_main_v16 (F := Ideal) x0 x1 x2 = y2 at *
  generalize val_main_v45 (F := Ideal) x0 x1 x2 = y3 at *
  generalize val_main_v46 (F := Ideal) = y4 at *
  generalize val_main_v44 (F := Ideal) x0 x1 x2 x3 = y5 at *
  pointwise
  have hj := j.isLt
  have cg : ∀ (y : FVec Ideal S65536x1024 .f32) (v : ℕ) (p : v < 1024), v = j.val → y (ix2 t ⟨v, p⟩) = y (ix2 t j) := fun y v p h => congrArg (fun a => y (ix2 t a)) (Fin.ext h)
  interval_cases k
  · rw [dif_pos (by omega)]
    exact (cg y0 _ _ (by omega)).trans e0
  · rw [dif_neg (by omega), dif_pos (by omega)]
    exact (cg y1 _ _ (by omega)).trans e1
  · rw [dif_neg (by omega), dif_neg (by omega), dif_pos (by omega)]
    exact (cg y2 _ _ (by omega)).trans e2
  · rw [dif_neg (by omega), dif_neg (by omega), dif_neg (by omega), dif_pos (by omega)]
    exact (cg y3 _ _ (by omega)).trans e3
  · rw [dif_neg (by omega), dif_neg (by omega), dif_neg (by omega), dif_neg (by omega), dif_pos (by omega)]
    exact (cg y4 _ _ (by omega)).trans (e4.trans e6.symm)
  · rw [dif_neg (by omega), dif_neg (by omega), dif_neg (by omega), dif_neg (by omega), dif_neg (by omega)]
    exact (cg y5 _ _ (by omega)).trans e5

end Cert.Hand.Gates.Ref

end
-- ==== Proof.Gates.Final.lean ====
/- The array the input projection of the recurrent layers leaves is the reference's. -/
module

public import proofs.«01_k».proof.Proof.Gen.GatesIdeal.Value
public import proofs.«01_k».proof.Proof.Gates.Block
public import proofs.«01_k».proof.Proof.Gates.Ref
public import Idealize.ShloMosaic.Lib.Pipeline.ValueKit
public import Idealize.ShloMosaic.Lib.Claim

@[expose] public section

set_option maxRecDepth 16384

noncomputable section

namespace Cert.Hand.Gates

open Idealize.ShloMosaic Idealize.ShloMosaic.TcCoe Idealize.SL.Sem Cert.GatesIdeal Cert.GatesIdeal.Gen Cert.Hand.Attn

/-- Which block each window reads or writes at a grid point. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ t.val < 128 :=
  (by decide +kernel : ∀ t : Fin grid0.N, _)

variable (m : (ℓ : Loc nD τ sig) → Buf (Elt Ideal) ℓ) (c : Dev nD)

/-- The token row `r` of grid point `t`. -/
def tok (t : Fin cfg0.N) (r : Fin 512) : Fin 65536 := ⟨t.val * 512 + r.val, by have := (idx t).2.2.2.2.2; have := r.isLt; omega⟩

/-- An entry of window 0's block, read in its argument. -/
theorem b0 (t : Fin cfg0.N) (r : Fin 512) (e : Fin 1024) : iblk m c 0 t (ix2 r e) = m ((c : Thread nD τ).loc main_arg0) (ix2 (tok t r) e) := by
  blk_ext [iblk, V, idx t, tok]
/-- An entry of window 1's block, read in its argument. -/
theorem b1 (t : Fin cfg0.N) (e : Fin 1024) : iblk m c 1 t (ix2 0 e) = m ((c : Thread nD τ).loc main_arg1) (ix1 e) := by
  blk_point [iblk, V, idx t]
/-- An entry of window 2's block, read in its argument. -/
theorem b2 (t : Fin cfg0.N) (r : Fin 1024) (e : Fin 4096) : iblk m c 2 t (ix2 r e) = m ((c : Thread nD τ).loc main_arg2) (ix2 r e) := by
  blk_point [iblk, V, idx t]
/-- An entry of window 3's block, read in its argument. -/
theorem b3 (t : Fin cfg0.N) (e : Fin 1024) : iblk m c 3 t (ix2 0 e) = m ((c : Thread nD τ).loc main_arg3) (ix1 e) := by
  blk_point [iblk, V, idx t]

/-- The reference's array over the kernel's arguments. -/
abbrev REF : FVec Ideal S65536x6144 .bf16 :=
  Cert.GatesRefIdeal.Read.val_main_v48 (F := Ideal) (m ((c : Thread nD τ).loc main_arg0)) (m ((c : Thread nD τ).loc main_arg1)) (m ((c : Thread nD τ).loc main_arg2)) (m ((c : Thread nD τ).loc main_arg3))

/-- At a grid point the kernel's block is the reference's rows. -/
theorem point (hb : ∀ i, IsPos (m ((c : Thread nD τ).loc main_arg3) (ix1 i)))
    (t : Fin cfg0.N) (r : Fin 512) (e : Fin 6144) :
    out0_4 (iblk m c 0 t) (iblk m c 1 t) (iblk m c 2 t) (iblk m c 3 t) (ix2 r e) = REF m c (ix2 (tok t r) e) := by
  have he := e.isLt
  have h1 : e.val % 1024 < 1024 := Nat.mod_lt _ (by decide)
  rw [block_eq, BLK_of _ _ _ _ r (e.val / 1024) ⟨e.val % 1024, h1⟩ rfl (Nat.div_add_mod' e.val 1024).symm,
    REF, Ref.v48_at _ _ _ _ (tok t r) (e.val / 1024) ⟨e.val % 1024, h1⟩ (by omega) (hb _).1 (hb _).2 e (Nat.div_add_mod' e.val 1024).symm]
  unfold prj Ref.prjR
  simp only [hid_at, b0, b1, b2, b3]

/-- The array the kernel leaves is the reference's. -/
theorem final (hb : ∀ i, IsPos (m ((c : Thread nD τ).loc main_arg3) (ix1 i))) :
    (dats m 0 c).arrAt 4 (cfgs 0).N = REF m c := by
  refine (dats m 0 c).arrAt_eq_of_covers 4 _ (by decide +kernel) fun t _ y => ?_
  blk_simp
  rw [after0_4]
  have hy : y = ix2 (y 0 : Fin 512) (y 1 : Fin 6144) := by idx_vars y; rfl
  refine (congrArg _ hy).trans ((point m c hb t (y 0) (y 1)).trans ?_)
  blk_ext [idx t, tok]

end Cert.Hand.Gates

end
-- ==== Proof.Gates.Claim.lean ====
/- The conjuncts of the claim about the recurrent layers' input projection. -/
module

public import proofs.«01_k».proof.Defs
public import proofs.«01_k».proof.Proof.Gen.Gates
public import proofs.«01_k».proof.Proof.Gen.Gates.Frame
public import proofs.«01_k».proof.Proof.Gates.Pre
public import proofs.«01_k».proof.Proof.Gates.Final

@[expose] public section

set_option maxRecDepth 16384

noncomputable section

namespace Cert.Hand.Gates.Claim

open Idealize.ShloMosaic Idealize.SL.Sem

/-- The projection with gates runs to its end, its arguments unchanged and its counters zero. -/
theorem frameP : Cert.quiescent_Gates (hGates := Cert.Gates.Gen.facts)  :=
  fun m g _ => Cert.Gates.Gen.frame m g

/-- So does the projection with gates over the extended reals. -/
theorem framePI : Cert.quiescent_GatesIdeal (hGatesIdeal := Cert.GatesIdeal.Gen.facts)  :=
  fun m g _ => Cert.GatesIdeal.Gen.frame m g

/-- The same, where the precondition holds. -/
theorem framePI' : Cert.quiescent_GatesIdeal_pre_positive_bound (hGatesIdeal := Cert.GatesIdeal.Gen.facts) (hPre_positive_bound := preFacts)  :=
  fun m g _ => Cert.GatesIdeal.Gen.frame m g

set_option maxHeartbeats 1600000 in
/-- The reference of the projection with gates runs to its end, its arguments unchanged. -/
theorem frameRI : Cert.quiescent_GatesRefIdeal (hGatesRefIdeal := Cert.GatesRefIdeal.Gen.facts) := by
  intro m g _
  hlo_run
  · exact fun _ => by simp only [and_self]
  · exact sem_eq_zero_of_no_sems (sig := Cert.GatesRefIdeal.sig) rfl _

set_option maxHeartbeats 1600000 in
/-- The same for the reference, where the precondition holds. -/
theorem frameRI' : Cert.quiescent_GatesRefIdeal_pre_positive_bound (hGatesRefIdeal := Cert.GatesRefIdeal.Gen.facts) (hPre_positive_bound := preFacts) := by
  intro m g _
  hlo_run
  · exact fun _ => by simp only [and_self]
  · exact sem_eq_zero_of_no_sems (sig := Cert.GatesRefIdeal.sig) rfl _

/-- From equal arguments the kernel and the reference end with equal results. -/
theorem algebraic : Cert.algebraic_GatesIdeal_GatesRefIdeal_pre_positive_bound (hGatesIdeal := Cert.GatesIdeal.Gen.facts) (hGatesRefIdeal := Cert.GatesRefIdeal.Gen.facts) (hPre_positive_bound := preFacts) := by
  pair_intro
  · run_from Cert.GatesIdeal.Gen.run_main m g
  · run_from Cert.GatesRefIdeal.Value.run m' g'
    haveI := preFacts
    have h := bounds _ _ _ _ (hpre c)
    rw [Cert.GatesRefIdeal.Read.val_main_v48_eq]
    simp only [hagree c]
    exact (final m c h).symm

end Cert.Hand.Gates.Claim

end
-- ==== Proof.Mixin.Final.lean ====
/- The array the input projection of the even layers leaves is the reference's. -/
module

public import proofs.«01_k».proof.Proof.Gen.MixinIdeal.Value
public import proofs.«01_k».proof.Proof.Gen.MixinIdeal.Skeleton
public import proofs.«01_k».proof.Proof.Gen.MixinIdeal.Frame
public import proofs.«01_k».proof.Proof.Gen.MixinRefIdeal.Read
public import proofs.«01_k».proof.Proof.Attn.Spec
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.UnfoldOut
public import Idealize.ShloMosaic.Lib.Claim

@[expose] public section

set_option maxRecDepth 16384

noncomputable section

namespace Cert.Hand.Mixin

open Idealize.ShloMosaic Idealize.ShloMosaic.TcCoe Idealize.SL.Sem Cert.MixinIdeal Cert.MixinIdeal.Gen Cert.Hand.Attn

/-- A chunk of columns: the normalised rows against a chunk of the weights. -/
def MM (h : FVec Ideal S512x1024 .bf16) (w : Vec Ideal S1024x768 .bf16) : FVec Ideal S512x768 .bf16 :=
  truncf .bf16 (matmul (φ₁ := .bf16) (φ₂ := .bf16) dot_S512x1024_S1024x768_S512x768_1_0_0_1_n_n none h (shapeCast S1024x768 w shapeCasts_S1024x768_S1024x768) (constant S512x768 .f32 0x00000000#32)) bitsLt_bf16_f32

/-- An entry of a matrix product. -/
theorem MM_at (h : FVec Ideal S512x1024 .bf16) (w : Vec Ideal S1024x768 .bf16) (r : Fin 512) (c : Fin 768) :
    MM h w (ix2 r c) = ∑ x, h (ix2 r x) * w (ix2 x c) := by
  pointwise [MM]

/-- An entry of the normalised rows. -/
theorem hid_at (x0 : Vec Ideal S512x1024 .f32) (x1 : Vec Ideal S1x1024 .f32) (r : Fin 512) (c : Fin 1024) :
    k0_pay1 x0 x1 (ix2 r c) = rms l1024 leps (fun e => x0 (ix2 r e)) (fun e => x1 (ix2 0 e)) c := by
  pointwise [k0_pay1]
  rfl

/-- The whole block by its index: a row of the normalised input against a column of the weights. -/
def BLK (h : FVec Ideal S512x1024 .bf16) (x2 : Vec Ideal S1024x2304 .bf16) : S512x2304.Idx → Ideal .bf16 := fun y =>
  ∑ x : Fin 1024, h (ix2 (y 0 : Fin 512) x) * x2 (ix2 x (y 1 : Fin 2304))

/-- A stored chunk is its columns of the block. -/
theorem piece (h : FVec Ideal S512x1024 .bf16) (x2 : Vec Ideal S1024x2304 .bf16) (o : ℕ)
    (hw : ∀ a, (![0, o] : Fin 2 → ℕ) a + (![1024, 768] : Fin 2 → ℕ) a ≤ S1024x2304.size a) (hs : ∀ a, (![0, o] : Fin 2 → ℕ) a + (![512, 768] : Fin 2 → ℕ) a ≤ S512x2304.size a)
    (x : S512x768.Idx) : MM h (View.ld x2 (Rect.unit (s := S1024x2304) ![0, o] ![1024, 768] hw)) x = BLK h x2 ((Rect.unit (s := S512x2304) ![0, o] ![512, 768] hs).emb x) := by
  obtain ⟨r, hr⟩ : ∃ r : Fin 512, r = x 0 := ⟨_, rfl⟩
  obtain ⟨l, hl⟩ : ∃ l : Fin 768, l = x 1 := ⟨_, rfl⟩
  have hx : x = (ix2 r l : S512x768.Idx) := by
    subst hr hl
    funext a; fin_cases a <;> rfl
  have k0 : (((Rect.unit (s := S512x2304) ![0, o] ![512, 768] hs).emb x) 0).val = 0 + 1 * (x 0).val := rfl
  have k1 : (((Rect.unit (s := S512x2304) ![0, o] ![512, 768] hs).emb x) 1).val = o + 1 * (x 1).val := rfl
  generalize (Rect.unit (s := S512x2304) ![0, o] ![512, 768] hs).emb x = y at k0 k1 ⊢
  rw [← hr] at k0
  rw [← hl] at k1
  rw [hx, MM_at]
  unfold BLK
  refine Finset.sum_congr rfl fun e _ => ?_
  refine congrArg₂ (· * ·) (congrArg (fun a => h (ix2 a e)) (Fin.ext ?_)) ?_
  · show r.val = (y 0).val
    omega
  · pointwise
    refine congrArg (fun a => x2 (ix2 e a)) (Fin.ext ?_)
    show o + l.val = (y 1).val
    omega

/-- The stored chunks, the last first. -/
def PCS (h : FVec Ideal S512x1024 .bf16) (x2 : Vec Ideal S1024x2304 .bf16) : List (View.Piece (Elt Ideal) S512x2304 .bf16) :=
  [⟨Rect.unit (s := S512x2304) ![0, 1536] ![512, 768] inb_S512x2304_S512x768_0_1536, MM h (View.ld x2 (Rect.unit (s := S1024x2304) ![0, 1536] ![1024, 768] inb_S1024x2304_S1024x768_0_1536))⟩,
    ⟨Rect.unit (s := S512x2304) ![0, 768] ![512, 768] inb_S512x2304_S512x768_0_768, MM h (View.ld x2 (Rect.unit (s := S1024x2304) ![0, 768] ![1024, 768] inb_S1024x2304_S1024x768_0_768))⟩,
    ⟨Rect.unit (s := S512x2304) ![0, 0] ![512, 768] inb_S512x2304_S512x768_0_0, MM h (View.ld x2 (Rect.unit (s := S1024x2304) ![0, 0] ![1024, 768] inb_S1024x2304_S1024x768_0_0))⟩]

/-- Every stored piece is its part of the block. -/
theorem PCS_pieces (h : FVec Ideal S512x1024 .bf16) (x2 : Vec Ideal S1024x2304 .bf16) : View.PiecesOf (BLK h x2) (PCS h x2) :=
  ⟨piece h x2 1536 inb_S1024x2304_S1024x768_0_1536 inb_S512x2304_S512x768_0_1536,
    piece h x2 768 inb_S1024x2304_S1024x768_0_768 inb_S512x2304_S512x768_0_768,
    piece h x2 0 inb_S1024x2304_S1024x768_0_0 inb_S512x2304_S512x768_0_0, trivial⟩

/-- The stored pieces cover the block. -/
theorem PCS_cover (h : FVec Ideal S512x1024 .bf16) (x2 : Vec Ideal S1024x2304 .bf16) (y : S512x2304.Idx) : ∃ p ∈ PCS h x2, y ∈ p.1.set :=
  View.cover_of_tiledL (PCS h x2) S512x768.size (by sl_kernel_rfl) y

/-- An entry of the kernel's block. -/
theorem block_at (x0 : Vec Ideal S512x1024 .f32) (x1 : Vec Ideal S1x1024 .f32) (x2 : Vec Ideal S1024x2304 .bf16) (r : Fin 512) (c : Fin 2304) :
    out0_3 x0 x1 x2 (ix2 r c) = ∑ x, rms l1024 leps (fun e => x0 (ix2 r e)) (fun e => x1 (ix2 0 e)) x * x2 (ix2 x c) := by
  unfold out0_3
  frame_out
  show View.canon (PCS (k0_pay1 x0 x1) x2) _ = _
  rw [View.canon_apply_of_pieces (BLK (k0_pay1 x0 x1) x2) (PCS (k0_pay1 x0 x1) x2) (PCS_pieces _ _).mem _ (PCS_cover _ _ _)]
  unfold BLK
  exact Finset.sum_congr rfl fun x _ => congrArg (· * _) (hid_at x0 x1 r x)

/-- Which block each window reads or writes at a grid point. -/
theorem idx : ∀ t : Fin cfg0.N, win0_0.index t = ![t.val, 0] ∧ win0_1.index t = ![0, 0] ∧ win0_2.index t = ![0, 0] ∧ win0_3.index t = ![t.val, 0] ∧ t.val < 128 :=
  (by decide +kernel : ∀ t : Fin grid0.N, _)

variable (m : (ℓ : Loc nD τ sig) → Buf (Elt Ideal) ℓ) (c : Dev nD)

/-- The token row `r` of grid point `t`. -/
def tok (t : Fin cfg0.N) (r : Fin 512) : Fin 65536 := ⟨t.val * 512 + r.val, by have := (idx t).2.2.2.2; have := r.isLt; omega⟩

/-- An entry of window 0's block, read in its argument. -/
theorem b0 (t : Fin cfg0.N) (r : Fin 512) (e : Fin 1024) : iblk m c 0 t (ix2 r e) = m ((c : Thread nD τ).loc main_arg0) (ix2 (tok t r) e) := by
  blk_ext [iblk, V, idx t, tok]
/-- An entry of window 1's block, read in its argument. -/
theorem b1 (t : Fin cfg0.N) (e : Fin 1024) : iblk m c 1 t (ix2 0 e) = m ((c : Thread nD τ).loc main_arg1) (ix1 e) := by
  blk_point [iblk, V, idx t]
/-- An entry of window 2's block, read in its argument. -/
theorem b2 (t : Fin cfg0.N) (r : Fin 1024) (e : Fin 2304) : iblk m c 2 t (ix2 r e) = m ((c : Thread nD τ).loc main_arg2) (ix2 r e) := by
  blk_point [iblk, V, idx t]

section Ref
open Cert.MixinRefIdeal.Read

/-- An entry of the reference's result. -/
theorem ref_at (x0 : FVec Ideal S65536x1024 .f32) (x1 : FVec Ideal S1024 .f32) (x2 : FVec Ideal S1024x2304 .f32) (t : Fin 65536) (c : Fin 2304) :
    val_main_v14 (F := Ideal) x0 x1 x2 (ix2 t c) = ∑ x, rms l1024 leps (fun e => x0 (ix2 t e)) (fun e => x1 (ix1 e)) x * x2 (ix2 x c) := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Ref

/-- The reference's array over the kernel's arguments. -/
abbrev REF : FVec Ideal S65536x2304 .bf16 :=
  Cert.MixinRefIdeal.Read.val_main_v14 (F := Ideal) (m ((c : Thread nD τ).loc main_arg0)) (m ((c : Thread nD τ).loc main_arg1)) (m ((c : Thread nD τ).loc main_arg2))

/-- At a grid point the kernel's block is the reference's rows. -/
theorem point (t : Fin cfg0.N) (r : Fin 512) (e : Fin 2304) :
    out0_3 (iblk m c 0 t) (iblk m c 1 t) (iblk m c 2 t) (ix2 r e) = REF m c (ix2 (tok t r) e) := by
  rw [block_at, REF, ref_at]
  simp only [b0, b1, b2]

/-- The array the kernel leaves is the reference's. -/
theorem final : (dats m 0 c).arrAt 3 (cfgs 0).N = REF m c := by
  refine (dats m 0 c).arrAt_eq_of_covers 3 _ (by decide +kernel) fun t _ y => ?_
  blk_simp
  rw [after0_3]
  have hy : y = ix2 (y 0 : Fin 512) (y 1 : Fin 2304) := by idx_vars y; rfl
  refine (congrArg _ hy).trans ((point m c t (y 0) (y 1)).trans ?_)
  blk_ext [idx t, tok]

end Cert.Hand.Mixin

end
-- ==== Proof.Mixin.Claim.lean ====
/- The conjuncts of the claim about the even layers' input projection. -/
module

public import proofs.«01_k».proof.Defs
public import proofs.«01_k».proof.Proof.Gen.Mixin
public import proofs.«01_k».proof.Proof.Gen.Mixin.Frame
public import proofs.«01_k».proof.Proof.Mixin.Final

@[expose] public section

set_option maxRecDepth 16384

noncomputable section

namespace Cert.Hand.Mixin.Claim

open Idealize.ShloMosaic Idealize.SL.Sem

/-- The input projection runs to its end, its arguments unchanged and its counters zero. -/
theorem frameP : Cert.quiescent_Mixin (hMixin := Cert.Mixin.Gen.facts) :=
  fun m g _ => Cert.Mixin.Gen.frame m g

/-- So does the input projection over the extended reals. -/
theorem framePI : Cert.quiescent_MixinIdeal (hMixinIdeal := Cert.MixinIdeal.Gen.facts) :=
  fun m g _ => Cert.MixinIdeal.Gen.frame m g

set_option maxHeartbeats 1600000 in
/-- The reference of the input projection runs to its end, its arguments unchanged. -/
theorem frameRI : Cert.quiescent_MixinRefIdeal (hMixinRefIdeal := Cert.MixinRefIdeal.Gen.facts) := by
  intro m g _
  hlo_run
  · exact fun _ => by simp only [and_self]
  · exact sem_eq_zero_of_no_sems (sig := Cert.MixinRefIdeal.sig) rfl _

/-- From equal arguments the kernel and the reference end with equal results. -/
theorem algebraic : Cert.algebraic_MixinIdeal_MixinRefIdeal (hMixinIdeal := Cert.MixinIdeal.Gen.facts) (hMixinRefIdeal := Cert.MixinRefIdeal.Gen.facts) := by
  pair_intro
  · run_from Cert.MixinIdeal.Gen.run_main m g
  · run_from Cert.MixinRefIdeal.Value.run m' g'
    rw [Cert.MixinRefIdeal.Read.val_main_v14_eq]
    exact (final m c).symm

end Cert.Hand.Mixin.Claim

end
-- ==== Proof.Memory.Block.lean ====
/- The memory's keys and values: the kernel's two blocks, read at an index. -/
module

public import proofs.«01_k».proof.Proof.Gen.MemoryIdeal.Skeleton
public import proofs.«01_k».proof.Proof.Gen.MemoryIdeal.Frame
public import proofs.«01_k».proof.Proof.Attn.Head
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.UnfoldOut
public import Idealize.ShloMosaic.Lib.Claim

@[expose] public section

set_option maxRecDepth 16384

noncomputable section

namespace Cert.Hand.Memory

open Idealize.ShloMosaic Cert.MemoryIdeal Cert.MemoryIdeal.Gen Cert.Hand.Attn

/-- A head of the keys: normalised as the attention's queries are. -/
def KN (q : FVec Ideal S512x256 .f32) (g : Vec Ideal S1x256 .f32) : FVec Ideal S512x256 .bf16 :=
  truncf .bf16 (QN q g) bitsLt_bf16_f32

/-- An entry of a normalised key. -/
theorem KN_at (q : FVec Ideal S512x256 .f32) (g : Vec Ideal S1x256 .f32) (r : Fin 512) (d : Fin 256) :
    KN q g (ix2 r d) = rms l256 leps (fun e => q (ix2 r e)) (fun e => g (ix2 0 e)) d := by
  rw [← QN_at]; rfl

/-- What the kernel computes for the keys of head 0 is the normalised columns. -/
theorem key0 (v0 v1 v2 g) : k0_pay4 (F := Ideal) v0 v1 v2 g = KN (extractStridedSlice S512x256 ![0, 0] (k0_pay3 v0 v1 v2) slices_S512x2048_o0_0_S512x256) g := rfl
/-- What the kernel computes for the keys of head 1 is the normalised columns. -/
theorem key1 (v0 v1 v2 g) : k0_pay7 (F := Ideal) (k0_pay5 v0 v1 v2) (k0_pay6 g) = KN (extractStridedSlice S512x256 ![0, 256] (k0_pay3 v0 v1 v2) slices_S512x2048_o0_256_S512x256) g := rfl
/-- What the kernel computes for the keys of head 2 is the normalised columns. -/
theorem key2 (y g) : k0_pay8 (F := Ideal) y g = KN (extractStridedSlice S512x256 ![0, 512] y slices_S512x2048_o0_512_S512x256) g := rfl
/-- What the kernel computes for the keys of head 3 is the normalised columns. -/
theorem key3 (y g) : k0_pay1 (F := Ideal) (k0_pay9 y) (k0_pay10 g) (k0_pay11 y) = KN (extractStridedSlice S512x256 ![0, 768] y slices_S512x2048_o0_768_S512x256) g := rfl

/-- An entry of the projection of the normalised rows. -/
theorem hid_at (x0 : Vec Ideal S512x1024 .f32) (x1 : Vec Ideal S1x1024 .f32) (x2 : Vec Ideal S1024x2048 .bf16) (r : Fin 512) (c : Fin 2048) :
    k0_pay3 x0 x1 x2 (ix2 r c) = ∑ x, rms l1024 leps (fun e => x0 (ix2 r e)) (fun e => x1 (ix2 0 e)) x * x2 (ix2 x c) := by
  pointwise [k0_pay3]
  rfl

/-- A normalised key of the block by its row and column. -/
def KEY (y : FVec Ideal S512x2048 .f32) (g : Vec Ideal S1x256 .f32) (r : Fin 512) (c : Fin 1024) : EReal :=
  rms l256 leps (fun e => y (ix2 r ⟨(col c e).val, by have := (col c e).isLt; omega⟩)) (fun e => g (ix2 0 e)) (lane c)

/-- The whole block of keys by its index. -/
def BLK (y : FVec Ideal S512x2048 .f32) (g : Vec Ideal S1x256 .f32) : S512x1024.Idx → Ideal .bf16 := fun i => KEY y g (i 0) (i 1)

/-- A stored head is its columns of the block. -/
theorem piece (y : FVec Ideal S512x2048 .f32) (g : Vec Ideal S1x256 .f32) (o : ℕ)
    (hy : S512x2048.Slices ![0, o] S512x256) (hs : ∀ a, (![0, o] : Fin 2 → ℕ) a + (![512, 256] : Fin 2 → ℕ) a ≤ S512x1024.size a) (ho : o % 256 = 0 ∧ o ≤ 768)
    (x : S512x256.Idx) : KN (extractStridedSlice S512x256 ![0, o] y hy) g x = BLK y g ((Rect.unit (s := S512x1024) ![0, o] ![512, 256] hs).emb x) := by
  obtain ⟨r, hr⟩ : ∃ r : Fin 512, r = x 0 := ⟨_, rfl⟩
  obtain ⟨l, hl⟩ : ∃ l : Fin 256, l = x 1 := ⟨_, rfl⟩
  have hx : x = (ix2 r l : S512x256.Idx) := by
    subst hr hl
    funext a; fin_cases a <;> rfl
  have k0 : (((Rect.unit (s := S512x1024) ![0, o] ![512, 256] hs).emb x) 0).val = 0 + 1 * (x 0).val := rfl
  have k1 : (((Rect.unit (s := S512x1024) ![0, o] ![512, 256] hs).emb x) 1).val = o + 1 * (x 1).val := rfl
  generalize (Rect.unit (s := S512x1024) ![0, o] ![512, 256] hs).emb x = z at k0 k1 ⊢
  rw [← hr] at k0
  rw [← hl] at k1
  have hlt := l.isLt
  have e0 : (z 0 : Fin 512) = r := Fin.ext (by omega)
  have e1 : (z 1 : Fin 1024) = ⟨o + l.val, by omega⟩ := Fin.ext (by show (z 1).val = o + l.val; omega)
  have e2 : lane ⟨o + l.val, by omega⟩ = l := Fin.ext (by simp [lane]; omega)
  rw [hx, KN_at]
  show _ = KEY y g (z 0) (z 1)
  refine Eq.trans ?_ (congrArg₂ (KEY y g) e0 e1).symm
  unfold KEY
  refine Eq.trans ?_ (congrArg (rms l256 leps _ _) e2).symm
  refine congrArg (fun f => rms l256 leps f (fun e => g (ix2 0 e)) l) ?_
  funext e
  have he := e.isLt
  pointwise
  refine congrArg (fun a => y (ix2 r a)) (Fin.ext ?_)
  simp [col]
  omega

/-- The stored heads, the last first. -/
def PCS (y : FVec Ideal S512x2048 .f32) (g : Vec Ideal S1x256 .f32) : List (View.Piece (Elt Ideal) S512x1024 .bf16) :=
  [⟨Rect.unit (s := S512x1024) ![0, 768] ![512, 256] inb_S512x1024_S512x256_0_768, KN (extractStridedSlice S512x256 ![0, 768] y slices_S512x2048_o0_768_S512x256) g⟩,
    ⟨Rect.unit (s := S512x1024) ![0, 512] ![512, 256] inb_S512x1024_S512x256_0_512, KN (extractStridedSlice S512x256 ![0, 512] y slices_S512x2048_o0_512_S512x256) g⟩,
    ⟨Rect.unit (s := S512x1024) ![0, 256] ![512, 256] inb_S512x1024_S512x256_0_256, KN (extractStridedSlice S512x256 ![0, 256] y slices_S512x2048_o0_256_S512x256) g⟩,
    ⟨Rect.unit (s := S512x1024) ![0, 0] ![512, 256] inb_S512x1024_S512x256_0_0, KN (extractStridedSlice S512x256 ![0, 0] y slices_S512x2048_o0_0_S512x256) g⟩]

/-- Every stored piece is its part of the block. -/
theorem PCS_pieces (y : FVec Ideal S512x2048 .f32) (g : Vec Ideal S1x256 .f32) : View.PiecesOf (BLK y g) (PCS y g) :=
  ⟨piece y g 768 slices_S512x2048_o0_768_S512x256 inb_S512x1024_S512x256_0_768 (by decide),
    piece y g 512 slices_S512x2048_o0_512_S512x256 inb_S512x1024_S512x256_0_512 (by decide),
    piece y g 256 slices_S512x2048_o0_256_S512x256 inb_S512x1024_S512x256_0_256 (by decide),
    piece y g 0 slices_S512x2048_o0_0_S512x256 inb_S512x1024_S512x256_0_0 (by decide), trivial⟩

/-- The stored pieces cover the block. -/
theorem PCS_cover (y : FVec Ideal S512x2048 .f32) (g : Vec Ideal S1x256 .f32) (i : S512x1024.Idx) : ∃ p ∈ PCS y g, i ∈ p.1.set :=
  View.cover_of_tiledL (PCS y g) S512x256.size (by sl_kernel_rfl) i

/-- The kernel's block of keys at an index. -/
theorem keys_at (x0 : Vec Ideal S512x1024 .f32) (x1 : Vec Ideal S1x1024 .f32) (x2 : Vec Ideal S1024x2048 .bf16) (x3 : Vec Ideal S1x256 .f32) (r : Fin 512) (c : Fin 1024) :
    out0_4 x0 x1 x2 x3 (ix2 r c) = rms l256 leps (fun e => k0_pay3 x0 x1 x2 (ix2 r ⟨(col c e).val, by have := (col c e).isLt; omega⟩)) (fun e => x3 (ix2 0 e)) (lane c) := by
  unfold_out out0_4
  frame_out
  rw [key0, key1, key2, key3]
  show View.canon (PCS (k0_pay3 x0 x1 x2) x3) _ = _
  rw [View.canon_apply_of_pieces (BLK (k0_pay3 x0 x1 x2) x3) (PCS (k0_pay3 x0 x1 x2) x3) (PCS_pieces _ _).mem _ (PCS_cover _ _ _)]
  rfl

/-- The kernel's block of values at an index. -/
theorem vals_at (x0 : Vec Ideal S512x1024 .f32) (x1 : Vec Ideal S1x1024 .f32) (x2 : Vec Ideal S1024x2048 .bf16) (x3 : Vec Ideal S1x256 .f32) (r : Fin 512) (c : Fin 1024) :
    out0_5 x0 x1 x2 x3 (ix2 r c) = k0_pay3 x0 x1 x2 (ix2 r ⟨1024 + c.val, by omega⟩) := by
  unfold_out out0_5
  frame_out
  unfold k0_pay2
  generalize k0_pay3 x0 x1 x2 = y
  pointwise

end Cert.Hand.Memory

end
-- ==== Proof.Memory.Final.lean ====
/- The arrays of keys and values the memory's kernel leaves are the reference's. -/
module

public import proofs.«01_k».proof.Proof.Gen.MemoryIdeal.Value
public import proofs.«01_k».proof.Proof.Gen.MemoryRefIdeal.Read
public import proofs.«01_k».proof.Proof.Memory.Block

@[expose] public section

set_option maxRecDepth 16384

noncomputable section

namespace Cert.Hand.Memory

open Idealize.ShloMosaic Idealize.ShloMosaic.TcCoe Idealize.SL.Sem Cert.MemoryIdeal Cert.MemoryIdeal.Gen Cert.Hand.Attn

/-- Which block each window reads or writes at a grid point. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ t.val < 16 :=
  (by decide +kernel : ∀ t : Fin grid0.N, _)

variable (m : (ℓ : Loc nD τ sig) → Buf (Elt Ideal) ℓ) (c : Dev nD)

/-- The memory row `r` of grid point `t`. -/
def mrow (t : Fin cfg0.N) (r : Fin 512) : Fin 8192 := ⟨t.val * 512 + r.val, by have := (idx t).2.2.2.2.2.2; have := r.isLt; omega⟩

/-- An entry of window 0's block, read in its argument. -/
theorem b0 (t : Fin cfg0.N) (r : Fin 512) (e : Fin 1024) : iblk m c 0 t (ix2 r e) = m ((c : Thread nD τ).loc main_arg0) (ix2 (mrow t r) e) := by
  blk_ext [iblk, V, idx t, mrow]
/-- An entry of window 1's block, read in its argument. -/
theorem b1 (t : Fin cfg0.N) (e : Fin 1024) : iblk m c 1 t (ix2 0 e) = m ((c : Thread nD τ).loc main_arg1) (ix1 e) := by
  blk_point [iblk, V, idx t]
/-- An entry of window 2's block, read in its argument. -/
theorem b2 (t : Fin cfg0.N) (r : Fin 1024) (e : Fin 2048) : iblk m c 2 t (ix2 r e) = m ((c : Thread nD τ).loc main_arg2) (ix2 r e) := by
  blk_point [iblk, V, idx t]
/-- An entry of window 3's block, read in its argument. -/
theorem b3 (t : Fin cfg0.N) (e : Fin 256) : iblk m c 3 t (ix2 0 e) = m ((c : Thread nD τ).loc main_arg3) (ix1 e) := by
  blk_point [iblk, V, idx t]

section Ref
open Cert.MemoryRefIdeal.Read

/-- An entry of the reference's projection. -/
theorem proj_at (x0 : FVec Ideal S8192x1024 .f32) (x1 : FVec Ideal S1024 .f32) (x2 : FVec Ideal S1024x2048 .f32) (t : Fin 8192) (c : Fin 2048) :
    val_main_v13 (F := Ideal) x0 x1 x2 (ix2 t c) = ∑ x, rms l1024 leps (fun e => x0 (ix2 t e)) (fun e => x1 (ix1 e)) x * x2 (ix2 x c) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- An entry of the reference's keys. -/
theorem rkeys_at (x0 : FVec Ideal S8192x1024 .f32) (x1 : FVec Ideal S1024 .f32) (x2 : FVec Ideal S1024x2048 .f32) (x3 : FVec Ideal S256 .f32) (t : Fin 8192) (c : Fin 1024) :
    val_main_v33 (F := Ideal) x0 x1 x2 x3 (ix2 t c) = rms l256 leps (fun e => val_main_v13 (F := Ideal) x0 x1 x2 (ix2 t ⟨(col c e).val, by have := (col c e).isLt; omega⟩)) (fun e => x3 (ix1 e)) (lane c) := by
  unfold val_main_v33 val_main_v32 val_main_v29 val_main_v26 val_main_v25 val_main_v24 val_main_v23 val_main_v21 val_main_v19 val_main_v18 val_main_v17 val_main_v16 val_main_v15 val_main_v14
  generalize val_main_v13 (F := Ideal) x0 x1 x2 = y
  pointwise [val_main_v28, val_main_v27, val_main_v22, val_main_v20, val_main_cst_2, val_main_cst_3, val_main_cst_4]
  rfl

/-- An entry of the reference's values. -/
theorem rvals_at (x0 : FVec Ideal S8192x1024 .f32) (x1 : FVec Ideal S1024 .f32) (x2 : FVec Ideal S1024x2048 .f32) (t : Fin 8192) (c : Fin 1024) :
    val_main_v35 (F := Ideal) x0 x1 x2 (ix2 t c) = val_main_v13 (F := Ideal) x0 x1 x2 (ix2 t ⟨1024 + c.val, by omega⟩) := by
  unfold val_main_v35 val_main_v34 val_main_v31 val_main_v30 val_main_v14
  generalize val_main_v13 (F := Ideal) x0 x1 x2 = y
  pointwise
  exact congrArg (fun a => y (ix2 t a)) (Fin.ext (by show 1024 + c.val / 256 * 256 + c.val % 256 = 1024 + c.val; omega))

end Ref

/-- The reference's keys over the kernel's arguments. -/
abbrev KREF : FVec Ideal S8192x1024 .bf16 :=
  Cert.MemoryRefIdeal.Read.val_main_v33 (F := Ideal) (m ((c : Thread nD τ).loc main_arg0)) (m ((c : Thread nD τ).loc main_arg1)) (m ((c : Thread nD τ).loc main_arg2)) (m ((c : Thread nD τ).loc main_arg3))

/-- The reference's values over the kernel's arguments. -/
abbrev VREF : FVec Ideal S8192x1024 .bf16 :=
  Cert.MemoryRefIdeal.Read.val_main_v35 (F := Ideal) (m ((c : Thread nD τ).loc main_arg0)) (m ((c : Thread nD τ).loc main_arg1)) (m ((c : Thread nD τ).loc main_arg2))

/-- At a grid point the kernel's block of keys is the reference's rows. -/
theorem kpoint (t : Fin cfg0.N) (r : Fin 512) (e : Fin 1024) :
    out0_4 (iblk m c 0 t) (iblk m c 1 t) (iblk m c 2 t) (iblk m c 3 t) (ix2 r e) = KREF m c (ix2 (mrow t r) e) := by
  rw [keys_at, KREF, rkeys_at]
  simp only [hid_at, proj_at, b0, b1, b2, b3]

/-- At a grid point the kernel's block of values is the reference's rows. -/
theorem vpoint (t : Fin cfg0.N) (r : Fin 512) (e : Fin 1024) :
    out0_5 (iblk m c 0 t) (iblk m c 1 t) (iblk m c 2 t) (iblk m c 3 t) (ix2 r e) = VREF m c (ix2 (mrow t r) e) := by
  rw [vals_at, VREF, rvals_at]
  simp only [hid_at, proj_at, b0, b1, b2]

/-- The array of keys the kernel leaves is the reference's. -/
theorem kfinal : (dats m 0 c).arrAt 4 (cfgs 0).N = KREF m c := by
  refine (dats m 0 c).arrAt_eq_of_covers 4 _ (by decide +kernel) fun t _ y => ?_
  blk_simp
  rw [after0_4]
  have hy : y = ix2 (y 0 : Fin 512) (y 1 : Fin 1024) := by idx_vars y; rfl
  refine (congrArg _ hy).trans ((kpoint m c t (y 0) (y 1)).trans ?_)
  blk_ext [idx t, mrow]

/-- The array of values the kernel leaves is the reference's. -/
theorem vfinal : (dats m 0 c).arrAt 5 (cfgs 0).N = VREF m c := by
  refine (dats m 0 c).arrAt_eq_of_covers 5 _ (by decide +kernel) fun t _ y => ?_
  blk_simp
  rw [after0_5]
  have hy : y = ix2 (y 0 : Fin 512) (y 1 : Fin 1024) := by idx_vars y; rfl
  refine (congrArg _ hy).trans ((vpoint m c t (y 0) (y 1)).trans ?_)
  blk_ext [idx t, mrow]

end Cert.Hand.Memory

end
-- ==== Proof.Memory.Claim.lean ====
/- The conjuncts of the claim about the projection of the memory to keys and values. -/
module

public import proofs.«01_k».proof.Defs
public import proofs.«01_k».proof.Proof.Gen.Memory
public import proofs.«01_k».proof.Proof.Gen.Memory.Frame
public import proofs.«01_k».proof.Proof.Memory.Final

@[expose] public section

set_option maxRecDepth 16384

noncomputable section

namespace Cert.Hand.Memory.Claim

open Idealize.ShloMosaic Idealize.SL.Sem

/-- The projection of the memory runs to its end, its arguments unchanged and its counters zero. -/
theorem frameP : Cert.quiescent_Memory (hMemory := Cert.Memory.Gen.facts) :=
  fun m g _ => Cert.Memory.Gen.frame m g

/-- So does the projection of the memory over the extended reals. -/
theorem framePI : Cert.quiescent_MemoryIdeal (hMemoryIdeal := Cert.MemoryIdeal.Gen.facts) :=
  fun m g _ => Cert.MemoryIdeal.Gen.frame m g

set_option maxHeartbeats 1600000 in
/-- The reference of the projection of the memory runs to its end, its arguments unchanged. -/
theorem frameRI : Cert.quiescent_MemoryRefIdeal (hMemoryRefIdeal := Cert.MemoryRefIdeal.Gen.facts) := by
  intro m g _
  hlo_run
  · exact fun _ => by simp only [and_self]
  · exact sem_eq_zero_of_no_sems (sig := Cert.MemoryRefIdeal.sig) rfl _

/-- From equal arguments the kernel and the reference end with equal results. -/
theorem algebraic : Cert.algebraic_MemoryIdeal_MemoryRefIdeal (hMemoryIdeal := Cert.MemoryIdeal.Gen.facts) (hMemoryRefIdeal := Cert.MemoryRefIdeal.Gen.facts) := by
  pair_intro
  · run_from Cert.MemoryIdeal.Gen.run_main m g
  · run_from Cert.MemoryRefIdeal.Value.run m' g'
    · rw [Cert.MemoryRefIdeal.Read.val_main_v33_eq]
      exact (kfinal m c).symm
    · rw [Cert.MemoryRefIdeal.Read.val_main_v35_eq]
      exact (vfinal m c).symm

end Cert.Hand.Memory.Claim

end
-- ==== Proof.Tables.Final.lean ====
/- The tables of cosines and sines the kernel leaves are the reference's. -/
module

public import proofs.«01_k».proof.Proof.Gen.TablesIdeal.Value
public import proofs.«01_k».proof.Proof.Gen.TablesRefIdeal.Read
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.UnfoldOut
public import Idealize.ShloMosaic.Lib.Claim

@[expose] public section

set_option maxRecDepth 16384

noncomputable section

namespace Cert.Hand.Tables

open Idealize.ShloMosaic Idealize.ShloMosaic.TcCoe Idealize.SL.Sem Cert.TablesIdeal Cert.TablesIdeal.Gen

/-- Which block each window reads or writes at a grid point. -/
theorem idx : ∀ t : Fin cfg0.N, win0_0.index t = ![t.val, 0] ∧ win0_1.index t = ![0, 0] ∧ win0_2.index t = ![t.val, 0] ∧ win0_3.index t = ![t.val, 0] ∧ t.val < 128 :=
  (by decide +kernel : ∀ t : Fin grid0.N, _)

variable (m : (ℓ : Loc nD τ sig) → Buf (Elt Ideal) ℓ) (c : Dev nD)

/-- The token of row `r` of grid point `t`. -/
def tok (t : Fin cfg0.N) (r : Fin 512) : Fin 65536 := ⟨t.val * 512 + r.val, by have := (idx t).2.2.2.2; have := r.isLt; omega⟩

/-- The frequencies, one per pair of columns. -/
abbrev FRQ : FVec Ideal S32 .f32 := Cert.TablesRefIdeal.Read.val_main_v9 (F := Ideal)

/-- The frequency of a column. -/
def f32of (e : Fin 128) : Fin 32 := ⟨e.val % 32, by omega⟩

/-- The angle of a token and a column: the token's position times the column's frequency. -/
def ANG (x : S32x2048.Idx → BitVec 32) (n : Fin 65536) (e : Fin 128) : EReal :=
  (((x (ix2 ⟨n.val / 2048, by omega⟩ ⟨n.val % 2048, by omega⟩)).toInt : ℝ) : EReal) * FRQ (ix1 (f32of e))

/-- The positions as the kernel finds them. -/
theorem v15 : V m c main_v15 = shapeCast S65536x1 (sitofp .f32 (m ((c : Thread nD τ).loc main_arg0)) : FVec Ideal S32x2048 .f32) shapeCasts_S32x2048_S65536x1 := by
  entry_read
  rfl

/-- The frequencies as the kernel finds them. -/
theorem v13 : V m c main_v13 = shapeCast S1x128 (shapeCast S128 (broadcastInDim S4x32 ![0, 1] bcast_S1x32_S4x32_0_1 (shapeCast S1x32 FRQ shapeCasts_S32_S1x32)) shapeCasts_S4x32_S128) shapeCasts_S128_S1x128 := by
  entry_read
  rfl

/-- An entry of the block of positions, read in the argument. -/
theorem b0 (t : Fin cfg0.N) (r : Fin 512) :
    iblk m c 0 t (ix2 r 0) = (((m ((c : Thread nD τ).loc main_arg0) (ix2 ⟨(tok t r).val / 2048, by have := (tok t r).isLt; omega⟩ ⟨(tok t r).val % 2048, by omega⟩)).toInt : ℝ) : EReal) := by
  have h : iblk m c 0 t (ix2 r 0) = V m c main_v15 (ix2 (tok t r) 0) := by
    unfold iblk
    generalize V m c = W
    blk_ext [idx t, tok]
  rw [h, v15]
  pointwise
  rfl

/-- An entry of the block of frequencies. -/
theorem b1 (t : Fin cfg0.N) (e : Fin 128) : iblk m c 1 t (ix2 0 e) = FRQ (ix1 (f32of e)) := by
  have h : iblk m c 1 t (ix2 0 e) = V m c main_v13 (ix2 0 e) := by
    unfold iblk
    generalize V m c = W
    blk_ext [idx t]
  rw [h, v13]
  generalize FRQ = y
  pointwise
  rfl

/-- An entry of the kernel's block of cosines. -/
theorem cos_at (x0 : Vec Ideal S512x1 .f32) (x1 : Vec Ideal S1x128 .f32) (r : Fin 512) (e : Fin 128) :
    out0_2 x0 x1 (ix2 r e) = Ideal.cos (x0 (ix2 r 0) * x1 (ix2 0 e)) := by
  frame_out
  pointwise [k0_pay2, k0_pay1]

/-- The kernel's selection by the column's place in its half of the head. -/
theorem mask : ∀ e : Fin 128, IntOp.cmpi CmpIPredicate.slt
        (Scalar.select
          (IntOp.andi
            (IntOp.xori
              (IntOp.cmpi CmpIPredicate.slt
                (IntOp.remsi ArithUnit.vector (BitVec.ofNat 32 e.val)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 e.val)
                (Scalar.select (Scalar.cmpi CmpIPredicate.eq 64#32 0#32) 1#32 64#32))
              0#32))
          (IntOp.addi
            (IntOp.remsi ArithUnit.vector (BitVec.ofNat 32 e.val)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 e.val)
            (Scalar.select (Scalar.cmpi CmpIPredicate.eq 64#32 0#32) 1#32 64#32)))
        32#32 = if e.val % 64 < 32 then 1#1 else 0#1 := by decide +kernel

/-- An entry of the kernel's block of sines. -/
theorem sin_at (x0 : Vec Ideal S512x1 .f32) (x1 : Vec Ideal S1x128 .f32) (r : Fin 512) (e : Fin 128) :
    out0_3 x0 x1 (ix2 r e) = if e.val % 64 < 32 then 0 - Ideal.sin (x0 (ix2 r 0) * x1 (ix2 0 e)) else Ideal.sin (x0 (ix2 r 0) * x1 (ix2 0 e)) := by
  frame_out
  pointwise [k0_pay3, k0_pay1]
  rw [mask e]
  by_cases h : e.val % 64 < 32 <;> simp [h, Scalar.select]

section Ref
open Cert.TablesRefIdeal.Read

/-- The reference's angle. -/
theorem rang_at (x : S32x2048.Idx → BitVec 32) (a : Fin 32) (b : Fin 2048) (k : Fin 32) :
    val_main_v15 (F := Ideal) x (ix3 a b k) = (((x (ix2 a b)).toInt : ℝ) : EReal) * FRQ (ix1 k) := by
  unfold val_main_v15 val_main_v14 val_main_v13 val_main_v12 val_main_v11 val_main_v10 FRQ
  generalize val_main_v9 (F := Ideal) = y
  pointwise
  rfl

/-- The reference's cosine of a token and a frequency. -/
theorem rcos17 (x : S32x2048.Idx → BitVec 32) (n : Fin 65536) (e : Fin 128) (k : Fin 32) (hk : k.val = e.val % 32) :
    val_main_v17 (F := Ideal) x (ix2 n k) = Ideal.cos (ANG x n e) := by
  obtain rfl : k = f32of e := Fin.ext hk
  rw [ANG, ← rang_at]
  unfold val_main_v17 val_main_v16
  generalize val_main_v15 (F := Ideal) x = y
  pointwise

/-- The reference's sine of a token and a frequency. -/
theorem rsin19 (x : S32x2048.Idx → BitVec 32) (n : Fin 65536) (e : Fin 128) (k : Fin 32) (hk : k.val = e.val % 32) :
    val_main_v19 (F := Ideal) x (ix2 n k) = Ideal.sin (ANG x n e) := by
  obtain rfl : k = f32of e := Fin.ext hk
  rw [ANG, ← rang_at]
  unfold val_main_v19 val_main_v18
  generalize val_main_v15 (F := Ideal) x = y
  pointwise

/-- An entry of the reference's table of cosines. -/
theorem rcos_at (x : S32x2048.Idx → BitVec 32) (n : Fin 65536) (e : Fin 128) :
    val_main_v20 (F := Ideal) x (ix2 n e) = Ideal.cos (ANG x n e) := by
  unfold val_main_v20
  pointwise
  split_ifs <;> exact rcos17 x n e _ (by simp only; omega)

/-- An entry of the reference's table of sines. -/
theorem rsin_at (x : S32x2048.Idx → BitVec 32) (n : Fin 65536) (e : Fin 128) :
    val_main_v23 (F := Ideal) x (ix2 n e) = if e.val % 64 < 32 then 0 - Ideal.sin (ANG x n e) else Ideal.sin (ANG x n e) := by
  unfold val_main_v23 val_main_v22 val_main_v21
  pointwise
  have := e.isLt
  split_ifs <;> first | omega | rw [rsin19 x n e _ (by simp only; omega)]
  all_goals (simp; try omega)

end Ref

/-- At a grid point the kernel's block of cosines is the reference's rows. -/
theorem cpoint (t : Fin cfg0.N) (r : Fin 512) (e : Fin 128) :
    out0_2 (iblk m c 0 t) (iblk m c 1 t) (ix2 r e) = Cert.TablesRefIdeal.Read.val_main_v20 (F := Ideal) (m ((c : Thread nD τ).loc main_arg0)) (ix2 (tok t r) e) := by
  rw [cos_at, rcos_at, b0, b1]; rfl

/-- At a grid point the kernel's block of sines is the reference's rows. -/
theorem spoint (t : Fin cfg0.N) (r : Fin 512) (e : Fin 128) :
    out0_3 (iblk m c 0 t) (iblk m c 1 t) (ix2 r e) = Cert.TablesRefIdeal.Read.val_main_v23 (F := Ideal) (m ((c : Thread nD τ).loc main_arg0)) (ix2 (tok t r) e) := by
  rw [sin_at, rsin_at, b0, b1]; rfl

/-- The table of cosines the kernel leaves is the reference's. -/
theorem cfinal : (dats m 0 c).arrAt 2 (cfgs 0).N = Cert.TablesRefIdeal.Read.val_main_v20 (F := Ideal) (m ((c : Thread nD τ).loc main_arg0)) := by
  refine (dats m 0 c).arrAt_eq_of_covers 2 _ (by decide +kernel) fun t _ y => ?_
  blk_simp
  rw [after0_2]
  have hy : y = ix2 (y 0 : Fin 512) (y 1 : Fin 128) := by idx_vars y; rfl
  refine (congrArg _ hy).trans ((cpoint m c t (y 0) (y 1)).trans ?_)
  blk_ext [idx t, tok]

/-- The table of sines the kernel leaves is the reference's. -/
theorem sfinal : (dats m 0 c).arrAt 3 (cfgs 0).N = Cert.TablesRefIdeal.Read.val_main_v23 (F := Ideal) (m ((c : Thread nD τ).loc main_arg0)) := by
  refine (dats m 0 c).arrAt_eq_of_covers 3 _ (by decide +kernel) fun t _ y => ?_
  blk_simp
  rw [after0_3]
  have hy : y = ix2 (y 0 : Fin 512) (y 1 : Fin 128) := by idx_vars y; rfl
  refine (congrArg _ hy).trans ((spoint m c t (y 0) (y 1)).trans ?_)
  blk_ext [idx t, tok]

end Cert.Hand.Tables

end
-- ==== Proof.Tables.Claim.lean ====
/- The conjuncts of the claim about the tables of the rotary embedding. -/
module

public import proofs.«01_k».proof.Defs
public import proofs.«01_k».proof.Proof.Gen.Tables
public import proofs.«01_k».proof.Proof.Gen.Tables.Frame
public import proofs.«01_k».proof.Proof.Tables.Final

@[expose] public section

set_option maxRecDepth 16384

noncomputable section

namespace Cert.Hand.Tables.Claim

open Idealize.ShloMosaic Idealize.SL.Sem

/-- The computation of the tables runs to its end, its arguments unchanged and its counters zero. -/
theorem frameP : Cert.quiescent_Tables (hTables := Cert.Tables.Gen.facts) :=
  fun m g _ => Cert.Tables.Gen.frame m g

/-- So does the computation of the tables over the extended reals. -/
theorem framePI : Cert.quiescent_TablesIdeal (hTablesIdeal := Cert.TablesIdeal.Gen.facts) :=
  fun m g _ => Cert.TablesIdeal.Gen.frame m g

set_option maxHeartbeats 1600000 in
/-- The reference of the computation of the tables runs to its end, its arguments unchanged. -/
theorem frameRI : Cert.quiescent_TablesRefIdeal (hTablesRefIdeal := Cert.TablesRefIdeal.Gen.facts) := by
  intro m g _
  hlo_run
  · exact fun _ => by simp only [and_self]
  · exact sem_eq_zero_of_no_sems (sig := Cert.TablesRefIdeal.sig) rfl _

/-- From equal arguments the kernel and the reference end with equal results. -/
theorem algebraic : Cert.algebraic_TablesIdeal_TablesRefIdeal (hTablesIdeal := Cert.TablesIdeal.Gen.facts) (hTablesRefIdeal := Cert.TablesRefIdeal.Gen.facts) := by
  pair_intro
  · run_from Cert.TablesIdeal.Gen.run_main m g
  · run_from Cert.TablesRefIdeal.Value.run m' g'
    · rw [Cert.TablesRefIdeal.Read.val_main_v20_eq, hagree c]
      exact (cfinal m c).symm
    · rw [Cert.TablesRefIdeal.Read.val_main_v23_eq, hagree c]
      exact (sfinal m c).symm

end Cert.Hand.Tables.Claim

end
-- ==== Proof.Window.Pre.lean ====
/- What the precondition on the sliding window's arguments says: its keys and queries, tables and gains are reals, and no sink is infinite. -/
module

public import proofs.«01_k».proof.Pre_finite_window
public import proofs.«01_k».proof.Proof.Attn.Pre

@[expose] public section

set_option maxRecDepth 16384

noncomputable section

namespace Cert.Hand.Window

open Idealize.ShloMosaic Cert.Pre_finite_window Cert.Hand.Attn

/-- The shape facts of the precondition's program. -/
theorem preFacts : Cert.Pre_finite_window.Facts := by
  constructor <;> decide +kernel

/-- The precondition at an entry of the queries and keys: it, the tables and gains at its lane and a sink are bounded. -/
theorem fn_at [Cert.Pre_finite_window.Facts] (x0 : FVec Ideal S65536x2304 .bf16) (x1 x2 : FVec Ideal S65536x128 .f32) (x3 x4 : FVec Ideal S64 .f32) (x5 : FVec Ideal S8 .f32) (t : Fin 65536) (a : Fin 5) (s : Fin 2) (u w : Fin 8) :
    fn x0 x1 x2 x3 x4 x5 (ix5 t a s u w) = BitVec.ofBool (((((decide (FloatOps.absf (x0 (ix2 t ⟨a.val * 128 + s.val * 64 + u.val * 8 + w.val, by have := a.isLt; have := s.isLt; have := u.isLt; have := w.isLt; omega⟩)) < Ideal.ofBits FTy.f32 0x7F800000#32)
      && decide (FloatOps.absf (x1 (ix2 t ⟨s.val * 64 + u.val * 8 + w.val, by have := s.isLt; have := u.isLt; have := w.isLt; omega⟩)) < Ideal.ofBits FTy.f32 0x7F800000#32))
      && decide (FloatOps.absf (x2 (ix2 t ⟨s.val * 64 + u.val * 8 + w.val, by have := s.isLt; have := u.isLt; have := w.isLt; omega⟩)) < Ideal.ofBits FTy.f32 0x7F800000#32))
      && decide (FloatOps.absf (x3 (ix1 ⟨u.val * 8 + w.val, by have := u.isLt; have := w.isLt; omega⟩)) < Ideal.ofBits FTy.f32 0x7F800000#32))
      && decide (FloatOps.absf (x4 (ix1 ⟨u.val * 8 + w.val, by have := u.isLt; have := w.isLt; omega⟩)) < Ideal.ofBits FTy.f32 0x7F800000#32))
      && decide (x5 (ix1 w) < Ideal.ofBits FTy.f32 0x7F800000#32)) := by
  pointwise [fn, fn_part1]
  simp only [Attn.andB]
  rfl

/-- Where the precondition holds, queries, keys, tables and gains are real and no sink is infinite. -/
theorem reals [Cert.Pre_finite_window.Facts] (x0 : FVec Ideal S65536x2304 .bf16) (x1 x2 : FVec Ideal S65536x128 .f32) (x3 x4 : FVec Ideal S64 .f32) (x5 : FVec Ideal S8 .f32)
    (h : fn x0 x1 x2 x3 x4 x5 = fun _ => 1#1) : (∀ (t : Fin 65536) (e : Fin 2304), e.val < 640 → IsR (x0 (ix2 t e))) ∧ (∀ t e, IsR (x1 (ix2 t e))) ∧ (∀ t e, IsR (x2 (ix2 t e))) ∧ (∀ e, IsR (x3 (ix1 e))) ∧ (∀ e, IsR (x4 (ix1 e))) ∧ ∀ i, x5 (ix1 i) ≠ ⊤ := by
  have key := fun t a s u w => by
    have e := (fn_at x0 x1 x2 x3 x4 x5 t a s u w).symm.trans (congrFun h _)
    rw [ofBits_inf] at e
    have e := (BitVec.ofBool_eq_iff_eq (b := _) (b' := true)).mp e
    simp only [Bool.and_eq_true, decide_eq_true_eq] at e
    exact e
  refine ⟨fun t e he => ?_, fun t e => ?_, fun t e => ?_, fun e => ?_, fun e => ?_, fun i => ?_⟩
  · have := real_of_abs _ (key t ⟨e.val / 128, by omega⟩ ⟨e.val / 64 % 2, by omega⟩ ⟨e.val / 8 % 8, by omega⟩ ⟨e.val % 8, by omega⟩).1.1.1.1.1
    have q : ∀ p, (⟨e.val / 128 * 128 + e.val / 64 % 2 * 64 + e.val / 8 % 8 * 8 + e.val % 8, p⟩ : Fin 2304) = e := fun _ => Fin.ext (by dsimp only; omega)
    rwa [q] at this
  · have := real_of_abs _ (key t 0 ⟨e.val / 64, by omega⟩ ⟨e.val / 8 % 8, by omega⟩ ⟨e.val % 8, by omega⟩).1.1.1.1.2
    have q : ∀ p, (⟨e.val / 64 * 64 + e.val / 8 % 8 * 8 + e.val % 8, p⟩ : Fin 128) = e := fun _ => Fin.ext (by dsimp only; omega)
    rwa [q] at this
  · have := real_of_abs _ (key t 0 ⟨e.val / 64, by omega⟩ ⟨e.val / 8 % 8, by omega⟩ ⟨e.val % 8, by omega⟩).1.1.1.2
    have q : ∀ p, (⟨e.val / 64 * 64 + e.val / 8 % 8 * 8 + e.val % 8, p⟩ : Fin 128) = e := fun _ => Fin.ext (by dsimp only; omega)
    rwa [q] at this
  · have := real_of_abs _ (key 0 0 0 ⟨e.val / 8, by omega⟩ ⟨e.val % 8, by omega⟩).1.1.2
    have q : ∀ p, (⟨e.val / 8 * 8 + e.val % 8, p⟩ : Fin 64) = e := fun _ => Fin.ext (by dsimp only; omega)
    rwa [q] at this
  · have := real_of_abs _ (key 0 0 0 ⟨e.val / 8, by omega⟩ ⟨e.val % 8, by omega⟩).1.2
    have q : ∀ p, (⟨e.val / 8 * 8 + e.val % 8, p⟩ : Fin 64) = e := fun _ => Fin.ext (by dsimp only; omega)
    rwa [q] at this
  · exact ne_of_lt (key 0 0 0 0 i).2

end Cert.Hand.Window

end
-- ==== Proof.Window.Tile.lean ====
/- The sliding window's scratch tiles: what the kernel stores for queries, keys and values, read at an index. -/
module

public import proofs.«01_k».proof.Proof.Gen.WindowIdeal.Skeleton
public import proofs.«01_k».proof.Proof.Attn.Spec
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.UnfoldOut
public import Idealize.ShloMosaic.Lib.Claim

@[expose] public section

set_option maxRecDepth 16384

noncomputable section

namespace Cert.Hand.Window

open Idealize.ShloMosaic Cert.WindowIdeal Cert.WindowIdeal.Gen Cert.Hand.Attn

/-- The literal 1/64. -/
abbrev l64i : EReal := Ideal.ofBits .f32 0x3C800000#32
/-- The literal 1/8. -/
abbrev l8i : EReal := Ideal.ofBits .f32 0x3E000000#32

/-- Whether two lanes are of the same head, as a number. -/
def same (j l : Fin 128) : EReal := if j.val / 64 = l.val / 64 then 1 else 0

/-- A lane of the normalised tile: the mean of squares over the lanes of the same head. -/
def nrm (x g : Fin 128 → EReal) (l : Fin 128) : EReal :=
  x l * Ideal.rsqrt ((∑ j, x j * x j * same j l + ∑ j, (x j * x j - x j * x j) * same j l) * l64i + leps) * g l

/-- A lane of the rotated tile. -/
def rot (y c s : Fin 128 → EReal) (l : Fin 128) : EReal :=
  y l * c l + (if l.val % 64 < 32 then y ⟨(l.val + 128 - 96) % 128, Nat.mod_lt _ (by decide)⟩ else y ⟨(l.val + 128 - 32) % 128, Nat.mod_lt _ (by decide)⟩) * s l

/-- A lane of a tile placed for a slot and a key head: the head's lanes in the slot's half, zero in the other. -/
def plc (sl g : Fin 2) (t : Fin 128 → EReal) (l : Fin 128) : EReal :=
  if l.val / 64 = sl.val then t ⟨64 * g.val + l.val % 64, by have := g.isLt; have := Nat.mod_lt l.val (show 0 < 64 by decide); omega⟩ else 0

/-- The tile normalised per head. -/
def NT (x : Vec Ideal S512x128 .bf16) (g : Vec Ideal S1x128 .f32) : FVec Ideal S512x128 .f32 :=
  k0_pay39 (k0_pay31 x) (k0_pay32 g) (k0_pay34 x) (k0_pay35 x) k0_pay36 (iota .tc S128x128 32 [1] iota_S128x128_d1_w32) 64#32 k0_pay37 k0_pay38

/-- A tile rotated: every lane with its partner at distance 32 in its head. -/
def RT (y : FVec Ideal S512x128 .f32) (v0 v1 : Vec Ideal S512x128 .f32) : FVec Ideal S512x128 .f32 :=
  have v496 : IVec S512x128 32 := iota .tc S512x128 32 [1] iota_S512x128_d1_w32
  let v497 : BitVec 1 := Scalar.cmpi .eq 64#32 0#32
  let v498 : BitVec 32 := Scalar.select v497 1#32 64#32
  have v499 : IVec S512x128 32 := broadcast S512x128 v498
  have v500 : IVec S512x128 32 := remsi v496 v499
  have v501 : IVec S512x128 32 := broadcast S512x128 0#32
  have v502 : IVec S512x128 1 := cmpi .ne v500 v501
  have v503 : IVec S512x128 32 := broadcast S512x128 0#32
  have v504 : IVec S512x128 1 := cmpi .slt v500 v503
  let v505 : BitVec 1 := Scalar.cmpi .slt v498 0#32
  have v506 : IVec S512x128 1 := broadcast S512x128 v505
  have v507 : IVec S512x128 1 := broadcastTo S512x128 v506 broadcasts_S512x128_S512x128
  have v508 : IVec S512x128 1 := xori v504 v507
  have v509 : IVec S512x128 1 := andi v508 v502
  have v510 : IVec S512x128 32 := broadcast S512x128 v498
  have v511 : IVec S512x128 32 := addi v500 v510
  have v512 : IVec S512x128 32 := select v509 v511 v500
  have v513 : IVec S512x128 32 := broadcast S512x128 32#32
  have v514 : IVec S512x128 1 := cmpi .slt v512 v513
  have v515 : FVec Ideal S512x128 .f32 := dynamicRotate 1 96#32 none y rotates_S512x128_d1
  have v516 : FVec Ideal S512x128 .f32 := dynamicRotate 1 32#32 none y rotates_S512x128_d1
  have v517 : FVec Ideal S512x128 .f32 := select v514 v515 v516
  have v518 : FVec Ideal S512x128 .f32 := mulf y v0
  have v519 : FVec Ideal S512x128 .f32 := mulf v517 v1
  have v520 : FVec Ideal S512x128 .f32 := addf v518 v519
  v520

/-- The stored tile of queries. -/
def QT (x : Vec Ideal S512x128 .bf16) (g : Vec Ideal S1x128 .f32) (v0 v1 : Vec Ideal S512x128 .f32) : FVec Ideal S1x512x128 .bf16 :=
  k0_pay44 v0 v1 (NT x g) (Scalar.select (Scalar.cmpi .eq 64#32 0#32) 1#32 64#32) k0_pay40 k0_pay41 k0_pay42 k0_pay43

/-- The rotated tile of keys. -/
def KT (x : Vec Ideal S512x128 .bf16) (g : Vec Ideal S1x128 .f32) (v0 v1 : Vec Ideal S512x128 .f32) : FVec Ideal S512x128 .f32 :=
  k0_pay87 v0 v1 (k0_pay31 x) (k0_pay32 g) (k0_pay86 (k0_pay34 x) (k0_pay35 x) (iota .tc S128x128 32 [0] iota_S128x128_d0_w32) 64#32 k0_pay84 k0_pay85 (Scalar.extui (Scalar.cmpi .sgt 64#32 0#32)))

/-- The tile of values. -/
def VT (x : Vec Ideal S512x128 .bf16) : FVec Ideal S512x128 .f32 := extf .f32 x bitsLt_bf16_f32

/-- The placement of head 0 in slot 0. -/
def P00 (t : FVec Ideal S512x128 .f32) : FVec Ideal S1x1x512x128 .bf16 := k0_pay97 t k0_pay89
/-- The placement of head 0 in slot 1. -/
def P10 (t : FVec Ideal S512x128 .f32) : FVec Ideal S1x1x512x128 .bf16 := k0_pay93 k0_pay89 (dynamicRotate 1 64#32 none t rotates_S512x128_d1)
/-- The placement of head 1 in slot 0. -/
def P01 (t : FVec Ideal S512x128 .f32) : FVec Ideal S1x1x512x128 .bf16 := k0_pay94 k0_pay89 (dynamicRotate 1 64#32 none t rotates_S512x128_d1)
/-- The placement of head 1 in slot 1. -/
def P11 (t : FVec Ideal S512x128 .f32) : FVec Ideal S1x1x512x128 .bf16 := k0_pay95 t k0_pay89

/-- The kernel's floor division of a lane by 64. -/
theorem head_of : ∀ e : Fin 128, Scalar.select
        (IntOp.andi
          (IntOp.cmpi CmpIPredicate.ne
            (IntOp.subi (BitVec.setWidth 32 (IntOp.cmpi CmpIPredicate.sgt (BitVec.ofNat 32 e.val) 0#32))
              (BitVec.setWidth 32 (IntOp.cmpi CmpIPredicate.slt (BitVec.ofNat 32 e.val) 0#32)))
            (Scalar.subi (Scalar.extui (Scalar.cmpi CmpIPredicate.sgt 64#32 0#32)) (Scalar.extui (Scalar.cmpi CmpIPredicate.slt 64#32 0#32))))
          (IntOp.cmpi CmpIPredicate.ne (IntOp.remsi ArithUnit.vector (BitVec.ofNat 32 e.val) 64#32) 0#32))
        (IntOp.subi (IntOp.divsi ArithUnit.vector (BitVec.ofNat 32 e.val) 64#32) 1#32)
        (IntOp.divsi ArithUnit.vector (BitVec.ofNat 32 e.val) 64#32) = BitVec.ofNat 32 (e.val / 64) := by decide +kernel

/-- The comparison of two lanes' heads. -/
theorem eq_of : ∀ a b : Fin 2, (BitVec.setWidth 32 (IntOp.cmpi CmpIPredicate.eq (BitVec.ofNat 32 a.val) (BitVec.ofNat 32 b.val))).toInt = if a.val = b.val then 1 else 0 := by decide +kernel

/-- The comparison of two lanes' heads as a number. -/
theorem same_of (j l : Fin 128) :
    (FloatOps.sitofp FTy.f32 (BitVec.setWidth 32 (IntOp.cmpi CmpIPredicate.eq (BitVec.ofNat 32 (j.val / 64)) (BitVec.ofNat 32 (l.val / 64)))) : Ideal .f32) = same j l := by
  have hj := j.isLt
  have hl := l.isLt
  have h := eq_of ⟨j.val / 64, by omega⟩ ⟨l.val / 64, by omega⟩
  show (((BitVec.setWidth 32 (IntOp.cmpi CmpIPredicate.eq (BitVec.ofNat 32 (j.val / 64)) (BitVec.ofNat 32 (l.val / 64)))).toInt : ℝ) : EReal) = _
  rw [h]
  unfold same
  split <;> simp

/-- An entry of the normalised tile. -/
theorem NT_at (x : Vec Ideal S512x128 .bf16) (g : Vec Ideal S1x128 .f32) (r : Fin 512) (l : Fin 128) :
    NT x g (ix2 r l) = nrm (fun e => x (ix2 r e)) (fun e => g (ix2 0 e)) l := by
  unfold NT
  pointwise [k0_pay31, k0_pay32, k0_pay33, k0_pay34, k0_pay35, k0_pay36, k0_pay37, k0_pay38, k0_pay39]
  simp only [head_of, same_of]
  rfl

/-- Whether a lane is in the first half of its head. -/
theorem half_of : ∀ e : Fin 128, IntOp.cmpi CmpIPredicate.slt
      (Scalar.select
        (IntOp.andi (IntOp.xori (IntOp.cmpi CmpIPredicate.slt (IntOp.remsi ArithUnit.vector (BitVec.ofNat 32 e.val) (Scalar.select (Scalar.cmpi CmpIPredicate.eq 64#32 0#32) 1#32 64#32)) 0#32) (Scalar.cmpi CmpIPredicate.slt (Scalar.select (Scalar.cmpi CmpIPredicate.eq 64#32 0#32) 1#32 64#32) 0#32))
          (IntOp.cmpi CmpIPredicate.ne (IntOp.remsi ArithUnit.vector (BitVec.ofNat 32 e.val) (Scalar.select (Scalar.cmpi CmpIPredicate.eq 64#32 0#32) 1#32 64#32)) 0#32))
        (IntOp.addi (IntOp.remsi ArithUnit.vector (BitVec.ofNat 32 e.val) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 e.val) (Scalar.select (Scalar.cmpi CmpIPredicate.eq 64#32 0#32) 1#32 64#32))) 32#32 = if e.val % 64 < 32 then 1#1 else 0#1 := by decide +kernel

/-- An entry of a rotated tile. -/
theorem RT_at (y : FVec Ideal S512x128 .f32) (v0 v1 : Vec Ideal S512x128 .f32) (r : Fin 512) (l : Fin 128) :
    RT y v0 v1 (ix2 r l) = rot (fun e => y (ix2 r e)) (fun e => v0 (ix2 r e)) (fun e => v1 (ix2 r e)) l := by
  pointwise [RT]
  refine congrArg (fun a => y (ix2 r l) * v0 (ix2 r l) + a * v1 (ix2 r l)) ?_
  refine (congrArg (fun b => Scalar.select b _ _) (half_of l)).trans ?_
  by_cases h : l.val % 64 < 32
  · rw [if_pos h, if_pos h]; rfl
  · rw [if_neg h, if_neg h]; rfl

/-- An entry of the stored queries. -/
theorem QT_at (x : Vec Ideal S512x128 .bf16) (g : Vec Ideal S1x128 .f32) (v0 v1 : Vec Ideal S512x128 .f32) (r : Fin 512) (l : Fin 128) :
    QT x g v0 v1 (ix3 0 r l) = rot (nrm (fun e => x (ix2 r e)) (fun e => g (ix2 0 e))) (fun e => v0 (ix2 r e)) (fun e => v1 (ix2 r e)) l * l8i := by
  have h : QT x g v0 v1 = shapeCast S1x512x128 (truncf .bf16 (mulf (RT (NT x g) v0 v1) (broadcast S512x128 (Scalar.ofBits .f32 0x3E000000#32))) bitsLt_bf16_f32) shapeCasts_S512x128_S1x512x128 := rfl
  have h2 := RT_at (NT x g) v0 v1 r l
  simp only [NT_at] at h2
  rw [h, ← h2]
  generalize RT (NT x g) v0 v1 = y
  pointwise

/-- An entry of the rotated keys. -/
theorem KT_at (x : Vec Ideal S512x128 .bf16) (g : Vec Ideal S1x128 .f32) (v0 v1 : Vec Ideal S512x128 .f32) (r : Fin 512) (l : Fin 128) :
    KT x g v0 v1 (ix2 r l) = rot (nrm (fun e => x (ix2 r e)) (fun e => g (ix2 0 e))) (fun e => v0 (ix2 r e)) (fun e => v1 (ix2 r e)) l := by
  have h : KT x g v0 v1 = RT (NT x g) v0 v1 := rfl
  rw [h, RT_at]
  simp only [NT_at]

/-- Whether a lane is of the first head. -/
theorem low_of : ∀ e : Fin 128, IntOp.cmpi CmpIPredicate.slt (BitVec.ofNat 32 e.val) 64#32 = if e.val / 64 = 0 then 1#1 else 0#1 := by decide +kernel

/-- An entry of the placement of head 0 in slot 0. -/
theorem P00_at (t : FVec Ideal S512x128 .f32) (r : Fin 512) (l : Fin 128) :
    P00 t (ix4 0 0 r l) = plc 0 0 (fun e => t (ix2 r e)) l := by
  unfold P00
  pointwise [k0_pay97, k0_pay93, k0_pay94, k0_pay95, k0_pay89]
  rw [low_of]
  have hl := l.isLt
  unfold plc
  by_cases h : l.val / 64 = 0
  · simp [h, Scalar.select]
    try exact congrArg (fun a => t (ix2 r a)) (Fin.ext (by simp; omega))
  · have h' : l.val / 64 = 1 := by omega
    simp [h', Scalar.select]
    try exact congrArg (fun a => t (ix2 r a)) (Fin.ext (by simp; omega))

/-- An entry of the placement of head 0 in slot 1. -/
theorem P10_at (t : FVec Ideal S512x128 .f32) (r : Fin 512) (l : Fin 128) :
    P10 t (ix4 0 0 r l) = plc 1 0 (fun e => t (ix2 r e)) l := by
  unfold P10
  pointwise [k0_pay97, k0_pay93, k0_pay94, k0_pay95, k0_pay89]
  rw [low_of]
  have hl := l.isLt
  unfold plc
  by_cases h : l.val / 64 = 0
  · simp [h, Scalar.select]
    try exact congrArg (fun a => t (ix2 r a)) (Fin.ext (by simp; omega))
  · have h' : l.val / 64 = 1 := by omega
    simp [h', Scalar.select]
    try exact congrArg (fun a => t (ix2 r a)) (Fin.ext (by simp; omega))

/-- An entry of the placement of head 1 in slot 0. -/
theorem P01_at (t : FVec Ideal S512x128 .f32) (r : Fin 512) (l : Fin 128) :
    P01 t (ix4 0 0 r l) = plc 0 1 (fun e => t (ix2 r e)) l := by
  unfold P01
  pointwise [k0_pay97, k0_pay93, k0_pay94, k0_pay95, k0_pay89]
  rw [low_of]
  have hl := l.isLt
  unfold plc
  by_cases h : l.val / 64 = 0
  · simp [h, Scalar.select]
    try exact congrArg (fun a => t (ix2 r a)) (Fin.ext (by simp; omega))
  · have h' : l.val / 64 = 1 := by omega
    simp [h', Scalar.select]
    try exact congrArg (fun a => t (ix2 r a)) (Fin.ext (by simp; omega))

/-- An entry of the placement of head 1 in slot 1. -/
theorem P11_at (t : FVec Ideal S512x128 .f32) (r : Fin 512) (l : Fin 128) :
    P11 t (ix4 0 0 r l) = plc 1 1 (fun e => t (ix2 r e)) l := by
  unfold P11
  pointwise [k0_pay97, k0_pay93, k0_pay94, k0_pay95, k0_pay89]
  rw [low_of]
  have hl := l.isLt
  unfold plc
  by_cases h : l.val / 64 = 0
  · simp [h, Scalar.select]
    try exact congrArg (fun a => t (ix2 r a)) (Fin.ext (by simp; omega))
  · have h' : l.val / 64 = 1 := by omega
    simp [h', Scalar.select]
    try exact congrArg (fun a => t (ix2 r a)) (Fin.ext (by simp; omega))

end Cert.Hand.Window

end
-- ==== Proof.Window.Scratch.lean ====
/- The sliding window's three scratch buffers: every stored tile is its part of one function of the whole buffer. -/
module

public import proofs.«01_k».proof.Proof.Window.Tile
public import proofs.«01_k».proof.Proof.Gen.WindowIdeal.Value

@[expose] public section

set_option maxRecDepth 16384

noncomputable section

namespace Cert.Hand.Window

open Idealize.ShloMosaic Idealize.ShloMosaic.TcCoe Cert.WindowIdeal Cert.WindowIdeal.Gen Cert.Hand.Attn

/-- A tile loaded from a whole buffer of packed rows. -/
def LX (a : Memref sig .tc .vmem S2048x768 .bf16) (ha : a.IsWhole) (x : Vec Ideal S2048x768 .bf16) (r c : ℕ)
    (h : ∀ i, (![r, c] : Fin 2 → ℕ) i + S512x128.size i ≤ S2048x768.size i) : Vec Ideal S512x128 .bf16 :=
  View.readAt (Elt Ideal) a.view (Rect.unit (s := S2048x768) ![r, c] S512x128.size h).toLoadRect (ha.unread x)

/-- A tile loaded from a whole table. -/
def LT (a : Memref sig .tc .vmem S2048x128 .f32) (ha : a.IsWhole) (x : Vec Ideal S2048x128 .f32) (r : ℕ)
    (h : ∀ i, (![r, 0] : Fin 2 → ℕ) i + S512x128.size i ≤ S2048x128.size i) : Vec Ideal S512x128 .f32 :=
  View.readAt (Elt Ideal) a.view (Rect.unit (s := S2048x128) ![r, 0] S512x128.size h).toLoadRect (ha.unread x)

/-- The gains loaded. -/
def LG (a : Memref sig .tc .vmem S1x128 .f32) (ha : a.IsWhole) (x : Vec Ideal S1x128 .f32) : Vec Ideal S1x128 .f32 :=
  View.readAt (Elt Ideal) a.view (Rect.unit (s := S1x128) ![0, 0] S1x128.size inb_S1x128_S1x128_0_0).toLoadRect (ha.unread x)

/-- The stored tiles of queries, the last first. -/
def QP (arg1 : Memref sig .tc .vmem S2048x768 .bf16) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole) (x0 : Vec Ideal S2048x768 .bf16) (x1 x2 : Vec Ideal S2048x128 .f32) (x3 : Vec Ideal S1x128 .f32) : List (View.Piece (Elt Ideal) S4x2048x128 .bf16) :=
  [⟨Rect.unit (s := S4x2048x128) ![3, 1536, 0] S1x512x128.size inb_S4x2048x128_S1x512x128_3_1536_0, QT (LX arg1 harg1 x0 1536 384 inb_S2048x768_S512x128_1536_384) (LG arg4 harg4 x3) (LT arg2 harg2 x1 1536 inb_S2048x128_S512x128_1536_0) (LT arg3 harg3 x2 1536 inb_S2048x128_S512x128_1536_0)⟩,
    ⟨Rect.unit (s := S4x2048x128) ![2, 1536, 0] S1x512x128.size inb_S4x2048x128_S1x512x128_2_1536_0, QT (LX arg1 harg1 x0 1536 256 inb_S2048x768_S512x128_1536_256) (LG arg4 harg4 x3) (LT arg2 harg2 x1 1536 inb_S2048x128_S512x128_1536_0) (LT arg3 harg3 x2 1536 inb_S2048x128_S512x128_1536_0)⟩,
    ⟨Rect.unit (s := S4x2048x128) ![1, 1536, 0] S1x512x128.size inb_S4x2048x128_S1x512x128_1_1536_0, QT (LX arg1 harg1 x0 1536 128 inb_S2048x768_S512x128_1536_128) (LG arg4 harg4 x3) (LT arg2 harg2 x1 1536 inb_S2048x128_S512x128_1536_0) (LT arg3 harg3 x2 1536 inb_S2048x128_S512x128_1536_0)⟩,
    ⟨Rect.unit (s := S4x2048x128) ![0, 1536, 0] S1x512x128.size inb_S4x2048x128_S1x512x128_0_1536_0, QT (LX arg1 harg1 x0 1536 0 inb_S2048x768_S512x128_1536_0) (LG arg4 harg4 x3) (LT arg2 harg2 x1 1536 inb_S2048x128_S512x128_1536_0) (LT arg3 harg3 x2 1536 inb_S2048x128_S512x128_1536_0)⟩,
    ⟨Rect.unit (s := S4x2048x128) ![3, 1024, 0] S1x512x128.size inb_S4x2048x128_S1x512x128_3_1024_0, QT (LX arg1 harg1 x0 1024 384 inb_S2048x768_S512x128_1024_384) (LG arg4 harg4 x3) (LT arg2 harg2 x1 1024 inb_S2048x128_S512x128_1024_0) (LT arg3 harg3 x2 1024 inb_S2048x128_S512x128_1024_0)⟩,
    ⟨Rect.unit (s := S4x2048x128) ![2, 1024, 0] S1x512x128.size inb_S4x2048x128_S1x512x128_2_1024_0, QT (LX arg1 harg1 x0 1024 256 inb_S2048x768_S512x128_1024_256) (LG arg4 harg4 x3) (LT arg2 harg2 x1 1024 inb_S2048x128_S512x128_1024_0) (LT arg3 harg3 x2 1024 inb_S2048x128_S512x128_1024_0)⟩,
    ⟨Rect.unit (s := S4x2048x128) ![1, 1024, 0] S1x512x128.size inb_S4x2048x128_S1x512x128_1_1024_0, QT (LX arg1 harg1 x0 1024 128 inb_S2048x768_S512x128_1024_128) (LG arg4 harg4 x3) (LT arg2 harg2 x1 1024 inb_S2048x128_S512x128_1024_0) (LT arg3 harg3 x2 1024 inb_S2048x128_S512x128_1024_0)⟩,
    ⟨Rect.unit (s := S4x2048x128) ![0, 1024, 0] S1x512x128.size inb_S4x2048x128_S1x512x128_0_1024_0, QT (LX arg1 harg1 x0 1024 0 inb_S2048x768_S512x128_1024_0) (LG arg4 harg4 x3) (LT arg2 harg2 x1 1024 inb_S2048x128_S512x128_1024_0) (LT arg3 harg3 x2 1024 inb_S2048x128_S512x128_1024_0)⟩,
    ⟨Rect.unit (s := S4x2048x128) ![3, 512, 0] S1x512x128.size inb_S4x2048x128_S1x512x128_3_512_0, QT (LX arg1 harg1 x0 512 384 inb_S2048x768_S512x128_512_384) (LG arg4 harg4 x3) (LT arg2 harg2 x1 512 inb_S2048x128_S512x128_512_0) (LT arg3 harg3 x2 512 inb_S2048x128_S512x128_512_0)⟩,
    ⟨Rect.unit (s := S4x2048x128) ![2, 512, 0] S1x512x128.size inb_S4x2048x128_S1x512x128_2_512_0, QT (LX arg1 harg1 x0 512 256 inb_S2048x768_S512x128_512_256) (LG arg4 harg4 x3) (LT arg2 harg2 x1 512 inb_S2048x128_S512x128_512_0) (LT arg3 harg3 x2 512 inb_S2048x128_S512x128_512_0)⟩,
    ⟨Rect.unit (s := S4x2048x128) ![1, 512, 0] S1x512x128.size inb_S4x2048x128_S1x512x128_1_512_0, QT (LX arg1 harg1 x0 512 128 inb_S2048x768_S512x128_512_128) (LG arg4 harg4 x3) (LT arg2 harg2 x1 512 inb_S2048x128_S512x128_512_0) (LT arg3 harg3 x2 512 inb_S2048x128_S512x128_512_0)⟩,
    ⟨Rect.unit (s := S4x2048x128) ![0, 512, 0] S1x512x128.size inb_S4x2048x128_S1x512x128_0_512_0, QT (LX arg1 harg1 x0 512 0 inb_S2048x768_S512x128_512_0) (LG arg4 harg4 x3) (LT arg2 harg2 x1 512 inb_S2048x128_S512x128_512_0) (LT arg3 harg3 x2 512 inb_S2048x128_S512x128_512_0)⟩,
    ⟨Rect.unit (s := S4x2048x128) ![3, 0, 0] S1x512x128.size inb_S4x2048x128_S1x512x128_3_0_0, QT (LX arg1 harg1 x0 0 384 inb_S2048x768_S512x128_0_384) (LG arg4 harg4 x3) (LT arg2 harg2 x1 0 inb_S2048x128_S512x128_0_0) (LT arg3 harg3 x2 0 inb_S2048x128_S512x128_0_0)⟩,
    ⟨Rect.unit (s := S4x2048x128) ![2, 0, 0] S1x512x128.size inb_S4x2048x128_S1x512x128_2_0_0, QT (LX arg1 harg1 x0 0 256 inb_S2048x768_S512x128_0_256) (LG arg4 harg4 x3) (LT arg2 harg2 x1 0 inb_S2048x128_S512x128_0_0) (LT arg3 harg3 x2 0 inb_S2048x128_S512x128_0_0)⟩,
    ⟨Rect.unit (s := S4x2048x128) ![1, 0, 0] S1x512x128.size inb_S4x2048x128_S1x512x128_1_0_0, QT (LX arg1 harg1 x0 0 128 inb_S2048x768_S512x128_0_128) (LG arg4 harg4 x3) (LT arg2 harg2 x1 0 inb_S2048x128_S512x128_0_0) (LT arg3 harg3 x2 0 inb_S2048x128_S512x128_0_0)⟩,
    ⟨Rect.unit (s := S4x2048x128) ![0, 0, 0] S1x512x128.size inb_S4x2048x128_S1x512x128_0_0_0, QT (LX arg1 harg1 x0 0 0 inb_S2048x768_S512x128_0_0) (LG arg4 harg4 x3) (LT arg2 harg2 x1 0 inb_S2048x128_S512x128_0_0) (LT arg3 harg3 x2 0 inb_S2048x128_S512x128_0_0)⟩]

/-- What the kernel stores of queries is these tiles. -/
theorem QP_eq (c : Dev nD) (arg1 : Memref sig .tc .vmem S2048x768 .bf16) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole) (x0 : Vec Ideal S2048x768 .bf16) (x1 x2 : Vec Ideal S2048x128 .f32) (x3 : Vec Ideal S1x128 .f32) : kernelRun0_A.sl.HS0_16 (F := Ideal) c arg1 harg1 arg2 harg2 arg3 harg3 arg4 harg4 x0 x1 x2 x3 = QP arg1 harg1 arg2 harg2 arg3 harg3 arg4 harg4 x0 x1 x2 x3 := rfl

/-- The stored tiles of keys, the last first. -/
def KP (arg1 : Memref sig .tc .vmem S2048x768 .bf16) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole) (x0 : Vec Ideal S2048x768 .bf16) (x1 x2 : Vec Ideal S2048x128 .f32) (x3 : Vec Ideal S1x128 .f32) : List (View.Piece (Elt Ideal) S2x2x2048x128 .bf16) :=
  [⟨Rect.unit (s := S2x2x2048x128) ![1, 1, 1536, 0] S1x1x512x128.size inb_S2x2x2048x128_S1x1x512x128_1_1_1536_0, P11 (KT (LX arg1 harg1 x0 1536 512 inb_S2048x768_S512x128_1536_512) (LG arg4 harg4 x3) (LT arg2 harg2 x1 1536 inb_S2048x128_S512x128_1536_0) (LT arg3 harg3 x2 1536 inb_S2048x128_S512x128_1536_0))⟩,
    ⟨Rect.unit (s := S2x2x2048x128) ![0, 1, 1536, 0] S1x1x512x128.size inb_S2x2x2048x128_S1x1x512x128_0_1_1536_0, P01 (KT (LX arg1 harg1 x0 1536 512 inb_S2048x768_S512x128_1536_512) (LG arg4 harg4 x3) (LT arg2 harg2 x1 1536 inb_S2048x128_S512x128_1536_0) (LT arg3 harg3 x2 1536 inb_S2048x128_S512x128_1536_0))⟩,
    ⟨Rect.unit (s := S2x2x2048x128) ![1, 0, 1536, 0] S1x1x512x128.size inb_S2x2x2048x128_S1x1x512x128_1_0_1536_0, P10 (KT (LX arg1 harg1 x0 1536 512 inb_S2048x768_S512x128_1536_512) (LG arg4 harg4 x3) (LT arg2 harg2 x1 1536 inb_S2048x128_S512x128_1536_0) (LT arg3 harg3 x2 1536 inb_S2048x128_S512x128_1536_0))⟩,
    ⟨Rect.unit (s := S2x2x2048x128) ![0, 0, 1536, 0] S1x1x512x128.size inb_S2x2x2048x128_S1x1x512x128_0_0_1536_0, P00 (KT (LX arg1 harg1 x0 1536 512 inb_S2048x768_S512x128_1536_512) (LG arg4 harg4 x3) (LT arg2 harg2 x1 1536 inb_S2048x128_S512x128_1536_0) (LT arg3 harg3 x2 1536 inb_S2048x128_S512x128_1536_0))⟩,
    ⟨Rect.unit (s := S2x2x2048x128) ![1, 1, 1024, 0] S1x1x512x128.size inb_S2x2x2048x128_S1x1x512x128_1_1_1024_0, P11 (KT (LX arg1 harg1 x0 1024 512 inb_S2048x768_S512x128_1024_512) (LG arg4 harg4 x3) (LT arg2 harg2 x1 1024 inb_S2048x128_S512x128_1024_0) (LT arg3 harg3 x2 1024 inb_S2048x128_S512x128_1024_0))⟩,
    ⟨Rect.unit (s := S2x2x2048x128) ![0, 1, 1024, 0] S1x1x512x128.size inb_S2x2x2048x128_S1x1x512x128_0_1_1024_0, P01 (KT (LX arg1 harg1 x0 1024 512 inb_S2048x768_S512x128_1024_512) (LG arg4 harg4 x3) (LT arg2 harg2 x1 1024 inb_S2048x128_S512x128_1024_0) (LT arg3 harg3 x2 1024 inb_S2048x128_S512x128_1024_0))⟩,
    ⟨Rect.unit (s := S2x2x2048x128) ![1, 0, 1024, 0] S1x1x512x128.size inb_S2x2x2048x128_S1x1x512x128_1_0_1024_0, P10 (KT (LX arg1 harg1 x0 1024 512 inb_S2048x768_S512x128_1024_512) (LG arg4 harg4 x3) (LT arg2 harg2 x1 1024 inb_S2048x128_S512x128_1024_0) (LT arg3 harg3 x2 1024 inb_S2048x128_S512x128_1024_0))⟩,
    ⟨Rect.unit (s := S2x2x2048x128) ![0, 0, 1024, 0] S1x1x512x128.size inb_S2x2x2048x128_S1x1x512x128_0_0_1024_0, P00 (KT (LX arg1 harg1 x0 1024 512 inb_S2048x768_S512x128_1024_512) (LG arg4 harg4 x3) (LT arg2 harg2 x1 1024 inb_S2048x128_S512x128_1024_0) (LT arg3 harg3 x2 1024 inb_S2048x128_S512x128_1024_0))⟩,
    ⟨Rect.unit (s := S2x2x2048x128) ![1, 1, 512, 0] S1x1x512x128.size inb_S2x2x2048x128_S1x1x512x128_1_1_512_0, P11 (KT (LX arg1 harg1 x0 512 512 inb_S2048x768_S512x128_512_512) (LG arg4 harg4 x3) (LT arg2 harg2 x1 512 inb_S2048x128_S512x128_512_0) (LT arg3 harg3 x2 512 inb_S2048x128_S512x128_512_0))⟩,
    ⟨Rect.unit (s := S2x2x2048x128) ![0, 1, 512, 0] S1x1x512x128.size inb_S2x2x2048x128_S1x1x512x128_0_1_512_0, P01 (KT (LX arg1 harg1 x0 512 512 inb_S2048x768_S512x128_512_512) (LG arg4 harg4 x3) (LT arg2 harg2 x1 512 inb_S2048x128_S512x128_512_0) (LT arg3 harg3 x2 512 inb_S2048x128_S512x128_512_0))⟩,
    ⟨Rect.unit (s := S2x2x2048x128) ![1, 0, 512, 0] S1x1x512x128.size inb_S2x2x2048x128_S1x1x512x128_1_0_512_0, P10 (KT (LX arg1 harg1 x0 512 512 inb_S2048x768_S512x128_512_512) (LG arg4 harg4 x3) (LT arg2 harg2 x1 512 inb_S2048x128_S512x128_512_0) (LT arg3 harg3 x2 512 inb_S2048x128_S512x128_512_0))⟩,
    ⟨Rect.unit (s := S2x2x2048x128) ![0, 0, 512, 0] S1x1x512x128.size inb_S2x2x2048x128_S1x1x512x128_0_0_512_0, P00 (KT (LX arg1 harg1 x0 512 512 inb_S2048x768_S512x128_512_512) (LG arg4 harg4 x3) (LT arg2 harg2 x1 512 inb_S2048x128_S512x128_512_0) (LT arg3 harg3 x2 512 inb_S2048x128_S512x128_512_0))⟩,
    ⟨Rect.unit (s := S2x2x2048x128) ![1, 1, 0, 0] S1x1x512x128.size inb_S2x2x2048x128_S1x1x512x128_1_1_0_0, P11 (KT (LX arg1 harg1 x0 0 512 inb_S2048x768_S512x128_0_512) (LG arg4 harg4 x3) (LT arg2 harg2 x1 0 inb_S2048x128_S512x128_0_0) (LT arg3 harg3 x2 0 inb_S2048x128_S512x128_0_0))⟩,
    ⟨Rect.unit (s := S2x2x2048x128) ![0, 1, 0, 0] S1x1x512x128.size inb_S2x2x2048x128_S1x1x512x128_0_1_0_0, P01 (KT (LX arg1 harg1 x0 0 512 inb_S2048x768_S512x128_0_512) (LG arg4 harg4 x3) (LT arg2 harg2 x1 0 inb_S2048x128_S512x128_0_0) (LT arg3 harg3 x2 0 inb_S2048x128_S512x128_0_0))⟩,
    ⟨Rect.unit (s := S2x2x2048x128) ![1, 0, 0, 0] S1x1x512x128.size inb_S2x2x2048x128_S1x1x512x128_1_0_0_0, P10 (KT (LX arg1 harg1 x0 0 512 inb_S2048x768_S512x128_0_512) (LG arg4 harg4 x3) (LT arg2 harg2 x1 0 inb_S2048x128_S512x128_0_0) (LT arg3 harg3 x2 0 inb_S2048x128_S512x128_0_0))⟩,
    ⟨Rect.unit (s := S2x2x2048x128) ![0, 0, 0, 0] S1x1x512x128.size inb_S2x2x2048x128_S1x1x512x128_0_0_0_0, P00 (KT (LX arg1 harg1 x0 0 512 inb_S2048x768_S512x128_0_512) (LG arg4 harg4 x3) (LT arg2 harg2 x1 0 inb_S2048x128_S512x128_0_0) (LT arg3 harg3 x2 0 inb_S2048x128_S512x128_0_0))⟩]

/-- What the kernel stores of keys is these tiles. -/
theorem KP_eq (c : Dev nD) (arg1 : Memref sig .tc .vmem S2048x768 .bf16) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole) (x0 : Vec Ideal S2048x768 .bf16) (x1 x2 : Vec Ideal S2048x128 .f32) (x3 : Vec Ideal S1x128 .f32) : kernelRun0_A.sl.HS1_16 (F := Ideal) c arg1 harg1 arg2 harg2 arg3 harg3 arg4 harg4 x0 x1 x2 x3 = KP arg1 harg1 arg2 harg2 arg3 harg3 arg4 harg4 x0 x1 x2 x3 := rfl

/-- The stored tiles of values, the last first. -/
def VP (arg1 : Memref sig .tc .vmem S2048x768 .bf16) (harg1 : arg1.IsWhole) (x0 : Vec Ideal S2048x768 .bf16) : List (View.Piece (Elt Ideal) S2x2x2048x128 .bf16) :=
  [⟨Rect.unit (s := S2x2x2048x128) ![1, 1, 1536, 0] S1x1x512x128.size inb_S2x2x2048x128_S1x1x512x128_1_1_1536_0, P11 (VT (LX arg1 harg1 x0 1536 640 inb_S2048x768_S512x128_1536_640))⟩,
    ⟨Rect.unit (s := S2x2x2048x128) ![0, 1, 1536, 0] S1x1x512x128.size inb_S2x2x2048x128_S1x1x512x128_0_1_1536_0, P01 (VT (LX arg1 harg1 x0 1536 640 inb_S2048x768_S512x128_1536_640))⟩,
    ⟨Rect.unit (s := S2x2x2048x128) ![1, 0, 1536, 0] S1x1x512x128.size inb_S2x2x2048x128_S1x1x512x128_1_0_1536_0, P10 (VT (LX arg1 harg1 x0 1536 640 inb_S2048x768_S512x128_1536_640))⟩,
    ⟨Rect.unit (s := S2x2x2048x128) ![0, 0, 1536, 0] S1x1x512x128.size inb_S2x2x2048x128_S1x1x512x128_0_0_1536_0, P00 (VT (LX arg1 harg1 x0 1536 640 inb_S2048x768_S512x128_1536_640))⟩,
    ⟨Rect.unit (s := S2x2x2048x128) ![1, 1, 1024, 0] S1x1x512x128.size inb_S2x2x2048x128_S1x1x512x128_1_1_1024_0, P11 (VT (LX arg1 harg1 x0 1024 640 inb_S2048x768_S512x128_1024_640))⟩,
    ⟨Rect.unit (s := S2x2x2048x128) ![0, 1, 1024, 0] S1x1x512x128.size inb_S2x2x2048x128_S1x1x512x128_0_1_1024_0, P01 (VT (LX arg1 harg1 x0 1024 640 inb_S2048x768_S512x128_1024_640))⟩,
    ⟨Rect.unit (s := S2x2x2048x128) ![1, 0, 1024, 0] S1x1x512x128.size inb_S2x2x2048x128_S1x1x512x128_1_0_1024_0, P10 (VT (LX arg1 harg1 x0 1024 640 inb_S2048x768_S512x128_1024_640))⟩,
    ⟨Rect.unit (s := S2x2x2048x128) ![0, 0, 1024, 0] S1x1x512x128.size inb_S2x2x2048x128_S1x1x512x128_0_0_1024_0, P00 (VT (LX arg1 harg1 x0 1024 640 inb_S2048x768_S512x128_1024_640))⟩,
    ⟨Rect.unit (s := S2x2x2048x128) ![1, 1, 512, 0] S1x1x512x128.size inb_S2x2x2048x128_S1x1x512x128_1_1_512_0, P11 (VT (LX arg1 harg1 x0 512 640 inb_S2048x768_S512x128_512_640))⟩,
    ⟨Rect.unit (s := S2x2x2048x128) ![0, 1, 512, 0] S1x1x512x128.size inb_S2x2x2048x128_S1x1x512x128_0_1_512_0, P01 (VT (LX arg1 harg1 x0 512 640 inb_S2048x768_S512x128_512_640))⟩,
    ⟨Rect.unit (s := S2x2x2048x128) ![1, 0, 512, 0] S1x1x512x128.size inb_S2x2x2048x128_S1x1x512x128_1_0_512_0, P10 (VT (LX arg1 harg1 x0 512 640 inb_S2048x768_S512x128_512_640))⟩,
    ⟨Rect.unit (s := S2x2x2048x128) ![0, 0, 512, 0] S1x1x512x128.size inb_S2x2x2048x128_S1x1x512x128_0_0_512_0, P00 (VT (LX arg1 harg1 x0 512 640 inb_S2048x768_S512x128_512_640))⟩,
    ⟨Rect.unit (s := S2x2x2048x128) ![1, 1, 0, 0] S1x1x512x128.size inb_S2x2x2048x128_S1x1x512x128_1_1_0_0, P11 (VT (LX arg1 harg1 x0 0 640 inb_S2048x768_S512x128_0_640))⟩,
    ⟨Rect.unit (s := S2x2x2048x128) ![0, 1, 0, 0] S1x1x512x128.size inb_S2x2x2048x128_S1x1x512x128_0_1_0_0, P01 (VT (LX arg1 harg1 x0 0 640 inb_S2048x768_S512x128_0_640))⟩,
    ⟨Rect.unit (s := S2x2x2048x128) ![1, 0, 0, 0] S1x1x512x128.size inb_S2x2x2048x128_S1x1x512x128_1_0_0_0, P10 (VT (LX arg1 harg1 x0 0 640 inb_S2048x768_S512x128_0_640))⟩,
    ⟨Rect.unit (s := S2x2x2048x128) ![0, 0, 0, 0] S1x1x512x128.size inb_S2x2x2048x128_S1x1x512x128_0_0_0_0, P00 (VT (LX arg1 harg1 x0 0 640 inb_S2048x768_S512x128_0_640))⟩]

/-- What the kernel stores of values is these tiles. -/
theorem VP_eq (c : Dev nD) (arg1 : Memref sig .tc .vmem S2048x768 .bf16) (harg1 : arg1.IsWhole) (x0 : Vec Ideal S2048x768 .bf16) : kernelRun0_A.sl.HS2_16 (F := Ideal) c arg1 harg1 x0 = VP arg1 harg1 x0 := rfl

end Cert.Hand.Window

end
-- ==== Proof.Window.Held.lean ====
/- The sliding window's scratch buffers, read at an index. -/
module

public import proofs.«01_k».proof.Proof.Window.Scratch

@[expose] public section

set_option maxRecDepth 16384

noncomputable section

namespace Cert.Hand.Window

open Idealize.ShloMosaic Idealize.ShloMosaic.TcCoe Cert.WindowIdeal Cert.WindowIdeal.Gen Cert.Hand.Attn

/-- A loaded tile at an index. -/
theorem LX_at (a : Memref sig .tc .vmem S2048x768 .bf16) (ha : a.IsWhole) (x : Vec Ideal S2048x768 .bf16) (r c : ℕ)
    (h : ∀ i, (![r, c] : Fin 2 → ℕ) i + S512x128.size i ≤ S2048x768.size i) (i : Fin 512) (e : Fin 128) :
    LX a ha x r c h (ix2 i e) = x (ix2 ⟨r + i.val, by have := h 0; have : r + 512 ≤ 2048 := this; have := i.isLt; omega⟩ ⟨c + e.val, by have := h 1; have : c + 128 ≤ 768 := this; have := e.isLt; omega⟩) := by
  unfold LX
  rw [View.readAt_apply, ha.read_unread]
  refine congrArg x (funext fun a => Fin.ext ?_)
  match a with
  | ⟨0, _⟩ => show r + 1 * i.val = r + i.val; omega
  | ⟨1, _⟩ => show c + 1 * e.val = c + e.val; omega

/-- A loaded tile of a table at an index. -/
theorem LT_at (a : Memref sig .tc .vmem S2048x128 .f32) (ha : a.IsWhole) (x : Vec Ideal S2048x128 .f32) (r : ℕ)
    (h : ∀ i, (![r, 0] : Fin 2 → ℕ) i + S512x128.size i ≤ S2048x128.size i) (i : Fin 512) (e : Fin 128) :
    LT a ha x r h (ix2 i e) = x (ix2 ⟨r + i.val, by have := h 0; have : r + 512 ≤ 2048 := this; have := i.isLt; omega⟩ e) := by
  unfold LT
  rw [View.readAt_apply, ha.read_unread]
  refine congrArg x (funext fun a => Fin.ext ?_)
  match a with
  | ⟨0, _⟩ => show r + 1 * i.val = r + i.val; omega
  | ⟨1, _⟩ => show 0 + 1 * e.val = e.val; omega

/-- The loaded gains at an index. -/
theorem LG_at (a : Memref sig .tc .vmem S1x128 .f32) (ha : a.IsWhole) (x : Vec Ideal S1x128 .f32) (e : Fin 128) : LG a ha x (ix2 0 e) = x (ix2 0 e) := by
  unfold LG
  rw [View.readAt_apply, ha.read_unread]
  refine congrArg x (funext fun a => Fin.ext ?_)
  match a with
  | ⟨0, _⟩ => rfl
  | ⟨1, _⟩ => show 0 + 1 * e.val = e.val; omega

/-- A lane of a row's normalised and rotated 128 columns from column `o`. -/
def qk (x0 : Vec Ideal S2048x768 .bf16) (x1 x2 : Vec Ideal S2048x128 .f32) (x3 : Vec Ideal S1x128 .f32) (o : ℕ) (ho : o ≤ 512) (r : Fin 2048) : Fin 128 → EReal :=
  rot (nrm (fun e => x0 (ix2 r ⟨o + e.val, by have := e.isLt; omega⟩)) (fun e => x3 (ix2 0 e))) (fun e => x1 (ix2 r e)) (fun e => x2 (ix2 r e))

/-- The queries held: by chunk of 128 columns, row and lane. -/
def QS (x0 : Vec Ideal S2048x768 .bf16) (x1 x2 : Vec Ideal S2048x128 .f32) (x3 : Vec Ideal S1x128 .f32) (i : S4x2048x128.Idx) : EReal :=
  qk x0 x1 x2 x3 (128 * (i 0).val) (by have : (i 0).val < 4 := (i 0).isLt; omega) (i 1) (i 2) * l8i

/-- The keys held: by slot, head, row and lane. -/
def KS (x0 : Vec Ideal S2048x768 .bf16) (x1 x2 : Vec Ideal S2048x128 .f32) (x3 : Vec Ideal S1x128 .f32) (i : S2x2x2048x128.Idx) : EReal :=
  plc (i 0) (i 1) (qk x0 x1 x2 x3 512 (le_refl _) (i 2)) (i 3)

/-- The values held: by slot, head, row and lane. -/
def VS (x0 : Vec Ideal S2048x768 .bf16) (i : S2x2x2048x128.Idx) : EReal :=
  plc (i 0) (i 1) (fun e => x0 (ix2 (i 2) ⟨640 + e.val, by have := e.isLt; omega⟩)) (i 3)

/-- A stored tile of queries is its part of the queries held. -/
theorem Qpiece (arg1 : Memref sig .tc .vmem S2048x768 .bf16) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole) (x0 : Vec Ideal S2048x768 .bf16) (x1 x2 : Vec Ideal S2048x128 .f32) (x3 : Vec Ideal S1x128 .f32) (c r : ℕ)
    (hx : ∀ i, (![r, 128 * c] : Fin 2 → ℕ) i + S512x128.size i ≤ S2048x768.size i) (ht : ∀ i, (![r, 0] : Fin 2 → ℕ) i + S512x128.size i ≤ S2048x128.size i)
    (hs : ∀ a, (![c, r, 0] : Fin 3 → ℕ) a + S1x512x128.size a ≤ S4x2048x128.size a) (x : S1x512x128.Idx) :
    QT (LX arg1 harg1 x0 r (128 * c) hx) (LG arg4 harg4 x3) (LT arg2 harg2 x1 r ht) (LT arg3 harg3 x2 r ht) x = QS x0 x1 x2 x3 ((Rect.unit (s := S4x2048x128) ![c, r, 0] S1x512x128.size hs).emb x) := by
  obtain ⟨i, hi⟩ : ∃ i : Fin 512, i = x 1 := ⟨_, rfl⟩
  obtain ⟨l, hl⟩ : ∃ l : Fin 128, l = x 2 := ⟨_, rfl⟩
  have hz : (x 0).val = 0 := by have : (x 0).val < 1 := (x 0).isLt; omega
  have hx' : x = (ix3 0 i l : S1x512x128.Idx) := by
    subst hi hl
    funext a
    match a with
    | ⟨0, _⟩ => exact Fin.ext hz
    | ⟨1, _⟩ => rfl
    | ⟨2, _⟩ => rfl
  have k0 : (((Rect.unit (s := S4x2048x128) ![c, r, 0] S1x512x128.size hs).emb x) 0).val = c + 1 * (x 0).val := rfl
  have k1 : (((Rect.unit (s := S4x2048x128) ![c, r, 0] S1x512x128.size hs).emb x) 1).val = r + 1 * (x 1).val := rfl
  have k2 : (((Rect.unit (s := S4x2048x128) ![c, r, 0] S1x512x128.size hs).emb x) 2).val = 0 + 1 * (x 2).val := rfl
  have hr : r + 512 ≤ 2048 := ht 0
  have hil := i.isLt
  generalize (Rect.unit (s := S4x2048x128) ![c, r, 0] S1x512x128.size hs).emb x = z at k0 k1 k2 ⊢
  rw [← hi] at k1
  rw [← hl] at k2
  rw [hx', QT_at]
  have e0 : (z 0).val = c := by omega
  have e1 : (z 1 : Fin 2048) = ⟨r + i.val, by omega⟩ := Fin.ext (by show (z 1).val = r + i.val; omega)
  have e2 : (z 2 : Fin 128) = l := Fin.ext (by omega)
  show _ = qk x0 x1 x2 x3 (128 * (z 0).val) _ (z 1) (z 2) * l8i
  unfold qk
  simp only [LX_at, LT_at, LG_at]
  refine congrArg (· * l8i) ?_
  rw [e1, e2]
  simp only [e0]
  rfl

/-- A placed tile is its part of a placed function. -/
theorem Ppiece (f : Fin 2048 → Fin 128 → EReal) (t : FVec Ideal S512x128 .f32) (p : FVec Ideal S1x1x512x128 .bf16) (a b : Fin 2) (r : ℕ) (hr : r + 512 ≤ 2048)
    (hp : ∀ (i : Fin 512) (l : Fin 128), p (ix4 0 0 i l) = plc a b (fun e => t (ix2 i e)) l)
    (hf : ∀ (i : Fin 512) (e : Fin 128), t (ix2 i e) = f ⟨r + i.val, by have := i.isLt; omega⟩ e)
    (hs : ∀ i, (![a.val, b.val, r, 0] : Fin 4 → ℕ) i + S1x1x512x128.size i ≤ S2x2x2048x128.size i) (x : S1x1x512x128.Idx) :
    p x = (fun i : S2x2x2048x128.Idx => plc (i 0) (i 1) (f (i 2)) (i 3)) ((Rect.unit (s := S2x2x2048x128) ![a.val, b.val, r, 0] S1x1x512x128.size hs).emb x) := by
  obtain ⟨i, hi⟩ : ∃ i : Fin 512, i = x 2 := ⟨_, rfl⟩
  obtain ⟨l, hl⟩ : ∃ l : Fin 128, l = x 3 := ⟨_, rfl⟩
  have hz : (x 0).val = 0 := by have : (x 0).val < 1 := (x 0).isLt; omega
  have hz1 : (x 1).val = 0 := by have : (x 1).val < 1 := (x 1).isLt; omega
  have hx' : x = (ix4 0 0 i l : S1x1x512x128.Idx) := by
    subst hi hl
    funext a
    match a with
    | ⟨0, _⟩ => exact Fin.ext hz
    | ⟨1, _⟩ => exact Fin.ext hz1
    | ⟨2, _⟩ => rfl
    | ⟨3, _⟩ => rfl
  have k0 : (((Rect.unit (s := S2x2x2048x128) ![a.val, b.val, r, 0] S1x1x512x128.size hs).emb x) 0).val = a.val + 1 * (x 0).val := rfl
  have k1 : (((Rect.unit (s := S2x2x2048x128) ![a.val, b.val, r, 0] S1x1x512x128.size hs).emb x) 1).val = b.val + 1 * (x 1).val := rfl
  have k2 : (((Rect.unit (s := S2x2x2048x128) ![a.val, b.val, r, 0] S1x1x512x128.size hs).emb x) 2).val = r + 1 * (x 2).val := rfl
  have k3 : (((Rect.unit (s := S2x2x2048x128) ![a.val, b.val, r, 0] S1x1x512x128.size hs).emb x) 3).val = 0 + 1 * (x 3).val := rfl
  have hil := i.isLt
  generalize (Rect.unit (s := S2x2x2048x128) ![a.val, b.val, r, 0] S1x1x512x128.size hs).emb x = z at k0 k1 k2 k3 ⊢
  rw [← hi] at k2
  rw [← hl] at k3
  rw [hx', hp]
  have e0 : (z 0 : Fin 2) = a := Fin.ext (by omega)
  have e1 : (z 1 : Fin 2) = b := Fin.ext (by omega)
  have e2 : (z 2 : Fin 2048) = ⟨r + i.val, by omega⟩ := Fin.ext (by show (z 2).val = r + i.val; omega)
  have e3 : (z 3 : Fin 128) = l := Fin.ext (by omega)
  show _ = plc (z 0) (z 1) (f (z 2)) (z 3)
  rw [e0, e1, e2, e3]
  simp only [hf]
  rfl

/-- The keys' tile from row `r` is its part of the rotated keys. -/
theorem Ktile (arg1 : Memref sig .tc .vmem S2048x768 .bf16) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole) (x0 : Vec Ideal S2048x768 .bf16) (x1 x2 : Vec Ideal S2048x128 .f32) (x3 : Vec Ideal S1x128 .f32) (r : ℕ) (hr : r + 512 ≤ 2048)
    (hx : ∀ i, (![r, 512] : Fin 2 → ℕ) i + S512x128.size i ≤ S2048x768.size i) (ht : ∀ i, (![r, 0] : Fin 2 → ℕ) i + S512x128.size i ≤ S2048x128.size i) (i : Fin 512) (e : Fin 128) :
    KT (LX arg1 harg1 x0 r 512 hx) (LG arg4 harg4 x3) (LT arg2 harg2 x1 r ht) (LT arg3 harg3 x2 r ht) (ix2 i e) = qk x0 x1 x2 x3 512 (le_refl _) ⟨r + i.val, by have := i.isLt; omega⟩ e := by
  rw [KT_at]
  unfold qk
  simp only [LX_at, LT_at, LG_at]

/-- The values' tile from row `r` is its part of the values. -/
theorem Vtile (arg1 : Memref sig .tc .vmem S2048x768 .bf16) (harg1 : arg1.IsWhole) (x0 : Vec Ideal S2048x768 .bf16) (r : ℕ) (hr : r + 512 ≤ 2048)
    (hx : ∀ i, (![r, 640] : Fin 2 → ℕ) i + S512x128.size i ≤ S2048x768.size i) (i : Fin 512) (e : Fin 128) :
    VT (LX arg1 harg1 x0 r 640 hx) (ix2 i e) = x0 (ix2 ⟨r + i.val, by have := i.isLt; omega⟩ ⟨640 + e.val, by have := e.isLt; omega⟩) := by
  rw [← LX_at arg1 harg1 x0 r 640 hx]
  rfl

/-- Every stored tile of queries is its part. -/
theorem QP_pieces (arg1 : Memref sig .tc .vmem S2048x768 .bf16) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole) (x0 : Vec Ideal S2048x768 .bf16) (x1 x2 : Vec Ideal S2048x128 .f32) (x3 : Vec Ideal S1x128 .f32) : View.PiecesOf (QS x0 x1 x2 x3) (QP arg1 harg1 arg2 harg2 arg3 harg3 arg4 harg4 x0 x1 x2 x3) :=
  ⟨Qpiece arg1 harg1 arg2 harg2 arg3 harg3 arg4 harg4 x0 x1 x2 x3 3 1536 inb_S2048x768_S512x128_1536_384 inb_S2048x128_S512x128_1536_0 inb_S4x2048x128_S1x512x128_3_1536_0,
    Qpiece arg1 harg1 arg2 harg2 arg3 harg3 arg4 harg4 x0 x1 x2 x3 2 1536 inb_S2048x768_S512x128_1536_256 inb_S2048x128_S512x128_1536_0 inb_S4x2048x128_S1x512x128_2_1536_0,
    Qpiece arg1 harg1 arg2 harg2 arg3 harg3 arg4 harg4 x0 x1 x2 x3 1 1536 inb_S2048x768_S512x128_1536_128 inb_S2048x128_S512x128_1536_0 inb_S4x2048x128_S1x512x128_1_1536_0,
    Qpiece arg1 harg1 arg2 harg2 arg3 harg3 arg4 harg4 x0 x1 x2 x3 0 1536 inb_S2048x768_S512x128_1536_0 inb_S2048x128_S512x128_1536_0 inb_S4x2048x128_S1x512x128_0_1536_0,
    Qpiece arg1 harg1 arg2 harg2 arg3 harg3 arg4 harg4 x0 x1 x2 x3 3 1024 inb_S2048x768_S512x128_1024_384 inb_S2048x128_S512x128_1024_0 inb_S4x2048x128_S1x512x128_3_1024_0,
    Qpiece arg1 harg1 arg2 harg2 arg3 harg3 arg4 harg4 x0 x1 x2 x3 2 1024 inb_S2048x768_S512x128_1024_256 inb_S2048x128_S512x128_1024_0 inb_S4x2048x128_S1x512x128_2_1024_0,
    Qpiece arg1 harg1 arg2 harg2 arg3 harg3 arg4 harg4 x0 x1 x2 x3 1 1024 inb_S2048x768_S512x128_1024_128 inb_S2048x128_S512x128_1024_0 inb_S4x2048x128_S1x512x128_1_1024_0,
    Qpiece arg1 harg1 arg2 harg2 arg3 harg3 arg4 harg4 x0 x1 x2 x3 0 1024 inb_S2048x768_S512x128_1024_0 inb_S2048x128_S512x128_1024_0 inb_S4x2048x128_S1x512x128_0_1024_0,
    Qpiece arg1 harg1 arg2 harg2 arg3 harg3 arg4 harg4 x0 x1 x2 x3 3 512 inb_S2048x768_S512x128_512_384 inb_S2048x128_S512x128_512_0 inb_S4x2048x128_S1x512x128_3_512_0,
    Qpiece arg1 harg1 arg2 harg2 arg3 harg3 arg4 harg4 x0 x1 x2 x3 2 512 inb_S2048x768_S512x128_512_256 inb_S2048x128_S512x128_512_0 inb_S4x2048x128_S1x512x128_2_512_0,
    Qpiece arg1 harg1 arg2 harg2 arg3 harg3 arg4 harg4 x0 x1 x2 x3 1 512 inb_S2048x768_S512x128_512_128 inb_S2048x128_S512x128_512_0 inb_S4x2048x128_S1x512x128_1_512_0,
    Qpiece arg1 harg1 arg2 harg2 arg3 harg3 arg4 harg4 x0 x1 x2 x3 0 512 inb_S2048x768_S512x128_512_0 inb_S2048x128_S512x128_512_0 inb_S4x2048x128_S1x512x128_0_512_0,
    Qpiece arg1 harg1 arg2 harg2 arg3 harg3 arg4 harg4 x0 x1 x2 x3 3 0 inb_S2048x768_S512x128_0_384 inb_S2048x128_S512x128_0_0 inb_S4x2048x128_S1x512x128_3_0_0,
    Qpiece arg1 harg1 arg2 harg2 arg3 harg3 arg4 harg4 x0 x1 x2 x3 2 0 inb_S2048x768_S512x128_0_256 inb_S2048x128_S512x128_0_0 inb_S4x2048x128_S1x512x128_2_0_0,
    Qpiece arg1 harg1 arg2 harg2 arg3 harg3 arg4 harg4 x0 x1 x2 x3 1 0 inb_S2048x768_S512x128_0_128 inb_S2048x128_S512x128_0_0 inb_S4x2048x128_S1x512x128_1_0_0,
    Qpiece arg1 harg1 arg2 harg2 arg3 harg3 arg4 harg4 x0 x1 x2 x3 0 0 inb_S2048x768_S512x128_0_0 inb_S2048x128_S512x128_0_0 inb_S4x2048x128_S1x512x128_0_0_0, trivial⟩

/-- The buffer of queries at an index. -/
theorem QP_at (arg1 : Memref sig .tc .vmem S2048x768 .bf16) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole) (x0 : Vec Ideal S2048x768 .bf16) (x1 x2 : Vec Ideal S2048x128 .f32) (x3 : Vec Ideal S1x128 .f32) (i : S4x2048x128.Idx) : View.canon (QP arg1 harg1 arg2 harg2 arg3 harg3 arg4 harg4 x0 x1 x2 x3) i = QS x0 x1 x2 x3 i :=
  View.canon_apply_of_pieces (QS x0 x1 x2 x3) (QP arg1 harg1 arg2 harg2 arg3 harg3 arg4 harg4 x0 x1 x2 x3) (QP_pieces arg1 harg1 arg2 harg2 arg3 harg3 arg4 harg4 x0 x1 x2 x3).mem i (View.cover_of_tiledL (QP arg1 harg1 arg2 harg2 arg3 harg3 arg4 harg4 x0 x1 x2 x3) S1x512x128.size (by sl_kernel_rfl) i)

/-- Every stored tile of keys is its part. -/
theorem KP_pieces (arg1 : Memref sig .tc .vmem S2048x768 .bf16) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole) (x0 : Vec Ideal S2048x768 .bf16) (x1 x2 : Vec Ideal S2048x128 .f32) (x3 : Vec Ideal S1x128 .f32) : View.PiecesOf (KS x0 x1 x2 x3) (KP arg1 harg1 arg2 harg2 arg3 harg3 arg4 harg4 x0 x1 x2 x3) :=
  ⟨Ppiece (qk x0 x1 x2 x3 512 (le_refl _)) _ _ 1 1 1536 (by decide) (P11_at _) (Ktile arg1 harg1 arg2 harg2 arg3 harg3 arg4 harg4 x0 x1 x2 x3 1536 (by decide) inb_S2048x768_S512x128_1536_512 inb_S2048x128_S512x128_1536_0) inb_S2x2x2048x128_S1x1x512x128_1_1_1536_0,
    Ppiece (qk x0 x1 x2 x3 512 (le_refl _)) _ _ 0 1 1536 (by decide) (P01_at _) (Ktile arg1 harg1 arg2 harg2 arg3 harg3 arg4 harg4 x0 x1 x2 x3 1536 (by decide) inb_S2048x768_S512x128_1536_512 inb_S2048x128_S512x128_1536_0) inb_S2x2x2048x128_S1x1x512x128_0_1_1536_0,
    Ppiece (qk x0 x1 x2 x3 512 (le_refl _)) _ _ 1 0 1536 (by decide) (P10_at _) (Ktile arg1 harg1 arg2 harg2 arg3 harg3 arg4 harg4 x0 x1 x2 x3 1536 (by decide) inb_S2048x768_S512x128_1536_512 inb_S2048x128_S512x128_1536_0) inb_S2x2x2048x128_S1x1x512x128_1_0_1536_0,
    Ppiece (qk x0 x1 x2 x3 512 (le_refl _)) _ _ 0 0 1536 (by decide) (P00_at _) (Ktile arg1 harg1 arg2 harg2 arg3 harg3 arg4 harg4 x0 x1 x2 x3 1536 (by decide) inb_S2048x768_S512x128_1536_512 inb_S2048x128_S512x128_1536_0) inb_S2x2x2048x128_S1x1x512x128_0_0_1536_0,
    Ppiece (qk x0 x1 x2 x3 512 (le_refl _)) _ _ 1 1 1024 (by decide) (P11_at _) (Ktile arg1 harg1 arg2 harg2 arg3 harg3 arg4 harg4 x0 x1 x2 x3 1024 (by decide) inb_S2048x768_S512x128_1024_512 inb_S2048x128_S512x128_1024_0) inb_S2x2x2048x128_S1x1x512x128_1_1_1024_0,
    Ppiece (qk x0 x1 x2 x3 512 (le_refl _)) _ _ 0 1 1024 (by decide) (P01_at _) (Ktile arg1 harg1 arg2 harg2 arg3 harg3 arg4 harg4 x0 x1 x2 x3 1024 (by decide) inb_S2048x768_S512x128_1024_512 inb_S2048x128_S512x128_1024_0) inb_S2x2x2048x128_S1x1x512x128_0_1_1024_0,
    Ppiece (qk x0 x1 x2 x3 512 (le_refl _)) _ _ 1 0 1024 (by decide) (P10_at _) (Ktile arg1 harg1 arg2 harg2 arg3 harg3 arg4 harg4 x0 x1 x2 x3 1024 (by decide) inb_S2048x768_S512x128_1024_512 inb_S2048x128_S512x128_1024_0) inb_S2x2x2048x128_S1x1x512x128_1_0_1024_0,
    Ppiece (qk x0 x1 x2 x3 512 (le_refl _)) _ _ 0 0 1024 (by decide) (P00_at _) (Ktile arg1 harg1 arg2 harg2 arg3 harg3 arg4 harg4 x0 x1 x2 x3 1024 (by decide) inb_S2048x768_S512x128_1024_512 inb_S2048x128_S512x128_1024_0) inb_S2x2x2048x128_S1x1x512x128_0_0_1024_0,
    Ppiece (qk x0 x1 x2 x3 512 (le_refl _)) _ _ 1 1 512 (by decide) (P11_at _) (Ktile arg1 harg1 arg2 harg2 arg3 harg3 arg4 harg4 x0 x1 x2 x3 512 (by decide) inb_S2048x768_S512x128_512_512 inb_S2048x128_S512x128_512_0) inb_S2x2x2048x128_S1x1x512x128_1_1_512_0,
    Ppiece (qk x0 x1 x2 x3 512 (le_refl _)) _ _ 0 1 512 (by decide) (P01_at _) (Ktile arg1 harg1 arg2 harg2 arg3 harg3 arg4 harg4 x0 x1 x2 x3 512 (by decide) inb_S2048x768_S512x128_512_512 inb_S2048x128_S512x128_512_0) inb_S2x2x2048x128_S1x1x512x128_0_1_512_0,
    Ppiece (qk x0 x1 x2 x3 512 (le_refl _)) _ _ 1 0 512 (by decide) (P10_at _) (Ktile arg1 harg1 arg2 harg2 arg3 harg3 arg4 harg4 x0 x1 x2 x3 512 (by decide) inb_S2048x768_S512x128_512_512 inb_S2048x128_S512x128_512_0) inb_S2x2x2048x128_S1x1x512x128_1_0_512_0,
    Ppiece (qk x0 x1 x2 x3 512 (le_refl _)) _ _ 0 0 512 (by decide) (P00_at _) (Ktile arg1 harg1 arg2 harg2 arg3 harg3 arg4 harg4 x0 x1 x2 x3 512 (by decide) inb_S2048x768_S512x128_512_512 inb_S2048x128_S512x128_512_0) inb_S2x2x2048x128_S1x1x512x128_0_0_512_0,
    Ppiece (qk x0 x1 x2 x3 512 (le_refl _)) _ _ 1 1 0 (by decide) (P11_at _) (Ktile arg1 harg1 arg2 harg2 arg3 harg3 arg4 harg4 x0 x1 x2 x3 0 (by decide) inb_S2048x768_S512x128_0_512 inb_S2048x128_S512x128_0_0) inb_S2x2x2048x128_S1x1x512x128_1_1_0_0,
    Ppiece (qk x0 x1 x2 x3 512 (le_refl _)) _ _ 0 1 0 (by decide) (P01_at _) (Ktile arg1 harg1 arg2 harg2 arg3 harg3 arg4 harg4 x0 x1 x2 x3 0 (by decide) inb_S2048x768_S512x128_0_512 inb_S2048x128_S512x128_0_0) inb_S2x2x2048x128_S1x1x512x128_0_1_0_0,
    Ppiece (qk x0 x1 x2 x3 512 (le_refl _)) _ _ 1 0 0 (by decide) (P10_at _) (Ktile arg1 harg1 arg2 harg2 arg3 harg3 arg4 harg4 x0 x1 x2 x3 0 (by decide) inb_S2048x768_S512x128_0_512 inb_S2048x128_S512x128_0_0) inb_S2x2x2048x128_S1x1x512x128_1_0_0_0,
    Ppiece (qk x0 x1 x2 x3 512 (le_refl _)) _ _ 0 0 0 (by decide) (P00_at _) (Ktile arg1 harg1 arg2 harg2 arg3 harg3 arg4 harg4 x0 x1 x2 x3 0 (by decide) inb_S2048x768_S512x128_0_512 inb_S2048x128_S512x128_0_0) inb_S2x2x2048x128_S1x1x512x128_0_0_0_0, trivial⟩

/-- The buffer of keys at an index. -/
theorem KP_at (arg1 : Memref sig .tc .vmem S2048x768 .bf16) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole) (x0 : Vec Ideal S2048x768 .bf16) (x1 x2 : Vec Ideal S2048x128 .f32) (x3 : Vec Ideal S1x128 .f32) (i : S2x2x2048x128.Idx) : View.canon (KP arg1 harg1 arg2 harg2 arg3 harg3 arg4 harg4 x0 x1 x2 x3) i = KS x0 x1 x2 x3 i :=
  View.canon_apply_of_pieces (KS x0 x1 x2 x3) (KP arg1 harg1 arg2 harg2 arg3 harg3 arg4 harg4 x0 x1 x2 x3) (KP_pieces arg1 harg1 arg2 harg2 arg3 harg3 arg4 harg4 x0 x1 x2 x3).mem i (View.cover_of_tiledL (KP arg1 harg1 arg2 harg2 arg3 harg3 arg4 harg4 x0 x1 x2 x3) S1x1x512x128.size (by sl_kernel_rfl) i)

/-- Every stored tile of values is its part. -/
theorem VP_pieces (arg1 : Memref sig .tc .vmem S2048x768 .bf16) (harg1 : arg1.IsWhole) (x0 : Vec Ideal S2048x768 .bf16) : View.PiecesOf (VS x0) (VP arg1 harg1 x0) :=
  ⟨Ppiece (fun n e => x0 (ix2 n ⟨640 + e.val, by have := e.isLt; omega⟩)) _ _ 1 1 1536 (by decide) (P11_at _) (Vtile arg1 harg1 x0 1536 (by decide) inb_S2048x768_S512x128_1536_640) inb_S2x2x2048x128_S1x1x512x128_1_1_1536_0,
    Ppiece (fun n e => x0 (ix2 n ⟨640 + e.val, by have := e.isLt; omega⟩)) _ _ 0 1 1536 (by decide) (P01_at _) (Vtile arg1 harg1 x0 1536 (by decide) inb_S2048x768_S512x128_1536_640) inb_S2x2x2048x128_S1x1x512x128_0_1_1536_0,
    Ppiece (fun n e => x0 (ix2 n ⟨640 + e.val, by have := e.isLt; omega⟩)) _ _ 1 0 1536 (by decide) (P10_at _) (Vtile arg1 harg1 x0 1536 (by decide) inb_S2048x768_S512x128_1536_640) inb_S2x2x2048x128_S1x1x512x128_1_0_1536_0,
    Ppiece (fun n e => x0 (ix2 n ⟨640 + e.val, by have := e.isLt; omega⟩)) _ _ 0 0 1536 (by decide) (P00_at _) (Vtile arg1 harg1 x0 1536 (by decide) inb_S2048x768_S512x128_1536_640) inb_S2x2x2048x128_S1x1x512x128_0_0_1536_0,
    Ppiece (fun n e => x0 (ix2 n ⟨640 + e.val, by have := e.isLt; omega⟩)) _ _ 1 1 1024 (by decide) (P11_at _) (Vtile arg1 harg1 x0 1024 (by decide) inb_S2048x768_S512x128_1024_640) inb_S2x2x2048x128_S1x1x512x128_1_1_1024_0,
    Ppiece (fun n e => x0 (ix2 n ⟨640 + e.val, by have := e.isLt; omega⟩)) _ _ 0 1 1024 (by decide) (P01_at _) (Vtile arg1 harg1 x0 1024 (by decide) inb_S2048x768_S512x128_1024_640) inb_S2x2x2048x128_S1x1x512x128_0_1_1024_0,
    Ppiece (fun n e => x0 (ix2 n ⟨640 + e.val, by have := e.isLt; omega⟩)) _ _ 1 0 1024 (by decide) (P10_at _) (Vtile arg1 harg1 x0 1024 (by decide) inb_S2048x768_S512x128_1024_640) inb_S2x2x2048x128_S1x1x512x128_1_0_1024_0,
    Ppiece (fun n e => x0 (ix2 n ⟨640 + e.val, by have := e.isLt; omega⟩)) _ _ 0 0 1024 (by decide) (P00_at _) (Vtile arg1 harg1 x0 1024 (by decide) inb_S2048x768_S512x128_1024_640) inb_S2x2x2048x128_S1x1x512x128_0_0_1024_0,
    Ppiece (fun n e => x0 (ix2 n ⟨640 + e.val, by have := e.isLt; omega⟩)) _ _ 1 1 512 (by decide) (P11_at _) (Vtile arg1 harg1 x0 512 (by decide) inb_S2048x768_S512x128_512_640) inb_S2x2x2048x128_S1x1x512x128_1_1_512_0,
    Ppiece (fun n e => x0 (ix2 n ⟨640 + e.val, by have := e.isLt; omega⟩)) _ _ 0 1 512 (by decide) (P01_at _) (Vtile arg1 harg1 x0 512 (by decide) inb_S2048x768_S512x128_512_640) inb_S2x2x2048x128_S1x1x512x128_0_1_512_0,
    Ppiece (fun n e => x0 (ix2 n ⟨640 + e.val, by have := e.isLt; omega⟩)) _ _ 1 0 512 (by decide) (P10_at _) (Vtile arg1 harg1 x0 512 (by decide) inb_S2048x768_S512x128_512_640) inb_S2x2x2048x128_S1x1x512x128_1_0_512_0,
    Ppiece (fun n e => x0 (ix2 n ⟨640 + e.val, by have := e.isLt; omega⟩)) _ _ 0 0 512 (by decide) (P00_at _) (Vtile arg1 harg1 x0 512 (by decide) inb_S2048x768_S512x128_512_640) inb_S2x2x2048x128_S1x1x512x128_0_0_512_0,
    Ppiece (fun n e => x0 (ix2 n ⟨640 + e.val, by have := e.isLt; omega⟩)) _ _ 1 1 0 (by decide) (P11_at _) (Vtile arg1 harg1 x0 0 (by decide) inb_S2048x768_S512x128_0_640) inb_S2x2x2048x128_S1x1x512x128_1_1_0_0,
    Ppiece (fun n e => x0 (ix2 n ⟨640 + e.val, by have := e.isLt; omega⟩)) _ _ 0 1 0 (by decide) (P01_at _) (Vtile arg1 harg1 x0 0 (by decide) inb_S2048x768_S512x128_0_640) inb_S2x2x2048x128_S1x1x512x128_0_1_0_0,
    Ppiece (fun n e => x0 (ix2 n ⟨640 + e.val, by have := e.isLt; omega⟩)) _ _ 1 0 0 (by decide) (P10_at _) (Vtile arg1 harg1 x0 0 (by decide) inb_S2048x768_S512x128_0_640) inb_S2x2x2048x128_S1x1x512x128_1_0_0_0,
    Ppiece (fun n e => x0 (ix2 n ⟨640 + e.val, by have := e.isLt; omega⟩)) _ _ 0 0 0 (by decide) (P00_at _) (Vtile arg1 harg1 x0 0 (by decide) inb_S2048x768_S512x128_0_640) inb_S2x2x2048x128_S1x1x512x128_0_0_0_0, trivial⟩

/-- The buffer of values at an index. -/
theorem VP_at (arg1 : Memref sig .tc .vmem S2048x768 .bf16) (harg1 : arg1.IsWhole) (x0 : Vec Ideal S2048x768 .bf16) (i : S2x2x2048x128.Idx) : View.canon (VP arg1 harg1 x0) i = VS x0 i :=
  View.canon_apply_of_pieces (VS x0) (VP arg1 harg1 x0) (VP_pieces arg1 harg1 x0).mem i (View.cover_of_tiledL (VP arg1 harg1 x0) S1x1x512x128.size (by sl_kernel_rfl) i)

end Cert.Hand.Window

end
-- ==== Proof.Window.Trip.lean ====
/- The sliding window's attention of one block of 128 rows, read at an index. -/
module

public import proofs.«01_k».proof.Proof.Window.Held

@[expose] public section

set_option maxRecDepth 16384

noncomputable section

namespace Cert.Hand.Window

open Idealize.ShloMosaic Idealize.ShloMosaic.TcCoe Cert.WindowIdeal Cert.WindowIdeal.Gen Cert.Hand.Attn

/-- The kernel's rows in their half: the index of a row among its 128. -/
def RW : IVec S256x128 32 := k0_pay1 128#32 (k0_pay308 kernelRun0_A.sl.v2304 k0_pay307) (k0_pay309 kernelRun0_A.sl.v2304 k0_pay307) k0_pay310

/-- The mask of the current block: not after the row. -/
def MC : IVec S256x128 1 := k0_pay3 128#32 (k0_pay308 kernelRun0_A.sl.v2304 k0_pay307) (k0_pay309 kernelRun0_A.sl.v2304 k0_pay307) k0_pay310

/-- The mask of the block before: after the row, and there is a block before. -/
def MP (k : Fin k0_t1_loop.trips) : IVec S256x128 1 := k0_pay4 RW (iota .tc S256x128 32 [1] iota_S256x128_d1_w32) 0#32 1#32 k

/-- The kernel's remainder of a row by 128. -/
theorem row_of : ∀ i : Fin 256, Scalar.select
        (IntOp.andi
          (IntOp.xori
            (IntOp.cmpi CmpIPredicate.slt
              (IntOp.remsi ArithUnit.vector (BitVec.ofNat 32 i.val) (Scalar.select (Scalar.cmpi CmpIPredicate.eq 128#32 0#32) 1#32 128#32))
              0#32)
            (Scalar.cmpi CmpIPredicate.slt 128#32 0#32))
          (IntOp.cmpi CmpIPredicate.ne
            (IntOp.remsi ArithUnit.vector (BitVec.ofNat 32 i.val) (Scalar.select (Scalar.cmpi CmpIPredicate.eq 128#32 0#32) 1#32 128#32))
            0#32))
        (IntOp.addi
          (IntOp.remsi ArithUnit.vector (BitVec.ofNat 32 i.val) (Scalar.select (Scalar.cmpi CmpIPredicate.eq 128#32 0#32) 1#32 128#32))
          128#32)
        (IntOp.remsi ArithUnit.vector (BitVec.ofNat 32 i.val) (Scalar.select (Scalar.cmpi CmpIPredicate.eq 128#32 0#32) 1#32 128#32)) = BitVec.ofNat 32 (i.val % 128) := by decide +kernel

/-- The comparison of a lane with a row, not after. -/
theorem sle_of (j i : ℕ) (hj : j < 128) (hi : i < 128) : IntOp.cmpi CmpIPredicate.sle (BitVec.ofNat 32 j) (BitVec.ofNat 32 i) = if j ≤ i then 1#1 else 0#1 := by
  have h : ∀ a b : Fin 128, IntOp.cmpi CmpIPredicate.sle (BitVec.ofNat 32 a.val) (BitVec.ofNat 32 b.val) = if a.val ≤ b.val then 1#1 else 0#1 := by decide +kernel
  exact h ⟨j, hj⟩ ⟨i, hi⟩

/-- The comparison of a lane with a row, after. -/
theorem sgt_of (j i : ℕ) (hj : j < 128) (hi : i < 128) : IntOp.cmpi CmpIPredicate.sgt (BitVec.ofNat 32 j) (BitVec.ofNat 32 i) = if i < j then 1#1 else 0#1 := by
  have h : ∀ a b : Fin 128, IntOp.cmpi CmpIPredicate.sgt (BitVec.ofNat 32 a.val) (BitVec.ofNat 32 b.val) = if b.val < a.val then 1#1 else 0#1 := by decide +kernel
  exact h ⟨j, hj⟩ ⟨i, hi⟩

/-- Whether there is a block before. -/
theorem pos_of : ∀ k : Fin k0_t1_loop.trips, Scalar.cmpi CmpIPredicate.sgt (Scf.iv 0#32 1#32 k.val) 0#32 = if k.val ≠ 0 then 1#1 else 0#1 := by decide +kernel

/-- The mask of the current block at an index. -/
theorem MC_at (i : Fin 256) (j : Fin 128) : MC (ix2 i j) = if j.val ≤ i.val % 128 then 1#1 else 0#1 := by
  unfold MC kernelRun0_A.sl.v2304
  pointwise [k0_pay3, k0_pay1, k0_pay308, k0_pay309, k0_pay310, k0_pay307]
  rw [row_of]
  exact sle_of _ _ j.isLt (Nat.mod_lt _ (by decide))

/-- The mask of the block before at an index. -/
theorem MP_at (k : Fin k0_t1_loop.trips) (i : Fin 256) (j : Fin 128) : MP k (ix2 i j) = if i.val % 128 < j.val ∧ k.val ≠ 0 then 1#1 else 0#1 := by
  unfold MP RW kernelRun0_A.sl.v2304
  pointwise [k0_pay4, k0_pay1, k0_pay308, k0_pay309, k0_pay310, k0_pay307]
  rw [row_of, pos_of, sgt_of _ _ j.isLt (Nat.mod_lt _ (by decide))]
  by_cases h : i.val % 128 < j.val <;> by_cases h' : k.val = 0 <;> simp [h, h'] <;> decide

/-- The largest score of the two blocks and the sink. -/
def mx (zc zp : Fin 128 → EReal) (s : EReal) : EReal := max (top (fun x => max (zc x) (zp x))) s

/-- The sum of the exponentials and the sink's. -/
def dn (zc zp : Fin 128 → EReal) (s : EReal) : EReal :=
  ∑ x, (Ideal.exp (zc x - mx zc zp s) + Ideal.exp (zp x - mx zc zp s)) + Ideal.exp (s - mx zc zp s)

/-- The weighted sum of one block's values. -/
def wv (z v : Fin 128 → EReal) (m d : EReal) : EReal := ∑ x, Ideal.exp (z x - m) * Ideal.div 1 d * v x

/-- One slot of a key head: the attention of two chunks' rows over the two blocks, added to what is there. -/
def SLOT (acc : FVec Ideal S256x128 .f32) (mc mp : IVec S256x128 1) (qa qb : Vec Ideal S1x128x128 .bf16) (kc kp vc vp : Vec Ideal S1x1x128x128 .bf16) (sa sb : Elt Ideal .f32) : FVec Ideal S256x128 .f32 :=
  k0_pay11 acc (k0_pay19 mc qa qb kc) (k0_pay20 mp qa qb kp) (k0_pay9 k0_pay2 sa sb) (maximumf (k0_pay19 mc qa qb kc) (k0_pay20 mp qa qb kp)) vc vp

/-- A row of two stacked chunks. -/
def QR (qa qb : Vec Ideal S1x128x128 .bf16) (i : Fin 256) (x : Fin 128) : EReal :=
  if h : i.val < 128 then qa (ix3 0 ⟨i.val, h⟩ x) else qb (ix3 0 ⟨i.val - 128, by omega⟩ x)

/-- A masked score of the current block. -/
theorem zc_at (mc : IVec S256x128 1) (qa qb : Vec Ideal S1x128x128 .bf16) (kc : Vec Ideal S1x1x128x128 .bf16) (i : Fin 256) (j : Fin 128) :
    k0_pay19 mc qa qb kc (ix2 i j) = Scalar.select (mc (ix2 i j)) (∑ x, QR qa qb i x * kc (ix4 0 0 j x)) ⊥ := by
  rw [← ofBits_neg_inf]
  pointwise [k0_pay19, k0_pay17]
  rfl

/-- A masked score of the block before. -/
theorem zp_at (mp : IVec S256x128 1) (qa qb : Vec Ideal S1x128x128 .bf16) (kp : Vec Ideal S1x1x128x128 .bf16) (i : Fin 256) (j : Fin 128) :
    k0_pay20 mp qa qb kp (ix2 i j) = Scalar.select (mp (ix2 i j)) (∑ x, QR qa qb i x * kp (ix4 0 0 j x)) ⊥ := by
  rw [← ofBits_neg_inf]
  pointwise [k0_pay20, k0_pay17]
  rfl

/-- The sinks of the two chunks at a row. -/
theorem sk_at (sa sb : Elt Ideal .f32) (i : Fin 256) : k0_pay9 k0_pay2 sa sb (ix2 i 0) = if i.val < 128 then sa else sb := by
  pointwise [k0_pay9, k0_pay2]
  have h : ∀ i : Fin 256, IntOp.cmpi CmpIPredicate.slt (BitVec.ofNat 32 i.val) 128#32 = if i.val < 128 then 1#1 else 0#1 := by decide +kernel
  rw [h]
  by_cases h' : i.val < 128 <;> simp [h', Scalar.select]

/-- The attention step at an index, of any scores. -/
theorem step_at (acc zc zp : FVec Ideal S256x128 .f32) (sk : FVec Ideal S256x1 .f32) (vc vp : Vec Ideal S1x1x128x128 .bf16) (i : Fin 256) (l : Fin 128) :
    k0_pay11 acc zc zp sk (maximumf zc zp) vc vp (ix2 i l) =
      acc (ix2 i l) + wv (fun x => zc (ix2 i x)) (fun x => vc (ix4 0 0 x l)) (mx (fun x => zc (ix2 i x)) (fun x => zp (ix2 i x)) (sk (ix2 i 0))) (dn (fun x => zc (ix2 i x)) (fun x => zp (ix2 i x)) (sk (ix2 i 0)))
        + wv (fun x => zp (ix2 i x)) (fun x => vp (ix4 0 0 x l)) (mx (fun x => zc (ix2 i x)) (fun x => zp (ix2 i x)) (sk (ix2 i 0))) (dn (fun x => zc (ix2 i x)) (fun x => zp (ix2 i x)) (sk (ix2 i 0))) := by
  pointwise [k0_pay11]
  simp only [ofBits_neg_inf]
  rfl

/-- The scores of a row against a block, masked. -/
def sc (p : Fin 128 → Prop) [DecidablePred p] (q : Fin 128 → EReal) (k : Fin 128 → Fin 128 → EReal) (j : Fin 128) : EReal := if p j then ∑ x, q x * k j x else ⊥

/-- One slot's addition to a row's lane. -/
def sl (n i : ℕ) (q : Fin 128 → EReal) (kc kp : Fin 128 → Fin 128 → EReal) (vc vp : Fin 128 → EReal) (s acc : EReal) : EReal :=
  acc + wv (sc (fun j => j.val ≤ i) q kc) vc (mx (sc (fun j => j.val ≤ i) q kc) (sc (fun j => i < j.val ∧ n ≠ 0) q kp) s) (dn (sc (fun j => j.val ≤ i) q kc) (sc (fun j => i < j.val ∧ n ≠ 0) q kp) s)
    + wv (sc (fun j => i < j.val ∧ n ≠ 0) q kp) vp (mx (sc (fun j => j.val ≤ i) q kc) (sc (fun j => i < j.val ∧ n ≠ 0) q kp) s) (dn (sc (fun j => j.val ≤ i) q kc) (sc (fun j => i < j.val ∧ n ≠ 0) q kp) s)

/-- One slot at an index. -/
theorem SLOT_at (k : Fin k0_t1_loop.trips) (acc : FVec Ideal S256x128 .f32) (qa qb : Vec Ideal S1x128x128 .bf16) (kc kp vc vp : Vec Ideal S1x1x128x128 .bf16) (sa sb : Elt Ideal .f32) (i : Fin 256) (l : Fin 128) :
    SLOT acc MC (MP k) qa qb kc kp vc vp sa sb (ix2 i l) =
      sl k.val (i.val % 128) (QR qa qb i) (fun j x => kc (ix4 0 0 j x)) (fun j x => kp (ix4 0 0 j x)) (fun j => vc (ix4 0 0 j l)) (fun j => vp (ix4 0 0 j l)) (if i.val < 128 then sa else sb) (acc (ix2 i l)) := by
  have hc : (fun x => k0_pay19 MC qa qb kc (ix2 i x)) = sc (fun j => j.val ≤ i.val % 128) (QR qa qb i) (fun j x => kc (ix4 0 0 j x)) := by
    funext j
    rw [zc_at, MC_at]
    unfold sc
    by_cases h : j.val ≤ i.val % 128 <;> simp [h, Scalar.select]
  have hp : (fun x => k0_pay20 (MP k) qa qb kp (ix2 i x)) = sc (fun j => i.val % 128 < j.val ∧ k.val ≠ 0) (QR qa qb i) (fun j x => kp (ix4 0 0 j x)) := by
    funext j
    rw [zp_at, MP_at]
    unfold sc
    by_cases h : i.val % 128 < j.val ∧ k.val ≠ 0
    · rw [if_pos h, if_pos h]; simp [Scalar.select]
    · rw [if_neg h, if_neg h]; simp [Scalar.select]
  unfold SLOT
  rw [step_at, hc, hp, sk_at]
  rfl

/-- Both slots of a key head. -/
def PAIR (mc mp : IVec S256x128 1) (qa qb : Vec Ideal S1x128x128 .bf16) (kc kp vc vp : Vec Ideal S1x1x128x128 .bf16) (sa sb : Elt Ideal .f32) (kc' kp' vc' vp' : Vec Ideal S1x1x128x128 .bf16) (sa' sb' : Elt Ideal .f32) : FVec Ideal S256x128 .f32 :=
  SLOT (SLOT k0_pay6 mc mp qa qb kc kp vc vp sa sb) mc mp qa qb kc' kp' vc' vp' sa' sb'

/-- The first chunk's rows, stored. -/
def TOPH (o : FVec Ideal S256x128 .f32) : FVec Ideal S128x128 .bf16 := truncf .bf16 (extractStridedSlice S128x128 ![0, 0] o slices_S256x128_o0_0_S128x128) bitsLt_bf16_f32
/-- The second chunk's rows, stored. -/
def BOTH (o : FVec Ideal S256x128 .f32) : FVec Ideal S128x128 .bf16 := truncf .bf16 (extractStridedSlice S128x128 ![128, 0] o slices_S256x128_o128_0_S128x128) bitsLt_bf16_f32

/-- A block of queries loaded. -/
def RQ (a : Memref sig .tc .vmem S4x2048x128 .bf16) (X : BufTy.Contents (Elt Ideal) a.view.ty) (o : Fin 3 → ℕ) (h : ∀ i, o i + S1x128x128.size i ≤ S4x2048x128.size i) : Vec Ideal S1x128x128 .bf16 :=
  View.readAt (Elt Ideal) a.view (Rect.unit (s := S4x2048x128) o S1x128x128.size h).toLoadRect X
/-- A block of keys or values loaded. -/
def RK (a : Memref sig .tc .vmem S2x2x2048x128 .bf16) (X : BufTy.Contents (Elt Ideal) a.view.ty) (o : Fin 4 → ℕ) (h : ∀ i, o i + S1x1x128x128.size i ≤ S2x2x2048x128.size i) : Vec Ideal S1x1x128x128 .bf16 :=
  View.readAt (Elt Ideal) a.view (Rect.unit (s := S2x2x2048x128) o S1x1x128x128.size h).toLoadRect X
/-- A sink loaded. -/
def RS (a : Memref sig .tc .smem S8 .f32) (X : BufTy.Contents (Elt Ideal) a.view.ty) (n : ℕ) (h : ∀ i, (![n] : Fin 1 → ℕ) i + S1.size i ≤ S8.size i) : Elt Ideal .f32 :=
  View.readAt (Elt Ideal) a.view (Rect.unit (s := S8) ![n] S1.size h).toLoadRect X (Shape.Idx.first (show 0 < S1.numel by decide))

section
variable (arg6 : Memref sig .tc .smem S8 .f32) (arg8 : Memref sig .tc .vmem S4x2048x128 .bf16) (arg9 arg10 : Memref sig .tc .vmem S2x2x2048x128 .bf16) (X6 : BufTy.Contents (Elt Ideal) arg6.view.ty) (X8 : BufTy.Contents (Elt Ideal) arg8.view.ty) (X9 : BufTy.Contents (Elt Ideal) arg9.view.ty) (X10 : BufTy.Contents (Elt Ideal) arg10.view.ty) (k : Fin k0_t1_loop.trips)

/-- The block of key head 0. -/
def PR0 : FVec Ideal S256x128 .f32 :=
  PAIR MC (MP k) (RQ arg8 X8 (k0_off1 k) (k0_off1_inb k)) (RQ arg8 X8 (k0_off2 k) (k0_off2_inb k))
    (RK arg9 X9 (k0_off3 k) (k0_off3_inb k)) (RK arg9 X9 (k0_off4 k) (k0_off4_inb k)) (RK arg10 X10 (k0_off3 k) (k0_off3_inb k)) (RK arg10 X10 (k0_off4 k) (k0_off4_inb k)) (RS arg6 X6 0 inb_S8_S1_0) (RS arg6 X6 2 inb_S8_S1_2)
    (RK arg9 X9 (k0_off5 k) (k0_off5_inb k)) (RK arg9 X9 (k0_off6 k) (k0_off6_inb k)) (RK arg10 X10 (k0_off5 k) (k0_off5_inb k)) (RK arg10 X10 (k0_off6 k) (k0_off6_inb k)) (RS arg6 X6 1 inb_S8_S1_1) (RS arg6 X6 3 inb_S8_S1_3)

/-- The block of key head 1. -/
def PR1 : FVec Ideal S256x128 .f32 :=
  PAIR MC (MP k) (RQ arg8 X8 (k0_off9 k) (k0_off9_inb k)) (RQ arg8 X8 (k0_off10 k) (k0_off10_inb k))
    (RK arg9 X9 (k0_off11 k) (k0_off11_inb k)) (RK arg9 X9 (k0_off12 k) (k0_off12_inb k)) (RK arg10 X10 (k0_off11 k) (k0_off11_inb k)) (RK arg10 X10 (k0_off12 k) (k0_off12_inb k)) (RS arg6 X6 4 inb_S8_S1_4) (RS arg6 X6 6 inb_S8_S1_6)
    (RK arg9 X9 (k0_off13 k) (k0_off13_inb k)) (RK arg9 X9 (k0_off14 k) (k0_off14_inb k)) (RK arg10 X10 (k0_off13 k) (k0_off13_inb k)) (RK arg10 X10 (k0_off14 k) (k0_off14_inb k)) (RS arg6 X6 5 inb_S8_S1_5) (RS arg6 X6 7 inb_S8_S1_7)

/-- A trip stores these four pieces. -/
theorem trip_eq (𝒱 : Variants) (c : Dev nD) (bd : Option 𝒱.V) (i : grid0.Coords) (arg1 : Memref sig .tc .vmem S2048x768 .bf16) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole) (arg5 : Memref sig .tc .vmem S1x128 .f32) (harg5 : arg5.IsWhole) (harg6 : arg6.IsWhole) (arg7 : Memref sig .tc .vmem S2048x512 .bf16) (harg7 : arg7.IsWhole) (harg8 : arg8.IsWhole) (harg9 : arg9.IsWhole) (harg10 : arg10.IsWhole) :
    tripL_k0_t1 (F := Ideal) 𝒱 c bd i arg1 harg1 arg2 harg2 arg3 harg3 arg4 harg4 arg5 harg5 arg6 harg6 arg7 harg7 arg8 harg8 arg9 harg9 arg10 harg10 128#32 (k0_pay308 kernelRun0_A.sl.v2304 k0_pay307) (k0_pay309 kernelRun0_A.sl.v2304 k0_pay307) k0_pay310 (iota .tc S256x128 32 [1] iota_S256x128_d1_w32) X6 X8 X9 X10 k =
      [⟨Rect.unit (s := S2048x512) (k0_off16 k) S128x128.size (k0_off16_inb k), BOTH (PR1 arg6 arg8 arg9 arg10 X6 X8 X9 X10 k)⟩,
        ⟨Rect.unit (s := S2048x512) (k0_off15 k) S128x128.size (k0_off15_inb k), TOPH (PR1 arg6 arg8 arg9 arg10 X6 X8 X9 X10 k)⟩,
        ⟨Rect.unit (s := S2048x512) (k0_off8 k) S128x128.size (k0_off8_inb k), BOTH (PR0 arg6 arg8 arg9 arg10 X6 X8 X9 X10 k)⟩,
        ⟨Rect.unit (s := S2048x512) (k0_off7 k) S128x128.size (k0_off7_inb k), TOPH (PR0 arg6 arg8 arg9 arg10 X6 X8 X9 X10 k)⟩] := by
  unfold tripL_k0_t1
  delta trip_k0_t1
  rfl

end

end Cert.Hand.Window

end
-- ==== Proof.Window.Loop.lean ====
/- The sliding window's result of one block of a batch row, read at an index. -/
module

public import proofs.«01_k».proof.Proof.Window.Trip

@[expose] public section

set_option maxRecDepth 16384

noncomputable section

namespace Cert.Hand.Window

open Idealize.ShloMosaic Idealize.ShloMosaic.TcCoe Cert.WindowIdeal Cert.WindowIdeal.Gen Cert.Hand.Attn

section
variable (Qf : ℕ → ℕ → Fin 128 → EReal) (Kf Vf : ℕ → ℕ → ℕ → Fin 128 → EReal) (Sf : ℕ → EReal)

/-- A lane of a row of a chunk: both slots' additions. -/
def hd (k i c : ℕ) (l : Fin 128) : EReal :=
  sl k i (Qf c (128 * k + i)) (fun j x => Kf 1 (c / 2) (128 * k + j.val) x) (fun j x => Kf 1 (c / 2) (128 * (k - 1) + j.val) x) (fun j => Vf 1 (c / 2) (128 * k + j.val) l) (fun j => Vf 1 (c / 2) (128 * (k - 1) + j.val) l) (Sf (2 * c + 1))
    (sl k i (Qf c (128 * k + i)) (fun j x => Kf 0 (c / 2) (128 * k + j.val) x) (fun j x => Kf 0 (c / 2) (128 * (k - 1) + j.val) x) (fun j => Vf 0 (c / 2) (128 * k + j.val) l) (fun j => Vf 0 (c / 2) (128 * (k - 1) + j.val) l) (Sf (2 * c)) 0)

/-- The result of a batch row. -/
def OB (y : S2048x512.Idx) : EReal :=
  hd Qf Kf Vf Sf ((y 0).val / 128) ((y 0).val % 128) ((y 1).val / 128) ⟨(y 1).val % 128, Nat.mod_lt _ (by decide)⟩

/-- Both slots at an index. -/
theorem PAIR_at (k : Fin k0_t1_loop.trips) (c g : ℕ) (hc : c = 2 * g) (qa qb : Vec Ideal S1x128x128 .bf16) (kc kp vc vp : Vec Ideal S1x1x128x128 .bf16) (sa sb : Elt Ideal .f32) (kc' kp' vc' vp' : Vec Ideal S1x1x128x128 .bf16) (sa' sb' : Elt Ideal .f32)
    (hqa : ∀ (j : Fin 128) x, qa (ix3 0 j x) = Qf c (128 * k.val + j.val) x) (hqb : ∀ (j : Fin 128) x, qb (ix3 0 j x) = Qf (c + 1) (128 * k.val + j.val) x)
    (hkc : ∀ (j : Fin 128) x, kc (ix4 0 0 j x) = Kf 0 g (128 * k.val + j.val) x) (hkp : ∀ (j : Fin 128) x, kp (ix4 0 0 j x) = Kf 0 g (128 * (k.val - 1) + j.val) x)
    (hvc : ∀ (j : Fin 128) x, vc (ix4 0 0 j x) = Vf 0 g (128 * k.val + j.val) x) (hvp : ∀ (j : Fin 128) x, vp (ix4 0 0 j x) = Vf 0 g (128 * (k.val - 1) + j.val) x)
    (hsa : sa = Sf (2 * c)) (hsb : sb = Sf (2 * c + 2))
    (hkc' : ∀ (j : Fin 128) x, kc' (ix4 0 0 j x) = Kf 1 g (128 * k.val + j.val) x) (hkp' : ∀ (j : Fin 128) x, kp' (ix4 0 0 j x) = Kf 1 g (128 * (k.val - 1) + j.val) x)
    (hvc' : ∀ (j : Fin 128) x, vc' (ix4 0 0 j x) = Vf 1 g (128 * k.val + j.val) x) (hvp' : ∀ (j : Fin 128) x, vp' (ix4 0 0 j x) = Vf 1 g (128 * (k.val - 1) + j.val) x)
    (hsa' : sa' = Sf (2 * c + 1)) (hsb' : sb' = Sf (2 * c + 3)) (i : Fin 256) (l : Fin 128) :
    PAIR MC (MP k) qa qb kc kp vc vp sa sb kc' kp' vc' vp' sa' sb' (ix2 i l) = hd Qf Kf Vf Sf k.val (i.val % 128) (c + i.val / 128) l := by
  have h0 : (k0_pay6 : FVec Ideal S256x128 .f32) (ix2 i l) = 0 := by
    unfold k0_pay6
    pointwise []
  have hq : QR qa qb i = Qf (c + i.val / 128) (128 * k.val + i.val % 128) := by
    funext x
    unfold QR
    by_cases h : i.val < 128
    · rw [dif_pos h, hqa]
      show Qf c (128 * k.val + i.val) x = _
      rw [Nat.div_eq_of_lt h, Nat.mod_eq_of_lt h]; rfl
    · rw [dif_neg h, hqb]
      show Qf (c + 1) (128 * k.val + (i.val - 128)) x = _
      have := i.isLt
      rw [show i.val / 128 = 1 by omega, show i.val % 128 = i.val - 128 by omega]
  have hs : (if i.val < 128 then sa else sb) = Sf (2 * (c + i.val / 128)) := by
    by_cases h : i.val < 128
    · rw [if_pos h, hsa, Nat.div_eq_of_lt h]; rfl
    · have := i.isLt
      rw [if_neg h, hsb, show i.val / 128 = 1 by omega]; rfl
  have hs' : (if i.val < 128 then sa' else sb') = Sf (2 * (c + i.val / 128) + 1) := by
    by_cases h : i.val < 128
    · rw [if_pos h, hsa', Nat.div_eq_of_lt h]; rfl
    · have := i.isLt
      rw [if_neg h, hsb', show i.val / 128 = 1 by omega]; rfl
  have hg : (c + i.val / 128) / 2 = g := by have := i.isLt; omega
  unfold PAIR
  rw [SLOT_at, SLOT_at, h0, hq, hs, hs']
  simp only [hkc, hkp, hvc, hvp, hkc', hkp', hvc', hvp']
  unfold hd
  rw [hg]

variable (arg6 : Memref sig .tc .smem S8 .f32) (arg8 : Memref sig .tc .vmem S4x2048x128 .bf16) (arg9 arg10 : Memref sig .tc .vmem S2x2x2048x128 .bf16) (X6 : BufTy.Contents (Elt Ideal) arg6.view.ty) (X8 : BufTy.Contents (Elt Ideal) arg8.view.ty) (X9 : BufTy.Contents (Elt Ideal) arg9.view.ty) (X10 : BufTy.Contents (Elt Ideal) arg10.view.ty) (k : Fin k0_t1_loop.trips)

/-- A loaded block of queries. -/
theorem RQ_at (h8 : ∀ (c : Fin 4) (n : Fin 2048) x, arg8.view.read (Elt Ideal) X8 (ix3 c n x) = Qf c.val n.val x) (o : Fin 3 → ℕ) (h : ∀ i, o i + S1x128x128.size i ≤ S4x2048x128.size i) (c b : ℕ) (ho : o = ![c, b, 0]) (j x : Fin 128) :
    RQ arg8 X8 o h (ix3 0 j x) = Qf c (b + j.val) x := by
  subst ho
  have h0 : c + 1 ≤ 4 := h 0
  have h1 : b + 128 ≤ 2048 := h 1
  have := j.isLt
  refine Eq.trans ?_ (h8 ⟨c, by omega⟩ ⟨b + j.val, by omega⟩ x)
  unfold RQ
  rw [View.readAt_apply]
  congr 1; funext a
  match a with
  | 0 => apply Fin.ext; show c + 1 * 0 = c; omega
  | 1 => apply Fin.ext; show b + 1 * j.val = b + j.val; omega
  | 2 => apply Fin.ext; show 0 + 1 * x.val = x.val; omega

/-- A loaded block of keys or values. -/
theorem RK_at (Kf : ℕ → ℕ → ℕ → Fin 128 → EReal) (a : Memref sig .tc .vmem S2x2x2048x128 .bf16) (X : BufTy.Contents (Elt Ideal) a.view.ty) (h9 : ∀ (s g : Fin 2) (n : Fin 2048) x, a.view.read (Elt Ideal) X (ix4 s g n x) = Kf s.val g.val n.val x) (o : Fin 4 → ℕ) (h : ∀ i, o i + S1x1x128x128.size i ≤ S2x2x2048x128.size i) (s g b : ℕ) (ho : o = ![s, g, b, 0]) (j x : Fin 128) :
    RK a X o h (ix4 0 0 j x) = Kf s g (b + j.val) x := by
  subst ho
  have h0 : s + 1 ≤ 2 := h 0
  have h0' : g + 1 ≤ 2 := h 1
  have h1 : b + 128 ≤ 2048 := h 2
  have := j.isLt
  refine Eq.trans ?_ (h9 ⟨s, by omega⟩ ⟨g, by omega⟩ ⟨b + j.val, by omega⟩ x)
  unfold RK
  rw [View.readAt_apply]
  congr 1; funext a
  match a with
  | 0 => apply Fin.ext; show s + 1 * 0 = s; omega
  | 1 => apply Fin.ext; show g + 1 * 0 = g; omega
  | 2 => apply Fin.ext; show b + 1 * j.val = b + j.val; omega
  | 3 => apply Fin.ext; show 0 + 1 * x.val = x.val; omega

/-- A loaded sink. -/
theorem RS_at (h6 : ∀ n : Fin 8, arg6.view.read (Elt Ideal) X6 (ix1 n) = Sf n.val) (n : ℕ) (h : ∀ i, (![n] : Fin 1 → ℕ) i + S1.size i ≤ S8.size i) : RS arg6 X6 n h = Sf n := by
  have h0 : n + 1 ≤ 8 := h 0
  refine Eq.trans ?_ (h6 ⟨n, by omega⟩)
  unfold RS
  rw [View.readAt_apply]
  congr 1; funext a
  match a with
  | 0 => apply Fin.ext; show n + 1 * _ = n; simp [Shape.Idx.first]

/-- Where load or store 1 is. -/
theorem off1 : ∀ k : Fin k0_t1_loop.trips, k0_off1 k = ![0, 128 * k.val, 0] := by decide +kernel
/-- Where load or store 2 is. -/
theorem off2 : ∀ k : Fin k0_t1_loop.trips, k0_off2 k = ![1, 128 * k.val, 0] := by decide +kernel
/-- Where load or store 3 is. -/
theorem off3 : ∀ k : Fin k0_t1_loop.trips, k0_off3 k = ![0, 0, 128 * k.val, 0] := by decide +kernel
/-- Where load or store 4 is. -/
theorem off4 : ∀ k : Fin k0_t1_loop.trips, k0_off4 k = ![0, 0, 128 * (k.val - 1), 0] := by decide +kernel
/-- Where load or store 5 is. -/
theorem off5 : ∀ k : Fin k0_t1_loop.trips, k0_off5 k = ![1, 0, 128 * k.val, 0] := by decide +kernel
/-- Where load or store 6 is. -/
theorem off6 : ∀ k : Fin k0_t1_loop.trips, k0_off6 k = ![1, 0, 128 * (k.val - 1), 0] := by decide +kernel
/-- Where load or store 7 is. -/
theorem off7 : ∀ k : Fin k0_t1_loop.trips, k0_off7 k = ![128 * k.val, 0] := by decide +kernel
/-- Where load or store 8 is. -/
theorem off8 : ∀ k : Fin k0_t1_loop.trips, k0_off8 k = ![128 * k.val, 128] := by decide +kernel
/-- Where load or store 9 is. -/
theorem off9 : ∀ k : Fin k0_t1_loop.trips, k0_off9 k = ![2, 128 * k.val, 0] := by decide +kernel
/-- Where load or store 10 is. -/
theorem off10 : ∀ k : Fin k0_t1_loop.trips, k0_off10 k = ![3, 128 * k.val, 0] := by decide +kernel
/-- Where load or store 11 is. -/
theorem off11 : ∀ k : Fin k0_t1_loop.trips, k0_off11 k = ![0, 1, 128 * k.val, 0] := by decide +kernel
/-- Where load or store 12 is. -/
theorem off12 : ∀ k : Fin k0_t1_loop.trips, k0_off12 k = ![0, 1, 128 * (k.val - 1), 0] := by decide +kernel
/-- Where load or store 13 is. -/
theorem off13 : ∀ k : Fin k0_t1_loop.trips, k0_off13 k = ![1, 1, 128 * k.val, 0] := by decide +kernel
/-- Where load or store 14 is. -/
theorem off14 : ∀ k : Fin k0_t1_loop.trips, k0_off14 k = ![1, 1, 128 * (k.val - 1), 0] := by decide +kernel
/-- Where load or store 15 is. -/
theorem off15 : ∀ k : Fin k0_t1_loop.trips, k0_off15 k = ![128 * k.val, 256] := by decide +kernel
/-- Where load or store 16 is. -/
theorem off16 : ∀ k : Fin k0_t1_loop.trips, k0_off16 k = ![128 * k.val, 384] := by decide +kernel

variable (h6 : ∀ n : Fin 8, arg6.view.read (Elt Ideal) X6 (ix1 n) = Sf n.val) (h8 : ∀ (c : Fin 4) (n : Fin 2048) x, arg8.view.read (Elt Ideal) X8 (ix3 c n x) = Qf c.val n.val x) (h9 : ∀ (s g : Fin 2) (n : Fin 2048) x, arg9.view.read (Elt Ideal) X9 (ix4 s g n x) = Kf s.val g.val n.val x) (h10 : ∀ (s g : Fin 2) (n : Fin 2048) x, arg10.view.read (Elt Ideal) X10 (ix4 s g n x) = Vf s.val g.val n.val x)
include h6 h8 h9 h10

/-- The block of key head 0 at an index. -/
theorem PR0_at (i : Fin 256) (l : Fin 128) : PR0 arg6 arg8 arg9 arg10 X6 X8 X9 X10 k (ix2 i l) = hd Qf Kf Vf Sf k.val (i.val % 128) (i.val / 128) l := by
  unfold PR0
  rw [PAIR_at Qf Kf Vf Sf k 0 0 rfl _ _ _ _ _ _ _ _ _ _ _ _ _ _
    (RQ_at Qf arg8 X8 h8 _ _ _ _ (off1 k)) (RQ_at Qf arg8 X8 h8 _ _ _ _ (off2 k))
    (RK_at Kf arg9 X9 h9 _ _ _ _ _ (off3 k)) (RK_at Kf arg9 X9 h9 _ _ _ _ _ (off4 k)) (RK_at Vf arg10 X10 h10 _ _ _ _ _ (off3 k)) (RK_at Vf arg10 X10 h10 _ _ _ _ _ (off4 k))
    (RS_at Sf arg6 X6 h6 _ _) (RS_at Sf arg6 X6 h6 _ _)
    (RK_at Kf arg9 X9 h9 _ _ _ _ _ (off5 k)) (RK_at Kf arg9 X9 h9 _ _ _ _ _ (off6 k)) (RK_at Vf arg10 X10 h10 _ _ _ _ _ (off5 k)) (RK_at Vf arg10 X10 h10 _ _ _ _ _ (off6 k))
    (RS_at Sf arg6 X6 h6 _ _) (RS_at Sf arg6 X6 h6 _ _) i l, Nat.zero_add]

/-- The block of key head 1 at an index. -/
theorem PR1_at (i : Fin 256) (l : Fin 128) : PR1 arg6 arg8 arg9 arg10 X6 X8 X9 X10 k (ix2 i l) = hd Qf Kf Vf Sf k.val (i.val % 128) (2 + i.val / 128) l := by
  unfold PR1
  rw [PAIR_at Qf Kf Vf Sf k 2 1 rfl _ _ _ _ _ _ _ _ _ _ _ _ _ _
    (RQ_at Qf arg8 X8 h8 _ _ _ _ (off9 k)) (RQ_at Qf arg8 X8 h8 _ _ _ _ (off10 k))
    (RK_at Kf arg9 X9 h9 _ _ _ _ _ (off11 k)) (RK_at Kf arg9 X9 h9 _ _ _ _ _ (off12 k)) (RK_at Vf arg10 X10 h10 _ _ _ _ _ (off11 k)) (RK_at Vf arg10 X10 h10 _ _ _ _ _ (off12 k))
    (RS_at Sf arg6 X6 h6 _ _) (RS_at Sf arg6 X6 h6 _ _)
    (RK_at Kf arg9 X9 h9 _ _ _ _ _ (off13 k)) (RK_at Kf arg9 X9 h9 _ _ _ _ _ (off14 k)) (RK_at Vf arg10 X10 h10 _ _ _ _ _ (off13 k)) (RK_at Vf arg10 X10 h10 _ _ _ _ _ (off14 k))
    (RS_at Sf arg6 X6 h6 _ _) (RS_at Sf arg6 X6 h6 _ _) i l]

omit h6 h8 h9 h10 in
/-- A piece of 128 rows stored is its part, if its rows are. -/
theorem piece_at (W : FVec Ideal S128x128 .bf16) (c : ℕ) (hW : ∀ i l : Fin 128, W (ix2 i l) = hd Qf Kf Vf Sf k.val i.val c l) (o : Fin 2 → ℕ) (h : ∀ i, o i + S128x128.size i ≤ S2048x512.size i) (ho : o = ![128 * k.val, 128 * c]) (x : S128x128.Idx) :
    W x = OB Qf Kf Vf Sf ((Rect.unit (s := S2048x512) o S128x128.size h).emb x) := by
  subst ho
  have e : x = ix2 (x 0) (x 1) := by funext a; match a with | 0 => rfl | 1 => rfl
  have h0 : (((Rect.unit (s := S2048x512) ![128 * k.val, 128 * c] S128x128.size h).emb x) 0).val = 128 * k.val + (x 0).val := by
    show 128 * k.val + 1 * (x 0).val = _; omega
  have h1 : (((Rect.unit (s := S2048x512) ![128 * k.val, 128 * c] S128x128.size h).emb x) 1).val = 128 * c + (x 1).val := by
    show 128 * c + 1 * (x 1).val = _; omega
  have l0 : (x 0).val < 128 := (x 0).isLt
  have l1 : (x 1).val < 128 := (x 1).isLt
  refine (congrArg W e).trans ((hW (x 0) (x 1)).trans ?_)
  unfold OB
  have a0 : (128 * k.val + (x 0).val) / 128 = k.val := by omega
  have a1 : (128 * k.val + (x 0).val) % 128 = (x 0).val := by omega
  have a2 : (128 * c + (x 1).val) / 128 = c := by omega
  have a3 : (⟨(((Rect.unit (s := S2048x512) ![128 * k.val, 128 * c] S128x128.size h).emb x) 1).val % 128, Nat.mod_lt _ (by decide)⟩ : Fin 128) = x 1 := by
    apply Fin.ext
    show (((Rect.unit (s := S2048x512) ![128 * k.val, 128 * c] S128x128.size h).emb x) 1).val % 128 = (x 1).val
    rw [h1]; omega
  rw [a3, h0, h1, a0, a1, a2]

omit h6 h8 h9 h10 in
/-- The first chunk's rows at an index. -/
theorem TOPH_at (o : FVec Ideal S256x128 .f32) (i l : Fin 128) : TOPH o (ix2 i l) = o (ix2 ⟨i.val, by have := i.isLt; omega⟩ l) := by
  unfold TOPH
  pointwise []

omit h6 h8 h9 h10 in
/-- The second chunk's rows at an index. -/
theorem BOTH_at (o : FVec Ideal S256x128 .f32) (i l : Fin 128) : BOTH o (ix2 i l) = o (ix2 ⟨128 + i.val, by have := i.isLt; omega⟩ l) := by
  unfold BOTH
  pointwise []

/-- All pieces stored by the first trips are parts of the result. -/
theorem pieces_of (𝒱 : Variants) (c : Dev nD) (bd : Option 𝒱.V) (i : grid0.Coords) (arg1 : Memref sig .tc .vmem S2048x768 .bf16) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole) (arg5 : Memref sig .tc .vmem S1x128 .f32) (harg5 : arg5.IsWhole) (harg6 : arg6.IsWhole) (arg7 : Memref sig .tc .vmem S2048x512 .bf16) (harg7 : arg7.IsWhole) (harg8 : arg8.IsWhole) (harg9 : arg9.IsWhole) (harg10 : arg10.IsWhole) :
    ∀ n : ℕ, n ≤ k0_t1_loop.trips → View.PiecesOf (OB Qf Kf Vf Sf) (pb_k0_t1 (F := Ideal) 𝒱 c bd i arg1 harg1 arg2 harg2 arg3 harg3 arg4 harg4 arg5 harg5 arg6 harg6 arg7 harg7 arg8 harg8 arg9 harg9 arg10 harg10 128#32 (k0_pay308 kernelRun0_A.sl.v2304 k0_pay307) (k0_pay309 kernelRun0_A.sl.v2304 k0_pay307) k0_pay310 (iota .tc S256x128 32 [1] iota_S256x128_d1_w32) X6 X8 X9 X10 n)
  | 0, _ => by
    rw [pb_k0_t1.eq_1]; trivial
  | n + 1, hn => by
    have e := pb_k0_t1_succ (F := Ideal) 𝒱 c bd i arg1 harg1 arg2 harg2 arg3 harg3 arg4 harg4 arg5 harg5 arg6 harg6 arg7 harg7 arg8 harg8 arg9 harg9 arg10 harg10 128#32 (k0_pay308 kernelRun0_A.sl.v2304 k0_pay307) (k0_pay309 kernelRun0_A.sl.v2304 k0_pay307) k0_pay310 (iota .tc S256x128 32 [1] iota_S256x128_d1_w32) X6 X8 X9 X10 ⟨n, hn⟩
    rw [trip_eq] at e
    refine e ▸ ⟨?_, ?_, ?_, ?_, pieces_of 𝒱 c bd i arg1 harg1 arg2 harg2 arg3 harg3 arg4 harg4 arg5 harg5 harg6 arg7 harg7 harg8 harg9 harg10 n (Nat.le_of_succ_le hn)⟩
    · refine piece_at Qf Kf Vf Sf ⟨n, hn⟩ _ 3 (fun i l => ?_) _ (k0_off16_inb ⟨n, hn⟩) (off16 ⟨n, hn⟩)
      refine (BOTH_at _ _ _).trans ?_
      rw [PR1_at Qf Kf Vf Sf arg6 arg8 arg9 arg10 X6 X8 X9 X10 _ h6 h8 h9 h10]
      have := i.isLt
      show hd Qf Kf Vf Sf n ((128 + i.val) % 128) (2 + (128 + i.val) / 128) l = hd Qf Kf Vf Sf n i.val 3 l
      rw [show (128 + i.val) % 128 = i.val by omega, show 2 + (128 + i.val) / 128 = 3 by omega]
    · refine piece_at Qf Kf Vf Sf ⟨n, hn⟩ _ 2 (fun i l => ?_) _ (k0_off15_inb ⟨n, hn⟩) (off15 ⟨n, hn⟩)
      refine (TOPH_at _ _ _).trans ?_
      rw [PR1_at Qf Kf Vf Sf arg6 arg8 arg9 arg10 X6 X8 X9 X10 _ h6 h8 h9 h10]
      have := i.isLt
      show hd Qf Kf Vf Sf n (i.val % 128) (2 + i.val / 128) l = hd Qf Kf Vf Sf n i.val 2 l
      rw [show i.val % 128 = i.val by omega, show 2 + i.val / 128 = 2 by omega]
    · refine piece_at Qf Kf Vf Sf ⟨n, hn⟩ _ 1 (fun i l => ?_) _ (k0_off8_inb ⟨n, hn⟩) (off8 ⟨n, hn⟩)
      refine (BOTH_at _ _ _).trans ?_
      rw [PR0_at Qf Kf Vf Sf arg6 arg8 arg9 arg10 X6 X8 X9 X10 _ h6 h8 h9 h10]
      have := i.isLt
      show hd Qf Kf Vf Sf n ((128 + i.val) % 128) ((128 + i.val) / 128) l = hd Qf Kf Vf Sf n i.val 1 l
      rw [show (128 + i.val) % 128 = i.val by omega, show (128 + i.val) / 128 = 1 by omega]
    · refine piece_at Qf Kf Vf Sf ⟨n, hn⟩ _ 0 (fun i l => ?_) _ (k0_off7_inb ⟨n, hn⟩) (off7 ⟨n, hn⟩)
      refine (TOPH_at _ _ _).trans ?_
      rw [PR0_at Qf Kf Vf Sf arg6 arg8 arg9 arg10 X6 X8 X9 X10 _ h6 h8 h9 h10]
      have := i.isLt
      show hd Qf Kf Vf Sf n (i.val % 128) (i.val / 128) l = hd Qf Kf Vf Sf n i.val 0 l
      rw [show i.val % 128 = i.val by omega, show i.val / 128 = 0 by omega]

end

end Cert.Hand.Window

end
-- ==== Proof.Window.Math.lean ====
/- The sliding window's mathematics: a row's attention as the kernel's two half-blocks compute it is the softmax over
   the 256 keys of the band, with the sink in its denominator. -/
module

public import proofs.«01_k».proof.Proof.Window.Loop

@[expose] public section

noncomputable section

namespace Cert.Hand.Window

open Idealize.ShloMosaic Cert.Hand.Attn

/-- The literal 64. -/
abbrev l64 : EReal := Ideal.ofBits .f32 0x42800000#32

/-- A lane of a half. -/
def ln (s : ℕ) (d : Fin 64) : Fin 128 := ⟨(64 * s + d.val) % 128, Nat.mod_lt _ (by decide)⟩

/-- A head's row rotated: every lane with its partner at distance 32. -/
def rotR (y c s : Fin 64 → EReal) (d : Fin 64) : EReal :=
  y d * c d + (if h : d.val < 32 then y ⟨d.val + 32, by omega⟩ else y ⟨d.val - 32, by have := d.isLt; omega⟩) * s d

/-- A head's row normalised and rotated. -/
def hq (x g c s : Fin 64 → EReal) (d : Fin 64) : EReal := rotR (rms l64 leps x g) c s d

/-- The softmax of a row of scores with a sink, against values. -/
def soft (z : Fin 256 → EReal) (s : EReal) (v : Fin 256 → EReal) : EReal :=
  ∑ j, v j * Ideal.div (Ideal.exp (z j - max (top z) s)) (∑ i, Ideal.exp (z i - max (top z) s) + Ideal.exp (s - max (top z) s))

/-- The constant 64 is the real 64. -/
theorem l64_eq : l64 = ((64 : ℝ) : EReal) := by
  simp [Ideal.ofBits, Ideal.ieee, -EReal.coe_mul]; norm_num
/-- The constant 1/64 is the real 1/64. -/
theorem l64i_eq : l64i = ((1 / 64 : ℝ) : EReal) := by
  simp [Ideal.ofBits, Ideal.ieee, -EReal.coe_mul]; norm_num
/-- The constant 1/8 is the real 1/8. -/
theorem l8i_eq : l8i = ((1 / 8 : ℝ) : EReal) := by
  simp [Ideal.ofBits, Ideal.ieee, -EReal.coe_mul]; norm_num

/-- A sum over 128 lanes is the sum over both halves. -/
theorem sum128 (f : Fin 128 → EReal) : ∑ j, f j = ∑ d, f (ln 0 d) + ∑ d, f (ln 1 d) := by
  refine (Fin.sum_univ_add (a := 64) (b := 64) f).trans ?_
  refine congrArg₂ (· + ·) (Finset.sum_congr rfl fun d _ => congrArg f (Fin.ext ?_)) (Finset.sum_congr rfl fun d _ => congrArg f (Fin.ext ?_))
  · have := d.isLt; show d.val = (64 * 0 + d.val) % 128; omega
  · have := d.isLt; show 64 + d.val = (64 * 1 + d.val) % 128; omega

/-- A sum over both halves of what is zero outside one is the sum over it. -/
theorem sum_half (s : ℕ) (hs : s < 2) (f : Fin 128 → EReal) (h : ∀ s' d, s' < 2 → s' ≠ s → f (ln s' d) = 0) : ∑ j, f j = ∑ d, f (ln s d) := by
  rw [sum128]
  obtain rfl | rfl : s = 0 ∨ s = 1 := by omega
  · rw [Finset.sum_eq_zero (s := Finset.univ) (f := fun d => f (ln 1 d)) fun d _ => h 1 d (by decide) (by decide), add_zero]
  · rw [Finset.sum_eq_zero (s := Finset.univ) (f := fun d => f (ln 0 d)) fun d _ => h 0 d (by decide) (by decide), zero_add]

/-- A lane's half. -/
theorem ln_div (s : ℕ) (hs : s < 2) (d : Fin 64) : (ln s d).val / 64 = s := by
  have := d.isLt; show (64 * s + d.val) % 128 / 64 = s; omega
/-- A lane in its half. -/
theorem ln_mod (s : ℕ) (hs : s < 2) (d : Fin 64) : (ln s d).val % 64 = d.val := by
  have := d.isLt; show (64 * s + d.val) % 128 % 64 = d.val; omega

/-- The kernel's normalisation of a lane is its head's. -/
theorem nrm_ln (x g : Fin 128 → EReal) (hx : ∀ j, IsR (x j)) (s : ℕ) (hs : s < 2) (d : Fin 64) :
    nrm x g (ln s d) = rms l64 leps (fun e => x (ln s e)) (fun e => g (ln s e)) d := by
  have h0 : ∑ j, (x j * x j - x j * x j) * same j (ln s d) = 0 := Finset.sum_eq_zero fun j _ => by
    obtain ⟨r, hr⟩ := hx j
    rw [hr, ← EReal.coe_mul, ← EReal.coe_sub, sub_self]; simp
  have h1 : ∑ j, x j * x j * same j (ln s d) = ∑ e, x (ln s e) * x (ln s e) := by
    rw [sum_half s hs]
    · refine Finset.sum_congr rfl fun e _ => ?_
      unfold same
      rw [ln_div s hs, ln_div s hs, if_pos rfl, mul_one]
    · intro s' e hs' hne
      unfold same
      rw [ln_div s hs, ln_div s' hs', if_neg hne, mul_zero]
  unfold nrm rms
  rw [h0, h1, add_zero, l64_eq, l64i_eq, Ideal.div, if_neg (by exact_mod_cast (by norm_num : (64:ℝ) ≠ 0)), ← EReal.coe_inv]
  norm_num

/-- The kernel's rotation of a lane is its head's. -/
theorem rot_ln (y c t : Fin 128 → EReal) (s : ℕ) (hs : s < 2) (d : Fin 64) :
    rot y c t (ln s d) = rotR (fun e => y (ln s e)) (fun e => c (ln s e)) (fun e => t (ln s e)) d := by
  unfold rot rotR
  rw [ln_mod s hs]
  have := d.isLt
  by_cases h : d.val < 32
  · rw [if_pos h, dif_pos h]
    congr 3
    apply Fin.ext
    show ((64 * s + d.val) % 128 + 128 - 96) % 128 = (64 * s + (d.val + 32)) % 128
    omega
  · rw [if_neg h, dif_neg h]
    congr 3
    apply Fin.ext
    show ((64 * s + d.val) % 128 + 128 - 32) % 128 = (64 * s + (d.val - 32)) % 128
    omega

/-- The kernel's rotated normalised lane. -/
theorem rn_ln (x g c t : Fin 128 → EReal) (hx : ∀ j, IsR (x j)) (s : ℕ) (hs : s < 2) (d : Fin 64) :
    rot (nrm x g) c t (ln s d) = hq (fun e => x (ln s e)) (fun e => g (ln s e)) (fun e => c (ln s e)) (fun e => t (ln s e)) d := by
  rw [rot_ln _ _ _ s hs]
  unfold hq
  congr 1
  funext e
  exact nrm_ln x g hx s hs e

/-- A head's rotated row of reals is real. -/
theorem hq_real (x g c t : Fin 64 → EReal) (hg : ∀ i, IsR (g i)) (hc : ∀ i, IsR (c i)) (ht : ∀ i, IsR (t i)) (d : Fin 64) : IsR (hq x g c t d) := by
  obtain ⟨e, he, h⟩ := leps_eq
  have hr : ∀ d, IsR (rms l64 leps x g d) := fun d => by rw [l64_eq, h]; exact rms_real (by norm_num) he x g hg d
  unfold hq rotR
  refine ((hr d).mul (hc d)).add (IsR.mul ?_ (ht d))
  split <;> exact hr _

/-- A placed tile at a lane. -/
theorem plc_ln (sl g : Fin 2) (t : Fin 128 → EReal) (s : ℕ) (hs : s < 2) (d : Fin 64) : plc sl g t (ln s d) = if s = sl.val then t (ln g.val d) else 0 := by
  unfold plc
  rw [ln_div s hs]
  split
  · congr 1
    apply Fin.ext
    have := g.isLt; have := d.isLt
    show 64 * g.val + (ln s d).val % 64 = (64 * g.val + d.val) % 128
    rw [ln_mod s hs]; omega
  · rfl

/-- The scores against keys placed in a slot are the head's, scaled. -/
theorem score_ln (q k : Fin 128 → EReal) (sl g : Fin 2) (hq : ∀ d, IsR (q (ln sl.val d))) (hk : ∀ d, IsR (k (ln g.val d))) :
    ∑ x, q x * l8i * plc sl g k x = (∑ d, k (ln g.val d) * q (ln sl.val d)) * l8i := by
  rw [sum_half sl.val sl.isLt]
  · rw [Finset.sum_congr rfl fun d _ => by rw [plc_ln sl g k _ sl.isLt, if_pos rfl]]
    rw [sum_scale _ _ _ hq hk ⟨_, l8i_eq⟩]
    congr 1
    exact Finset.sum_congr rfl fun d _ => mul_comm _ _
  · intro s' d hs' hne
    rw [plc_ln sl g k _ hs', if_neg hne, mul_zero]

/-- A slot without values adds nothing. -/
theorem sl_zero (n i : ℕ) (q : Fin 128 → EReal) (kc kp : Fin 128 → Fin 128 → EReal) (vc vp : Fin 128 → EReal) (s acc : EReal) (hc : ∀ j, vc j = 0) (hp : ∀ j, vp j = 0) : sl n i q kc kp vc vp s acc = acc := by
  have hw : ∀ (z v : Fin 128 → EReal) m d, (∀ j, v j = 0) → wv z v m d = 0 := fun z v m d h => by
    unfold wv; exact Finset.sum_eq_zero fun j _ => by rw [h j, mul_zero]
  unfold sl
  rw [hw _ _ _ _ hc, hw _ _ _ _ hp, add_zero, add_zero]

/-- The exponential of a real is positive. -/
theorem exp_pos' {x : EReal} (hx : IsR x) : 0 < Ideal.exp x := by
  obtain ⟨r, rfl⟩ := hx
  show (0 : EReal) < ((Real.exp r : ℝ) : EReal)
  exact_mod_cast Real.exp_pos r

/-- A sum over 256 keys is the sum over both blocks. -/
theorem sum256 (f : Fin 256 → EReal) : ∑ j, f j = ∑ j : Fin 128, f (Fin.castAdd 128 j) + ∑ j : Fin 128, f (Fin.natAdd 128 j) :=
  Fin.sum_univ_add (a := 128) (b := 128) f

/-- The maximum over 256 keys is the maximum over both blocks. -/
theorem top256 (z : Fin 256 → EReal) : top z = top (fun j : Fin 128 => max (z (Fin.natAdd 128 j)) (z (Fin.castAdd 128 j))) := by
  have h : ∀ {n : ℕ} (s : Fin n → EReal), top s = Finset.univ.sup s := fun s => rfl
  rw [h, h]
  refine le_antisymm (Finset.sup_le fun j _ => ?_) (Finset.sup_le fun j _ => max_le (Finset.le_sup (f := z) (Finset.mem_univ _)) (Finset.le_sup (f := z) (Finset.mem_univ _)))
  have hj := j.isLt
  by_cases hlt : j.val < 128
  · refine le_trans ?_ (Finset.le_sup (f := fun j : Fin 128 => max (z (Fin.natAdd 128 j)) (z (Fin.castAdd 128 j))) (Finset.mem_univ (⟨j.val, hlt⟩ : Fin 128)))
    exact le_max_of_le_right (le_of_eq (congrArg z (Fin.ext rfl)))
  · refine le_trans ?_ (Finset.le_sup (f := fun j : Fin 128 => max (z (Fin.natAdd 128 j)) (z (Fin.castAdd 128 j))) (Finset.mem_univ (⟨j.val - 128, by omega⟩ : Fin 128)))
    exact le_max_of_le_left (le_of_eq (congrArg z (Fin.ext (show j.val = 128 + (j.val - 128) by omega))))

/-- One slot's addition is the softmax over the band. -/
theorem wv_soft (zc zp vc vp : Fin 128 → EReal) (z v : Fin 256 → EReal) (s : EReal)
    (hc : ∀ j, z (Fin.natAdd 128 j) = zc j) (hp : ∀ j, z (Fin.castAdd 128 j) = zp j)
    (hvc : ∀ j, v (Fin.natAdd 128 j) = vc j) (hvp : ∀ j, zp j = ⊥ ∨ v (Fin.castAdd 128 j) = vp j)
    (htc : ∀ j, zc j ≠ ⊤) (htp : ∀ j, zp j ≠ ⊤) (hs : s ≠ ⊤) (hr : ∃ j, IsR (zc j)) :
    wv zc vc (mx zc zp s) (dn zc zp s) + wv zp vp (mx zc zp s) (dn zc zp s) = soft z s v := by
  have hm : max (top z) s = mx zc zp s := by
    unfold mx; rw [top256]; simp only [hc, hp]
  have hd : ∑ i, Ideal.exp (z i - mx zc zp s) + Ideal.exp (s - mx zc zp s) = dn zc zp s := by
    unfold dn
    rw [sum256, Finset.sum_add_distrib]
    simp only [hc, hp]
    rw [add_comm (∑ j, Ideal.exp (zp j - _))]
  obtain ⟨j0, hj0⟩ := hr
  have hM : IsR (mx zc zp s) := by
    have hlt : mx zc zp s < ⊤ := by
      unfold mx
      refine max_lt ?_ (lt_top_iff_ne_top.mpr hs)
      show Finset.univ.sup (fun x => max (zc x) (zp x)) < ⊤
      exact (Finset.sup_lt_iff (by simp)).mpr fun j _ => max_lt (lt_top_iff_ne_top.mpr (htc j)) (lt_top_iff_ne_top.mpr (htp j))
    have hle : zc j0 ≤ mx zc zp s := by
      unfold mx
      refine le_max_of_le_left (le_trans (le_max_left _ (zp j0)) ?_)
      exact Finset.le_sup (f := fun x => max (zc x) (zp x)) (Finset.mem_univ j0)
    generalize mx zc zp s = M at hlt hle
    induction M using EReal.rec with
    | bot => obtain ⟨r, hr⟩ := hj0; rw [hr] at hle; simp at hle
    | top => simp at hlt
    | coe r => exact ⟨r, rfl⟩
  have hpos : 0 < dn zc zp s := by
    unfold dn
    have h1 : 0 < Ideal.exp (zc j0 - mx zc zp s) := by
      obtain ⟨a, ha⟩ := hj0; obtain ⟨b, hb⟩ := hM
      exact exp_pos' ⟨a - b, by rw [ha, hb, EReal.coe_sub]⟩
    have h2 : Ideal.exp (zc j0 - mx zc zp s) ≤ ∑ x, (Ideal.exp (zc x - mx zc zp s) + Ideal.exp (zp x - mx zc zp s)) :=
      le_trans (le_add_of_nonneg_right (exp_nonneg' _)) (Finset.single_le_sum (f := fun x => Ideal.exp (zc x - mx zc zp s) + Ideal.exp (zp x - mx zc zp s)) (fun x _ => add_nonneg (exp_nonneg' _) (exp_nonneg' _)) (Finset.mem_univ j0))
    exact lt_of_lt_of_le h1 (le_trans h2 (le_add_of_nonneg_right (exp_nonneg' _)))
  unfold soft
  rw [hm, hd, sum256, add_comm]
  unfold wv
  congr 1
  · refine Finset.sum_congr rfl fun j _ => ?_
    rw [Ideal.mul_one_div hpos.ne', hp]
    rcases hvp j with h | h
    · have : Ideal.exp (zp j - mx zc zp s) = 0 := by
        obtain ⟨b, hb⟩ := hM
        rw [h, hb, EReal.bot_sub]; rfl
      rw [this, Ideal.div, if_neg hpos.ne', zero_mul, zero_mul, mul_zero]
    · rw [h, mul_comm]
  · refine Finset.sum_congr rfl fun j _ => ?_
    rw [Ideal.mul_one_div hpos.ne', hc, hvc, mul_comm]

end Cert.Hand.Window

end
-- ==== Proof.Window.Out.lean ====
/- What the sliding window's kernel leaves at a grid point, read at an index. -/
module

public import proofs.«01_k».proof.Proof.Window.Math
public import proofs.«01_k».proof.Proof.Gen.WindowIdeal.Frame

@[expose] public section

set_option maxRecDepth 16384

noncomputable section

namespace Cert.Hand.Window

open Idealize.ShloMosaic Idealize.ShloMosaic.TcCoe Cert.WindowIdeal Cert.WindowIdeal.Gen Cert.Hand.Attn

/-- The queries held for a row of a chunk. -/
def QF (x0 : Vec Ideal S2048x768 .bf16) (x1 x2 : Vec Ideal S2048x128 .f32) (x3 : Vec Ideal S1x128 .f32) (a n : ℕ) (x : Fin 128) : EReal := QS x0 x1 x2 x3 (ix3 (Fin.ofNat 4 a) (Fin.ofNat 2048 n) x)
/-- The keys held for a row, in a slot, of a key head. -/
def KF (x0 : Vec Ideal S2048x768 .bf16) (x1 x2 : Vec Ideal S2048x128 .f32) (x4 : Vec Ideal S1x128 .f32) (s g n : ℕ) (x : Fin 128) : EReal := KS x0 x1 x2 x4 (ix4 (Fin.ofNat 2 s) (Fin.ofNat 2 g) (Fin.ofNat 2048 n) x)
/-- The values held for a row, in a slot, of a key head. -/
def VF (x0 : Vec Ideal S2048x768 .bf16) (s g n : ℕ) (x : Fin 128) : EReal := VS x0 (ix4 (Fin.ofNat 2 s) (Fin.ofNat 2 g) (Fin.ofNat 2048 n) x)
/-- The sink of a head. -/
def SF (x5 : Vec Ideal S8 .f32) (n : ℕ) : EReal := x5 (ix1 (Fin.ofNat 8 n))

/-- A number below the bound, read back. -/
theorem ofNat_val {n : ℕ} [NeZero n] (a : Fin n) : Fin.ofNat n a.val = a := Fin.ext (Nat.mod_eq_of_lt a.isLt)

/-- The stored pieces are parts of the result. -/
theorem run_pieces (c : Dev nD) (i : grid0.Coords) (arg1 : Memref sig .tc .vmem S2048x768 .bf16) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole) (arg5 : Memref sig .tc .vmem S1x128 .f32) (harg5 : arg5.IsWhole) (arg6 : Memref sig .tc .smem S8 .f32) (harg6 : arg6.IsWhole) (arg7 : Memref sig .tc .vmem S2048x512 .bf16) (harg7 : arg7.IsWhole) (arg8 : Memref sig .tc .vmem S4x2048x128 .bf16) (harg8 : arg8.IsWhole) (arg9 : Memref sig .tc .vmem S2x2x2048x128 .bf16) (harg9 : arg9.IsWhole) (arg10 : Memref sig .tc .vmem S2x2x2048x128 .bf16) (harg10 : arg10.IsWhole) (x0 : Vec Ideal S2048x768 .bf16) (x1 x2 : Vec Ideal S2048x128 .f32) (x3 x4 : Vec Ideal S1x128 .f32) (x5 : Vec Ideal S8 .f32) :
    View.PiecesOf (OB (QF x0 x1 x2 x3) (KF x0 x1 x2 x4) (VF x0) (SF x5)) (kernelRun0_A (F := Ideal) c i arg1 harg1 arg2 harg2 arg3 harg3 arg4 harg4 arg5 harg5 arg6 harg6 arg7 harg7 arg8 harg8 arg9 harg9 arg10 harg10 x0 x1 x2 x3 x4 x5).1 := by
  delta kernelRun0_A
  dsimp only
  refine pieces_of _ _ _ _ _ _ _ _ _ _ _ _ ?_ ?_ ?_ ?_ _ _ _ _ _ _ _ _ _ _ _ _ _ _ _ _ _ _ _ _ _ (le_refl _)
  · intro n
    rw [harg6.read_unread]
    unfold SF; rw [ofNat_val]
  · intro a n x
    rw [View.read_writes_junk_eq_canon]
    refine (congrArg (fun L => View.canon L (ix3 a n x)) (QP_eq c arg1 harg1 arg2 harg2 arg3 harg3 arg4 harg4 x0 x1 x2 x3)).trans ?_
    rw [QP_at]
    unfold QF; rw [ofNat_val, ofNat_val]
  · intro s g n x
    rw [View.read_writes_junk_eq_canon]
    refine (congrArg (fun L => View.canon L (ix4 s g n x)) (KP_eq c arg1 harg1 arg2 harg2 arg3 harg3 arg5 harg5 x0 x1 x2 x4)).trans ?_
    rw [KP_at]
    unfold KF; rw [ofNat_val, ofNat_val, ofNat_val]
  · intro s g n x
    rw [View.read_writes_junk_eq_canon]
    refine (congrArg (fun L => View.canon L (ix4 s g n x)) (VP_eq c arg1 harg1 x0)).trans ?_
    rw [VP_at]
    unfold VF; rw [ofNat_val, ofNat_val, ofNat_val]

/-- What a run leaves at an index. -/
theorem run_at (c : Dev nD) (i : grid0.Coords) (arg1 : Memref sig .tc .vmem S2048x768 .bf16) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole) (arg5 : Memref sig .tc .vmem S1x128 .f32) (harg5 : arg5.IsWhole) (arg6 : Memref sig .tc .smem S8 .f32) (harg6 : arg6.IsWhole) (arg7 : Memref sig .tc .vmem S2048x512 .bf16) (harg7 : arg7.IsWhole) (arg8 : Memref sig .tc .vmem S4x2048x128 .bf16) (harg8 : arg8.IsWhole) (arg9 : Memref sig .tc .vmem S2x2x2048x128 .bf16) (harg9 : arg9.IsWhole) (arg10 : Memref sig .tc .vmem S2x2x2048x128 .bf16) (harg10 : arg10.IsWhole) (x0 : Vec Ideal S2048x768 .bf16) (x1 x2 : Vec Ideal S2048x128 .f32) (x3 x4 : Vec Ideal S1x128 .f32) (x5 : Vec Ideal S8 .f32) (y : S2048x512.Idx) :
    out0_A_6 (F := Ideal) c i arg1 harg1 arg2 harg2 arg3 harg3 arg4 harg4 arg5 harg5 arg6 harg6 arg7 harg7 arg8 harg8 arg9 harg9 arg10 harg10 x0 x1 x2 x3 x4 x5 y = OB (QF x0 x1 x2 x3) (KF x0 x1 x2 x4) (VF x0) (SF x5) y := by
  unfold out0_A_6
  rw [View.read_writes_junk_eq_canon]
  exact View.canon_apply_of_pieces _ _ (run_pieces c i arg1 harg1 arg2 harg2 arg3 harg3 arg4 harg4 arg5 harg5 arg6 harg6 arg7 harg7 arg8 harg8 arg9 harg9 arg10 harg10 x0 x1 x2 x3 x4 x5).mem y (cover0_A_6 c i arg1 harg1 arg2 harg2 arg3 harg3 arg4 harg4 arg5 harg5 arg6 harg6 arg7 harg7 arg8 harg8 arg9 harg9 arg10 harg10 x0 x1 x2 x3 x4 x5 y)

end Cert.Hand.Window

end
-- ==== Proof.Window.Block.lean ====
/- A lane of the sliding window's block is its head's softmax over the band. -/
module

public import proofs.«01_k».proof.Proof.Window.Out

@[expose] public section

set_option maxRecDepth 16384

noncomputable section

namespace Cert.Hand.Window

open Idealize.ShloMosaic Idealize.ShloMosaic.TcCoe Cert.WindowIdeal Cert.WindowIdeal.Gen Cert.Hand.Attn

/-- The masked scores of row `i` of block `k` over its band. -/
def zb (k i : ℕ) (q : Fin 64 → EReal) (kk : ℕ → Fin 64 → EReal) (j : Fin 256) : EReal :=
  if i < j.val ∧ j.val ≤ i + 128 ∧ 128 ≤ 128 * k + j.val then (∑ d, kk (128 * k + j.val - 128) d * q d) * l8i else ⊥

/-- The values of the band, zero before the first row. -/
def vb (k : ℕ) (vv : ℕ → EReal) (j : Fin 256) : EReal := if 128 ≤ 128 * k + j.val then vv (128 * k + j.val - 128) else 0

section
variable (Qf : ℕ → ℕ → Fin 128 → EReal) (Kf Vf : ℕ → ℕ → ℕ → Fin 128 → EReal) (Sf : ℕ → EReal)
  (k i c s : ℕ) (hs : s < 2) (hc : c < 4) (hi : i < 128) (d : Fin 64) (q : Fin 64 → EReal) (kk : ℕ → Fin 64 → EReal) (vv : ℕ → EReal)
  (Q : Fin 128 → EReal) (hQ : Qf c (128 * k + i) = fun x => Q x * l8i) (hq : ∀ e, Q (ln s e) = q e)
  (KK : ℕ → Fin 128 → EReal) (hK : ∀ (s' g : Fin 2) n, Kf s'.val g.val n = plc s' g (KK n)) (hk : ∀ n e, KK n (ln (c / 2) e) = kk n e)
  (VV : ℕ → Fin 128 → EReal) (hV : ∀ (s' g : Fin 2) n, Vf s'.val g.val n = plc s' g (VV n)) (hv : ∀ n, VV n (ln (c / 2) d) = vv n)
  (rq : ∀ e, IsR (q e)) (rk : ∀ n e, IsR (kk n e))
include hQ hq hK hk rq rk hs hc

/-- A row's masked scores against a block, as the head's. -/
theorem sc_eq (p : Fin 128 → Prop) [DecidablePred p] (b : ℕ) (j : Fin 128) :
    sc p (Qf c (128 * k + i)) (fun j x => Kf s (c / 2) (b + j.val) x) j = if p j then (∑ e, kk (b + j.val) e * q e) * l8i else ⊥ := by
  unfold sc
  refine if_congr Iff.rfl ?_ rfl
  show ∑ x, Qf c (128 * k + i) x * Kf s (c / 2) (b + j.val) x = _
  rw [hQ, show Kf s (c / 2) (b + j.val) = plc ⟨s, hs⟩ ⟨c / 2, by omega⟩ (KK (b + j.val)) from hK ⟨s, hs⟩ ⟨c / 2, by omega⟩ _]
  refine (score_ln Q (KK (b + j.val)) ⟨s, hs⟩ ⟨c / 2, by omega⟩ (fun e => ?_) (fun e => ?_)).trans ?_
  · show IsR (Q (ln s e)); rw [hq]; exact rq e
  · show IsR (KK _ (ln (c / 2) e)); rw [hk]; exact rk _ e
  · show (∑ e, KK (b + j.val) (ln (c / 2) e) * Q (ln s e)) * l8i = _
    simp only [hk, hq]

include hV hv hi

/-- The slot that holds the lane adds the softmax. -/
theorem sl_soft (S : EReal) (hS : S ≠ ⊤) :
    sl k i (Qf c (128 * k + i)) (fun j x => Kf s (c / 2) (128 * k + j.val) x) (fun j x => Kf s (c / 2) (128 * (k - 1) + j.val) x) (fun j => Vf s (c / 2) (128 * k + j.val) (ln s d)) (fun j => Vf s (c / 2) (128 * (k - 1) + j.val) (ln s d)) S 0
      = soft (zb k i q kk) S (vb k vv) := by
  have hval : ∀ n, Vf s (c / 2) n (ln s d) = vv n := fun n => by
    rw [show Vf s (c / 2) n = plc ⟨s, hs⟩ ⟨c / 2, by omega⟩ (VV n) from hV ⟨s, hs⟩ ⟨c / 2, by omega⟩ n, plc_ln _ _ _ s hs, if_pos rfl]; exact hv n
  have hreal : ∀ n, IsR ((∑ e, kk n e * q e) * l8i) := fun n => (IsR.sum _ _ fun e => (rk n e).mul (rq e)).mul ⟨_, l8i_eq⟩
  have hne : ∀ x, IsR x → x ≠ ⊤ := fun x h => by obtain ⟨r, rfl⟩ := h; exact EReal.coe_ne_top r
  have ec := fun j : Fin 128 => sc_eq Qf Kf k i c s hs hc q kk Q hQ hq KK hK hk rq rk (fun j => j.val ≤ i) (128 * k) j
  have ep := fun j : Fin 128 => sc_eq Qf Kf k i c s hs hc q kk Q hQ hq KK hK hk rq rk (fun j => i < j.val ∧ k ≠ 0) (128 * (k - 1)) j
  unfold sl
  rw [zero_add]
  refine wv_soft _ _ _ _ _ _ _ (fun j => ?_) (fun j => ?_) (fun j => ?_) (fun j => ?_) (fun j => ?_) (fun j => ?_) hS ⟨⟨i, hi⟩, ?_⟩
  · rw [ec]
    unfold zb
    have e : (Fin.natAdd 128 j : Fin 256).val = 128 + j.val := rfl
    rw [e, show 128 * k + (128 + j.val) - 128 = 128 * k + j.val by omega]
    exact if_congr (by omega) rfl rfl
  · rw [ep]
    unfold zb
    have e : (Fin.castAdd 128 j : Fin 256).val = j.val := rfl
    have := j.isLt
    rw [e]
    by_cases h0 : k = 0
    · rw [if_neg (by omega), if_neg (by omega)]
    · rw [show 128 * k + j.val - 128 = 128 * (k - 1) + j.val by omega]
      exact if_congr (by omega) rfl rfl
  · rw [hval]
    unfold vb
    have e : (Fin.natAdd 128 j : Fin 256).val = 128 + j.val := rfl
    rw [e, show 128 * k + (128 + j.val) - 128 = 128 * k + j.val by omega, if_pos (by omega)]
  · by_cases h0 : k = 0
    · left; rw [ep, if_neg (by omega)]
    · right
      rw [hval]
      unfold vb
      have e : (Fin.castAdd 128 j : Fin 256).val = j.val := rfl
      rw [e, show 128 * k + j.val - 128 = 128 * (k - 1) + j.val by omega, if_pos (by omega)]
  · rw [ec]; split
    · exact hne _ (hreal _)
    · simp
  · rw [ep]; split
    · exact hne _ (hreal _)
    · simp
  · rw [ec, if_pos (le_refl _)]; exact hreal _

/-- A lane of a head is the head's softmax over the band. -/
theorem hd_soft (hS : ∀ n, Sf n ≠ ⊤) : hd Qf Kf Vf Sf k i c (ln s d) = soft (zb k i q kk) (Sf (2 * c + s)) (vb k vv) := by
  have hz : ∀ (s' : ℕ) n, s' < 2 → s ≠ s' → Vf s' (c / 2) n (ln s d) = 0 := fun s' n h hne => by
    rw [show Vf s' (c / 2) n = plc ⟨s', h⟩ ⟨c / 2, by omega⟩ (VV n) from hV ⟨s', h⟩ ⟨c / 2, by omega⟩ n, plc_ln _ _ _ s hs, if_neg hne]
  have e := sl_soft Qf Kf Vf k i c s hs hc hi d q kk vv Q hQ hq KK hK hk VV hV hv rq rk (Sf (2 * c + s)) (hS _)
  obtain rfl | rfl : s = 0 ∨ s = 1 := by omega
  · unfold hd
    rw [sl_zero _ _ _ _ _ _ _ _ _ (fun j => hz 1 _ (by decide) (by decide)) (fun j => hz 1 _ (by decide) (by decide))]
    exact e
  · unfold hd
    rw [sl_zero k i _ _ _ _ _ (Sf (2 * c)) 0 (fun j => hz 0 _ (by decide) (by decide)) (fun j => hz 0 _ (by decide) (by decide))]
    exact e

end

/-- A column of the packed queries, keys and values. -/
abbrev pc (n : ℕ) : Fin 768 := Fin.ofNat 768 n

/-- The queries held, as the chunk's rows normalised and rotated. -/
theorem QF_eq (x0 : Vec Ideal S2048x768 .bf16) (x1 x2 : Vec Ideal S2048x128 .f32) (x3 : Vec Ideal S1x128 .f32) (a : ℕ) (r : Fin 2048) (ha : a < 4) (x : Fin 128) :
    QF x0 x1 x2 x3 a r.val x = rot (nrm (fun l => x0 (ix2 r (pc (128 * a + l.val)))) (fun l => x3 (ix2 0 l))) (fun l => x1 (ix2 r l)) (fun l => x2 (ix2 r l)) x * l8i := by
  unfold QF
  rw [ofNat_val]
  refine congrArg (fun f => rot (nrm f (fun l => x3 (ix2 0 l))) (fun l => x1 (ix2 r l)) (fun l => x2 (ix2 r l)) x * l8i) (funext fun l => congrArg (fun z => x0 (ix2 r z)) (Fin.ext ?_))
  have := l.isLt
  show 128 * (a % 4) + l.val = (128 * a + l.val) % 768
  omega

/-- The keys held, as the rows normalised, rotated and placed. -/
theorem KF_eq (x0 : Vec Ideal S2048x768 .bf16) (x1 x2 : Vec Ideal S2048x128 .f32) (x4 : Vec Ideal S1x128 .f32) (s g : Fin 2) (n : ℕ) :
    KF x0 x1 x2 x4 s.val g.val n = plc s g (rot (nrm (fun l => x0 (ix2 (Fin.ofNat 2048 n) (pc (512 + l.val)))) (fun l => x4 (ix2 0 l))) (fun l => x1 (ix2 (Fin.ofNat 2048 n) l)) (fun l => x2 (ix2 (Fin.ofNat 2048 n) l))) := by
  funext x
  unfold KF
  rw [ofNat_val, ofNat_val]
  refine congrArg (fun f => plc s g (rot (nrm f (fun l => x4 (ix2 0 l))) (fun l => x1 (ix2 (Fin.ofNat 2048 n) l)) (fun l => x2 (ix2 (Fin.ofNat 2048 n) l))) x) (funext fun l => congrArg (fun z => x0 (ix2 (Fin.ofNat 2048 n) z)) (Fin.ext ?_))
  have := l.isLt
  show 512 + l.val = (512 + l.val) % 768
  omega

/-- The values held, as the rows placed. -/
theorem VF_eq (x0 : Vec Ideal S2048x768 .bf16) (s g : Fin 2) (n : ℕ) :
    VF x0 s.val g.val n = plc s g (fun l => x0 (ix2 (Fin.ofNat 2048 n) (pc (640 + l.val)))) := by
  funext x
  unfold VF
  rw [ofNat_val, ofNat_val]
  refine congrArg (fun f => plc s g f x) (funext fun l => congrArg (fun z => x0 (ix2 (Fin.ofNat 2048 n) z)) (Fin.ext ?_))
  have := l.isLt
  show 640 + l.val = (640 + l.val) % 768
  omega

/-- A lane of the block the kernel leaves. -/
theorem OB_at (x0 : Vec Ideal S2048x768 .bf16) (x1 x2 : Vec Ideal S2048x128 .f32) (x3 x4 : Vec Ideal S1x128 .f32) (x5 : Vec Ideal S8 .f32)
    (r0 : ∀ (r : Fin 2048) (e : Fin 768), e.val < 640 → IsR (x0 (ix2 r e))) (r1 : ∀ r l, IsR (x1 (ix2 r l))) (r2 : ∀ r l, IsR (x2 (ix2 r l))) (r3 : ∀ l, IsR (x3 (ix2 0 l))) (r4 : ∀ l, IsR (x4 (ix2 0 l))) (r5 : ∀ h, x5 (ix1 h) ≠ ⊤)
    (r : Fin 2048) (h : Fin 8) (d : Fin 64) (e : Fin 512) (he : e.val = 64 * h.val + d.val) :
    OB (QF x0 x1 x2 x3) (KF x0 x1 x2 x4) (VF x0) (SF x5) (ix2 r e) =
      soft (zb (r.val / 128) (r.val % 128) (hq (fun a => x0 (ix2 r (pc (64 * h.val + a.val)))) (fun a => x3 (ix2 0 (ln (h.val % 2) a))) (fun a => x1 (ix2 r (ln (h.val % 2) a))) (fun a => x2 (ix2 r (ln (h.val % 2) a))))
          (fun n => hq (fun a => x0 (ix2 (Fin.ofNat 2048 n) (pc (512 + 64 * (h.val / 4) + a.val)))) (fun a => x4 (ix2 0 (ln (h.val / 4) a))) (fun a => x1 (ix2 (Fin.ofNat 2048 n) (ln (h.val / 4) a))) (fun a => x2 (ix2 (Fin.ofNat 2048 n) (ln (h.val / 4) a)))))
        (x5 (ix1 h)) (vb (r.val / 128) (fun n => x0 (ix2 (Fin.ofNat 2048 n) (pc (640 + 64 * (h.val / 4) + d.val))))) := by
  have hh := h.isLt; have hd' := d.isLt; have hr := r.isLt
  have a1 : e.val / 128 = h.val / 2 := by omega
  have a2 : (⟨e.val % 128, Nat.mod_lt _ (by decide)⟩ : Fin 128) = ln (h.val % 2) d := Fin.ext (by show e.val % 128 = (64 * (h.val % 2) + d.val) % 128; omega)
  have a3 : h.val / 2 / 2 = h.val / 4 := by omega
  have a4 : SF x5 (2 * (h.val / 2) + h.val % 2) = x5 (ix1 h) := by
    unfold SF; rw [show 2 * (h.val / 2) + h.val % 2 = h.val by omega, ofNat_val]
  rw [← a4]
  show hd _ _ _ _ (r.val / 128) (r.val % 128) (e.val / 128) ⟨e.val % 128, _⟩ = _
  rw [a1, a2]
  refine hd_soft (QF x0 x1 x2 x3) (KF x0 x1 x2 x4) (VF x0) (SF x5) (r.val / 128) (r.val % 128) (h.val / 2) (h.val % 2) (by omega) (by omega) (by omega) d _ _ _
    (rot (nrm (fun l => x0 (ix2 r (pc (128 * (h.val / 2) + l.val)))) (fun l => x3 (ix2 0 l))) (fun l => x1 (ix2 r l)) (fun l => x2 (ix2 r l))) ?_ ?_
    (fun n => rot (nrm (fun l => x0 (ix2 (Fin.ofNat 2048 n) (pc (512 + l.val)))) (fun l => x4 (ix2 0 l))) (fun l => x1 (ix2 (Fin.ofNat 2048 n) l)) (fun l => x2 (ix2 (Fin.ofNat 2048 n) l))) ?_ ?_
    (fun n l => x0 (ix2 (Fin.ofNat 2048 n) (pc (640 + l.val)))) ?_ ?_ ?_ ?_ ?_
  · funext x
    rw [show 128 * (r.val / 128) + r.val % 128 = r.val by omega]
    exact QF_eq x0 x1 x2 x3 _ r (by omega) x
  · intro a
    refine (rn_ln _ _ _ _ (fun j => r0 r _ ?_) (h.val % 2) (by omega) a).trans ?_
    · have := j.isLt; show (128 * (h.val / 2) + j.val) % 768 < 640; omega
    · refine congrArg (fun f => hq f _ _ _ a) (funext fun e => congrArg (fun z => x0 (ix2 r z)) (Fin.ext ?_))
      have := e.isLt
      show (128 * (h.val / 2) + (64 * (h.val % 2) + e.val) % 128) % 768 = (64 * h.val + e.val) % 768
      omega
  · intro s g n
    exact KF_eq x0 x1 x2 x4 s g n
  · intro n a
    rw [a3]
    refine (rn_ln _ _ _ _ (fun j => r0 _ _ ?_) (h.val / 4) (by omega) a).trans ?_
    · have := j.isLt; show (512 + j.val) % 768 < 640; omega
    · refine congrArg (fun f => hq f _ _ _ a) (funext fun e => congrArg (fun z => x0 (ix2 (Fin.ofNat 2048 n) z)) (Fin.ext ?_))
      have := e.isLt
      show (512 + (64 * (h.val / 4) + e.val) % 128) % 768 = (512 + 64 * (h.val / 4) + e.val) % 768
      omega
  · intro s g n
    exact VF_eq x0 s g n
  · intro n
    rw [a3]
    refine congrArg (fun z => x0 (ix2 (Fin.ofNat 2048 n) z)) (Fin.ext ?_)
    show (640 + (64 * (h.val / 4) + d.val) % 128) % 768 = (640 + 64 * (h.val / 4) + d.val) % 768
    have : h.val / 4 < 2 := by omega
    rw [Nat.mod_eq_of_lt (show 64 * (h.val / 4) + d.val < 128 by omega), Nat.add_assoc]
  · exact fun a => hq_real _ _ _ _ (fun _ => r3 _) (fun _ => r1 _ _) (fun _ => r2 _ _) a
  · exact fun n a => hq_real _ _ _ _ (fun _ => r4 _) (fun _ => r1 _ _) (fun _ => r2 _ _) a
  · exact fun n => r5 _

end Cert.Hand.Window

end
-- ==== Proof.Window.Ref.lean ====
/- The sliding-window reference's arrays, read at an index. -/
module

public import proofs.«01_k».proof.Proof.Gen.WindowRefIdeal.Read
public import proofs.«01_k».proof.Proof.Window.Math

@[expose] public section

set_option maxRecDepth 16384

noncomputable section

namespace Cert.Hand.Window.Ref

open Idealize.ShloMosaic Cert.WindowRefIdeal Cert.WindowRefIdeal.Read Cert.Hand.Attn

variable (x0 : (⟨S65536x2304, .bf16⟩ : BufTy).Contents (Elt Ideal)) (x1 x2 : (⟨S65536x128, .f32⟩ : BufTy).Contents (Elt Ideal)) (x3 x4 : (⟨S64, .f32⟩ : BufTy).Contents (Elt Ideal)) (x5 : (⟨S8, .f32⟩ : BufTy).Contents (Elt Ideal))

/-- The token of a sequence's row. -/
def T (b : Fin 32) (n : Fin 2048) : Fin 65536 := ⟨b.val * 2048 + n.val, by have := b.isLt; have := n.isLt; omega⟩
/-- A column of the argument. -/
def C (n : ℕ) : Fin 2304 := Fin.ofNat 2304 n

/-- An entry of the reference's stage 17. -/
theorem v17_at (b : Fin 32) (n : Fin 2048) (h : Fin 8) (d : Fin 64) :
    val_main_v17 (F := Ideal) x0 x3 (ix4 b n h d) = rms l64 leps (fun e => x0 (ix2 (T b n) (C (64 * h.val + e.val)))) (fun e => x3 (ix1 e)) d := by
  have e1 : ∀ (e : Fin 64) p, (⟨h.val * 64 + e.val, p⟩ : Fin 2304) = C (64 * h.val + e.val) := fun e _ => Fin.ext (by have := h.isLt; have := e.isLt; show h.val * 64 + e.val = (64 * h.val + e.val) % 2304; omega)
  pointwise [val_main_v17, val_main_v16, val_main_v15, val_main_v14, val_main_v13, val_main_v12, val_main_v11, val_main_v10, val_main_v9, val_main_v8, val_main_v7, val_main_v6, val_main_v5, val_main_v4, val_main_v3, val_main_v0, val_main_cst, val_main_cst_0, val_main_cst_1]
  simp only [e1]
  rfl

/-- An entry of the reference's stage 44. -/
theorem v44_at (b : Fin 32) (n : Fin 2048) (h : Fin 2) (d : Fin 64) :
    val_main_v44 (F := Ideal) x0 x4 (ix4 b n h d) = rms l64 leps (fun e => x0 (ix2 (T b n) (C (512 + 64 * h.val + e.val)))) (fun e => x4 (ix1 e)) d := by
  have e1 : ∀ (e : Fin 64) p, (⟨512 + (h.val * 64 + e.val), p⟩ : Fin 2304) = C (512 + 64 * h.val + e.val) := fun e _ => Fin.ext (by have := h.isLt; have := e.isLt; show 512 + (h.val * 64 + e.val) = (512 + 64 * h.val + e.val) % 2304; omega)
  pointwise [val_main_v44, val_main_v43, val_main_v42, val_main_v41, val_main_v40, val_main_v39, val_main_v38, val_main_v37, val_main_v36, val_main_v35, val_main_v34, val_main_v33, val_main_v32, val_main_v31, val_main_v30, val_main_v0, val_main_cst_2, val_main_cst_3, val_main_cst_4]
  simp only [e1]
  rfl

/-- An entry of the reference's stage 29. -/
theorem v29_at (b : Fin 32) (n : Fin 2048) (h : Fin 8) (d : Fin 64) :
    val_main_v29 (F := Ideal) x0 x1 x2 x3 (ix4 b n h d) = hq (fun e => x0 (ix2 (T b n) (C (64 * h.val + e.val)))) (fun e => x3 (ix1 e)) (fun e => x1 (ix2 (T b n) (ln (h.val % 2) e))) (fun e => x2 (ix2 (T b n) (ln (h.val % 2) e))) d := by
  unfold hq
  simp only [show rms l64 leps (fun e => x0 (ix2 (T b n) (C (64 * h.val + e.val)))) (fun e => x3 (ix1 e)) = fun e => val_main_v17 (F := Ideal) x0 x3 (ix4 b n h e) from funext fun e => (v17_at x0 x3 b n h e).symm]
  unfold val_main_v29 val_main_v28 val_main_v27 val_main_v24 val_main_v21 val_main_v20 val_main_v19 val_main_v18
  generalize val_main_v17 (F := Ideal) x0 x3 = y
  pointwise [val_main_v26, val_main_v25, val_main_v23, val_main_v22, val_main_v2, val_main_v1]
  have e2 : ∀ p, (⟨h.val % 2 * 64 + d.val, p⟩ : Fin 128) = ln (h.val % 2) d := fun _ => Fin.ext (by have := d.isLt; show h.val % 2 * 64 + d.val = (64 * (h.val % 2) + d.val) % 128; omega)
  have e3 : ∀ p, (⟨32 + d.val, p⟩ : Fin 64) = ⟨d.val + 32, by omega⟩ := fun _ => Fin.ext (Nat.add_comm _ _)
  simp only [e2, e3]
  rfl

/-- An entry of the reference's stage 54. -/
theorem v54_at (b : Fin 32) (n : Fin 2048) (h : Fin 2) (d : Fin 64) :
    val_main_v54 (F := Ideal) x0 x1 x2 x4 (ix4 b n h d) = hq (fun e => x0 (ix2 (T b n) (C (512 + 64 * h.val + e.val)))) (fun e => x4 (ix1 e)) (fun e => x1 (ix2 (T b n) (ln h.val e))) (fun e => x2 (ix2 (T b n) (ln h.val e))) d := by
  unfold hq
  simp only [show rms l64 leps (fun e => x0 (ix2 (T b n) (C (512 + 64 * h.val + e.val)))) (fun e => x4 (ix1 e)) = fun e => val_main_v44 (F := Ideal) x0 x4 (ix4 b n h e) from funext fun e => (v44_at x0 x4 b n h e).symm]
  unfold val_main_v54 val_main_v53 val_main_v52 val_main_v50 val_main_v48 val_main_v47 val_main_v46 val_main_v45
  generalize val_main_v44 (F := Ideal) x0 x4 = y
  pointwise [val_main_v51, val_main_v49, val_main_v2, val_main_v1]
  have e2 : ∀ p, (⟨h.val * 64 + d.val, p⟩ : Fin 128) = ln h.val d := fun _ => Fin.ext (by have := d.isLt; have := h.isLt; show h.val * 64 + d.val = (64 * h.val + d.val) % 128; omega)
  have e3 : ∀ p, (⟨32 + d.val, p⟩ : Fin 64) = ⟨d.val + 32, by omega⟩ := fun _ => Fin.ext (Nat.add_comm _ _)
  simp only [e2, e3]
  rfl

/-- An entry of the reference's values. -/
theorem v56_at (b : Fin 32) (n : Fin 2048) (h : Fin 2) (d : Fin 64) :
    val_main_v56 (F := Ideal) x0 (ix4 b n h d) = x0 (ix2 (T b n) (C (640 + 64 * h.val + d.val))) := by
  have e1 : ∀ (e : Fin 64) p, (⟨640 + (h.val * 64 + e.val), p⟩ : Fin 2304) = C (640 + 64 * h.val + e.val) := fun e _ => Fin.ext (by have := h.isLt; have := e.isLt; show 640 + (h.val * 64 + e.val) = (640 + 64 * h.val + e.val) % 2304; omega)
  pointwise [val_main_v56, val_main_v55, val_main_v0]
  simp only [e1]
  rfl

/-- A band of rows before and in a block, of an array padded in front. -/
theorem v62_at (b : Fin 32) (k : Fin 16) (j : Fin 256) (g : Fin 2) (d : Fin 64) :
    val_main_v62 (F := Ideal) x0 x1 x2 x4 (ix5 b k j g d) = if 128 ≤ 128 * k.val + j.val then val_main_v54 (F := Ideal) x0 x1 x2 x4 (ix4 b (Fin.ofNat 2048 (128 * k.val + j.val - 128)) g d) else 0 := by
  unfold val_main_v62 val_main_v61 val_main_v60 val_main_v59 val_main_v58
  generalize val_main_v54 (F := Ideal) x0 x1 x2 x4 = y
  pointwise [val_main_call0_v0, val_main_c]
  have hj := j.isLt; have hk := k.isLt
  split
  · split
    · refine Eq.trans ?_ (if_pos (by omega)).symm
      exact congrArg (fun r => y (ix4 b r g d)) (Fin.ext (by show _ = _ % 2048; dsimp only; omega))
    · refine Eq.trans ?_ (if_neg (by omega)).symm
      simp [FloatOps.sitofp]
  · refine Eq.trans ?_ (if_pos (by omega)).symm
    exact congrArg (fun r => y (ix4 b r g d)) (Fin.ext (by show _ = _ % 2048; dsimp only; omega))

/-- The values' band. -/
theorem v67_at (b : Fin 32) (k : Fin 16) (j : Fin 256) (g : Fin 2) (d : Fin 64) :
    val_main_v67 (F := Ideal) x0 (ix5 b k j g d) = if 128 ≤ 128 * k.val + j.val then val_main_v56 (F := Ideal) x0 (ix4 b (Fin.ofNat 2048 (128 * k.val + j.val - 128)) g d) else 0 := by
  unfold val_main_v67 val_main_v66 val_main_v65 val_main_v64 val_main_v63
  generalize val_main_v56 (F := Ideal) x0 = y
  pointwise [val_main_call1_v0, val_main_c_5]
  have hj := j.isLt; have hk := k.isLt
  split
  · split
    · refine Eq.trans ?_ (if_pos (by omega)).symm
      exact congrArg (fun r => y (ix4 b r g d)) (Fin.ext (by show _ = _ % 2048; dsimp only; omega))
    · refine Eq.trans ?_ (if_neg (by omega)).symm
      simp [FloatOps.sitofp]
  · refine Eq.trans ?_ (if_pos (by omega)).symm
    exact congrArg (fun r => y (ix4 b r g d)) (Fin.ext (by show _ = _ % 2048; dsimp only; omega))

/-- The scores. -/
theorem v71_at (b : Fin 32) (k : Fin 16) (g : Fin 2) (a : Fin 4) (i : Fin 128) (j : Fin 256) :
    val_main_v71 (F := Ideal) x0 x1 x2 x3 x4 (ix6 b k g a i j) = (∑ d, val_main_v62 (F := Ideal) x0 x1 x2 x4 (ix5 b k j g d) * val_main_v29 (F := Ideal) x0 x1 x2 x3 (ix4 b (Fin.ofNat 2048 (128 * k.val + i.val)) (Fin.ofNat 8 (4 * g.val + a.val)) d)) * l8i := by
  unfold val_main_v71 val_main_v70 val_main_v69 val_main_v68 val_main_v57
  generalize val_main_v62 (F := Ideal) x0 x1 x2 x4 = y
  generalize val_main_v29 (F := Ideal) x0 x1 x2 x3 = z
  pointwise [val_main_cst_6]
  have hi := i.isLt; have hk := k.isLt; have hg := g.isLt; have ha := a.isLt
  have e1 : ∀ p, (⟨k.val * 128 + i.val, p⟩ : Fin 2048) = Fin.ofNat 2048 (128 * k.val + i.val) := fun _ => Fin.ext (by show _ = _ % 2048; dsimp only; omega)
  have e2 : ∀ p, (⟨g.val * 4 + a.val, p⟩ : Fin 8) = Fin.ofNat 8 (4 * g.val + a.val) := fun _ => Fin.ext (by show _ = _ % 8; dsimp only; omega)
  simp only [e1, e2]

/-- Conjunction of two truth values as bits. -/
theorem andB (p q : Bool) : IntOp.andi (BitVec.ofBool p) (BitVec.ofBool q) = BitVec.ofBool (p && q) := by
  cases p <;> cases q <;> rfl

/-- The band's mask by row and column. -/
theorem mask1 : ∀ (i : Fin 128) (j : Fin 256), IntOp.andi (IntOp.cmpi CmpIPredicate.sgt (BitVec.ofNat 32 j.val) (BitVec.ofNat 32 i.val)) (IntOp.cmpi CmpIPredicate.sle (BitVec.ofNat 32 j.val) (IntOp.addi (BitVec.ofNat 32 i.val) 128#32)) = BitVec.ofBool (decide (i.val < j.val ∧ j.val ≤ i.val + 128)) := by
  decide +kernel

/-- The mask of the rows before the first, by block and column. -/
theorem mask2 : ∀ (k : Fin 16) (j : Fin 256), IntOp.cmpi CmpIPredicate.sge (IntOp.addi (IntOp.subi (IntOp.muli (BitVec.ofNat 32 k.val) 128#32) 128#32) (BitVec.ofNat 32 j.val)) 0#32 = BitVec.ofBool (decide (128 ≤ 128 * k.val + j.val)) := by
  decide +kernel

/-- The mask. -/
theorem mask_at (b : Fin 32) (k : Fin 16) (g : Fin 2) (a : Fin 4) (i : Fin 128) (j : Fin 256) :
    val_main_call2_v1 (F := Ideal) (ix6 b k g a i j) = BitVec.ofBool (decide (i.val < j.val ∧ j.val ≤ i.val + 128 ∧ 128 ≤ 128 * k.val + j.val)) := by
  pointwise [val_main_call2_v1, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_c_7, val_main_c_8, val_main_c_9, val_main_c_10]
  rw [mask1 i j, mask2 k j, andB]
  congr 1
  rw [← Bool.decide_and]
  exact decide_eq_decide.mpr (by omega)

/-- A masked score. -/
theorem v102_at (b : Fin 32) (k : Fin 16) (g : Fin 2) (a : Fin 4) (i : Fin 128) (j : Fin 256) :
    val_main_v102 (F := Ideal) x0 x1 x2 x3 x4 (ix6 b k g a i j) = if i.val < j.val ∧ j.val ≤ i.val + 128 ∧ 128 ≤ 128 * k.val + j.val then val_main_v71 (F := Ideal) x0 x1 x2 x3 x4 (ix6 b k g a i j) else ⊥ := by
  rw [val_main_v102_apply, mask_at]
  have e : val_main_call2_v2 (F := Ideal) (ix6 b k g a i j) = ⊥ := by
    pointwise [val_main_call2_v2, val_main_call2_v0, val_main_cst_11]
    exact ofBits_neg_inf
  rw [e]
  by_cases h : i.val < j.val ∧ j.val ≤ i.val + 128 ∧ 128 ≤ 128 * k.val + j.val
  · rw [if_pos h, decide_eq_true h]; rfl
  · rw [if_neg h, decide_eq_false h]; rfl

end Cert.Hand.Window.Ref

end
-- ==== Proof.Window.RefSoft.lean ====
/- The sliding-window reference's softmax and result, read at an index. -/
module

public import proofs.«01_k».proof.Proof.Window.Ref

@[expose] public section

set_option maxRecDepth 16384

noncomputable section

namespace Cert.Hand.Window.Ref

open Idealize.ShloMosaic Cert.WindowRefIdeal Cert.WindowRefIdeal.Read Cert.Hand.Attn

variable (x0 : (⟨S65536x2304, .bf16⟩ : BufTy).Contents (Elt Ideal)) (x1 x2 : (⟨S65536x128, .f32⟩ : BufTy).Contents (Elt Ideal)) (x3 x4 : (⟨S64, .f32⟩ : BufTy).Contents (Elt Ideal)) (x5 : (⟨S8, .f32⟩ : BufTy).Contents (Elt Ideal))

/-- The maximum of a row of scores. -/
theorem max_at (y : FVec Ideal S32x16x2x4x128x256 .f32) (b : Fin 32) (k : Fin 16) (g : Fin 2) (a : Fin 4) (i : Fin 128) (hr hu) :
    Host.reduce FloatOps.maximumf y (val_main_cst_12 (F := Ideal)) (hr : S32x16x2x4x128x256.ReducesTo [5] S32x16x2x4x128) hu (ix5 b k g a i) = top (fun j => y (ix6 b k g a i j)) := by
  have hR : S32x16x2x4x128x256.Reduces [5] S32x16x2x4x128 := by decide
  pointwise [val_main_cst_12]
  rw [ofBits_neg_inf, Shape.ReducesTo.drop_eq_drop hr hR, hR.fold_filter_drop_single]
  unfold top
  refine congrArg (fun f : Fin 256 → EReal => Finset.univ.fold max ⊥ f) (funext fun j => congrArg y (funext fun x => Fin.ext ?_))
  match x with
  | ⟨0, _⟩ => rfl
  | ⟨1, _⟩ => rfl
  | ⟨2, _⟩ => rfl
  | ⟨3, _⟩ => rfl
  | ⟨4, _⟩ => rfl
  | ⟨5, _⟩ => rfl

/-- The maximum of a row of masked scores. -/
theorem v105_at (b : Fin 32) (k : Fin 16) (g : Fin 2) (a : Fin 4) (i : Fin 128) :
    val_main_v105 (F := Ideal) x0 x1 x2 x3 x4 (ix5 b k g a i) = top (fun j => val_main_v102 (F := Ideal) x0 x1 x2 x3 x4 (ix6 b k g a i j)) := by
  unfold val_main_v105
  exact max_at _ b k g a i _ _

/-- The sinks spread over the rows. -/
theorem v107_at (b : Fin 32) (k : Fin 16) (g : Fin 2) (a : Fin 4) (i : Fin 128) (h : Fin 8) (hh : h.val = 4 * g.val + a.val) :
    val_main_v107 (F := Ideal) x5 (ix6 b k g a i 0) = x5 (ix1 h) := by
  have e2 : ∀ p, (⟨g.val * 4 + a.val, p⟩ : Fin 8) = h := fun _ => Fin.ext (by dsimp only; omega)
  pointwise [val_main_v107, val_main_v104, val_main_v103]
  simp only [e2]

/-- The larger of two numbers. -/
theorem max_def (x y : Ideal .f32) : FloatOps.maximumf x y = max x y := rfl

/-- A row's place without its last axis. -/
theorem idx106 (b : Fin 32) (k : Fin 16) (g : Fin 2) (a : Fin 4) (i : Fin 128) : idx_main_v106 (ix6 b k g a i (0 : Fin 1)) = ix5 b k g a i := by
  funext x
  match x with
  | ⟨0, _⟩ => rfl
  | ⟨1, _⟩ => rfl
  | ⟨2, _⟩ => rfl
  | ⟨3, _⟩ => rfl
  | ⟨4, _⟩ => rfl

/-- A row's maximum, the sink among the scores. -/
theorem v108_at (b : Fin 32) (k : Fin 16) (g : Fin 2) (a : Fin 4) (i : Fin 128) (h : Fin 8) (hh : h.val = 4 * g.val + a.val) :
    val_main_v108 (F := Ideal) x0 x1 x2 x3 x4 x5 (ix6 b k g a i 0) = max (top (fun j => val_main_v102 (F := Ideal) x0 x1 x2 x3 x4 (ix6 b k g a i j))) (x5 (ix1 h)) := by
  have e1 := (val_main_v106_apply (F := Ideal) x0 x1 x2 x3 x4 (ix6 b k g a i (0 : Fin 1))).trans ((congrArg _ (idx106 b k g a i)).trans (v105_at x0 x1 x2 x3 x4 b k g a i))
  exact (val_main_v108_apply (F := Ideal) x0 x1 x2 x3 x4 x5 (ix6 b k g a i (0 : Fin 1))).trans ((max_def _ _).trans (congrArg₂ max e1 (v107_at x5 b k g a i h hh)))

/-- An exponential of a score. -/
theorem v111_at (b : Fin 32) (k : Fin 16) (g : Fin 2) (a : Fin 4) (i : Fin 128) (j : Fin 256) :
    val_main_v111 (F := Ideal) x0 x1 x2 x3 x4 x5 (ix6 b k g a i j) = Ideal.exp (val_main_v102 (F := Ideal) x0 x1 x2 x3 x4 (ix6 b k g a i j) - val_main_v108 (F := Ideal) x0 x1 x2 x3 x4 x5 (ix6 b k g a i 0)) := by
  unfold val_main_v111 val_main_v110 val_main_v109
  generalize val_main_v108 (F := Ideal) x0 x1 x2 x3 x4 x5 = w
  generalize val_main_v102 (F := Ideal) x0 x1 x2 x3 x4 = y
  pointwise

/-- The sum of a row's exponentials. -/
theorem v112_at (b : Fin 32) (k : Fin 16) (g : Fin 2) (a : Fin 4) (i : Fin 128) :
    val_main_v112 (F := Ideal) x0 x1 x2 x3 x4 x5 (ix5 b k g a i) = ∑ j, val_main_v111 (F := Ideal) x0 x1 x2 x3 x4 x5 (ix6 b k g a i j) := by
  rw [val_main_v112_apply]
  have e : val_main_cst_13 (F := Ideal) (Shape.Idx.first Gen.h_S_) = 0 := by
    pointwise [val_main_cst_13]
  rw [e, zero_add]
  refine Finset.sum_congr rfl fun j _ => congrArg _ (funext fun x => ?_)
  match x with
  | ⟨0, _⟩ => rfl
  | ⟨1, _⟩ => rfl
  | ⟨2, _⟩ => rfl
  | ⟨3, _⟩ => rfl
  | ⟨4, _⟩ => rfl
  | ⟨5, _⟩ => rfl

/-- A weight, by the row's exponentials. -/
theorem v119_eq (b : Fin 32) (k : Fin 16) (g : Fin 2) (a : Fin 4) (i : Fin 128) (j : Fin 256) (h : Fin 8) (hh : h.val = 4 * g.val + a.val) :
    val_main_v119 (F := Ideal) x0 x1 x2 x3 x4 x5 (ix6 b k g a i j) = Ideal.div (val_main_v111 (F := Ideal) x0 x1 x2 x3 x4 x5 (ix6 b k g a i j)) (val_main_v112 (F := Ideal) x0 x1 x2 x3 x4 x5 (ix5 b k g a i) + Ideal.exp (x5 (ix1 h) - val_main_v108 (F := Ideal) x0 x1 x2 x3 x4 x5 (ix6 b k g a i 0))) := by
  have e2 : ∀ p, (⟨g.val * 4 + a.val, p⟩ : Fin 8) = h := fun _ => Fin.ext (by dsimp only; omega)
  unfold val_main_v119 val_main_v118 val_main_v117 val_main_v116 val_main_v115 val_main_v113
  generalize val_main_v108 (F := Ideal) x0 x1 x2 x3 x4 x5 = w
  generalize val_main_v112 (F := Ideal) x0 x1 x2 x3 x4 x5 = u
  generalize val_main_v111 (F := Ideal) x0 x1 x2 x3 x4 x5 = y
  pointwise [val_main_v114, val_main_v104, val_main_v103]
  simp only [e2]

/-- A weight. -/
theorem v119_at (b : Fin 32) (k : Fin 16) (g : Fin 2) (a : Fin 4) (i : Fin 128) (j : Fin 256) (h : Fin 8) (hh : h.val = 4 * g.val + a.val) (z : Fin 256 → EReal) (hz : ∀ j, val_main_v102 (F := Ideal) x0 x1 x2 x3 x4 (ix6 b k g a i j) = z j) :
    val_main_v119 (F := Ideal) x0 x1 x2 x3 x4 x5 (ix6 b k g a i j) = Ideal.div (Ideal.exp (z j - max (top z) (x5 (ix1 h)))) (∑ i, Ideal.exp (z i - max (top z) (x5 (ix1 h))) + Ideal.exp (x5 (ix1 h) - max (top z) (x5 (ix1 h)))) := by
  have e : val_main_v108 (F := Ideal) x0 x1 x2 x3 x4 x5 (ix6 b k g a i 0) = max (top z) (x5 (ix1 h)) := by
    rw [v108_at x0 x1 x2 x3 x4 x5 b k g a i h hh]; simp only [hz]
  rw [v119_eq x0 x1 x2 x3 x4 x5 b k g a i j h hh, v112_at]
  simp only [v111_at, e, hz]

/-- The reference's result at a token and a lane of a head. -/
theorem v123_at (b : Fin 32) (n : Fin 2048) (h : Fin 8) (d : Fin 64) (e : Fin 512) (he : e.val = 64 * h.val + d.val) (k : Fin 16) (hk : k.val = n.val / 128) (i : Fin 128) (hi : i.val = n.val % 128) (g : Fin 2) (hg : g.val = h.val / 4) (a : Fin 4) (ha : a.val = h.val % 4)
    (z v : Fin 256 → EReal) (hz : ∀ j, val_main_v102 (F := Ideal) x0 x1 x2 x3 x4 (ix6 b k g a i j) = z j) (hv : ∀ j, val_main_v67 (F := Ideal) x0 (ix5 b k j g d) = v j) :
    val_main_v123 (F := Ideal) x0 x1 x2 x3 x4 x5 (ix2 (T b n) e) = soft z (x5 (ix1 h)) v := by
  have hb := b.isLt; have hn := n.isLt; have hh := h.isLt; have hd := d.isLt
  have t : (T b n).val = b.val * 2048 + n.val := rfl
  have q1 : ∀ p, (⟨(T b n).val / 2048, p⟩ : Fin 32) = b := fun _ => Fin.ext (by dsimp only; omega)
  have q2 : ∀ p, (⟨(T b n).val / 128 % 16, p⟩ : Fin 16) = k := fun _ => Fin.ext (by dsimp only; omega)
  have q3 : ∀ p, (⟨(T b n).val % 128, p⟩ : Fin 128) = i := fun _ => Fin.ext (by dsimp only; omega)
  have q4 : ∀ p, (⟨e.val / 256, p⟩ : Fin 2) = g := fun _ => Fin.ext (by dsimp only; omega)
  have q5 : ∀ p, (⟨e.val / 64 % 4, p⟩ : Fin 4) = a := fun _ => Fin.ext (by dsimp only; omega)
  have q6 : ∀ p, (⟨e.val % 64, p⟩ : Fin 64) = d := fun _ => Fin.ext (by dsimp only; omega)
  unfold soft
  simp only [← v119_at x0 x1 x2 x3 x4 x5 b k g a i _ h (by omega) z hz, ← hv]
  unfold val_main_v123 val_main_v122 val_main_v121 val_main_v120
  generalize val_main_v119 (F := Ideal) x0 x1 x2 x3 x4 x5 = w
  generalize val_main_v67 (F := Ideal) x0 = y
  pointwise
  simp only [q1, q2, q3, q4, q5, q6]

end Cert.Hand.Window.Ref

end
-- ==== Proof.Window.Final.lean ====
/- The array the sliding window's kernel leaves is the reference's. -/
module

public import proofs.«01_k».proof.Proof.Gen.WindowIdeal.Value
public import proofs.«01_k».proof.Proof.Window.Block
public import proofs.«01_k».proof.Proof.Window.RefSoft
public import Idealize.ShloMosaic.Lib.Pipeline.ValueKit
public import Idealize.ShloMosaic.Lib.Pipeline.ReadBack
public import Idealize.ShloMosaic.Lib.Claim

@[expose] public section

set_option maxRecDepth 16384

noncomputable section

namespace Cert.Hand.Window

open Idealize.ShloMosaic Idealize.ShloMosaic.TcCoe Idealize.SL.Sem Cert.WindowIdeal Cert.WindowIdeal.Gen Cert.Hand.Attn

/-- Which block each window reads or writes at a grid point. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0] ∧ win0_6.index t = ![t.val, 0] ∧ t.val < 32 :=
  (by decide +kernel : ∀ t : Fin grid0.N, _)

variable (m : (ℓ : Loc nD τ sig) → Buf (Elt Ideal) ℓ) (c : Dev nD)

/-- The sequence of a grid point. -/
def sq (t : Fin cfg0.N) : Fin 32 := ⟨t.val, (idx t).2.2.2.2.2.2.2⟩

/-- The token of row `r` of grid point `t`. -/
def tok (t : Fin cfg0.N) (r : Fin 2048) : Fin 65536 := ⟨t.val * 2048 + r.val, by have := (idx t).2.2.2.2.2.2.2; have := r.isLt; omega⟩

/-- The query gain twice, as the kernel finds it. -/
theorem v3 : V m c main_v3 = shapeCast S1x128 (shapeCast S128 (broadcastInDim S2x64 ![0, 1] bcast_S1x64_S2x64_0_1 (shapeCast S1x64 (m ((c : Thread nD τ).loc main_arg3) : FVec Ideal S64 .f32) shapeCasts_S64_S1x64)) shapeCasts_S2x64_S128) shapeCasts_S128_S1x128 := by
  entry_read
  rfl

/-- The key gain twice, as the kernel finds it. -/
theorem v7 : V m c main_v7 = shapeCast S1x128 (shapeCast S128 (broadcastInDim S2x64 ![0, 1] bcast_S1x64_S2x64_0_1 (shapeCast S1x64 (m ((c : Thread nD τ).loc main_arg4) : FVec Ideal S64 .f32) shapeCasts_S64_S1x64)) shapeCasts_S2x64_S128) shapeCasts_S128_S1x128 := by
  entry_read
  rfl

/-- An entry of window 0's block, read in its argument. -/
theorem b0 (t : Fin cfg0.N) (r : Fin 2048) (e : Fin 768) : iblk m c 0 t (ix2 r e) = m ((c : Thread nD τ).loc main_arg0) (ix2 (tok t r) ⟨e.val, by omega⟩) := by
  blk_ext [iblk, V, idx t, tok]
/-- An entry of window 1's block, read in its argument. -/
theorem b1 (t : Fin cfg0.N) (r : Fin 2048) (e : Fin 128) : iblk m c 1 t (ix2 r e) = m ((c : Thread nD τ).loc main_arg1) (ix2 (tok t r) e) := by
  blk_ext [iblk, V, idx t, tok]
/-- An entry of window 2's block, read in its argument. -/
theorem b2 (t : Fin cfg0.N) (r : Fin 2048) (e : Fin 128) : iblk m c 2 t (ix2 r e) = m ((c : Thread nD τ).loc main_arg2) (ix2 (tok t r) e) := by
  blk_ext [iblk, V, idx t, tok]
/-- An entry of the block of query gains, read in the argument. -/
theorem b3 (t : Fin cfg0.N) (e : Fin 128) : iblk m c 3 t (ix2 0 e) = m ((c : Thread nD τ).loc main_arg3) (ix1 ⟨e.val % 64, Nat.mod_lt _ (by decide)⟩) := by
  have h : iblk m c 3 t (ix2 0 e) = V m c main_v3 (ix2 0 e) := by
    unfold iblk
    generalize V m c = W
    blk_ext [idx t]
  rw [h, v3]
  pointwise
/-- An entry of the block of key gains, read in the argument. -/
theorem b4 (t : Fin cfg0.N) (e : Fin 128) : iblk m c 4 t (ix2 0 e) = m ((c : Thread nD τ).loc main_arg4) (ix1 ⟨e.val % 64, Nat.mod_lt _ (by decide)⟩) := by
  have h : iblk m c 4 t (ix2 0 e) = V m c main_v7 (ix2 0 e) := by
    unfold iblk
    generalize V m c = W
    blk_ext [idx t]
  rw [h, v7]
  pointwise
/-- An entry of the block of sinks, read in its argument. -/
theorem b5 (t : Fin cfg0.N) (e : Fin 8) : iblk m c 5 t (ix1 e) = m ((c : Thread nD τ).loc main_arg5) (ix1 e) := by
  blk_point [iblk, V, idx t]

/-- A column below 768 of window 0's block. -/
theorem b0' (t : Fin cfg0.N) (r : Fin 2048) (n : ℕ) (hn : n < 768) : iblk m c 0 t (ix2 r (pc n)) = m ((c : Thread nD τ).loc main_arg0) (ix2 (Ref.T (sq t) r) (Ref.C n)) := by
  rw [b0]
  refine congrArg (fun z => m ((c : Thread nD τ).loc main_arg0) (ix2 (Ref.T (sq t) r) z)) (Fin.ext ?_)
  show n % 768 = n % 2304
  omega
/-- An entry of window 1's block, by sequence and row. -/
theorem b1' (t : Fin cfg0.N) (r : Fin 2048) (e : Fin 128) : iblk m c 1 t (ix2 r e) = m ((c : Thread nD τ).loc main_arg1) (ix2 (Ref.T (sq t) r) e) := b1 m c t r e
/-- An entry of window 2's block, by sequence and row. -/
theorem b2' (t : Fin cfg0.N) (r : Fin 2048) (e : Fin 128) : iblk m c 2 t (ix2 r e) = m ((c : Thread nD τ).loc main_arg2) (ix2 (Ref.T (sq t) r) e) := b2 m c t r e
/-- The query gain at a head's lane. -/
theorem b3' (t : Fin cfg0.N) (s : ℕ) (e : Fin 64) : iblk m c 3 t (ix2 0 (ln s e)) = m ((c : Thread nD τ).loc main_arg3) (ix1 e) := by
  rw [b3]
  refine congrArg (fun z => m ((c : Thread nD τ).loc main_arg3) (ix1 z)) (Fin.ext ?_)
  have := e.isLt
  show (64 * s + e.val) % 128 % 64 = e.val
  omega
/-- The key gain at a head's lane. -/
theorem b4' (t : Fin cfg0.N) (s : ℕ) (e : Fin 64) : iblk m c 4 t (ix2 0 (ln s e)) = m ((c : Thread nD τ).loc main_arg4) (ix1 e) := by
  rw [b4]
  refine congrArg (fun z => m ((c : Thread nD τ).loc main_arg4) (ix1 z)) (Fin.ext ?_)
  have := e.isLt
  show (64 * s + e.val) % 128 % 64 = e.val
  omega

/-- The reference's array over the kernel's arguments. -/
abbrev REF : FVec Ideal S65536x512 .bf16 :=
  Cert.WindowRefIdeal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- At a grid point the kernel's block is the reference's rows. -/
theorem point (h0 : ∀ (t : Fin 65536) (e : Fin 2304), e.val < 640 → IsR (m ((c : Thread nD τ).loc main_arg0) (ix2 t e))) (h1 : ∀ (t : Fin 65536) (e : Fin 128), IsR (m ((c : Thread nD τ).loc main_arg1) (ix2 t e))) (h2 : ∀ (t : Fin 65536) (e : Fin 128), IsR (m ((c : Thread nD τ).loc main_arg2) (ix2 t e))) (h3 : ∀ e : Fin 64, IsR (m ((c : Thread nD τ).loc main_arg3) (ix1 e))) (h4 : ∀ e : Fin 64, IsR (m ((c : Thread nD τ).loc main_arg4) (ix1 e))) (h5 : ∀ i : Fin 8, m ((c : Thread nD τ).loc main_arg5) (ix1 i) ≠ (⊤ : EReal))
    (t : Fin cfg0.N) (r : Fin 2048) (e : Fin 512) :
    OB (QF (iblk m c 0 t) (iblk m c 1 t) (iblk m c 2 t) (iblk m c 3 t)) (KF (iblk m c 0 t) (iblk m c 1 t) (iblk m c 2 t) (iblk m c 4 t)) (VF (iblk m c 0 t)) (SF (iblk m c 5 t)) (ix2 r e) = REF m c (ix2 (tok t r) e) := by
  have he := e.isLt; have hr := r.isLt
  obtain ⟨h, hh⟩ : ∃ h : Fin 8, h.val = e.val / 64 := ⟨⟨e.val / 64, by omega⟩, rfl⟩
  obtain ⟨d, hd⟩ : ∃ d : Fin 64, d.val = e.val % 64 := ⟨⟨e.val % 64, by omega⟩, rfl⟩
  have hl := h.isLt; have dl := d.isLt
  have heq : e.val = 64 * h.val + d.val := by omega
  obtain ⟨k, hk⟩ : ∃ k : Fin 16, k.val = r.val / 128 := ⟨⟨r.val / 128, by omega⟩, rfl⟩
  obtain ⟨i, hi⟩ : ∃ i : Fin 128, i.val = r.val % 128 := ⟨⟨r.val % 128, by omega⟩, rfl⟩
  obtain ⟨g, hg⟩ : ∃ g : Fin 2, g.val = h.val / 4 := ⟨⟨h.val / 4, by omega⟩, rfl⟩
  obtain ⟨a, ha⟩ : ∃ a : Fin 4, a.val = h.val % 4 := ⟨⟨h.val % 4, by omega⟩, rfl⟩
  refine (OB_at (iblk m c 0 t) (iblk m c 1 t) (iblk m c 2 t) (iblk m c 3 t) (iblk m c 4 t) (iblk m c 5 t) (fun r e h => ?_) (fun r l => ?_) (fun r l => ?_) (fun l => ?_) (fun l => ?_) (fun l => ?_) r h d e heq).trans ?_
  · rw [b0]; exact h0 _ _ h
  · rw [b1]; exact h1 _ _
  · rw [b2]; exact h2 _ _
  · rw [b3]; exact h3 _
  · rw [b4]; exact h4 _
  · rw [b5]; exact h5 _
  have hS : iblk m c 5 t (ix1 h) = m ((c : Thread nD τ).loc main_arg5) (ix1 h) := b5 m c t h
  rw [hS]
  refine (Ref.v123_at _ _ _ _ _ _ (sq t) r h d e heq k hk i hi g hg a ha _ _ (fun j => ?_) (fun j => ?_)).symm
  · rw [Ref.v102_at]
    unfold zb
    rw [← hk, ← hi]
    by_cases p : i.val < j.val ∧ j.val ≤ i.val + 128 ∧ 128 ≤ 128 * k.val + j.val
    · rw [if_pos p, if_pos p, Ref.v71_at]
      refine congrArg (· * l8i) (Finset.sum_congr rfl fun x _ => congrArg₂ (· * ·) ?_ ?_)
      · rw [Ref.v62_at, if_pos p.2.2, Ref.v54_at, hg]
        have e0 : ∀ y : Fin 64, iblk m c 0 t (ix2 (Fin.ofNat 2048 (128 * k.val + j.val - 128)) (pc (512 + 64 * (h.val / 4) + y.val))) = _ := fun y => b0' m c t _ _ (by have := y.isLt; omega)
        simp only [e0, b1', b2', b4']
      · have q1 : (Fin.ofNat 2048 (128 * k.val + i.val) : Fin 2048) = r := Fin.ext (by show _ % 2048 = _; omega)
        have q2 : (Fin.ofNat 8 (4 * g.val + a.val) : Fin 8) = h := Fin.ext (by show _ % 8 = _; omega)
        rw [q1, q2, Ref.v29_at]
        have e0 : ∀ y : Fin 64, iblk m c 0 t (ix2 r (pc (64 * h.val + y.val))) = _ := fun y => b0' m c t _ _ (by have := y.isLt; omega)
        simp only [e0, b1', b2', b3']
    · rw [if_neg p, if_neg p]
  · rw [Ref.v67_at]
    unfold vb
    rw [← hk]
    refine if_congr Iff.rfl ?_ rfl
    rw [Ref.v56_at, hg]
    exact (b0' m c t _ _ (by omega)).symm

/-- The array the kernel leaves is the reference's. -/
theorem final (h0 : ∀ (t : Fin 65536) (e : Fin 2304), e.val < 640 → IsR (m ((c : Thread nD τ).loc main_arg0) (ix2 t e))) (h1 : ∀ (t : Fin 65536) (e : Fin 128), IsR (m ((c : Thread nD τ).loc main_arg1) (ix2 t e))) (h2 : ∀ (t : Fin 65536) (e : Fin 128), IsR (m ((c : Thread nD τ).loc main_arg2) (ix2 t e))) (h3 : ∀ e : Fin 64, IsR (m ((c : Thread nD τ).loc main_arg3) (ix1 e))) (h4 : ∀ e : Fin 64, IsR (m ((c : Thread nD τ).loc main_arg4) (ix1 e))) (h5 : ∀ i : Fin 8, m ((c : Thread nD τ).loc main_arg5) (ix1 i) ≠ (⊤ : EReal)) :
    (dats m 0 c).arrAt 6 (cfgs 0).N = REF m c := by
  refine (dats m 0 c).arrAt_eq_of_covers 6 _ (by decide +kernel) fun t _ y => ?_
  blk_simp
  rw [after0_6]
  unfold outsAt0
  refine (run_at _ _ _ _ _ _ _ _ _ _ _ _ _ _ _ _ _ _ _ _ _ _ _ _ _ _ _ _ _).trans ?_
  have hy : y = ix2 (y 0 : Fin 2048) (y 1 : Fin 512) := by idx_vars y; rfl
  refine (congrArg _ hy).trans ((point m c h0 h1 h2 h3 h4 h5 t (y 0) (y 1)).trans ?_)
  blk_ext [idx t, tok]

end Cert.Hand.Window

end
-- ==== Proof.Window.Claim.lean ====
/- The conjuncts of the claim about the sliding-window programs. -/
module

public import proofs.«01_k».proof.Defs
public import proofs.«01_k».proof.Proof.Gen.Window
public import proofs.«01_k».proof.Proof.Gen.Window.Frame
public import proofs.«01_k».proof.Proof.Window.Pre
public import proofs.«01_k».proof.Proof.Window.Final

@[expose] public section

set_option maxRecDepth 16384

noncomputable section

namespace Cert.Hand.Window.Claim

open Idealize.ShloMosaic Idealize.SL.Sem

/-- The sliding-window attention runs to its end, its arguments unchanged and its counters zero. -/
theorem frameP : Cert.quiescent_Window (hWindow := Cert.Window.Gen.facts)  :=
  fun m g _ => Cert.Window.Gen.frame m g

/-- So does the sliding-window attention over the extended reals. -/
theorem framePI : Cert.quiescent_WindowIdeal (hWindowIdeal := Cert.WindowIdeal.Gen.facts)  :=
  fun m g _ => Cert.WindowIdeal.Gen.frame m g

/-- The same, where the precondition holds. -/
theorem framePI' : Cert.quiescent_WindowIdeal_pre_finite_window (hWindowIdeal := Cert.WindowIdeal.Gen.facts) (hPre_finite_window := preFacts)  :=
  fun m g _ => Cert.WindowIdeal.Gen.frame m g

set_option maxHeartbeats 1600000 in
/-- The reference of the sliding-window attention runs to its end, its arguments unchanged. -/
theorem frameRI : Cert.quiescent_WindowRefIdeal (hWindowRefIdeal := Cert.WindowRefIdeal.Gen.facts) := by
  intro m g _
  hlo_run
  · exact fun _ => by simp only [and_self]
  · exact sem_eq_zero_of_no_sems (sig := Cert.WindowRefIdeal.sig) rfl _

set_option maxHeartbeats 1600000 in
/-- The same for the reference, where the precondition holds. -/
theorem frameRI' : Cert.quiescent_WindowRefIdeal_pre_finite_window (hWindowRefIdeal := Cert.WindowRefIdeal.Gen.facts) (hPre_finite_window := preFacts) := by
  intro m g _
  hlo_run
  · exact fun _ => by simp only [and_self]
  · exact sem_eq_zero_of_no_sems (sig := Cert.WindowRefIdeal.sig) rfl _

/-- From equal arguments the kernel and the reference end with equal results. -/
theorem algebraic : Cert.algebraic_WindowIdeal_WindowRefIdeal_pre_finite_window (hWindowIdeal := Cert.WindowIdeal.Gen.facts) (hWindowRefIdeal := Cert.WindowRefIdeal.Gen.facts) (hPre_finite_window := preFacts) := by
  pair_intro
  · run_from Cert.WindowIdeal.Gen.run_main m g
  · run_from Cert.WindowRefIdeal.Value.run m' g'
    haveI := preFacts
    have h := reals _ _ _ _ _ _ (hpre c)
    rw [Cert.WindowRefIdeal.Read.val_main_v123_eq]
    simp only [hagree c]
    exact (final m c h.1 h.2.1 h.2.2.1 h.2.2.2.1 h.2.2.2.2.1 h.2.2.2.2.2).symm

end Cert.Hand.Window.Claim

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.AttnEven
public import proofs.«01_k».proof.Proof.Gen.AttnEven.Skeleton
public import proofs.«01_k».proof.Proof.Gen.AttnEven.Launch
public import proofs.«01_k».proof.Proof.Gen.AttnEven.Points
public import proofs.«01_k».proof.Proof.Gen.AttnEven.Frame
public import proofs.«01_k».proof.Proof.Gen.AttnEvenIdeal
public import proofs.«01_k».proof.Proof.Gen.AttnEvenIdeal.Skeleton
public import proofs.«01_k».proof.Proof.Gen.AttnEvenIdeal.Launch
public import proofs.«01_k».proof.Proof.Gen.AttnEvenIdeal.Points
public import proofs.«01_k».proof.Proof.Gen.AttnEvenIdeal.Frame
public import proofs.«01_k».proof.Proof.Gen.AttnEvenRefIdeal
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesRefIdeal
public import proofs.«01_k».proof.Proof.Gen.Mixin
public import proofs.«01_k».proof.Proof.Gen.Mixin.Skeleton
public import proofs.«01_k».proof.Proof.Gen.Mixin.Launch
public import proofs.«01_k».proof.Proof.Gen.Mixin.Points
public import proofs.«01_k».proof.Proof.Gen.Mixin.Frame
public import proofs.«01_k».proof.Proof.Gen.MixinIdeal
public import proofs.«01_k».proof.Proof.Gen.MixinIdeal.Skeleton
public import proofs.«01_k».proof.Proof.Gen.MixinIdeal.Launch
public import proofs.«01_k».proof.Proof.Gen.MixinIdeal.Points
public import proofs.«01_k».proof.Proof.Gen.MixinIdeal.Frame
public import proofs.«01_k».proof.Proof.Gen.MixinRefIdeal
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryRefIdeal
public import proofs.«01_k».proof.Proof.Gen.Pre_finite_keys
public import proofs.«01_k».proof.Proof.Gen.Pre_finite_keys_even
public import proofs.«01_k».proof.Proof.Gen.Pre_positive_bound
public import Idealize.ShloMosaic.Adequacy
public import Idealize.ShloMosaic.Init
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Attn.Claim
public import proofs.«01_k».proof.Proof.Ffn.Claim
public import proofs.«01_k».proof.Proof.AttnEven.Claim
public import proofs.«01_k».proof.Proof.Gates.Claim
public import proofs.«01_k».proof.Proof.Mixin.Claim
public import proofs.«01_k».proof.Proof.Memory.Claim
public import proofs.«01_k».proof.Proof.Tables.Claim
public import proofs.«01_k».proof.Proof.Window.Claim
public import proofs.«01_k».proof.Proof.Gen.AttnEvenIdeal.Value
public import proofs.«01_k».proof.Proof.Gen.AttnEvenRefIdeal.Run
public import proofs.«01_k».proof.Proof.Gen.AttnEvenRefIdeal.Read
public import proofs.«01_k».proof.Proof.Gen.GatesIdeal.Value
public import proofs.«01_k».proof.Proof.Gen.GatesRefIdeal.Run
public import proofs.«01_k».proof.Proof.Gen.GatesRefIdeal.Read
public import proofs.«01_k».proof.Proof.Gen.MixinIdeal.Value
public import proofs.«01_k».proof.Proof.Gen.MixinRefIdeal.Run
public import proofs.«01_k».proof.Proof.Gen.MixinRefIdeal.Read
public import proofs.«01_k».proof.Proof.Gen.MemoryIdeal.Value
public import proofs.«01_k».proof.Proof.Gen.MemoryRefIdeal.Run
public import proofs.«01_k».proof.Proof.Gen.MemoryRefIdeal.Read
public import proofs.«01_k».proof.Proof.Gen.Tables
public import proofs.«01_k».proof.Proof.Gen.Tables.Skeleton
public import proofs.«01_k».proof.Proof.Gen.Tables.Launch
public import proofs.«01_k».proof.Proof.Gen.Tables.Points
public import proofs.«01_k».proof.Proof.Gen.Tables.Frame
public import proofs.«01_k».proof.Proof.Gen.TablesIdeal
public import proofs.«01_k».proof.Proof.Gen.TablesIdeal.Skeleton
public import proofs.«01_k».proof.Proof.Gen.TablesIdeal.Launch
public import proofs.«01_k».proof.Proof.Gen.TablesIdeal.Points
public import proofs.«01_k».proof.Proof.Gen.TablesIdeal.Frame
public import proofs.«01_k».proof.Proof.Gen.TablesRefIdeal
public import proofs.«01_k».proof.Proof.Gen.TablesIdeal.Value
public import proofs.«01_k».proof.Proof.Gen.TablesRefIdeal.Run
public import proofs.«01_k».proof.Proof.Gen.TablesRefIdeal.Read
public import proofs.«01_k».proof.Proof.Gen.Window
public import proofs.«01_k».proof.Proof.Gen.Window.Skeleton
public import proofs.«01_k».proof.Proof.Gen.Window.Launch
public import proofs.«01_k».proof.Proof.Gen.Window.Points
public import proofs.«01_k».proof.Proof.Gen.Window.Frame
public import proofs.«01_k».proof.Proof.Gen.WindowIdeal
public import proofs.«01_k».proof.Proof.Gen.WindowIdeal.Skeleton
public import proofs.«01_k».proof.Proof.Gen.WindowIdeal.Launch
public import proofs.«01_k».proof.Proof.Gen.WindowIdeal.Points
public import proofs.«01_k».proof.Proof.Gen.WindowIdeal.Frame
public import proofs.«01_k».proof.Proof.Gen.WindowRefIdeal
public import proofs.«01_k».proof.Proof.Gen.WindowIdeal.Value
public import proofs.«01_k».proof.Proof.Gen.WindowRefIdeal.Run
public import proofs.«01_k».proof.Proof.Gen.WindowRefIdeal.Read

@[expose] public section

noncomputable section

namespace Cert.Proof

theorem claim : Cert.Claim :=
  ⟨Cert.Attn.Gen.facts, Cert.AttnIdeal.Gen.facts, Cert.AttnRefIdeal.Gen.facts,
    Cert.Ffn.Gen.facts, Cert.FfnIdeal.Gen.facts, Cert.FfnRefIdeal.Gen.facts,
    Cert.AttnEven.Gen.facts, Cert.AttnEvenIdeal.Gen.facts, Cert.AttnEvenRefIdeal.Gen.facts,
    Cert.Gates.Gen.facts, Cert.GatesIdeal.Gen.facts, Cert.GatesRefIdeal.Gen.facts,
    Cert.Mixin.Gen.facts, Cert.MixinIdeal.Gen.facts, Cert.MixinRefIdeal.Gen.facts,
    Cert.Memory.Gen.facts, Cert.MemoryIdeal.Gen.facts, Cert.MemoryRefIdeal.Gen.facts,
    Cert.Tables.Gen.facts, Cert.TablesIdeal.Gen.facts, Cert.TablesRefIdeal.Gen.facts,
    Cert.Window.Gen.facts, Cert.WindowIdeal.Gen.facts, Cert.WindowRefIdeal.Gen.facts,
    Cert.Hand.Attn.preFacts, Cert.Hand.AttnEven.preFacts, Cert.Hand.Gates.preFacts, Cert.Hand.Window.preFacts,
    Cert.Hand.Attn.Claim.frameP, Cert.Hand.Attn.Claim.framePI, Cert.Hand.Attn.Claim.framePI', Cert.Hand.Attn.Claim.frameRI, Cert.Hand.Attn.Claim.frameRI',
    Cert.Hand.Ffn.Claim.frameP, Cert.Hand.Ffn.Claim.framePI, Cert.Hand.Ffn.Claim.frameRI,
    Cert.Hand.AttnEven.Claim.frameP, Cert.Hand.AttnEven.Claim.framePI, Cert.Hand.AttnEven.Claim.framePI', Cert.Hand.AttnEven.Claim.frameRI, Cert.Hand.AttnEven.Claim.frameRI',
    Cert.Hand.Gates.Claim.frameP, Cert.Hand.Gates.Claim.framePI, Cert.Hand.Gates.Claim.framePI', Cert.Hand.Gates.Claim.frameRI, Cert.Hand.Gates.Claim.frameRI',
    Cert.Hand.Mixin.Claim.frameP, Cert.Hand.Mixin.Claim.framePI, Cert.Hand.Mixin.Claim.frameRI,
    Cert.Hand.Memory.Claim.frameP, Cert.Hand.Memory.Claim.framePI, Cert.Hand.Memory.Claim.frameRI,
    Cert.Hand.Tables.Claim.frameP, Cert.Hand.Tables.Claim.framePI, Cert.Hand.Tables.Claim.frameRI,
    Cert.Hand.Window.Claim.frameP, Cert.Hand.Window.Claim.framePI, Cert.Hand.Window.Claim.framePI', Cert.Hand.Window.Claim.frameRI, Cert.Hand.Window.Claim.frameRI',
    trivial, Cert.Hand.Attn.Claim.algebraic,
    trivial, Cert.Hand.Ffn.Claim.algebraic,
    trivial, Cert.Hand.AttnEven.Claim.algebraic,
    trivial, Cert.Hand.Gates.Claim.algebraic,
    trivial, Cert.Hand.Mixin.Claim.algebraic,
    trivial, Cert.Hand.Memory.Claim.algebraic,
    trivial, Cert.Hand.Tables.Claim.algebraic,
    trivial, Cert.Hand.Window.Claim.algebraic⟩

end Cert.Proof

end
